-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  IdealRules.named_const.Statement Cert.KernelIdeal.κ "inv640" .f32 0x3ACCCCCD#32 ((640⁻¹ : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S32x20000x10 : Shape := ⟨3, ![32, 20000, 10]⟩
abbrev S10x32x20000 : Shape := ⟨3, ![10, 32, 20000]⟩
abbrev S9x32x20000 : Shape := ⟨3, ![9, 32, 20000]⟩
abbrev S16x256 : Shape := ⟨2, ![16, 256]⟩
abbrev S_ : Shape := ⟨0, ![]⟩
abbrev S1x16x256 : Shape := ⟨3, ![1, 16, 256]⟩
abbrev S16 : Shape := ⟨1, ![16]⟩
abbrev S1x16 : Shape := ⟨2, ![1, 16]⟩
abbrev S10x32x128 : Shape := ⟨3, ![10, 32, 128]⟩
abbrev S9x32x128 : Shape := ⟨3, ![9, 32, 128]⟩
abbrev S4x32x128 : Shape := ⟨3, ![4, 32, 128]⟩
abbrev S2x32x128 : Shape := ⟨3, ![2, 32, 128]⟩
abbrev S1x32x128 : Shape := ⟨3, ![1, 32, 128]⟩
abbrev S32x20000x9 : Shape := ⟨3, ![32, 20000, 9]⟩

abbrev nBuf : Table → Nat
  | .hbm => 5
  | .local .tc .vmem => 2
  | .local .scVector .vmem => 27
  | _ => 0

abbrev bufTy : (tb : Table) → Fin (nBuf tb) → BufTy
  | .hbm, ⟨0, _⟩ => ⟨S32x20000x10, .f32⟩
  | .hbm, ⟨1, _⟩ => ⟨S10x32x20000, .f32⟩
  | .hbm, ⟨2, _⟩ => ⟨S9x32x20000, .f32⟩
  | .hbm, ⟨3, _⟩ => ⟨S9x32x20000, .f32⟩
  | .hbm, ⟨4, _⟩ => ⟨S32x20000x9, .f32⟩
  | .local .tc .vmem, ⟨0, _⟩ => ⟨S10x32x128, .f32⟩
  | .local .tc .vmem, ⟨1, _⟩ => ⟨S9x32x128, .f32⟩
  | .local .scVector .vmem, ⟨0, _⟩ => ⟨S16x256, .f32⟩
  | .local .scVector .vmem, ⟨1, _⟩ => ⟨S16x256, .f32⟩
  | .local .scVector .vmem, ⟨2, _⟩ => ⟨S16x256, .f32⟩
  | .local .scVector .vmem, ⟨3, _⟩ => ⟨S16x256, .f32⟩
  | .local .scVector .vmem, ⟨4, _⟩ => ⟨S16x256, .f32⟩
  | .local .scVector .vmem, ⟨5, _⟩ => ⟨S16x256, .f32⟩
  | .local .scVector .vmem, ⟨6, _⟩ => ⟨S16x256, .f32⟩
  | .local .scVector .vmem, ⟨7, _⟩ => ⟨S16x256, .f32⟩
  | .local .scVector .vmem, ⟨8, _⟩ => ⟨S16x256, .f32⟩
  | .local .scVector .vmem, ⟨9, _⟩ => ⟨S16x256, .f32⟩
  | .local .scVector .vmem, ⟨10, _⟩ => ⟨S16x256, .f32⟩
  | .local .scVector .vmem, ⟨11, _⟩ => ⟨S16x256, .f32⟩
  | .local .scVector .vmem, ⟨12, _⟩ => ⟨S16x256, .f32⟩
  | .local .scVector .vmem, ⟨13, _⟩ => ⟨S16x256, .f32⟩
  | .local .scVector .vmem, ⟨14, _⟩ => ⟨S16x256, .f32⟩
  | .local .scVector .vmem, ⟨15, _⟩ => ⟨S16x256, .f32⟩
  | .local .scVector .vmem, ⟨16, _⟩ => ⟨S16x256, .f32⟩
  | .local .scVector .vmem, ⟨17, _⟩ => ⟨S16x256, .f32⟩
  | .local .scVector .vmem, ⟨18, _⟩ => ⟨S16x256, .f32⟩
  | .local .scVector .vmem, ⟨19, _⟩ => ⟨S16x256, .f32⟩
  | .local .scVector .vmem, ⟨20, _⟩ => ⟨S16x256, .f32⟩
  | .local .scVector .vmem, ⟨21, _⟩ => ⟨S16x256, .f32⟩
  | .local .scVector .vmem, ⟨22, _⟩ => ⟨S16x256, .f32⟩
  | .local .scVector .vmem, ⟨23, _⟩ => ⟨S16x256, .f32⟩
  | .local .scVector .vmem, ⟨24, _⟩ => ⟨S16x256, .f32⟩
  | .local .scVector .vmem, ⟨25, _⟩ => ⟨S16x256, .f32⟩
  | .local .scVector .vmem, ⟨26, _⟩ => ⟨S16x256, .f32⟩
  | _, _ => ⟨S32x20000x10, .f32⟩

abbrev bufScoped : (cs : CoreSpace) → Fin (nBuf (.local .tc cs)) → Bool
  | .vmem, ⟨0, _⟩ => true
  | .vmem, ⟨1, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 8 → Bool
  | ⟨0, _⟩ => false
  | ⟨1, _⟩ => false
  | ⟨2, _⟩ => false
  | ⟨3, _⟩ => false
  | ⟨4, _⟩ => false
  | ⟨5, _⟩ => false
  | ⟨6, _⟩ => true
  | ⟨7, _⟩ => true
  | _ => false

abbrev sig : RefSig :=
  ofTables nBuf rfl bufTy 4 8 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v0_scv : Ref sig .scVector := ⟨.hbm, 1, rfl⟩
abbrev main_v1_scv : Ref sig .scVector := ⟨.hbm, 2, rfl⟩
abbrev cc1_stg0_0 : Ref sig .tc := ⟨.vmem, 0, rfl⟩
abbrev cc1_stg1_0 : Ref sig .tc := ⟨.vmem, 1, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc0_scratch6 : Ref sig .scVector := ⟨.vmem, 6, rfl⟩
abbrev cc0_scratch7 : Ref sig .scVector := ⟨.vmem, 7, rfl⟩
abbrev cc0_scratch8 : Ref sig .scVector := ⟨.vmem, 8, rfl⟩
abbrev cc0_scratch9 : Ref sig .scVector := ⟨.vmem, 9, rfl⟩
abbrev cc0_scratch10 : Ref sig .scVector := ⟨.vmem, 10, rfl⟩
abbrev cc0_scratch11 : Ref sig .scVector := ⟨.vmem, 11, rfl⟩
abbrev cc0_scratch12 : Ref sig .scVector := ⟨.vmem, 12, rfl⟩
abbrev cc0_scratch13 : Ref sig .scVector := ⟨.vmem, 13, rfl⟩
abbrev cc0_scratch14 : Ref sig .scVector := ⟨.vmem, 14, rfl⟩
abbrev cc0_scratch15 : Ref sig .scVector := ⟨.vmem, 15, rfl⟩
abbrev cc0_scratch16 : Ref sig .scVector := ⟨.vmem, 16, rfl⟩
abbrev cc0_scratch17 : Ref sig .scVector := ⟨.vmem, 17, rfl⟩
abbrev cc0_scratch18 : Ref sig .scVector := ⟨.vmem, 18, rfl⟩
abbrev cc0_scratch19 : Ref sig .scVector := ⟨.vmem, 19, rfl⟩
abbrev cc0_scratch20 : Ref sig .scVector := ⟨.vmem, 20, rfl⟩
abbrev cc0_scratch21 : Ref sig .scVector := ⟨.vmem, 21, rfl⟩
abbrev cc0_scratch22 : Ref sig .scVector := ⟨.vmem, 22, rfl⟩
abbrev cc0_scratch23 : Ref sig .scVector := ⟨.vmem, 23, rfl⟩
abbrev cc0_scratch24 : Ref sig .scVector := ⟨.vmem, 24, rfl⟩
abbrev cc0_scratch25 : Ref sig .scVector := ⟨.vmem, 25, rfl⟩
abbrev cc0_scratch26 : Ref sig .scVector := ⟨.vmem, 26, rfl⟩
abbrev cc1_sem0_0 : DmaSem sig := 6
abbrev cc1_sem1_0 : DmaSem sig := 7
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) (c0_i32 : BitVec 32) : Fin 3 → Nat :=
  let c0_i32_12 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v2 : BitVec 32 := Scalar.addi v1 c0_i32
  let c2_i32_0 : BitVec 32 := 2#32
  let c0_i32_1 : BitVec 32 := 0#32
  let v3 : BitVec 1 := Scalar.cmpi .eq c2_i32_0 c0_i32_1
  let c1_i32 : BitVec 32 := 1#32
  let v4 : BitVec 32 := Scalar.select v3 c1_i32 c2_i32_0
  let v5 : BitVec 32 := Scalar.remsi v2 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let c16_i32 : BitVec 32 := 16#32
  let v13 : BitVec 32 := Scalar.muli v12 c16_i32
  let c0_i32_6 : BitVec 32 := 0#32
  let v15 : BitVec 1 := Scalar.cmpi .sgt v2 c0_i32_6
  let v16 : BitVec 32 := Scalar.extui v15
  let c0_i32_7 : BitVec 32 := 0#32
  let v17 : BitVec 1 := Scalar.cmpi .slt v2 c0_i32_7
  let v18 : BitVec 32 := Scalar.extui v17
  let v19 : BitVec 32 := Scalar.subi v16 v18
  let c2_i32_5 : BitVec 32 := 2#32
  let c0_i32_8 : BitVec 32 := 0#32
  let v20 : BitVec 1 := Scalar.cmpi .sgt c2_i32_5 c0_i32_8
  let v21 : BitVec 32 := Scalar.extui v20
  let c0_i32_9 : BitVec 32 := 0#32
  let v22 : BitVec 1 := Scalar.cmpi .slt c2_i32_5 c0_i32_9
  let v23 : BitVec 32 := Scalar.extui v22
  let v24 : BitVec 32 := Scalar.subi v21 v23
  let v25 : BitVec 1 := Scalar.cmpi .ne v19 v24
  let v26 : BitVec 32 := Scalar.remsi v2 c2_i32_5
  let c0_i32_10 : BitVec 32 := 0#32
  let v27 : BitVec 1 := Scalar.cmpi .ne v26 c0_i32_10
  let v28 : BitVec 1 := Scalar.andi v25 v27
  let v14 : BitVec 32 := Scalar.divsi v2 c2_i32_5
  let c1_i32_11 : BitVec 32 := 1#32
  let v29 : BitVec 32 := Scalar.subi v14 c1_i32_11
  let v30 : BitVec 32 := Scalar.select v28 v29 v14
  let c256_i32 : BitVec 32 := 256#32
  let v31 : BitVec 32 := Scalar.muli v30 c256_i32
  ![0, v13.toNat, v31.toNat]
def k0_off2 (i : grid0.Coords) (c0_i32 : BitVec 32) : Fin 3 → Nat :=
  let c1_i32_13 : BitVec 32 := 1#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v2 : BitVec 32 := Scalar.addi v1 c0_i32
  let c2_i32_0 : BitVec 32 := 2#32
  let c0_i32_1 : BitVec 32 := 0#32
  let v3 : BitVec 1 := Scalar.cmpi .eq c2_i32_0 c0_i32_1
  let c1_i32 : BitVec 32 := 1#32
  let v4 : BitVec 32 := Scalar.select v3 c1_i32 c2_i32_0
  let v5 : BitVec 32 := Scalar.remsi v2 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let c16_i32 : BitVec 32 := 16#32
  let v13 : BitVec 32 := Scalar.muli v12 c16_i32
  let c0_i32_6 : BitVec 32 := 0#32
  let v15 : BitVec 1 := Scalar.cmpi .sgt v2 c0_i32_6
  let v16 : BitVec 32 := Scalar.extui v15
  let c0_i32_7 : BitVec 32 := 0#32
  let v17 : BitVec 1 := Scalar.cmpi .slt v2 c0_i32_7
  let v18 : BitVec 32 := Scalar.extui v17
  let v19 : BitVec 32 := Scalar.subi v16 v18
  let c2_i32_5 : BitVec 32 := 2#32
  let c0_i32_8 : BitVec 32 := 0#32
  let v20 : BitVec 1 := Scalar.cmpi .sgt c2_i32_5 c0_i32_8
  let v21 : BitVec 32 := Scalar.extui v20
  let c0_i32_9 : BitVec 32 := 0#32
  let v22 : BitVec 1 := Scalar.cmpi .slt c2_i32_5 c0_i32_9
  let v23 : BitVec 32 := Scalar.extui v22
  let v24 : BitVec 32 := Scalar.subi v21 v23
  let v25 : BitVec 1 := Scalar.cmpi .ne v19 v24
  let v26 : BitVec 32 := Scalar.remsi v2 c2_i32_5
  let c0_i32_10 : BitVec 32 := 0#32
  let v27 : BitVec 1 := Scalar.cmpi .ne v26 c0_i32_10
  let v28 : BitVec 1 := Scalar.andi v25 v27
  let v14 : BitVec 32 := Scalar.divsi v2 c2_i32_5
  let c1_i32_11 : BitVec 32 := 1#32
  let v29 : BitVec 32 := Scalar.subi v14 c1_i32_11
  let v30 : BitVec 32 := Scalar.select v28 v29 v14
  let c256_i32 : BitVec 32 := 256#32
  let v31 : BitVec 32 := Scalar.muli v30 c256_i32
  ![1, v13.toNat, v31.toNat]
def k0_off3 (i : grid0.Coords) (c0_i32 : BitVec 32) : Fin 3 → Nat :=
  let c2_i32_14 : BitVec 32 := 2#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v2 : BitVec 32 := Scalar.addi v1 c0_i32
  let c2_i32_0 : BitVec 32 := 2#32
  let c0_i32_1 : BitVec 32 := 0#32
  let v3 : BitVec 1 := Scalar.cmpi .eq c2_i32_0 c0_i32_1
  let c1_i32 : BitVec 32 := 1#32
  let v4 : BitVec 32 := Scalar.select v3 c1_i32 c2_i32_0
  let v5 : BitVec 32 := Scalar.remsi v2 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let c16_i32 : BitVec 32 := 16#32
  let v13 : BitVec 32 := Scalar.muli v12 c16_i32
  let c0_i32_6 : BitVec 32 := 0#32
  let v15 : BitVec 1 := Scalar.cmpi .sgt v2 c0_i32_6
  let v16 : BitVec 32 := Scalar.extui v15
  let c0_i32_7 : BitVec 32 := 0#32
  let v17 : BitVec 1 := Scalar.cmpi .slt v2 c0_i32_7
  let v18 : BitVec 32 := Scalar.extui v17
  let v19 : BitVec 32 := Scalar.subi v16 v18
  let c2_i32_5 : BitVec 32 := 2#32
  let c0_i32_8 : BitVec 32 := 0#32
  let v20 : BitVec 1 := Scalar.cmpi .sgt c2_i32_5 c0_i32_8
  let v21 : BitVec 32 := Scalar.extui v20
  let c0_i32_9 : BitVec 32 := 0#32
  let v22 : BitVec 1 := Scalar.cmpi .slt c2_i32_5 c0_i32_9
  let v23 : BitVec 32 := Scalar.extui v22
  let v24 : BitVec 32 := Scalar.subi v21 v23
  let v25 : BitVec 1 := Scalar.cmpi .ne v19 v24
  let v26 : BitVec 32 := Scalar.remsi v2 c2_i32_5
  let c0_i32_10 : BitVec 32 := 0#32
  let v27 : BitVec 1 := Scalar.cmpi .ne v26 c0_i32_10
  let v28 : BitVec 1 := Scalar.andi v25 v27
  let v14 : BitVec 32 := Scalar.divsi v2 c2_i32_5
  let c1_i32_11 : BitVec 32 := 1#32
  let v29 : BitVec 32 := Scalar.subi v14 c1_i32_11
  let v30 : BitVec 32 := Scalar.select v28 v29 v14
  let c256_i32 : BitVec 32 := 256#32
  let v31 : BitVec 32 := Scalar.muli v30 c256_i32
  ![2, v13.toNat, v31.toNat]
def k0_off4 (i : grid0.Coords) (c0_i32 : BitVec 32) : Fin 3 → Nat :=
  let c3_i32 : BitVec 32 := 3#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v2 : BitVec 32 := Scalar.addi v1 c0_i32
  let c2_i32_0 : BitVec 32 := 2#32
  let c0_i32_1 : BitVec 32 := 0#32
  let v3 : BitVec 1 := Scalar.cmpi .eq c2_i32_0 c0_i32_1
  let c1_i32 : BitVec 32 := 1#32
  let v4 : BitVec 32 := Scalar.select v3 c1_i32 c2_i32_0
  let v5 : BitVec 32 := Scalar.remsi v2 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let c16_i32 : BitVec 32 := 16#32
  let v13 : BitVec 32 := Scalar.muli v12 c16_i32
  let c0_i32_6 : BitVec 32 := 0#32
  let v15 : BitVec 1 := Scalar.cmpi .sgt v2 c0_i32_6
  let v16 : BitVec 32 := Scalar.extui v15
  let c0_i32_7 : BitVec 32 := 0#32
  let v17 : BitVec 1 := Scalar.cmpi .slt v2 c0_i32_7
  let v18 : BitVec 32 := Scalar.extui v17
  let v19 : BitVec 32 := Scalar.subi v16 v18
  let c2_i32_5 : BitVec 32 := 2#32
  let c0_i32_8 : BitVec 32 := 0#32
  let v20 : BitVec 1 := Scalar.cmpi .sgt c2_i32_5 c0_i32_8
  let v21 : BitVec 32 := Scalar.extui v20
  let c0_i32_9 : BitVec 32 := 0#32
  let v22 : BitVec 1 := Scalar.cmpi .slt c2_i32_5 c0_i32_9
  let v23 : BitVec 32 := Scalar.extui v22
  let v24 : BitVec 32 := Scalar.subi v21 v23
  let v25 : BitVec 1 := Scalar.cmpi .ne v19 v24
  let v26 : BitVec 32 := Scalar.remsi v2 c2_i32_5
  let c0_i32_10 : BitVec 32 := 0#32
  let v27 : BitVec 1 := Scalar.cmpi .ne v26 c0_i32_10
  let v28 : BitVec 1 := Scalar.andi v25 v27
  let v14 : BitVec 32 := Scalar.divsi v2 c2_i32_5
  let c1_i32_11 : BitVec 32 := 1#32
  let v29 : BitVec 32 := Scalar.subi v14 c1_i32_11
  let v30 : BitVec 32 := Scalar.select v28 v29 v14
  let c256_i32 : BitVec 32 := 256#32
  let v31 : BitVec 32 := Scalar.muli v30 c256_i32
  ![3, v13.toNat, v31.toNat]
def k0_off5 (i : grid0.Coords) (c0_i32 : BitVec 32) : Fin 3 → Nat :=
  let c4_i32 : BitVec 32 := 4#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v2 : BitVec 32 := Scalar.addi v1 c0_i32
  let c2_i32_0 : BitVec 32 := 2#32
  let c0_i32_1 : BitVec 32 := 0#32
  let v3 : BitVec 1 := Scalar.cmpi .eq c2_i32_0 c0_i32_1
  let c1_i32 : BitVec 32 := 1#32
  let v4 : BitVec 32 := Scalar.select v3 c1_i32 c2_i32_0
  let v5 : BitVec 32 := Scalar.remsi v2 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let c16_i32 : BitVec 32 := 16#32
  let v13 : BitVec 32 := Scalar.muli v12 c16_i32
  let c0_i32_6 : BitVec 32 := 0#32
  let v15 : BitVec 1 := Scalar.cmpi .sgt v2 c0_i32_6
  let v16 : BitVec 32 := Scalar.extui v15
  let c0_i32_7 : BitVec 32 := 0#32
  let v17 : BitVec 1 := Scalar.cmpi .slt v2 c0_i32_7
  let v18 : BitVec 32 := Scalar.extui v17
  let v19 : BitVec 32 := Scalar.subi v16 v18
  let c2_i32_5 : BitVec 32 := 2#32
  let c0_i32_8 : BitVec 32 := 0#32
  let v20 : BitVec 1 := Scalar.cmpi .sgt c2_i32_5 c0_i32_8
  let v21 : BitVec 32 := Scalar.extui v20
  let c0_i32_9 : BitVec 32 := 0#32
  let v22 : BitVec 1 := Scalar.cmpi .slt c2_i32_5 c0_i32_9
  let v23 : BitVec 32 := Scalar.extui v22
  let v24 : BitVec 32 := Scalar.subi v21 v23
  let v25 : BitVec 1 := Scalar.cmpi .ne v19 v24
  let v26 : BitVec 32 := Scalar.remsi v2 c2_i32_5
  let c0_i32_10 : BitVec 32 := 0#32
  let v27 : BitVec 1 := Scalar.cmpi .ne v26 c0_i32_10
  let v28 : BitVec 1 := Scalar.andi v25 v27
  let v14 : BitVec 32 := Scalar.divsi v2 c2_i32_5
  let c1_i32_11 : BitVec 32 := 1#32
  let v29 : BitVec 32 := Scalar.subi v14 c1_i32_11
  let v30 : BitVec 32 := Scalar.select v28 v29 v14
  let c256_i32 : BitVec 32 := 256#32
  let v31 : BitVec 32 := Scalar.muli v30 c256_i32
  ![4, v13.toNat, v31.toNat]
def k0_off6 (i : grid0.Coords) (c0_i32 : BitVec 32) : Fin 3 → Nat :=
  let c6_i32 : BitVec 32 := 6#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v2 : BitVec 32 := Scalar.addi v1 c0_i32
  let c2_i32_0 : BitVec 32 := 2#32
  let c0_i32_1 : BitVec 32 := 0#32
  let v3 : BitVec 1 := Scalar.cmpi .eq c2_i32_0 c0_i32_1
  let c1_i32 : BitVec 32 := 1#32
  let v4 : BitVec 32 := Scalar.select v3 c1_i32 c2_i32_0
  let v5 : BitVec 32 := Scalar.remsi v2 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let c16_i32 : BitVec 32 := 16#32
  let v13 : BitVec 32 := Scalar.muli v12 c16_i32
  let c0_i32_6 : BitVec 32 := 0#32
  let v15 : BitVec 1 := Scalar.cmpi .sgt v2 c0_i32_6
  let v16 : BitVec 32 := Scalar.extui v15
  let c0_i32_7 : BitVec 32 := 0#32
  let v17 : BitVec 1 := Scalar.cmpi .slt v2 c0_i32_7
  let v18 : BitVec 32 := Scalar.extui v17
  let v19 : BitVec 32 := Scalar.subi v16 v18
  let c2_i32_5 : BitVec 32 := 2#32
  let c0_i32_8 : BitVec 32 := 0#32
  let v20 : BitVec 1 := Scalar.cmpi .sgt c2_i32_5 c0_i32_8
  let v21 : BitVec 32 := Scalar.extui v20
  let c0_i32_9 : BitVec 32 := 0#32
  let v22 : BitVec 1 := Scalar.cmpi .slt c2_i32_5 c0_i32_9
  let v23 : BitVec 32 := Scalar.extui v22
  let v24 : BitVec 32 := Scalar.subi v21 v23
  let v25 : BitVec 1 := Scalar.cmpi .ne v19 v24
  let v26 : BitVec 32 := Scalar.remsi v2 c2_i32_5
  let c0_i32_10 : BitVec 32 := 0#32
  let v27 : BitVec 1 := Scalar.cmpi .ne v26 c0_i32_10
  let v28 : BitVec 1 := Scalar.andi v25 v27
  let v14 : BitVec 32 := Scalar.divsi v2 c2_i32_5
  let c1_i32_11 : BitVec 32 := 1#32
  let v29 : BitVec 32 := Scalar.subi v14 c1_i32_11
  let v30 : BitVec 32 := Scalar.select v28 v29 v14
  let c256_i32 : BitVec 32 := 256#32
  let v31 : BitVec 32 := Scalar.muli v30 c256_i32
  ![6, v13.toNat, v31.toNat]
def k0_off7 (i : grid0.Coords) (c0_i32 : BitVec 32) : Fin 3 → Nat :=
  let c7_i32 : BitVec 32 := 7#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v2 : BitVec 32 := Scalar.addi v1 c0_i32
  let c2_i32_0 : BitVec 32 := 2#32
  let c0_i32_1 : BitVec 32 := 0#32
  let v3 : BitVec 1 := Scalar.cmpi .eq c2_i32_0 c0_i32_1
  let c1_i32 : BitVec 32 := 1#32
  let v4 : BitVec 32 := Scalar.select v3 c1_i32 c2_i32_0
  let v5 : BitVec 32 := Scalar.remsi v2 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let c16_i32 : BitVec 32 := 16#32
  let v13 : BitVec 32 := Scalar.muli v12 c16_i32
  let c0_i32_6 : BitVec 32 := 0#32
  let v15 : BitVec 1 := Scalar.cmpi .sgt v2 c0_i32_6
  let v16 : BitVec 32 := Scalar.extui v15
  let c0_i32_7 : BitVec 32 := 0#32
  let v17 : BitVec 1 := Scalar.cmpi .slt v2 c0_i32_7
  let v18 : BitVec 32 := Scalar.extui v17
  let v19 : BitVec 32 := Scalar.subi v16 v18
  let c2_i32_5 : BitVec 32 := 2#32
  let c0_i32_8 : BitVec 32 := 0#32
  let v20 : BitVec 1 := Scalar.cmpi .sgt c2_i32_5 c0_i32_8
  let v21 : BitVec 32 := Scalar.extui v20
  let c0_i32_9 : BitVec 32 := 0#32
  let v22 : BitVec 1 := Scalar.cmpi .slt c2_i32_5 c0_i32_9
  let v23 : BitVec 32 := Scalar.extui v22
  let v24 : BitVec 32 := Scalar.subi v21 v23
  let v25 : BitVec 1 := Scalar.cmpi .ne v19 v24
  let v26 : BitVec 32 := Scalar.remsi v2 c2_i32_5
  let c0_i32_10 : BitVec 32 := 0#32
  let v27 : BitVec 1 := Scalar.cmpi .ne v26 c0_i32_10
  let v28 : BitVec 1 := Scalar.andi v25 v27
  let v14 : BitVec 32 := Scalar.divsi v2 c2_i32_5
  let c1_i32_11 : BitVec 32 := 1#32
  let v29 : BitVec 32 := Scalar.subi v14 c1_i32_11
  let v30 : BitVec 32 := Scalar.select v28 v29 v14
  let c256_i32 : BitVec 32 := 256#32
  let v31 : BitVec 32 := Scalar.muli v30 c256_i32
  ![7, v13.toNat, v31.toNat]
def k0_off8 (i : grid0.Coords) (c0_i32 : BitVec 32) : Fin 3 → Nat :=
  let c8_i32 : BitVec 32 := 8#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v2 : BitVec 32 := Scalar.addi v1 c0_i32
  let c2_i32_0 : BitVec 32 := 2#32
  let c0_i32_1 : BitVec 32 := 0#32
  let v3 : BitVec 1 := Scalar.cmpi .eq c2_i32_0 c0_i32_1
  let c1_i32 : BitVec 32 := 1#32
  let v4 : BitVec 32 := Scalar.select v3 c1_i32 c2_i32_0
  let v5 : BitVec 32 := Scalar.remsi v2 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let c16_i32 : BitVec 32 := 16#32
  let v13 : BitVec 32 := Scalar.muli v12 c16_i32
  let c0_i32_6 : BitVec 32 := 0#32
  let v15 : BitVec 1 := Scalar.cmpi .sgt v2 c0_i32_6
  let v16 : BitVec 32 := Scalar.extui v15
  let c0_i32_7 : BitVec 32 := 0#32
  let v17 : BitVec 1 := Scalar.cmpi .slt v2 c0_i32_7
  let v18 : BitVec 32 := Scalar.extui v17
  let v19 : BitVec 32 := Scalar.subi v16 v18
  let c2_i32_5 : BitVec 32 := 2#32
  let c0_i32_8 : BitVec 32 := 0#32
  let v20 : BitVec 1 := Scalar.cmpi .sgt c2_i32_5 c0_i32_8
  let v21 : BitVec 32 := Scalar.extui v20
  let c0_i32_9 : BitVec 32 := 0#32
  let v22 : BitVec 1 := Scalar.cmpi .slt c2_i32_5 c0_i32_9
  let v23 : BitVec 32 := Scalar.extui v22
  let v24 : BitVec 32 := Scalar.subi v21 v23
  let v25 : BitVec 1 := Scalar.cmpi .ne v19 v24
  let v26 : BitVec 32 := Scalar.remsi v2 c2_i32_5
  let c0_i32_10 : BitVec 32 := 0#32
  let v27 : BitVec 1 := Scalar.cmpi .ne v26 c0_i32_10
  let v28 : BitVec 1 := Scalar.andi v25 v27
  let v14 : BitVec 32 := Scalar.divsi v2 c2_i32_5
  let c1_i32_11 : BitVec 32 := 1#32
  let v29 : BitVec 32 := Scalar.subi v14 c1_i32_11
  let v30 : BitVec 32 := Scalar.select v28 v29 v14
  let c256_i32 : BitVec 32 := 256#32
  let v31 : BitVec 32 := Scalar.muli v30 c256_i32
  ![8, v13.toNat, v31.toNat]
def k0_off9 (i : grid0.Coords) (c0_i32 : BitVec 32) : Fin 3 → Nat :=
  let c9_i32 : BitVec 32 := 9#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v2 : BitVec 32 := Scalar.addi v1 c0_i32
  let c2_i32_0 : BitVec 32 := 2#32
  let c0_i32_1 : BitVec 32 := 0#32
  let v3 : BitVec 1 := Scalar.cmpi .eq c2_i32_0 c0_i32_1
  let c1_i32 : BitVec 32 := 1#32
  let v4 : BitVec 32 := Scalar.select v3 c1_i32 c2_i32_0
  let v5 : BitVec 32 := Scalar.remsi v2 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let c16_i32 : BitVec 32 := 16#32
  let v13 : BitVec 32 := Scalar.muli v12 c16_i32
  let c0_i32_6 : BitVec 32 := 0#32
  let v15 : BitVec 1 := Scalar.cmpi .sgt v2 c0_i32_6
  let v16 : BitVec 32 := Scalar.extui v15
  let c0_i32_7 : BitVec 32 := 0#32
  let v17 : BitVec 1 := Scalar.cmpi .slt v2 c0_i32_7
  let v18 : BitVec 32 := Scalar.extui v17
  let v19 : BitVec 32 := Scalar.subi v16 v18
  let c2_i32_5 : BitVec 32 := 2#32
  let c0_i32_8 : BitVec 32 := 0#32
  let v20 : BitVec 1 := Scalar.cmpi .sgt c2_i32_5 c0_i32_8
  let v21 : BitVec 32 := Scalar.extui v20
  let c0_i32_9 : BitVec 32 := 0#32
  let v22 : BitVec 1 := Scalar.cmpi .slt c2_i32_5 c0_i32_9
  let v23 : BitVec 32 := Scalar.extui v22
  let v24 : BitVec 32 := Scalar.subi v21 v23
  let v25 : BitVec 1 := Scalar.cmpi .ne v19 v24
  let v26 : BitVec 32 := Scalar.remsi v2 c2_i32_5
  let c0_i32_10 : BitVec 32 := 0#32
  let v27 : BitVec 1 := Scalar.cmpi .ne v26 c0_i32_10
  let v28 : BitVec 1 := Scalar.andi v25 v27
  let v14 : BitVec 32 := Scalar.divsi v2 c2_i32_5
  let c1_i32_11 : BitVec 32 := 1#32
  let v29 : BitVec 32 := Scalar.subi v14 c1_i32_11
  let v30 : BitVec 32 := Scalar.select v28 v29 v14
  let c256_i32 : BitVec 32 := 256#32
  let v31 : BitVec 32 := Scalar.muli v30 c256_i32
  ![9, v13.toNat, v31.toNat]
@[reducible] def k0_t1_loop : Scf.Loop 32 :=
  let c0_i32_64 : BitVec 32 := 0#32
  let c256_i32_65 : BitVec 32 := 256#32
  let v200 : BitVec 32 := Scalar.addi c0_i32_64 c256_i32_65
  let c1_i32_66 : BitVec 32 := 1#32
  ⟨c0_i32_64, v200, c1_i32_66⟩
def k0_off10 (k0_t1 : Fin k0_t1_loop.trips) : Fin 2 → Nat :=
  let c0_i32_408 : BitVec 32 := 0#32
  let c0_i32_64 : BitVec 32 := 0#32
  let c1_i32_66 : BitVec 32 := 1#32
  let arg37 : BitVec 32 := Scf.iv c0_i32_64 c1_i32_66 k0_t1
  let c1_i32_407 : BitVec 32 := 1#32
  let v1071 : BitVec 32 := Scalar.muli arg37 c1_i32_407
  let v1072 : BitVec 32 := Scalar.addi c0_i32_408 v1071
  let c0_i32_410 : BitVec 32 := 0#32
  let v1074 : BitVec 1 := Scalar.cmpi .sgt v1072 c0_i32_410
  let v1075 : BitVec 32 := Scalar.extui v1074
  let c0_i32_411 : BitVec 32 := 0#32
  let v1076 : BitVec 1 := Scalar.cmpi .slt v1072 c0_i32_411
  let v1077 : BitVec 32 := Scalar.extui v1076
  let v1078 : BitVec 32 := Scalar.subi v1075 v1077
  let c16_i32_409 : BitVec 32 := 16#32
  let c0_i32_412 : BitVec 32 := 0#32
  let v1079 : BitVec 1 := Scalar.cmpi .sgt c16_i32_409 c0_i32_412
  let v1080 : BitVec 32 := Scalar.extui v1079
  let c0_i32_413 : BitVec 32 := 0#32
  let v1081 : BitVec 1 := Scalar.cmpi .slt c16_i32_409 c0_i32_413
  let v1082 : BitVec 32 := Scalar.extui v1081
  let v1083 : BitVec 32 := Scalar.subi v1080 v1082
  let v1084 : BitVec 1 := Scalar.cmpi .ne v1078 v1083
  let v1085 : BitVec 32 := Scalar.remsi v1072 c16_i32_409
  let c0_i32_414 : BitVec 32 := 0#32
  let v1086 : BitVec 1 := Scalar.cmpi .ne v1085 c0_i32_414
  let v1087 : BitVec 1 := Scalar.andi v1084 v1086
  let v1073 : BitVec 32 := Scalar.divsi v1072 c16_i32_409
  let c1_i32_415 : BitVec 32 := 1#32
  let v1088 : BitVec 32 := Scalar.subi v1073 c1_i32_415
  let v1089 : BitVec 32 := Scalar.select v1087 v1088 v1073
  let v1101 : Index := Scalar.indexCast v1089
  let c16_i32_416 : BitVec 32 := 16#32
  let c0_i32_417 : BitVec 32 := 0#32
  let v1090 : BitVec 1 := Scalar.cmpi .eq c16_i32_416 c0_i32_417
  let c1_i32_418 : BitVec 32 := 1#32
  let v1091 : BitVec 32 := Scalar.select v1090 c1_i32_418 c16_i32_416
  let v1092 : BitVec 32 := Scalar.remsi v1072 v1091
  let c0_i32_420 : BitVec 32 := 0#32
  let v1094 : BitVec 1 := Scalar.cmpi .slt v1092 c0_i32_420
  let c0_i32_421 : BitVec 32 := 0#32
  let v1095 : BitVec 1 := Scalar.cmpi .slt v1091 c0_i32_421
  let v1096 : BitVec 1 := Scalar.xori v1094 v1095
  let c0_i32_419 : BitVec 32 := 0#32
  let v1093 : BitVec 1 := Scalar.cmpi .ne v1092 c0_i32_419
  let v1097 : BitVec 1 := Scalar.andi v1096 v1093
  let v1098 : BitVec 32 := Scalar.addi v1092 v1091
  let v1099 : BitVec 32 := Scalar.select v1097 v1098 v1092
  let c16_i32_422 : BitVec 32 := 16#32
  let v1100 : BitVec 32 := Scalar.muli v1099 c16_i32_422
  let v1102 : Index := Scalar.indexCast v1100
  ![v1101.toNat, v1102.toNat]
def k0_off11 (i : grid0.Coords) (c0_i32_68 : BitVec 32) : Fin 3 → Nat :=
  let c0_i32_84 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v201 : BitVec 32 := Scalar.addi v1 c0_i32_68
  let c2_i32_69 : BitVec 32 := 2#32
  let c0_i32_70 : BitVec 32 := 0#32
  let v202 : BitVec 1 := Scalar.cmpi .eq c2_i32_69 c0_i32_70
  let c1_i32_71 : BitVec 32 := 1#32
  let v203 : BitVec 32 := Scalar.select v202 c1_i32_71 c2_i32_69
  let v204 : BitVec 32 := Scalar.remsi v201 v203
  let c0_i32_73 : BitVec 32 := 0#32
  let v206 : BitVec 1 := Scalar.cmpi .slt v204 c0_i32_73
  let c0_i32_74 : BitVec 32 := 0#32
  let v207 : BitVec 1 := Scalar.cmpi .slt v203 c0_i32_74
  let v208 : BitVec 1 := Scalar.xori v206 v207
  let c0_i32_72 : BitVec 32 := 0#32
  let v205 : BitVec 1 := Scalar.cmpi .ne v204 c0_i32_72
  let v209 : BitVec 1 := Scalar.andi v208 v205
  let v210 : BitVec 32 := Scalar.addi v204 v203
  let v211 : BitVec 32 := Scalar.select v209 v210 v204
  let c16_i32_75 : BitVec 32 := 16#32
  let v212 : BitVec 32 := Scalar.muli v211 c16_i32_75
  let c0_i32_77 : BitVec 32 := 0#32
  let v214 : BitVec 1 := Scalar.cmpi .sgt v201 c0_i32_77
  let v215 : BitVec 32 := Scalar.extui v214
  let c0_i32_78 : BitVec 32 := 0#32
  let v216 : BitVec 1 := Scalar.cmpi .slt v201 c0_i32_78
  let v217 : BitVec 32 := Scalar.extui v216
  let v218 : BitVec 32 := Scalar.subi v215 v217
  let c2_i32_76 : BitVec 32 := 2#32
  let c0_i32_79 : BitVec 32 := 0#32
  let v219 : BitVec 1 := Scalar.cmpi .sgt c2_i32_76 c0_i32_79
  let v220 : BitVec 32 := Scalar.extui v219
  let c0_i32_80 : BitVec 32 := 0#32
  let v221 : BitVec 1 := Scalar.cmpi .slt c2_i32_76 c0_i32_80
  let v222 : BitVec 32 := Scalar.extui v221
  let v223 : BitVec 32 := Scalar.subi v220 v222
  let v224 : BitVec 1 := Scalar.cmpi .ne v218 v223
  let v225 : BitVec 32 := Scalar.remsi v201 c2_i32_76
  let c0_i32_81 : BitVec 32 := 0#32
  let v226 : BitVec 1 := Scalar.cmpi .ne v225 c0_i32_81
  let v227 : BitVec 1 := Scalar.andi v224 v226
  let v213 : BitVec 32 := Scalar.divsi v201 c2_i32_76
  let c1_i32_82 : BitVec 32 := 1#32
  let v228 : BitVec 32 := Scalar.subi v213 c1_i32_82
  let v229 : BitVec 32 := Scalar.select v227 v228 v213
  let c256_i32_83 : BitVec 32 := 256#32
  let v230 : BitVec 32 := Scalar.muli v229 c256_i32_83
  ![0, v212.toNat, v230.toNat]
def k0_off12 (i : grid0.Coords) (c0_i32_68 : BitVec 32) : Fin 3 → Nat :=
  let c1_i32_85 : BitVec 32 := 1#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v201 : BitVec 32 := Scalar.addi v1 c0_i32_68
  let c2_i32_69 : BitVec 32 := 2#32
  let c0_i32_70 : BitVec 32 := 0#32
  let v202 : BitVec 1 := Scalar.cmpi .eq c2_i32_69 c0_i32_70
  let c1_i32_71 : BitVec 32 := 1#32
  let v203 : BitVec 32 := Scalar.select v202 c1_i32_71 c2_i32_69
  let v204 : BitVec 32 := Scalar.remsi v201 v203
  let c0_i32_73 : BitVec 32 := 0#32
  let v206 : BitVec 1 := Scalar.cmpi .slt v204 c0_i32_73
  let c0_i32_74 : BitVec 32 := 0#32
  let v207 : BitVec 1 := Scalar.cmpi .slt v203 c0_i32_74
  let v208 : BitVec 1 := Scalar.xori v206 v207
  let c0_i32_72 : BitVec 32 := 0#32
  let v205 : BitVec 1 := Scalar.cmpi .ne v204 c0_i32_72
  let v209 : BitVec 1 := Scalar.andi v208 v205
  let v210 : BitVec 32 := Scalar.addi v204 v203
  let v211 : BitVec 32 := Scalar.select v209 v210 v204
  let c16_i32_75 : BitVec 32 := 16#32
  let v212 : BitVec 32 := Scalar.muli v211 c16_i32_75
  let c0_i32_77 : BitVec 32 := 0#32
  let v214 : BitVec 1 := Scalar.cmpi .sgt v201 c0_i32_77
  let v215 : BitVec 32 := Scalar.extui v214
  let c0_i32_78 : BitVec 32 := 0#32
  let v216 : BitVec 1 := Scalar.cmpi .slt v201 c0_i32_78
  let v217 : BitVec 32 := Scalar.extui v216
  let v218 : BitVec 32 := Scalar.subi v215 v217
  let c2_i32_76 : BitVec 32 := 2#32
  let c0_i32_79 : BitVec 32 := 0#32
  let v219 : BitVec 1 := Scalar.cmpi .sgt c2_i32_76 c0_i32_79
  let v220 : BitVec 32 := Scalar.extui v219
  let c0_i32_80 : BitVec 32 := 0#32
  let v221 : BitVec 1 := Scalar.cmpi .slt c2_i32_76 c0_i32_80
  let v222 : BitVec 32 := Scalar.extui v221
  let v223 : BitVec 32 := Scalar.subi v220 v222
  let v224 : BitVec 1 := Scalar.cmpi .ne v218 v223
  let v225 : BitVec 32 := Scalar.remsi v201 c2_i32_76
  let c0_i32_81 : BitVec 32 := 0#32
  let v226 : BitVec 1 := Scalar.cmpi .ne v225 c0_i32_81
  let v227 : BitVec 1 := Scalar.andi v224 v226
  let v213 : BitVec 32 := Scalar.divsi v201 c2_i32_76
  let c1_i32_82 : BitVec 32 := 1#32
  let v228 : BitVec 32 := Scalar.subi v213 c1_i32_82
  let v229 : BitVec 32 := Scalar.select v227 v228 v213
  let c256_i32_83 : BitVec 32 := 256#32
  let v230 : BitVec 32 := Scalar.muli v229 c256_i32_83
  ![1, v212.toNat, v230.toNat]
def k0_off13 (i : grid0.Coords) (c0_i32_68 : BitVec 32) : Fin 3 → Nat :=
  let c2_i32_86 : BitVec 32 := 2#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v201 : BitVec 32 := Scalar.addi v1 c0_i32_68
  let c2_i32_69 : BitVec 32 := 2#32
  let c0_i32_70 : BitVec 32 := 0#32
  let v202 : BitVec 1 := Scalar.cmpi .eq c2_i32_69 c0_i32_70
  let c1_i32_71 : BitVec 32 := 1#32
  let v203 : BitVec 32 := Scalar.select v202 c1_i32_71 c2_i32_69
  let v204 : BitVec 32 := Scalar.remsi v201 v203
  let c0_i32_73 : BitVec 32 := 0#32
  let v206 : BitVec 1 := Scalar.cmpi .slt v204 c0_i32_73
  let c0_i32_74 : BitVec 32 := 0#32
  let v207 : BitVec 1 := Scalar.cmpi .slt v203 c0_i32_74
  let v208 : BitVec 1 := Scalar.xori v206 v207
  let c0_i32_72 : BitVec 32 := 0#32
  let v205 : BitVec 1 := Scalar.cmpi .ne v204 c0_i32_72
  let v209 : BitVec 1 := Scalar.andi v208 v205
  let v210 : BitVec 32 := Scalar.addi v204 v203
  let v211 : BitVec 32 := Scalar.select v209 v210 v204
  let c16_i32_75 : BitVec 32 := 16#32
  let v212 : BitVec 32 := Scalar.muli v211 c16_i32_75
  let c0_i32_77 : BitVec 32 := 0#32
  let v214 : BitVec 1 := Scalar.cmpi .sgt v201 c0_i32_77
  let v215 : BitVec 32 := Scalar.extui v214
  let c0_i32_78 : BitVec 32 := 0#32
  let v216 : BitVec 1 := Scalar.cmpi .slt v201 c0_i32_78
  let v217 : BitVec 32 := Scalar.extui v216
  let v218 : BitVec 32 := Scalar.subi v215 v217
  let c2_i32_76 : BitVec 32 := 2#32
  let c0_i32_79 : BitVec 32 := 0#32
  let v219 : BitVec 1 := Scalar.cmpi .sgt c2_i32_76 c0_i32_79
  let v220 : BitVec 32 := Scalar.extui v219
  let c0_i32_80 : BitVec 32 := 0#32
  let v221 : BitVec 1 := Scalar.cmpi .slt c2_i32_76 c0_i32_80
  let v222 : BitVec 32 := Scalar.extui v221
  let v223 : BitVec 32 := Scalar.subi v220 v222
  let v224 : BitVec 1 := Scalar.cmpi .ne v218 v223
  let v225 : BitVec 32 := Scalar.remsi v201 c2_i32_76
  let c0_i32_81 : BitVec 32 := 0#32
  let v226 : BitVec 1 := Scalar.cmpi .ne v225 c0_i32_81
  let v227 : BitVec 1 := Scalar.andi v224 v226
  let v213 : BitVec 32 := Scalar.divsi v201 c2_i32_76
  let c1_i32_82 : BitVec 32 := 1#32
  let v228 : BitVec 32 := Scalar.subi v213 c1_i32_82
  let v229 : BitVec 32 := Scalar.select v227 v228 v213
  let c256_i32_83 : BitVec 32 := 256#32
  let v230 : BitVec 32 := Scalar.muli v229 c256_i32_83
  ![2, v212.toNat, v230.toNat]
def k0_off14 (i : grid0.Coords) (c0_i32_68 : BitVec 32) : Fin 3 → Nat :=
  let c3_i32_87 : BitVec 32 := 3#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v201 : BitVec 32 := Scalar.addi v1 c0_i32_68
  let c2_i32_69 : BitVec 32 := 2#32
  let c0_i32_70 : BitVec 32 := 0#32
  let v202 : BitVec 1 := Scalar.cmpi .eq c2_i32_69 c0_i32_70
  let c1_i32_71 : BitVec 32 := 1#32
  let v203 : BitVec 32 := Scalar.select v202 c1_i32_71 c2_i32_69
  let v204 : BitVec 32 := Scalar.remsi v201 v203
  let c0_i32_73 : BitVec 32 := 0#32
  let v206 : BitVec 1 := Scalar.cmpi .slt v204 c0_i32_73
  let c0_i32_74 : BitVec 32 := 0#32
  let v207 : BitVec 1 := Scalar.cmpi .slt v203 c0_i32_74
  let v208 : BitVec 1 := Scalar.xori v206 v207
  let c0_i32_72 : BitVec 32 := 0#32
  let v205 : BitVec 1 := Scalar.cmpi .ne v204 c0_i32_72
  let v209 : BitVec 1 := Scalar.andi v208 v205
  let v210 : BitVec 32 := Scalar.addi v204 v203
  let v211 : BitVec 32 := Scalar.select v209 v210 v204
  let c16_i32_75 : BitVec 32 := 16#32
  let v212 : BitVec 32 := Scalar.muli v211 c16_i32_75
  let c0_i32_77 : BitVec 32 := 0#32
  let v214 : BitVec 1 := Scalar.cmpi .sgt v201 c0_i32_77
  let v215 : BitVec 32 := Scalar.extui v214
  let c0_i32_78 : BitVec 32 := 0#32
  let v216 : BitVec 1 := Scalar.cmpi .slt v201 c0_i32_78
  let v217 : BitVec 32 := Scalar.extui v216
  let v218 : BitVec 32 := Scalar.subi v215 v217
  let c2_i32_76 : BitVec 32 := 2#32
  let c0_i32_79 : BitVec 32 := 0#32
  let v219 : BitVec 1 := Scalar.cmpi .sgt c2_i32_76 c0_i32_79
  let v220 : BitVec 32 := Scalar.extui v219
  let c0_i32_80 : BitVec 32 := 0#32
  let v221 : BitVec 1 := Scalar.cmpi .slt c2_i32_76 c0_i32_80
  let v222 : BitVec 32 := Scalar.extui v221
  let v223 : BitVec 32 := Scalar.subi v220 v222
  let v224 : BitVec 1 := Scalar.cmpi .ne v218 v223
  let v225 : BitVec 32 := Scalar.remsi v201 c2_i32_76
  let c0_i32_81 : BitVec 32 := 0#32
  let v226 : BitVec 1 := Scalar.cmpi .ne v225 c0_i32_81
  let v227 : BitVec 1 := Scalar.andi v224 v226
  let v213 : BitVec 32 := Scalar.divsi v201 c2_i32_76
  let c1_i32_82 : BitVec 32 := 1#32
  let v228 : BitVec 32 := Scalar.subi v213 c1_i32_82
  let v229 : BitVec 32 := Scalar.select v227 v228 v213
  let c256_i32_83 : BitVec 32 := 256#32
  let v230 : BitVec 32 := Scalar.muli v229 c256_i32_83
  ![3, v212.toNat, v230.toNat]
def k0_off15 (i : grid0.Coords) (c0_i32_68 : BitVec 32) : Fin 3 → Nat :=
  let c4_i32_88 : BitVec 32 := 4#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v201 : BitVec 32 := Scalar.addi v1 c0_i32_68
  let c2_i32_69 : BitVec 32 := 2#32
  let c0_i32_70 : BitVec 32 := 0#32
  let v202 : BitVec 1 := Scalar.cmpi .eq c2_i32_69 c0_i32_70
  let c1_i32_71 : BitVec 32 := 1#32
  let v203 : BitVec 32 := Scalar.select v202 c1_i32_71 c2_i32_69
  let v204 : BitVec 32 := Scalar.remsi v201 v203
  let c0_i32_73 : BitVec 32 := 0#32
  let v206 : BitVec 1 := Scalar.cmpi .slt v204 c0_i32_73
  let c0_i32_74 : BitVec 32 := 0#32
  let v207 : BitVec 1 := Scalar.cmpi .slt v203 c0_i32_74
  let v208 : BitVec 1 := Scalar.xori v206 v207
  let c0_i32_72 : BitVec 32 := 0#32
  let v205 : BitVec 1 := Scalar.cmpi .ne v204 c0_i32_72
  let v209 : BitVec 1 := Scalar.andi v208 v205
  let v210 : BitVec 32 := Scalar.addi v204 v203
  let v211 : BitVec 32 := Scalar.select v209 v210 v204
  let c16_i32_75 : BitVec 32 := 16#32
  let v212 : BitVec 32 := Scalar.muli v211 c16_i32_75
  let c0_i32_77 : BitVec 32 := 0#32
  let v214 : BitVec 1 := Scalar.cmpi .sgt v201 c0_i32_77
  let v215 : BitVec 32 := Scalar.extui v214
  let c0_i32_78 : BitVec 32 := 0#32
  let v216 : BitVec 1 := Scalar.cmpi .slt v201 c0_i32_78
  let v217 : BitVec 32 := Scalar.extui v216
  let v218 : BitVec 32 := Scalar.subi v215 v217
  let c2_i32_76 : BitVec 32 := 2#32
  let c0_i32_79 : BitVec 32 := 0#32
  let v219 : BitVec 1 := Scalar.cmpi .sgt c2_i32_76 c0_i32_79
  let v220 : BitVec 32 := Scalar.extui v219
  let c0_i32_80 : BitVec 32 := 0#32
  let v221 : BitVec 1 := Scalar.cmpi .slt c2_i32_76 c0_i32_80
  let v222 : BitVec 32 := Scalar.extui v221
  let v223 : BitVec 32 := Scalar.subi v220 v222
  let v224 : BitVec 1 := Scalar.cmpi .ne v218 v223
  let v225 : BitVec 32 := Scalar.remsi v201 c2_i32_76
  let c0_i32_81 : BitVec 32 := 0#32
  let v226 : BitVec 1 := Scalar.cmpi .ne v225 c0_i32_81
  let v227 : BitVec 1 := Scalar.andi v224 v226
  let v213 : BitVec 32 := Scalar.divsi v201 c2_i32_76
  let c1_i32_82 : BitVec 32 := 1#32
  let v228 : BitVec 32 := Scalar.subi v213 c1_i32_82
  let v229 : BitVec 32 := Scalar.select v227 v228 v213
  let c256_i32_83 : BitVec 32 := 256#32
  let v230 : BitVec 32 := Scalar.muli v229 c256_i32_83
  ![4, v212.toNat, v230.toNat]
def k0_off16 (i : grid0.Coords) (c0_i32_68 : BitVec 32) : Fin 3 → Nat :=
  let c5_i32 : BitVec 32 := 5#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v201 : BitVec 32 := Scalar.addi v1 c0_i32_68
  let c2_i32_69 : BitVec 32 := 2#32
  let c0_i32_70 : BitVec 32 := 0#32
  let v202 : BitVec 1 := Scalar.cmpi .eq c2_i32_69 c0_i32_70
  let c1_i32_71 : BitVec 32 := 1#32
  let v203 : BitVec 32 := Scalar.select v202 c1_i32_71 c2_i32_69
  let v204 : BitVec 32 := Scalar.remsi v201 v203
  let c0_i32_73 : BitVec 32 := 0#32
  let v206 : BitVec 1 := Scalar.cmpi .slt v204 c0_i32_73
  let c0_i32_74 : BitVec 32 := 0#32
  let v207 : BitVec 1 := Scalar.cmpi .slt v203 c0_i32_74
  let v208 : BitVec 1 := Scalar.xori v206 v207
  let c0_i32_72 : BitVec 32 := 0#32
  let v205 : BitVec 1 := Scalar.cmpi .ne v204 c0_i32_72
  let v209 : BitVec 1 := Scalar.andi v208 v205
  let v210 : BitVec 32 := Scalar.addi v204 v203
  let v211 : BitVec 32 := Scalar.select v209 v210 v204
  let c16_i32_75 : BitVec 32 := 16#32
  let v212 : BitVec 32 := Scalar.muli v211 c16_i32_75
  let c0_i32_77 : BitVec 32 := 0#32
  let v214 : BitVec 1 := Scalar.cmpi .sgt v201 c0_i32_77
  let v215 : BitVec 32 := Scalar.extui v214
  let c0_i32_78 : BitVec 32 := 0#32
  let v216 : BitVec 1 := Scalar.cmpi .slt v201 c0_i32_78
  let v217 : BitVec 32 := Scalar.extui v216
  let v218 : BitVec 32 := Scalar.subi v215 v217
  let c2_i32_76 : BitVec 32 := 2#32
  let c0_i32_79 : BitVec 32 := 0#32
  let v219 : BitVec 1 := Scalar.cmpi .sgt c2_i32_76 c0_i32_79
  let v220 : BitVec 32 := Scalar.extui v219
  let c0_i32_80 : BitVec 32 := 0#32
  let v221 : BitVec 1 := Scalar.cmpi .slt c2_i32_76 c0_i32_80
  let v222 : BitVec 32 := Scalar.extui v221
  let v223 : BitVec 32 := Scalar.subi v220 v222
  let v224 : BitVec 1 := Scalar.cmpi .ne v218 v223
  let v225 : BitVec 32 := Scalar.remsi v201 c2_i32_76
  let c0_i32_81 : BitVec 32 := 0#32
  let v226 : BitVec 1 := Scalar.cmpi .ne v225 c0_i32_81
  let v227 : BitVec 1 := Scalar.andi v224 v226
  let v213 : BitVec 32 := Scalar.divsi v201 c2_i32_76
  let c1_i32_82 : BitVec 32 := 1#32
  let v228 : BitVec 32 := Scalar.subi v213 c1_i32_82
  let v229 : BitVec 32 := Scalar.select v227 v228 v213
  let c256_i32_83 : BitVec 32 := 256#32
  let v230 : BitVec 32 := Scalar.muli v229 c256_i32_83
  ![5, v212.toNat, v230.toNat]
def k0_off17 (i : grid0.Coords) (c0_i32_68 : BitVec 32) : Fin 3 → Nat :=
  let c6_i32_89 : BitVec 32 := 6#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v201 : BitVec 32 := Scalar.addi v1 c0_i32_68
  let c2_i32_69 : BitVec 32 := 2#32
  let c0_i32_70 : BitVec 32 := 0#32
  let v202 : BitVec 1 := Scalar.cmpi .eq c2_i32_69 c0_i32_70
  let c1_i32_71 : BitVec 32 := 1#32
  let v203 : BitVec 32 := Scalar.select v202 c1_i32_71 c2_i32_69
  let v204 : BitVec 32 := Scalar.remsi v201 v203
  let c0_i32_73 : BitVec 32 := 0#32
  let v206 : BitVec 1 := Scalar.cmpi .slt v204 c0_i32_73
  let c0_i32_74 : BitVec 32 := 0#32
  let v207 : BitVec 1 := Scalar.cmpi .slt v203 c0_i32_74
  let v208 : BitVec 1 := Scalar.xori v206 v207
  let c0_i32_72 : BitVec 32 := 0#32
  let v205 : BitVec 1 := Scalar.cmpi .ne v204 c0_i32_72
  let v209 : BitVec 1 := Scalar.andi v208 v205
  let v210 : BitVec 32 := Scalar.addi v204 v203
  let v211 : BitVec 32 := Scalar.select v209 v210 v204
  let c16_i32_75 : BitVec 32 := 16#32
  let v212 : BitVec 32 := Scalar.muli v211 c16_i32_75
  let c0_i32_77 : BitVec 32 := 0#32
  let v214 : BitVec 1 := Scalar.cmpi .sgt v201 c0_i32_77
  let v215 : BitVec 32 := Scalar.extui v214
  let c0_i32_78 : BitVec 32 := 0#32
  let v216 : BitVec 1 := Scalar.cmpi .slt v201 c0_i32_78
  let v217 : BitVec 32 := Scalar.extui v216
  let v218 : BitVec 32 := Scalar.subi v215 v217
  let c2_i32_76 : BitVec 32 := 2#32
  let c0_i32_79 : BitVec 32 := 0#32
  let v219 : BitVec 1 := Scalar.cmpi .sgt c2_i32_76 c0_i32_79
  let v220 : BitVec 32 := Scalar.extui v219
  let c0_i32_80 : BitVec 32 := 0#32
  let v221 : BitVec 1 := Scalar.cmpi .slt c2_i32_76 c0_i32_80
  let v222 : BitVec 32 := Scalar.extui v221
  let v223 : BitVec 32 := Scalar.subi v220 v222
  let v224 : BitVec 1 := Scalar.cmpi .ne v218 v223
  let v225 : BitVec 32 := Scalar.remsi v201 c2_i32_76
  let c0_i32_81 : BitVec 32 := 0#32
  let v226 : BitVec 1 := Scalar.cmpi .ne v225 c0_i32_81
  let v227 : BitVec 1 := Scalar.andi v224 v226
  let v213 : BitVec 32 := Scalar.divsi v201 c2_i32_76
  let c1_i32_82 : BitVec 32 := 1#32
  let v228 : BitVec 32 := Scalar.subi v213 c1_i32_82
  let v229 : BitVec 32 := Scalar.select v227 v228 v213
  let c256_i32_83 : BitVec 32 := 256#32
  let v230 : BitVec 32 := Scalar.muli v229 c256_i32_83
  ![6, v212.toNat, v230.toNat]
def k0_off18 (i : grid0.Coords) (c0_i32_68 : BitVec 32) : Fin 3 → Nat :=
  let c7_i32_90 : BitVec 32 := 7#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v201 : BitVec 32 := Scalar.addi v1 c0_i32_68
  let c2_i32_69 : BitVec 32 := 2#32
  let c0_i32_70 : BitVec 32 := 0#32
  let v202 : BitVec 1 := Scalar.cmpi .eq c2_i32_69 c0_i32_70
  let c1_i32_71 : BitVec 32 := 1#32
  let v203 : BitVec 32 := Scalar.select v202 c1_i32_71 c2_i32_69
  let v204 : BitVec 32 := Scalar.remsi v201 v203
  let c0_i32_73 : BitVec 32 := 0#32
  let v206 : BitVec 1 := Scalar.cmpi .slt v204 c0_i32_73
  let c0_i32_74 : BitVec 32 := 0#32
  let v207 : BitVec 1 := Scalar.cmpi .slt v203 c0_i32_74
  let v208 : BitVec 1 := Scalar.xori v206 v207
  let c0_i32_72 : BitVec 32 := 0#32
  let v205 : BitVec 1 := Scalar.cmpi .ne v204 c0_i32_72
  let v209 : BitVec 1 := Scalar.andi v208 v205
  let v210 : BitVec 32 := Scalar.addi v204 v203
  let v211 : BitVec 32 := Scalar.select v209 v210 v204
  let c16_i32_75 : BitVec 32 := 16#32
  let v212 : BitVec 32 := Scalar.muli v211 c16_i32_75
  let c0_i32_77 : BitVec 32 := 0#32
  let v214 : BitVec 1 := Scalar.cmpi .sgt v201 c0_i32_77
  let v215 : BitVec 32 := Scalar.extui v214
  let c0_i32_78 : BitVec 32 := 0#32
  let v216 : BitVec 1 := Scalar.cmpi .slt v201 c0_i32_78
  let v217 : BitVec 32 := Scalar.extui v216
  let v218 : BitVec 32 := Scalar.subi v215 v217
  let c2_i32_76 : BitVec 32 := 2#32
  let c0_i32_79 : BitVec 32 := 0#32
  let v219 : BitVec 1 := Scalar.cmpi .sgt c2_i32_76 c0_i32_79
  let v220 : BitVec 32 := Scalar.extui v219
  let c0_i32_80 : BitVec 32 := 0#32
  let v221 : BitVec 1 := Scalar.cmpi .slt c2_i32_76 c0_i32_80
  let v222 : BitVec 32 := Scalar.extui v221
  let v223 : BitVec 32 := Scalar.subi v220 v222
  let v224 : BitVec 1 := Scalar.cmpi .ne v218 v223
  let v225 : BitVec 32 := Scalar.remsi v201 c2_i32_76
  let c0_i32_81 : BitVec 32 := 0#32
  let v226 : BitVec 1 := Scalar.cmpi .ne v225 c0_i32_81
  let v227 : BitVec 1 := Scalar.andi v224 v226
  let v213 : BitVec 32 := Scalar.divsi v201 c2_i32_76
  let c1_i32_82 : BitVec 32 := 1#32
  let v228 : BitVec 32 := Scalar.subi v213 c1_i32_82
  let v229 : BitVec 32 := Scalar.select v227 v228 v213
  let c256_i32_83 : BitVec 32 := 256#32
  let v230 : BitVec 32 := Scalar.muli v229 c256_i32_83
  ![7, v212.toNat, v230.toNat]
def k0_off19 (i : grid0.Coords) (c0_i32_68 : BitVec 32) : Fin 3 → Nat :=
  let c8_i32_91 : BitVec 32 := 8#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v201 : BitVec 32 := Scalar.addi v1 c0_i32_68
  let c2_i32_69 : BitVec 32 := 2#32
  let c0_i32_70 : BitVec 32 := 0#32
  let v202 : BitVec 1 := Scalar.cmpi .eq c2_i32_69 c0_i32_70
  let c1_i32_71 : BitVec 32 := 1#32
  let v203 : BitVec 32 := Scalar.select v202 c1_i32_71 c2_i32_69
  let v204 : BitVec 32 := Scalar.remsi v201 v203
  let c0_i32_73 : BitVec 32 := 0#32
  let v206 : BitVec 1 := Scalar.cmpi .slt v204 c0_i32_73
  let c0_i32_74 : BitVec 32 := 0#32
  let v207 : BitVec 1 := Scalar.cmpi .slt v203 c0_i32_74
  let v208 : BitVec 1 := Scalar.xori v206 v207
  let c0_i32_72 : BitVec 32 := 0#32
  let v205 : BitVec 1 := Scalar.cmpi .ne v204 c0_i32_72
  let v209 : BitVec 1 := Scalar.andi v208 v205
  let v210 : BitVec 32 := Scalar.addi v204 v203
  let v211 : BitVec 32 := Scalar.select v209 v210 v204
  let c16_i32_75 : BitVec 32 := 16#32
  let v212 : BitVec 32 := Scalar.muli v211 c16_i32_75
  let c0_i32_77 : BitVec 32 := 0#32
  let v214 : BitVec 1 := Scalar.cmpi .sgt v201 c0_i32_77
  let v215 : BitVec 32 := Scalar.extui v214
  let c0_i32_78 : BitVec 32 := 0#32
  let v216 : BitVec 1 := Scalar.cmpi .slt v201 c0_i32_78
  let v217 : BitVec 32 := Scalar.extui v216
  let v218 : BitVec 32 := Scalar.subi v215 v217
  let c2_i32_76 : BitVec 32 := 2#32
  let c0_i32_79 : BitVec 32 := 0#32
  let v219 : BitVec 1 := Scalar.cmpi .sgt c2_i32_76 c0_i32_79
  let v220 : BitVec 32 := Scalar.extui v219
  let c0_i32_80 : BitVec 32 := 0#32
  let v221 : BitVec 1 := Scalar.cmpi .slt c2_i32_76 c0_i32_80
  let v222 : BitVec 32 := Scalar.extui v221
  let v223 : BitVec 32 := Scalar.subi v220 v222
  let v224 : BitVec 1 := Scalar.cmpi .ne v218 v223
  let v225 : BitVec 32 := Scalar.remsi v201 c2_i32_76
  let c0_i32_81 : BitVec 32 := 0#32
  let v226 : BitVec 1 := Scalar.cmpi .ne v225 c0_i32_81
  let v227 : BitVec 1 := Scalar.andi v224 v226
  let v213 : BitVec 32 := Scalar.divsi v201 c2_i32_76
  let c1_i32_82 : BitVec 32 := 1#32
  let v228 : BitVec 32 := Scalar.subi v213 c1_i32_82
  let v229 : BitVec 32 := Scalar.select v227 v228 v213
  let c256_i32_83 : BitVec 32 := 256#32
  let v230 : BitVec 32 := Scalar.muli v229 c256_i32_83
  ![8, v212.toNat, v230.toNat]
@[reducible] def k0_t2_loop : Scf.Loop 32 :=
  let c0_i32_141 : BitVec 32 := 0#32
  let c256_i32_142 : BitVec 32 := 256#32
  let v399 : BitVec 32 := Scalar.addi c0_i32_141 c256_i32_142
  let c1_i32_143 : BitVec 32 := 1#32
  ⟨c0_i32_141, v399, c1_i32_143⟩
def k0_off20 (k0_t2 : Fin k0_t2_loop.trips) : Fin 2 → Nat :=
  let c0_i32_408 : BitVec 32 := 0#32
  let c0_i32_141 : BitVec 32 := 0#32
  let c1_i32_143 : BitVec 32 := 1#32
  let arg37 : BitVec 32 := Scf.iv c0_i32_141 c1_i32_143 k0_t2
  let c1_i32_407 : BitVec 32 := 1#32
  let v1071 : BitVec 32 := Scalar.muli arg37 c1_i32_407
  let v1072 : BitVec 32 := Scalar.addi c0_i32_408 v1071
  let c0_i32_410 : BitVec 32 := 0#32
  let v1074 : BitVec 1 := Scalar.cmpi .sgt v1072 c0_i32_410
  let v1075 : BitVec 32 := Scalar.extui v1074
  let c0_i32_411 : BitVec 32 := 0#32
  let v1076 : BitVec 1 := Scalar.cmpi .slt v1072 c0_i32_411
  let v1077 : BitVec 32 := Scalar.extui v1076
  let v1078 : BitVec 32 := Scalar.subi v1075 v1077
  let c16_i32_409 : BitVec 32 := 16#32
  let c0_i32_412 : BitVec 32 := 0#32
  let v1079 : BitVec 1 := Scalar.cmpi .sgt c16_i32_409 c0_i32_412
  let v1080 : BitVec 32 := Scalar.extui v1079
  let c0_i32_413 : BitVec 32 := 0#32
  let v1081 : BitVec 1 := Scalar.cmpi .slt c16_i32_409 c0_i32_413
  let v1082 : BitVec 32 := Scalar.extui v1081
  let v1083 : BitVec 32 := Scalar.subi v1080 v1082
  let v1084 : BitVec 1 := Scalar.cmpi .ne v1078 v1083
  let v1085 : BitVec 32 := Scalar.remsi v1072 c16_i32_409
  let c0_i32_414 : BitVec 32 := 0#32
  let v1086 : BitVec 1 := Scalar.cmpi .ne v1085 c0_i32_414
  let v1087 : BitVec 1 := Scalar.andi v1084 v1086
  let v1073 : BitVec 32 := Scalar.divsi v1072 c16_i32_409
  let c1_i32_415 : BitVec 32 := 1#32
  let v1088 : BitVec 32 := Scalar.subi v1073 c1_i32_415
  let v1089 : BitVec 32 := Scalar.select v1087 v1088 v1073
  let v1101 : Index := Scalar.indexCast v1089
  let c16_i32_416 : BitVec 32 := 16#32
  let c0_i32_417 : BitVec 32 := 0#32
  let v1090 : BitVec 1 := Scalar.cmpi .eq c16_i32_416 c0_i32_417
  let c1_i32_418 : BitVec 32 := 1#32
  let v1091 : BitVec 32 := Scalar.select v1090 c1_i32_418 c16_i32_416
  let v1092 : BitVec 32 := Scalar.remsi v1072 v1091
  let c0_i32_420 : BitVec 32 := 0#32
  let v1094 : BitVec 1 := Scalar.cmpi .slt v1092 c0_i32_420
  let c0_i32_421 : BitVec 32 := 0#32
  let v1095 : BitVec 1 := Scalar.cmpi .slt v1091 c0_i32_421
  let v1096 : BitVec 1 := Scalar.xori v1094 v1095
  let c0_i32_419 : BitVec 32 := 0#32
  let v1093 : BitVec 1 := Scalar.cmpi .ne v1092 c0_i32_419
  let v1097 : BitVec 1 := Scalar.andi v1096 v1093
  let v1098 : BitVec 32 := Scalar.addi v1092 v1091
  let v1099 : BitVec 32 := Scalar.select v1097 v1098 v1092
  let c16_i32_422 : BitVec 32 := 16#32
  let v1100 : BitVec 32 := Scalar.muli v1099 c16_i32_422
  let v1102 : Index := Scalar.indexCast v1100
  ![v1101.toNat, v1102.toNat]
@[reducible] def k0_t3_loop : Scf.Loop 32 :=
  let c0_i32_244 : BitVec 32 := 0#32
  let c256_i32_245 : BitVec 32 := 256#32
  let v664 : BitVec 32 := Scalar.addi c0_i32_244 c256_i32_245
  let c1_i32_246 : BitVec 32 := 1#32
  ⟨c0_i32_244, v664, c1_i32_246⟩
def k0_off21 (k0_t3 : Fin k0_t3_loop.trips) : Fin 2 → Nat :=
  let c0_i32_408 : BitVec 32 := 0#32
  let c0_i32_244 : BitVec 32 := 0#32
  let c1_i32_246 : BitVec 32 := 1#32
  let arg37 : BitVec 32 := Scf.iv c0_i32_244 c1_i32_246 k0_t3
  let c1_i32_407 : BitVec 32 := 1#32
  let v1071 : BitVec 32 := Scalar.muli arg37 c1_i32_407
  let v1072 : BitVec 32 := Scalar.addi c0_i32_408 v1071
  let c0_i32_410 : BitVec 32 := 0#32
  let v1074 : BitVec 1 := Scalar.cmpi .sgt v1072 c0_i32_410
  let v1075 : BitVec 32 := Scalar.extui v1074
  let c0_i32_411 : BitVec 32 := 0#32
  let v1076 : BitVec 1 := Scalar.cmpi .slt v1072 c0_i32_411
  let v1077 : BitVec 32 := Scalar.extui v1076
  let v1078 : BitVec 32 := Scalar.subi v1075 v1077
  let c16_i32_409 : BitVec 32 := 16#32
  let c0_i32_412 : BitVec 32 := 0#32
  let v1079 : BitVec 1 := Scalar.cmpi .sgt c16_i32_409 c0_i32_412
  let v1080 : BitVec 32 := Scalar.extui v1079
  let c0_i32_413 : BitVec 32 := 0#32
  let v1081 : BitVec 1 := Scalar.cmpi .slt c16_i32_409 c0_i32_413
  let v1082 : BitVec 32 := Scalar.extui v1081
  let v1083 : BitVec 32 := Scalar.subi v1080 v1082
  let v1084 : BitVec 1 := Scalar.cmpi .ne v1078 v1083
  let v1085 : BitVec 32 := Scalar.remsi v1072 c16_i32_409
  let c0_i32_414 : BitVec 32 := 0#32
  let v1086 : BitVec 1 := Scalar.cmpi .ne v1085 c0_i32_414
  let v1087 : BitVec 1 := Scalar.andi v1084 v1086
  let v1073 : BitVec 32 := Scalar.divsi v1072 c16_i32_409
  let c1_i32_415 : BitVec 32 := 1#32
  let v1088 : BitVec 32 := Scalar.subi v1073 c1_i32_415
  let v1089 : BitVec 32 := Scalar.select v1087 v1088 v1073
  let v1101 : Index := Scalar.indexCast v1089
  let c16_i32_416 : BitVec 32 := 16#32
  let c0_i32_417 : BitVec 32 := 0#32
  let v1090 : BitVec 1 := Scalar.cmpi .eq c16_i32_416 c0_i32_417
  let c1_i32_418 : BitVec 32 := 1#32
  let v1091 : BitVec 32 := Scalar.select v1090 c1_i32_418 c16_i32_416
  let v1092 : BitVec 32 := Scalar.remsi v1072 v1091
  let c0_i32_420 : BitVec 32 := 0#32
  let v1094 : BitVec 1 := Scalar.cmpi .slt v1092 c0_i32_420
  let c0_i32_421 : BitVec 32 := 0#32
  let v1095 : BitVec 1 := Scalar.cmpi .slt v1091 c0_i32_421
  let v1096 : BitVec 1 := Scalar.xori v1094 v1095
  let c0_i32_419 : BitVec 32 := 0#32
  let v1093 : BitVec 1 := Scalar.cmpi .ne v1092 c0_i32_419
  let v1097 : BitVec 1 := Scalar.andi v1096 v1093
  let v1098 : BitVec 32 := Scalar.addi v1092 v1091
  let v1099 : BitVec 32 := Scalar.select v1097 v1098 v1092
  let c16_i32_422 : BitVec 32 := 16#32
  let v1100 : BitVec 32 := Scalar.muli v1099 c16_i32_422
  let v1102 : Index := Scalar.indexCast v1100
  ![v1101.toNat, v1102.toNat]
def k0_cond1 (i : grid0.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c28_i32 : BitVec 32 := 28#32
  let v797 : BitVec 1 := Scalar.cmpi .slt v1 c28_i32
  let v798 : BitVec 32 := Scalar.extui v797
  let c0_i32_298 : BitVec 32 := 0#32
  let v799 : BitVec 1 := Scalar.cmpi .ne v798 c0_i32_298
  v799

def k0_off22 (i : grid0.Coords) : Fin 3 → Nat :=
  let c0_i32_422 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v1071 : BitVec 32 := Scalar.addi v1 c128_i32
  let c2_i32_407 : BitVec 32 := 2#32
  let c0_i32_408 : BitVec 32 := 0#32
  let v1072 : BitVec 1 := Scalar.cmpi .eq c2_i32_407 c0_i32_408
  let c1_i32_409 : BitVec 32 := 1#32
  let v1073 : BitVec 32 := Scalar.select v1072 c1_i32_409 c2_i32_407
  let v1074 : BitVec 32 := Scalar.remsi v1071 v1073
  let c0_i32_411 : BitVec 32 := 0#32
  let v1076 : BitVec 1 := Scalar.cmpi .slt v1074 c0_i32_411
  let c0_i32_412 : BitVec 32 := 0#32
  let v1077 : BitVec 1 := Scalar.cmpi .slt v1073 c0_i32_412
  let v1078 : BitVec 1 := Scalar.xori v1076 v1077
  let c0_i32_410 : BitVec 32 := 0#32
  let v1075 : BitVec 1 := Scalar.cmpi .ne v1074 c0_i32_410
  let v1079 : BitVec 1 := Scalar.andi v1078 v1075
  let v1080 : BitVec 32 := Scalar.addi v1074 v1073
  let v1081 : BitVec 32 := Scalar.select v1079 v1080 v1074
  let c16_i32_413 : BitVec 32 := 16#32
  let v1082 : BitVec 32 := Scalar.muli v1081 c16_i32_413
  let c0_i32_415 : BitVec 32 := 0#32
  let v1084 : BitVec 1 := Scalar.cmpi .sgt v1071 c0_i32_415
  let v1085 : BitVec 32 := Scalar.extui v1084
  let c0_i32_416 : BitVec 32 := 0#32
  let v1086 : BitVec 1 := Scalar.cmpi .slt v1071 c0_i32_416
  let v1087 : BitVec 32 := Scalar.extui v1086
  let v1088 : BitVec 32 := Scalar.subi v1085 v1087
  let c2_i32_414 : BitVec 32 := 2#32
  let c0_i32_417 : BitVec 32 := 0#32
  let v1089 : BitVec 1 := Scalar.cmpi .sgt c2_i32_414 c0_i32_417
  let v1090 : BitVec 32 := Scalar.extui v1089
  let c0_i32_418 : BitVec 32 := 0#32
  let v1091 : BitVec 1 := Scalar.cmpi .slt c2_i32_414 c0_i32_418
  let v1092 : BitVec 32 := Scalar.extui v1091
  let v1093 : BitVec 32 := Scalar.subi v1090 v1092
  let v1094 : BitVec 1 := Scalar.cmpi .ne v1088 v1093
  let v1095 : BitVec 32 := Scalar.remsi v1071 c2_i32_414
  let c0_i32_419 : BitVec 32 := 0#32
  let v1096 : BitVec 1 := Scalar.cmpi .ne v1095 c0_i32_419
  let v1097 : BitVec 1 := Scalar.andi v1094 v1096
  let v1083 : BitVec 32 := Scalar.divsi v1071 c2_i32_414
  let c1_i32_420 : BitVec 32 := 1#32
  let v1098 : BitVec 32 := Scalar.subi v1083 c1_i32_420
  let v1099 : BitVec 32 := Scalar.select v1097 v1098 v1083
  let c256_i32_421 : BitVec 32 := 256#32
  let v1100 : BitVec 32 := Scalar.muli v1099 c256_i32_421
  ![0, v1082.toNat, v1100.toNat]
def k0_off23 (i : grid0.Coords) : Fin 3 → Nat :=
  let c1_i32_423 : BitVec 32 := 1#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v1071 : BitVec 32 := Scalar.addi v1 c128_i32
  let c2_i32_407 : BitVec 32 := 2#32
  let c0_i32_408 : BitVec 32 := 0#32
  let v1072 : BitVec 1 := Scalar.cmpi .eq c2_i32_407 c0_i32_408
  let c1_i32_409 : BitVec 32 := 1#32
  let v1073 : BitVec 32 := Scalar.select v1072 c1_i32_409 c2_i32_407
  let v1074 : BitVec 32 := Scalar.remsi v1071 v1073
  let c0_i32_411 : BitVec 32 := 0#32
  let v1076 : BitVec 1 := Scalar.cmpi .slt v1074 c0_i32_411
  let c0_i32_412 : BitVec 32 := 0#32
  let v1077 : BitVec 1 := Scalar.cmpi .slt v1073 c0_i32_412
  let v1078 : BitVec 1 := Scalar.xori v1076 v1077
  let c0_i32_410 : BitVec 32 := 0#32
  let v1075 : BitVec 1 := Scalar.cmpi .ne v1074 c0_i32_410
  let v1079 : BitVec 1 := Scalar.andi v1078 v1075
  let v1080 : BitVec 32 := Scalar.addi v1074 v1073
  let v1081 : BitVec 32 := Scalar.select v1079 v1080 v1074
  let c16_i32_413 : BitVec 32 := 16#32
  let v1082 : BitVec 32 := Scalar.muli v1081 c16_i32_413
  let c0_i32_415 : BitVec 32 := 0#32
  let v1084 : BitVec 1 := Scalar.cmpi .sgt v1071 c0_i32_415
  let v1085 : BitVec 32 := Scalar.extui v1084
  let c0_i32_416 : BitVec 32 := 0#32
  let v1086 : BitVec 1 := Scalar.cmpi .slt v1071 c0_i32_416
  let v1087 : BitVec 32 := Scalar.extui v1086
  let v1088 : BitVec 32 := Scalar.subi v1085 v1087
  let c2_i32_414 : BitVec 32 := 2#32
  let c0_i32_417 : BitVec 32 := 0#32
  let v1089 : BitVec 1 := Scalar.cmpi .sgt c2_i32_414 c0_i32_417
  let v1090 : BitVec 32 := Scalar.extui v1089
  let c0_i32_418 : BitVec 32 := 0#32
  let v1091 : BitVec 1 := Scalar.cmpi .slt c2_i32_414 c0_i32_418
  let v1092 : BitVec 32 := Scalar.extui v1091
  let v1093 : BitVec 32 := Scalar.subi v1090 v1092
  let v1094 : BitVec 1 := Scalar.cmpi .ne v1088 v1093
  let v1095 : BitVec 32 := Scalar.remsi v1071 c2_i32_414
  let c0_i32_419 : BitVec 32 := 0#32
  let v1096 : BitVec 1 := Scalar.cmpi .ne v1095 c0_i32_419
  let v1097 : BitVec 1 := Scalar.andi v1094 v1096
  let v1083 : BitVec 32 := Scalar.divsi v1071 c2_i32_414
  let c1_i32_420 : BitVec 32 := 1#32
  let v1098 : BitVec 32 := Scalar.subi v1083 c1_i32_420
  let v1099 : BitVec 32 := Scalar.select v1097 v1098 v1083
  let c256_i32_421 : BitVec 32 := 256#32
  let v1100 : BitVec 32 := Scalar.muli v1099 c256_i32_421
  ![1, v1082.toNat, v1100.toNat]
def k0_off24 (i : grid0.Coords) : Fin 3 → Nat :=
  let c2_i32_424 : BitVec 32 := 2#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v1071 : BitVec 32 := Scalar.addi v1 c128_i32
  let c2_i32_407 : BitVec 32 := 2#32
  let c0_i32_408 : BitVec 32 := 0#32
  let v1072 : BitVec 1 := Scalar.cmpi .eq c2_i32_407 c0_i32_408
  let c1_i32_409 : BitVec 32 := 1#32
  let v1073 : BitVec 32 := Scalar.select v1072 c1_i32_409 c2_i32_407
  let v1074 : BitVec 32 := Scalar.remsi v1071 v1073
  let c0_i32_411 : BitVec 32 := 0#32
  let v1076 : BitVec 1 := Scalar.cmpi .slt v1074 c0_i32_411
  let c0_i32_412 : BitVec 32 := 0#32
  let v1077 : BitVec 1 := Scalar.cmpi .slt v1073 c0_i32_412
  let v1078 : BitVec 1 := Scalar.xori v1076 v1077
  let c0_i32_410 : BitVec 32 := 0#32
  let v1075 : BitVec 1 := Scalar.cmpi .ne v1074 c0_i32_410
  let v1079 : BitVec 1 := Scalar.andi v1078 v1075
  let v1080 : BitVec 32 := Scalar.addi v1074 v1073
  let v1081 : BitVec 32 := Scalar.select v1079 v1080 v1074
  let c16_i32_413 : BitVec 32 := 16#32
  let v1082 : BitVec 32 := Scalar.muli v1081 c16_i32_413
  let c0_i32_415 : BitVec 32 := 0#32
  let v1084 : BitVec 1 := Scalar.cmpi .sgt v1071 c0_i32_415
  let v1085 : BitVec 32 := Scalar.extui v1084
  let c0_i32_416 : BitVec 32 := 0#32
  let v1086 : BitVec 1 := Scalar.cmpi .slt v1071 c0_i32_416
  let v1087 : BitVec 32 := Scalar.extui v1086
  let v1088 : BitVec 32 := Scalar.subi v1085 v1087
  let c2_i32_414 : BitVec 32 := 2#32
  let c0_i32_417 : BitVec 32 := 0#32
  let v1089 : BitVec 1 := Scalar.cmpi .sgt c2_i32_414 c0_i32_417
  let v1090 : BitVec 32 := Scalar.extui v1089
  let c0_i32_418 : BitVec 32 := 0#32
  let v1091 : BitVec 1 := Scalar.cmpi .slt c2_i32_414 c0_i32_418
  let v1092 : BitVec 32 := Scalar.extui v1091
  let v1093 : BitVec 32 := Scalar.subi v1090 v1092
  let v1094 : BitVec 1 := Scalar.cmpi .ne v1088 v1093
  let v1095 : BitVec 32 := Scalar.remsi v1071 c2_i32_414
  let c0_i32_419 : BitVec 32 := 0#32
  let v1096 : BitVec 1 := Scalar.cmpi .ne v1095 c0_i32_419
  let v1097 : BitVec 1 := Scalar.andi v1094 v1096
  let v1083 : BitVec 32 := Scalar.divsi v1071 c2_i32_414
  let c1_i32_420 : BitVec 32 := 1#32
  let v1098 : BitVec 32 := Scalar.subi v1083 c1_i32_420
  let v1099 : BitVec 32 := Scalar.select v1097 v1098 v1083
  let c256_i32_421 : BitVec 32 := 256#32
  let v1100 : BitVec 32 := Scalar.muli v1099 c256_i32_421
  ![2, v1082.toNat, v1100.toNat]
def k0_off25 (i : grid0.Coords) : Fin 3 → Nat :=
  let c3_i32_425 : BitVec 32 := 3#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v1071 : BitVec 32 := Scalar.addi v1 c128_i32
  let c2_i32_407 : BitVec 32 := 2#32
  let c0_i32_408 : BitVec 32 := 0#32
  let v1072 : BitVec 1 := Scalar.cmpi .eq c2_i32_407 c0_i32_408
  let c1_i32_409 : BitVec 32 := 1#32
  let v1073 : BitVec 32 := Scalar.select v1072 c1_i32_409 c2_i32_407
  let v1074 : BitVec 32 := Scalar.remsi v1071 v1073
  let c0_i32_411 : BitVec 32 := 0#32
  let v1076 : BitVec 1 := Scalar.cmpi .slt v1074 c0_i32_411
  let c0_i32_412 : BitVec 32 := 0#32
  let v1077 : BitVec 1 := Scalar.cmpi .slt v1073 c0_i32_412
  let v1078 : BitVec 1 := Scalar.xori v1076 v1077
  let c0_i32_410 : BitVec 32 := 0#32
  let v1075 : BitVec 1 := Scalar.cmpi .ne v1074 c0_i32_410
  let v1079 : BitVec 1 := Scalar.andi v1078 v1075
  let v1080 : BitVec 32 := Scalar.addi v1074 v1073
  let v1081 : BitVec 32 := Scalar.select v1079 v1080 v1074
  let c16_i32_413 : BitVec 32 := 16#32
  let v1082 : BitVec 32 := Scalar.muli v1081 c16_i32_413
  let c0_i32_415 : BitVec 32 := 0#32
  let v1084 : BitVec 1 := Scalar.cmpi .sgt v1071 c0_i32_415
  let v1085 : BitVec 32 := Scalar.extui v1084
  let c0_i32_416 : BitVec 32 := 0#32
  let v1086 : BitVec 1 := Scalar.cmpi .slt v1071 c0_i32_416
  let v1087 : BitVec 32 := Scalar.extui v1086
  let v1088 : BitVec 32 := Scalar.subi v1085 v1087
  let c2_i32_414 : BitVec 32 := 2#32
  let c0_i32_417 : BitVec 32 := 0#32
  let v1089 : BitVec 1 := Scalar.cmpi .sgt c2_i32_414 c0_i32_417
  let v1090 : BitVec 32 := Scalar.extui v1089
  let c0_i32_418 : BitVec 32 := 0#32
  let v1091 : BitVec 1 := Scalar.cmpi .slt c2_i32_414 c0_i32_418
  let v1092 : BitVec 32 := Scalar.extui v1091
  let v1093 : BitVec 32 := Scalar.subi v1090 v1092
  let v1094 : BitVec 1 := Scalar.cmpi .ne v1088 v1093
  let v1095 : BitVec 32 := Scalar.remsi v1071 c2_i32_414
  let c0_i32_419 : BitVec 32 := 0#32
  let v1096 : BitVec 1 := Scalar.cmpi .ne v1095 c0_i32_419
  let v1097 : BitVec 1 := Scalar.andi v1094 v1096
  let v1083 : BitVec 32 := Scalar.divsi v1071 c2_i32_414
  let c1_i32_420 : BitVec 32 := 1#32
  let v1098 : BitVec 32 := Scalar.subi v1083 c1_i32_420
  let v1099 : BitVec 32 := Scalar.select v1097 v1098 v1083
  let c256_i32_421 : BitVec 32 := 256#32
  let v1100 : BitVec 32 := Scalar.muli v1099 c256_i32_421
  ![3, v1082.toNat, v1100.toNat]
def k0_off26 (i : grid0.Coords) : Fin 3 → Nat :=
  let c4_i32_426 : BitVec 32 := 4#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v1071 : BitVec 32 := Scalar.addi v1 c128_i32
  let c2_i32_407 : BitVec 32 := 2#32
  let c0_i32_408 : BitVec 32 := 0#32
  let v1072 : BitVec 1 := Scalar.cmpi .eq c2_i32_407 c0_i32_408
  let c1_i32_409 : BitVec 32 := 1#32
  let v1073 : BitVec 32 := Scalar.select v1072 c1_i32_409 c2_i32_407
  let v1074 : BitVec 32 := Scalar.remsi v1071 v1073
  let c0_i32_411 : BitVec 32 := 0#32
  let v1076 : BitVec 1 := Scalar.cmpi .slt v1074 c0_i32_411
  let c0_i32_412 : BitVec 32 := 0#32
  let v1077 : BitVec 1 := Scalar.cmpi .slt v1073 c0_i32_412
  let v1078 : BitVec 1 := Scalar.xori v1076 v1077
  let c0_i32_410 : BitVec 32 := 0#32
  let v1075 : BitVec 1 := Scalar.cmpi .ne v1074 c0_i32_410
  let v1079 : BitVec 1 := Scalar.andi v1078 v1075
  let v1080 : BitVec 32 := Scalar.addi v1074 v1073
  let v1081 : BitVec 32 := Scalar.select v1079 v1080 v1074
  let c16_i32_413 : BitVec 32 := 16#32
  let v1082 : BitVec 32 := Scalar.muli v1081 c16_i32_413
  let c0_i32_415 : BitVec 32 := 0#32
  let v1084 : BitVec 1 := Scalar.cmpi .sgt v1071 c0_i32_415
  let v1085 : BitVec 32 := Scalar.extui v1084
  let c0_i32_416 : BitVec 32 := 0#32
  let v1086 : BitVec 1 := Scalar.cmpi .slt v1071 c0_i32_416
  let v1087 : BitVec 32 := Scalar.extui v1086
  let v1088 : BitVec 32 := Scalar.subi v1085 v1087
  let c2_i32_414 : BitVec 32 := 2#32
  let c0_i32_417 : BitVec 32 := 0#32
  let v1089 : BitVec 1 := Scalar.cmpi .sgt c2_i32_414 c0_i32_417
  let v1090 : BitVec 32 := Scalar.extui v1089
  let c0_i32_418 : BitVec 32 := 0#32
  let v1091 : BitVec 1 := Scalar.cmpi .slt c2_i32_414 c0_i32_418
  let v1092 : BitVec 32 := Scalar.extui v1091
  let v1093 : BitVec 32 := Scalar.subi v1090 v1092
  let v1094 : BitVec 1 := Scalar.cmpi .ne v1088 v1093
  let v1095 : BitVec 32 := Scalar.remsi v1071 c2_i32_414
  let c0_i32_419 : BitVec 32 := 0#32
  let v1096 : BitVec 1 := Scalar.cmpi .ne v1095 c0_i32_419
  let v1097 : BitVec 1 := Scalar.andi v1094 v1096
  let v1083 : BitVec 32 := Scalar.divsi v1071 c2_i32_414
  let c1_i32_420 : BitVec 32 := 1#32
  let v1098 : BitVec 32 := Scalar.subi v1083 c1_i32_420
  let v1099 : BitVec 32 := Scalar.select v1097 v1098 v1083
  let c256_i32_421 : BitVec 32 := 256#32
  let v1100 : BitVec 32 := Scalar.muli v1099 c256_i32_421
  ![4, v1082.toNat, v1100.toNat]
def k0_off27 (i : grid0.Coords) : Fin 3 → Nat :=
  let c6_i32_427 : BitVec 32 := 6#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v1071 : BitVec 32 := Scalar.addi v1 c128_i32
  let c2_i32_407 : BitVec 32 := 2#32
  let c0_i32_408 : BitVec 32 := 0#32
  let v1072 : BitVec 1 := Scalar.cmpi .eq c2_i32_407 c0_i32_408
  let c1_i32_409 : BitVec 32 := 1#32
  let v1073 : BitVec 32 := Scalar.select v1072 c1_i32_409 c2_i32_407
  let v1074 : BitVec 32 := Scalar.remsi v1071 v1073
  let c0_i32_411 : BitVec 32 := 0#32
  let v1076 : BitVec 1 := Scalar.cmpi .slt v1074 c0_i32_411
  let c0_i32_412 : BitVec 32 := 0#32
  let v1077 : BitVec 1 := Scalar.cmpi .slt v1073 c0_i32_412
  let v1078 : BitVec 1 := Scalar.xori v1076 v1077
  let c0_i32_410 : BitVec 32 := 0#32
  let v1075 : BitVec 1 := Scalar.cmpi .ne v1074 c0_i32_410
  let v1079 : BitVec 1 := Scalar.andi v1078 v1075
  let v1080 : BitVec 32 := Scalar.addi v1074 v1073
  let v1081 : BitVec 32 := Scalar.select v1079 v1080 v1074
  let c16_i32_413 : BitVec 32 := 16#32
  let v1082 : BitVec 32 := Scalar.muli v1081 c16_i32_413
  let c0_i32_415 : BitVec 32 := 0#32
  let v1084 : BitVec 1 := Scalar.cmpi .sgt v1071 c0_i32_415
  let v1085 : BitVec 32 := Scalar.extui v1084
  let c0_i32_416 : BitVec 32 := 0#32
  let v1086 : BitVec 1 := Scalar.cmpi .slt v1071 c0_i32_416
  let v1087 : BitVec 32 := Scalar.extui v1086
  let v1088 : BitVec 32 := Scalar.subi v1085 v1087
  let c2_i32_414 : BitVec 32 := 2#32
  let c0_i32_417 : BitVec 32 := 0#32
  let v1089 : BitVec 1 := Scalar.cmpi .sgt c2_i32_414 c0_i32_417
  let v1090 : BitVec 32 := Scalar.extui v1089
  let c0_i32_418 : BitVec 32 := 0#32
  let v1091 : BitVec 1 := Scalar.cmpi .slt c2_i32_414 c0_i32_418
  let v1092 : BitVec 32 := Scalar.extui v1091
  let v1093 : BitVec 32 := Scalar.subi v1090 v1092
  let v1094 : BitVec 1 := Scalar.cmpi .ne v1088 v1093
  let v1095 : BitVec 32 := Scalar.remsi v1071 c2_i32_414
  let c0_i32_419 : BitVec 32 := 0#32
  let v1096 : BitVec 1 := Scalar.cmpi .ne v1095 c0_i32_419
  let v1097 : BitVec 1 := Scalar.andi v1094 v1096
  let v1083 : BitVec 32 := Scalar.divsi v1071 c2_i32_414
  let c1_i32_420 : BitVec 32 := 1#32
  let v1098 : BitVec 32 := Scalar.subi v1083 c1_i32_420
  let v1099 : BitVec 32 := Scalar.select v1097 v1098 v1083
  let c256_i32_421 : BitVec 32 := 256#32
  let v1100 : BitVec 32 := Scalar.muli v1099 c256_i32_421
  ![6, v1082.toNat, v1100.toNat]
def k0_off28 (i : grid0.Coords) : Fin 3 → Nat :=
  let c7_i32_428 : BitVec 32 := 7#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v1071 : BitVec 32 := Scalar.addi v1 c128_i32
  let c2_i32_407 : BitVec 32 := 2#32
  let c0_i32_408 : BitVec 32 := 0#32
  let v1072 : BitVec 1 := Scalar.cmpi .eq c2_i32_407 c0_i32_408
  let c1_i32_409 : BitVec 32 := 1#32
  let v1073 : BitVec 32 := Scalar.select v1072 c1_i32_409 c2_i32_407
  let v1074 : BitVec 32 := Scalar.remsi v1071 v1073
  let c0_i32_411 : BitVec 32 := 0#32
  let v1076 : BitVec 1 := Scalar.cmpi .slt v1074 c0_i32_411
  let c0_i32_412 : BitVec 32 := 0#32
  let v1077 : BitVec 1 := Scalar.cmpi .slt v1073 c0_i32_412
  let v1078 : BitVec 1 := Scalar.xori v1076 v1077
  let c0_i32_410 : BitVec 32 := 0#32
  let v1075 : BitVec 1 := Scalar.cmpi .ne v1074 c0_i32_410
  let v1079 : BitVec 1 := Scalar.andi v1078 v1075
  let v1080 : BitVec 32 := Scalar.addi v1074 v1073
  let v1081 : BitVec 32 := Scalar.select v1079 v1080 v1074
  let c16_i32_413 : BitVec 32 := 16#32
  let v1082 : BitVec 32 := Scalar.muli v1081 c16_i32_413
  let c0_i32_415 : BitVec 32 := 0#32
  let v1084 : BitVec 1 := Scalar.cmpi .sgt v1071 c0_i32_415
  let v1085 : BitVec 32 := Scalar.extui v1084
  let c0_i32_416 : BitVec 32 := 0#32
  let v1086 : BitVec 1 := Scalar.cmpi .slt v1071 c0_i32_416
  let v1087 : BitVec 32 := Scalar.extui v1086
  let v1088 : BitVec 32 := Scalar.subi v1085 v1087
  let c2_i32_414 : BitVec 32 := 2#32
  let c0_i32_417 : BitVec 32 := 0#32
  let v1089 : BitVec 1 := Scalar.cmpi .sgt c2_i32_414 c0_i32_417
  let v1090 : BitVec 32 := Scalar.extui v1089
  let c0_i32_418 : BitVec 32 := 0#32
  let v1091 : BitVec 1 := Scalar.cmpi .slt c2_i32_414 c0_i32_418
  let v1092 : BitVec 32 := Scalar.extui v1091
  let v1093 : BitVec 32 := Scalar.subi v1090 v1092
  let v1094 : BitVec 1 := Scalar.cmpi .ne v1088 v1093
  let v1095 : BitVec 32 := Scalar.remsi v1071 c2_i32_414
  let c0_i32_419 : BitVec 32 := 0#32
  let v1096 : BitVec 1 := Scalar.cmpi .ne v1095 c0_i32_419
  let v1097 : BitVec 1 := Scalar.andi v1094 v1096
  let v1083 : BitVec 32 := Scalar.divsi v1071 c2_i32_414
  let c1_i32_420 : BitVec 32 := 1#32
  let v1098 : BitVec 32 := Scalar.subi v1083 c1_i32_420
  let v1099 : BitVec 32 := Scalar.select v1097 v1098 v1083
  let c256_i32_421 : BitVec 32 := 256#32
  let v1100 : BitVec 32 := Scalar.muli v1099 c256_i32_421
  ![7, v1082.toNat, v1100.toNat]
def k0_off29 (i : grid0.Coords) : Fin 3 → Nat :=
  let c8_i32_429 : BitVec 32 := 8#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v1071 : BitVec 32 := Scalar.addi v1 c128_i32
  let c2_i32_407 : BitVec 32 := 2#32
  let c0_i32_408 : BitVec 32 := 0#32
  let v1072 : BitVec 1 := Scalar.cmpi .eq c2_i32_407 c0_i32_408
  let c1_i32_409 : BitVec 32 := 1#32
  let v1073 : BitVec 32 := Scalar.select v1072 c1_i32_409 c2_i32_407
  let v1074 : BitVec 32 := Scalar.remsi v1071 v1073
  let c0_i32_411 : BitVec 32 := 0#32
  let v1076 : BitVec 1 := Scalar.cmpi .slt v1074 c0_i32_411
  let c0_i32_412 : BitVec 32 := 0#32
  let v1077 : BitVec 1 := Scalar.cmpi .slt v1073 c0_i32_412
  let v1078 : BitVec 1 := Scalar.xori v1076 v1077
  let c0_i32_410 : BitVec 32 := 0#32
  let v1075 : BitVec 1 := Scalar.cmpi .ne v1074 c0_i32_410
  let v1079 : BitVec 1 := Scalar.andi v1078 v1075
  let v1080 : BitVec 32 := Scalar.addi v1074 v1073
  let v1081 : BitVec 32 := Scalar.select v1079 v1080 v1074
  let c16_i32_413 : BitVec 32 := 16#32
  let v1082 : BitVec 32 := Scalar.muli v1081 c16_i32_413
  let c0_i32_415 : BitVec 32 := 0#32
  let v1084 : BitVec 1 := Scalar.cmpi .sgt v1071 c0_i32_415
  let v1085 : BitVec 32 := Scalar.extui v1084
  let c0_i32_416 : BitVec 32 := 0#32
  let v1086 : BitVec 1 := Scalar.cmpi .slt v1071 c0_i32_416
  let v1087 : BitVec 32 := Scalar.extui v1086
  let v1088 : BitVec 32 := Scalar.subi v1085 v1087
  let c2_i32_414 : BitVec 32 := 2#32
  let c0_i32_417 : BitVec 32 := 0#32
  let v1089 : BitVec 1 := Scalar.cmpi .sgt c2_i32_414 c0_i32_417
  let v1090 : BitVec 32 := Scalar.extui v1089
  let c0_i32_418 : BitVec 32 := 0#32
  let v1091 : BitVec 1 := Scalar.cmpi .slt c2_i32_414 c0_i32_418
  let v1092 : BitVec 32 := Scalar.extui v1091
  let v1093 : BitVec 32 := Scalar.subi v1090 v1092
  let v1094 : BitVec 1 := Scalar.cmpi .ne v1088 v1093
  let v1095 : BitVec 32 := Scalar.remsi v1071 c2_i32_414
  let c0_i32_419 : BitVec 32 := 0#32
  let v1096 : BitVec 1 := Scalar.cmpi .ne v1095 c0_i32_419
  let v1097 : BitVec 1 := Scalar.andi v1094 v1096
  let v1083 : BitVec 32 := Scalar.divsi v1071 c2_i32_414
  let c1_i32_420 : BitVec 32 := 1#32
  let v1098 : BitVec 32 := Scalar.subi v1083 c1_i32_420
  let v1099 : BitVec 32 := Scalar.select v1097 v1098 v1083
  let c256_i32_421 : BitVec 32 := 256#32
  let v1100 : BitVec 32 := Scalar.muli v1099 c256_i32_421
  ![8, v1082.toNat, v1100.toNat]
def k0_off30 (i : grid0.Coords) : Fin 3 → Nat :=
  let c9_i32_430 : BitVec 32 := 9#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v1071 : BitVec 32 := Scalar.addi v1 c128_i32
  let c2_i32_407 : BitVec 32 := 2#32
  let c0_i32_408 : BitVec 32 := 0#32
  let v1072 : BitVec 1 := Scalar.cmpi .eq c2_i32_407 c0_i32_408
  let c1_i32_409 : BitVec 32 := 1#32
  let v1073 : BitVec 32 := Scalar.select v1072 c1_i32_409 c2_i32_407
  let v1074 : BitVec 32 := Scalar.remsi v1071 v1073
  let c0_i32_411 : BitVec 32 := 0#32
  let v1076 : BitVec 1 := Scalar.cmpi .slt v1074 c0_i32_411
  let c0_i32_412 : BitVec 32 := 0#32
  let v1077 : BitVec 1 := Scalar.cmpi .slt v1073 c0_i32_412
  let v1078 : BitVec 1 := Scalar.xori v1076 v1077
  let c0_i32_410 : BitVec 32 := 0#32
  let v1075 : BitVec 1 := Scalar.cmpi .ne v1074 c0_i32_410
  let v1079 : BitVec 1 := Scalar.andi v1078 v1075
  let v1080 : BitVec 32 := Scalar.addi v1074 v1073
  let v1081 : BitVec 32 := Scalar.select v1079 v1080 v1074
  let c16_i32_413 : BitVec 32 := 16#32
  let v1082 : BitVec 32 := Scalar.muli v1081 c16_i32_413
  let c0_i32_415 : BitVec 32 := 0#32
  let v1084 : BitVec 1 := Scalar.cmpi .sgt v1071 c0_i32_415
  let v1085 : BitVec 32 := Scalar.extui v1084
  let c0_i32_416 : BitVec 32 := 0#32
  let v1086 : BitVec 1 := Scalar.cmpi .slt v1071 c0_i32_416
  let v1087 : BitVec 32 := Scalar.extui v1086
  let v1088 : BitVec 32 := Scalar.subi v1085 v1087
  let c2_i32_414 : BitVec 32 := 2#32
  let c0_i32_417 : BitVec 32 := 0#32
  let v1089 : BitVec 1 := Scalar.cmpi .sgt c2_i32_414 c0_i32_417
  let v1090 : BitVec 32 := Scalar.extui v1089
  let c0_i32_418 : BitVec 32 := 0#32
  let v1091 : BitVec 1 := Scalar.cmpi .slt c2_i32_414 c0_i32_418
  let v1092 : BitVec 32 := Scalar.extui v1091
  let v1093 : BitVec 32 := Scalar.subi v1090 v1092
  let v1094 : BitVec 1 := Scalar.cmpi .ne v1088 v1093
  let v1095 : BitVec 32 := Scalar.remsi v1071 c2_i32_414
  let c0_i32_419 : BitVec 32 := 0#32
  let v1096 : BitVec 1 := Scalar.cmpi .ne v1095 c0_i32_419
  let v1097 : BitVec 1 := Scalar.andi v1094 v1096
  let v1083 : BitVec 32 := Scalar.divsi v1071 c2_i32_414
  let c1_i32_420 : BitVec 32 := 1#32
  let v1098 : BitVec 32 := Scalar.subi v1083 c1_i32_420
  let v1099 : BitVec 32 := Scalar.select v1097 v1098 v1083
  let c256_i32_421 : BitVec 32 := 256#32
  let v1100 : BitVec 32 := Scalar.muli v1099 c256_i32_421
  ![9, v1082.toNat, v1100.toNat]
@[reducible] def k0_t4_loop : Scf.Loop 32 :=
  let c0_i32_324 : BitVec 32 := 0#32
  let c256_i32_325 : BitVec 32 := 256#32
  let v866 : BitVec 32 := Scalar.addi c0_i32_324 c256_i32_325
  let c1_i32_326 : BitVec 32 := 1#32
  ⟨c0_i32_324, v866, c1_i32_326⟩
def k0_off31 (k0_t4 : Fin k0_t4_loop.trips) : Fin 2 → Nat :=
  let c0_i32_408 : BitVec 32 := 0#32
  let c0_i32_324 : BitVec 32 := 0#32
  let c1_i32_326 : BitVec 32 := 1#32
  let arg37 : BitVec 32 := Scf.iv c0_i32_324 c1_i32_326 k0_t4
  let c1_i32_407 : BitVec 32 := 1#32
  let v1071 : BitVec 32 := Scalar.muli arg37 c1_i32_407
  let v1072 : BitVec 32 := Scalar.addi c0_i32_408 v1071
  let c0_i32_410 : BitVec 32 := 0#32
  let v1074 : BitVec 1 := Scalar.cmpi .sgt v1072 c0_i32_410
  let v1075 : BitVec 32 := Scalar.extui v1074
  let c0_i32_411 : BitVec 32 := 0#32
  let v1076 : BitVec 1 := Scalar.cmpi .slt v1072 c0_i32_411
  let v1077 : BitVec 32 := Scalar.extui v1076
  let v1078 : BitVec 32 := Scalar.subi v1075 v1077
  let c16_i32_409 : BitVec 32 := 16#32
  let c0_i32_412 : BitVec 32 := 0#32
  let v1079 : BitVec 1 := Scalar.cmpi .sgt c16_i32_409 c0_i32_412
  let v1080 : BitVec 32 := Scalar.extui v1079
  let c0_i32_413 : BitVec 32 := 0#32
  let v1081 : BitVec 1 := Scalar.cmpi .slt c16_i32_409 c0_i32_413
  let v1082 : BitVec 32 := Scalar.extui v1081
  let v1083 : BitVec 32 := Scalar.subi v1080 v1082
  let v1084 : BitVec 1 := Scalar.cmpi .ne v1078 v1083
  let v1085 : BitVec 32 := Scalar.remsi v1072 c16_i32_409
  let c0_i32_414 : BitVec 32 := 0#32
  let v1086 : BitVec 1 := Scalar.cmpi .ne v1085 c0_i32_414
  let v1087 : BitVec 1 := Scalar.andi v1084 v1086
  let v1073 : BitVec 32 := Scalar.divsi v1072 c16_i32_409
  let c1_i32_415 : BitVec 32 := 1#32
  let v1088 : BitVec 32 := Scalar.subi v1073 c1_i32_415
  let v1089 : BitVec 32 := Scalar.select v1087 v1088 v1073
  let v1101 : Index := Scalar.indexCast v1089
  let c16_i32_416 : BitVec 32 := 16#32
  let c0_i32_417 : BitVec 32 := 0#32
  let v1090 : BitVec 1 := Scalar.cmpi .eq c16_i32_416 c0_i32_417
  let c1_i32_418 : BitVec 32 := 1#32
  let v1091 : BitVec 32 := Scalar.select v1090 c1_i32_418 c16_i32_416
  let v1092 : BitVec 32 := Scalar.remsi v1072 v1091
  let c0_i32_420 : BitVec 32 := 0#32
  let v1094 : BitVec 1 := Scalar.cmpi .slt v1092 c0_i32_420
  let c0_i32_421 : BitVec 32 := 0#32
  let v1095 : BitVec 1 := Scalar.cmpi .slt v1091 c0_i32_421
  let v1096 : BitVec 1 := Scalar.xori v1094 v1095
  let c0_i32_419 : BitVec 32 := 0#32
  let v1093 : BitVec 1 := Scalar.cmpi .ne v1092 c0_i32_419
  let v1097 : BitVec 1 := Scalar.andi v1096 v1093
  let v1098 : BitVec 32 := Scalar.addi v1092 v1091
  let v1099 : BitVec 32 := Scalar.select v1097 v1098 v1092
  let c16_i32_422 : BitVec 32 := 16#32
  let v1100 : BitVec 32 := Scalar.muli v1099 c16_i32_422
  let v1102 : Index := Scalar.indexCast v1100
  ![v1101.toNat, v1102.toNat]
def k0_cond2 (i : grid0.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c28_i32_353 : BitVec 32 := 28#32
  let v933 : BitVec 1 := Scalar.cmpi .slt v1 c28_i32_353
  let v934 : BitVec 32 := Scalar.extui v933
  let c0_i32_354 : BitVec 32 := 0#32
  let v935 : BitVec 1 := Scalar.cmpi .ne v934 c0_i32_354
  v935

def k0_off32 (i : grid0.Coords) : Fin 3 → Nat :=
  let c0_i32_422 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v1071 : BitVec 32 := Scalar.addi v1 c128_i32
  let c2_i32_407 : BitVec 32 := 2#32
  let c0_i32_408 : BitVec 32 := 0#32
  let v1072 : BitVec 1 := Scalar.cmpi .eq c2_i32_407 c0_i32_408
  let c1_i32_409 : BitVec 32 := 1#32
  let v1073 : BitVec 32 := Scalar.select v1072 c1_i32_409 c2_i32_407
  let v1074 : BitVec 32 := Scalar.remsi v1071 v1073
  let c0_i32_411 : BitVec 32 := 0#32
  let v1076 : BitVec 1 := Scalar.cmpi .slt v1074 c0_i32_411
  let c0_i32_412 : BitVec 32 := 0#32
  let v1077 : BitVec 1 := Scalar.cmpi .slt v1073 c0_i32_412
  let v1078 : BitVec 1 := Scalar.xori v1076 v1077
  let c0_i32_410 : BitVec 32 := 0#32
  let v1075 : BitVec 1 := Scalar.cmpi .ne v1074 c0_i32_410
  let v1079 : BitVec 1 := Scalar.andi v1078 v1075
  let v1080 : BitVec 32 := Scalar.addi v1074 v1073
  let v1081 : BitVec 32 := Scalar.select v1079 v1080 v1074
  let c16_i32_413 : BitVec 32 := 16#32
  let v1082 : BitVec 32 := Scalar.muli v1081 c16_i32_413
  let c0_i32_415 : BitVec 32 := 0#32
  let v1084 : BitVec 1 := Scalar.cmpi .sgt v1071 c0_i32_415
  let v1085 : BitVec 32 := Scalar.extui v1084
  let c0_i32_416 : BitVec 32 := 0#32
  let v1086 : BitVec 1 := Scalar.cmpi .slt v1071 c0_i32_416
  let v1087 : BitVec 32 := Scalar.extui v1086
  let v1088 : BitVec 32 := Scalar.subi v1085 v1087
  let c2_i32_414 : BitVec 32 := 2#32
  let c0_i32_417 : BitVec 32 := 0#32
  let v1089 : BitVec 1 := Scalar.cmpi .sgt c2_i32_414 c0_i32_417
  let v1090 : BitVec 32 := Scalar.extui v1089
  let c0_i32_418 : BitVec 32 := 0#32
  let v1091 : BitVec 1 := Scalar.cmpi .slt c2_i32_414 c0_i32_418
  let v1092 : BitVec 32 := Scalar.extui v1091
  let v1093 : BitVec 32 := Scalar.subi v1090 v1092
  let v1094 : BitVec 1 := Scalar.cmpi .ne v1088 v1093
  let v1095 : BitVec 32 := Scalar.remsi v1071 c2_i32_414
  let c0_i32_419 : BitVec 32 := 0#32
  let v1096 : BitVec 1 := Scalar.cmpi .ne v1095 c0_i32_419
  let v1097 : BitVec 1 := Scalar.andi v1094 v1096
  let v1083 : BitVec 32 := Scalar.divsi v1071 c2_i32_414
  let c1_i32_420 : BitVec 32 := 1#32
  let v1098 : BitVec 32 := Scalar.subi v1083 c1_i32_420
  let v1099 : BitVec 32 := Scalar.select v1097 v1098 v1083
  let c256_i32_421 : BitVec 32 := 256#32
  let v1100 : BitVec 32 := Scalar.muli v1099 c256_i32_421
  ![0, v1082.toNat, v1100.toNat]
def k0_off33 (i : grid0.Coords) : Fin 3 → Nat :=
  let c1_i32_423 : BitVec 32 := 1#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v1071 : BitVec 32 := Scalar.addi v1 c128_i32
  let c2_i32_407 : BitVec 32 := 2#32
  let c0_i32_408 : BitVec 32 := 0#32
  let v1072 : BitVec 1 := Scalar.cmpi .eq c2_i32_407 c0_i32_408
  let c1_i32_409 : BitVec 32 := 1#32
  let v1073 : BitVec 32 := Scalar.select v1072 c1_i32_409 c2_i32_407
  let v1074 : BitVec 32 := Scalar.remsi v1071 v1073
  let c0_i32_411 : BitVec 32 := 0#32
  let v1076 : BitVec 1 := Scalar.cmpi .slt v1074 c0_i32_411
  let c0_i32_412 : BitVec 32 := 0#32
  let v1077 : BitVec 1 := Scalar.cmpi .slt v1073 c0_i32_412
  let v1078 : BitVec 1 := Scalar.xori v1076 v1077
  let c0_i32_410 : BitVec 32 := 0#32
  let v1075 : BitVec 1 := Scalar.cmpi .ne v1074 c0_i32_410
  let v1079 : BitVec 1 := Scalar.andi v1078 v1075
  let v1080 : BitVec 32 := Scalar.addi v1074 v1073
  let v1081 : BitVec 32 := Scalar.select v1079 v1080 v1074
  let c16_i32_413 : BitVec 32 := 16#32
  let v1082 : BitVec 32 := Scalar.muli v1081 c16_i32_413
  let c0_i32_415 : BitVec 32 := 0#32
  let v1084 : BitVec 1 := Scalar.cmpi .sgt v1071 c0_i32_415
  let v1085 : BitVec 32 := Scalar.extui v1084
  let c0_i32_416 : BitVec 32 := 0#32
  let v1086 : BitVec 1 := Scalar.cmpi .slt v1071 c0_i32_416
  let v1087 : BitVec 32 := Scalar.extui v1086
  let v1088 : BitVec 32 := Scalar.subi v1085 v1087
  let c2_i32_414 : BitVec 32 := 2#32
  let c0_i32_417 : BitVec 32 := 0#32
  let v1089 : BitVec 1 := Scalar.cmpi .sgt c2_i32_414 c0_i32_417
  let v1090 : BitVec 32 := Scalar.extui v1089
  let c0_i32_418 : BitVec 32 := 0#32
  let v1091 : BitVec 1 := Scalar.cmpi .slt c2_i32_414 c0_i32_418
  let v1092 : BitVec 32 := Scalar.extui v1091
  let v1093 : BitVec 32 := Scalar.subi v1090 v1092
  let v1094 : BitVec 1 := Scalar.cmpi .ne v1088 v1093
  let v1095 : BitVec 32 := Scalar.remsi v1071 c2_i32_414
  let c0_i32_419 : BitVec 32 := 0#32
  let v1096 : BitVec 1 := Scalar.cmpi .ne v1095 c0_i32_419
  let v1097 : BitVec 1 := Scalar.andi v1094 v1096
  let v1083 : BitVec 32 := Scalar.divsi v1071 c2_i32_414
  let c1_i32_420 : BitVec 32 := 1#32
  let v1098 : BitVec 32 := Scalar.subi v1083 c1_i32_420
  let v1099 : BitVec 32 := Scalar.select v1097 v1098 v1083
  let c256_i32_421 : BitVec 32 := 256#32
  let v1100 : BitVec 32 := Scalar.muli v1099 c256_i32_421
  ![1, v1082.toNat, v1100.toNat]
def k0_off34 (i : grid0.Coords) : Fin 3 → Nat :=
  let c2_i32_424 : BitVec 32 := 2#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v1071 : BitVec 32 := Scalar.addi v1 c128_i32
  let c2_i32_407 : BitVec 32 := 2#32
  let c0_i32_408 : BitVec 32 := 0#32
  let v1072 : BitVec 1 := Scalar.cmpi .eq c2_i32_407 c0_i32_408
  let c1_i32_409 : BitVec 32 := 1#32
  let v1073 : BitVec 32 := Scalar.select v1072 c1_i32_409 c2_i32_407
  let v1074 : BitVec 32 := Scalar.remsi v1071 v1073
  let c0_i32_411 : BitVec 32 := 0#32
  let v1076 : BitVec 1 := Scalar.cmpi .slt v1074 c0_i32_411
  let c0_i32_412 : BitVec 32 := 0#32
  let v1077 : BitVec 1 := Scalar.cmpi .slt v1073 c0_i32_412
  let v1078 : BitVec 1 := Scalar.xori v1076 v1077
  let c0_i32_410 : BitVec 32 := 0#32
  let v1075 : BitVec 1 := Scalar.cmpi .ne v1074 c0_i32_410
  let v1079 : BitVec 1 := Scalar.andi v1078 v1075
  let v1080 : BitVec 32 := Scalar.addi v1074 v1073
  let v1081 : BitVec 32 := Scalar.select v1079 v1080 v1074
  let c16_i32_413 : BitVec 32 := 16#32
  let v1082 : BitVec 32 := Scalar.muli v1081 c16_i32_413
  let c0_i32_415 : BitVec 32 := 0#32
  let v1084 : BitVec 1 := Scalar.cmpi .sgt v1071 c0_i32_415
  let v1085 : BitVec 32 := Scalar.extui v1084
  let c0_i32_416 : BitVec 32 := 0#32
  let v1086 : BitVec 1 := Scalar.cmpi .slt v1071 c0_i32_416
  let v1087 : BitVec 32 := Scalar.extui v1086
  let v1088 : BitVec 32 := Scalar.subi v1085 v1087
  let c2_i32_414 : BitVec 32 := 2#32
  let c0_i32_417 : BitVec 32 := 0#32
  let v1089 : BitVec 1 := Scalar.cmpi .sgt c2_i32_414 c0_i32_417
  let v1090 : BitVec 32 := Scalar.extui v1089
  let c0_i32_418 : BitVec 32 := 0#32
  let v1091 : BitVec 1 := Scalar.cmpi .slt c2_i32_414 c0_i32_418
  let v1092 : BitVec 32 := Scalar.extui v1091
  let v1093 : BitVec 32 := Scalar.subi v1090 v1092
  let v1094 : BitVec 1 := Scalar.cmpi .ne v1088 v1093
  let v1095 : BitVec 32 := Scalar.remsi v1071 c2_i32_414
  let c0_i32_419 : BitVec 32 := 0#32
  let v1096 : BitVec 1 := Scalar.cmpi .ne v1095 c0_i32_419
  let v1097 : BitVec 1 := Scalar.andi v1094 v1096
  let v1083 : BitVec 32 := Scalar.divsi v1071 c2_i32_414
  let c1_i32_420 : BitVec 32 := 1#32
  let v1098 : BitVec 32 := Scalar.subi v1083 c1_i32_420
  let v1099 : BitVec 32 := Scalar.select v1097 v1098 v1083
  let c256_i32_421 : BitVec 32 := 256#32
  let v1100 : BitVec 32 := Scalar.muli v1099 c256_i32_421
  ![2, v1082.toNat, v1100.toNat]
def k0_off35 (i : grid0.Coords) : Fin 3 → Nat :=
  let c3_i32_425 : BitVec 32 := 3#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v1071 : BitVec 32 := Scalar.addi v1 c128_i32
  let c2_i32_407 : BitVec 32 := 2#32
  let c0_i32_408 : BitVec 32 := 0#32
  let v1072 : BitVec 1 := Scalar.cmpi .eq c2_i32_407 c0_i32_408
  let c1_i32_409 : BitVec 32 := 1#32
  let v1073 : BitVec 32 := Scalar.select v1072 c1_i32_409 c2_i32_407
  let v1074 : BitVec 32 := Scalar.remsi v1071 v1073
  let c0_i32_411 : BitVec 32 := 0#32
  let v1076 : BitVec 1 := Scalar.cmpi .slt v1074 c0_i32_411
  let c0_i32_412 : BitVec 32 := 0#32
  let v1077 : BitVec 1 := Scalar.cmpi .slt v1073 c0_i32_412
  let v1078 : BitVec 1 := Scalar.xori v1076 v1077
  let c0_i32_410 : BitVec 32 := 0#32
  let v1075 : BitVec 1 := Scalar.cmpi .ne v1074 c0_i32_410
  let v1079 : BitVec 1 := Scalar.andi v1078 v1075
  let v1080 : BitVec 32 := Scalar.addi v1074 v1073
  let v1081 : BitVec 32 := Scalar.select v1079 v1080 v1074
  let c16_i32_413 : BitVec 32 := 16#32
  let v1082 : BitVec 32 := Scalar.muli v1081 c16_i32_413
  let c0_i32_415 : BitVec 32 := 0#32
  let v1084 : BitVec 1 := Scalar.cmpi .sgt v1071 c0_i32_415
  let v1085 : BitVec 32 := Scalar.extui v1084
  let c0_i32_416 : BitVec 32 := 0#32
  let v1086 : BitVec 1 := Scalar.cmpi .slt v1071 c0_i32_416
  let v1087 : BitVec 32 := Scalar.extui v1086
  let v1088 : BitVec 32 := Scalar.subi v1085 v1087
  let c2_i32_414 : BitVec 32 := 2#32
  let c0_i32_417 : BitVec 32 := 0#32
  let v1089 : BitVec 1 := Scalar.cmpi .sgt c2_i32_414 c0_i32_417
  let v1090 : BitVec 32 := Scalar.extui v1089
  let c0_i32_418 : BitVec 32 := 0#32
  let v1091 : BitVec 1 := Scalar.cmpi .slt c2_i32_414 c0_i32_418
  let v1092 : BitVec 32 := Scalar.extui v1091
  let v1093 : BitVec 32 := Scalar.subi v1090 v1092
  let v1094 : BitVec 1 := Scalar.cmpi .ne v1088 v1093
  let v1095 : BitVec 32 := Scalar.remsi v1071 c2_i32_414
  let c0_i32_419 : BitVec 32 := 0#32
  let v1096 : BitVec 1 := Scalar.cmpi .ne v1095 c0_i32_419
  let v1097 : BitVec 1 := Scalar.andi v1094 v1096
  let v1083 : BitVec 32 := Scalar.divsi v1071 c2_i32_414
  let c1_i32_420 : BitVec 32 := 1#32
  let v1098 : BitVec 32 := Scalar.subi v1083 c1_i32_420
  let v1099 : BitVec 32 := Scalar.select v1097 v1098 v1083
  let c256_i32_421 : BitVec 32 := 256#32
  let v1100 : BitVec 32 := Scalar.muli v1099 c256_i32_421
  ![3, v1082.toNat, v1100.toNat]
def k0_off36 (i : grid0.Coords) : Fin 3 → Nat :=
  let c4_i32_426 : BitVec 32 := 4#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v1071 : BitVec 32 := Scalar.addi v1 c128_i32
  let c2_i32_407 : BitVec 32 := 2#32
  let c0_i32_408 : BitVec 32 := 0#32
  let v1072 : BitVec 1 := Scalar.cmpi .eq c2_i32_407 c0_i32_408
  let c1_i32_409 : BitVec 32 := 1#32
  let v1073 : BitVec 32 := Scalar.select v1072 c1_i32_409 c2_i32_407
  let v1074 : BitVec 32 := Scalar.remsi v1071 v1073
  let c0_i32_411 : BitVec 32 := 0#32
  let v1076 : BitVec 1 := Scalar.cmpi .slt v1074 c0_i32_411
  let c0_i32_412 : BitVec 32 := 0#32
  let v1077 : BitVec 1 := Scalar.cmpi .slt v1073 c0_i32_412
  let v1078 : BitVec 1 := Scalar.xori v1076 v1077
  let c0_i32_410 : BitVec 32 := 0#32
  let v1075 : BitVec 1 := Scalar.cmpi .ne v1074 c0_i32_410
  let v1079 : BitVec 1 := Scalar.andi v1078 v1075
  let v1080 : BitVec 32 := Scalar.addi v1074 v1073
  let v1081 : BitVec 32 := Scalar.select v1079 v1080 v1074
  let c16_i32_413 : BitVec 32 := 16#32
  let v1082 : BitVec 32 := Scalar.muli v1081 c16_i32_413
  let c0_i32_415 : BitVec 32 := 0#32
  let v1084 : BitVec 1 := Scalar.cmpi .sgt v1071 c0_i32_415
  let v1085 : BitVec 32 := Scalar.extui v1084
  let c0_i32_416 : BitVec 32 := 0#32
  let v1086 : BitVec 1 := Scalar.cmpi .slt v1071 c0_i32_416
  let v1087 : BitVec 32 := Scalar.extui v1086
  let v1088 : BitVec 32 := Scalar.subi v1085 v1087
  let c2_i32_414 : BitVec 32 := 2#32
  let c0_i32_417 : BitVec 32 := 0#32
  let v1089 : BitVec 1 := Scalar.cmpi .sgt c2_i32_414 c0_i32_417
  let v1090 : BitVec 32 := Scalar.extui v1089
  let c0_i32_418 : BitVec 32 := 0#32
  let v1091 : BitVec 1 := Scalar.cmpi .slt c2_i32_414 c0_i32_418
  let v1092 : BitVec 32 := Scalar.extui v1091
  let v1093 : BitVec 32 := Scalar.subi v1090 v1092
  let v1094 : BitVec 1 := Scalar.cmpi .ne v1088 v1093
  let v1095 : BitVec 32 := Scalar.remsi v1071 c2_i32_414
  let c0_i32_419 : BitVec 32 := 0#32
  let v1096 : BitVec 1 := Scalar.cmpi .ne v1095 c0_i32_419
  let v1097 : BitVec 1 := Scalar.andi v1094 v1096
  let v1083 : BitVec 32 := Scalar.divsi v1071 c2_i32_414
  let c1_i32_420 : BitVec 32 := 1#32
  let v1098 : BitVec 32 := Scalar.subi v1083 c1_i32_420
  let v1099 : BitVec 32 := Scalar.select v1097 v1098 v1083
  let c256_i32_421 : BitVec 32 := 256#32
  let v1100 : BitVec 32 := Scalar.muli v1099 c256_i32_421
  ![4, v1082.toNat, v1100.toNat]
def k0_off37 (i : grid0.Coords) : Fin 3 → Nat :=
  let c6_i32_427 : BitVec 32 := 6#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v1071 : BitVec 32 := Scalar.addi v1 c128_i32
  let c2_i32_407 : BitVec 32 := 2#32
  let c0_i32_408 : BitVec 32 := 0#32
  let v1072 : BitVec 1 := Scalar.cmpi .eq c2_i32_407 c0_i32_408
  let c1_i32_409 : BitVec 32 := 1#32
  let v1073 : BitVec 32 := Scalar.select v1072 c1_i32_409 c2_i32_407
  let v1074 : BitVec 32 := Scalar.remsi v1071 v1073
  let c0_i32_411 : BitVec 32 := 0#32
  let v1076 : BitVec 1 := Scalar.cmpi .slt v1074 c0_i32_411
  let c0_i32_412 : BitVec 32 := 0#32
  let v1077 : BitVec 1 := Scalar.cmpi .slt v1073 c0_i32_412
  let v1078 : BitVec 1 := Scalar.xori v1076 v1077
  let c0_i32_410 : BitVec 32 := 0#32
  let v1075 : BitVec 1 := Scalar.cmpi .ne v1074 c0_i32_410
  let v1079 : BitVec 1 := Scalar.andi v1078 v1075
  let v1080 : BitVec 32 := Scalar.addi v1074 v1073
  let v1081 : BitVec 32 := Scalar.select v1079 v1080 v1074
  let c16_i32_413 : BitVec 32 := 16#32
  let v1082 : BitVec 32 := Scalar.muli v1081 c16_i32_413
  let c0_i32_415 : BitVec 32 := 0#32
  let v1084 : BitVec 1 := Scalar.cmpi .sgt v1071 c0_i32_415
  let v1085 : BitVec 32 := Scalar.extui v1084
  let c0_i32_416 : BitVec 32 := 0#32
  let v1086 : BitVec 1 := Scalar.cmpi .slt v1071 c0_i32_416
  let v1087 : BitVec 32 := Scalar.extui v1086
  let v1088 : BitVec 32 := Scalar.subi v1085 v1087
  let c2_i32_414 : BitVec 32 := 2#32
  let c0_i32_417 : BitVec 32 := 0#32
  let v1089 : BitVec 1 := Scalar.cmpi .sgt c2_i32_414 c0_i32_417
  let v1090 : BitVec 32 := Scalar.extui v1089
  let c0_i32_418 : BitVec 32 := 0#32
  let v1091 : BitVec 1 := Scalar.cmpi .slt c2_i32_414 c0_i32_418
  let v1092 : BitVec 32 := Scalar.extui v1091
  let v1093 : BitVec 32 := Scalar.subi v1090 v1092
  let v1094 : BitVec 1 := Scalar.cmpi .ne v1088 v1093
  let v1095 : BitVec 32 := Scalar.remsi v1071 c2_i32_414
  let c0_i32_419 : BitVec 32 := 0#32
  let v1096 : BitVec 1 := Scalar.cmpi .ne v1095 c0_i32_419
  let v1097 : BitVec 1 := Scalar.andi v1094 v1096
  let v1083 : BitVec 32 := Scalar.divsi v1071 c2_i32_414
  let c1_i32_420 : BitVec 32 := 1#32
  let v1098 : BitVec 32 := Scalar.subi v1083 c1_i32_420
  let v1099 : BitVec 32 := Scalar.select v1097 v1098 v1083
  let c256_i32_421 : BitVec 32 := 256#32
  let v1100 : BitVec 32 := Scalar.muli v1099 c256_i32_421
  ![6, v1082.toNat, v1100.toNat]
def k0_off38 (i : grid0.Coords) : Fin 3 → Nat :=
  let c7_i32_428 : BitVec 32 := 7#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v1071 : BitVec 32 := Scalar.addi v1 c128_i32
  let c2_i32_407 : BitVec 32 := 2#32
  let c0_i32_408 : BitVec 32 := 0#32
  let v1072 : BitVec 1 := Scalar.cmpi .eq c2_i32_407 c0_i32_408
  let c1_i32_409 : BitVec 32 := 1#32
  let v1073 : BitVec 32 := Scalar.select v1072 c1_i32_409 c2_i32_407
  let v1074 : BitVec 32 := Scalar.remsi v1071 v1073
  let c0_i32_411 : BitVec 32 := 0#32
  let v1076 : BitVec 1 := Scalar.cmpi .slt v1074 c0_i32_411
  let c0_i32_412 : BitVec 32 := 0#32
  let v1077 : BitVec 1 := Scalar.cmpi .slt v1073 c0_i32_412
  let v1078 : BitVec 1 := Scalar.xori v1076 v1077
  let c0_i32_410 : BitVec 32 := 0#32
  let v1075 : BitVec 1 := Scalar.cmpi .ne v1074 c0_i32_410
  let v1079 : BitVec 1 := Scalar.andi v1078 v1075
  let v1080 : BitVec 32 := Scalar.addi v1074 v1073
  let v1081 : BitVec 32 := Scalar.select v1079 v1080 v1074
  let c16_i32_413 : BitVec 32 := 16#32
  let v1082 : BitVec 32 := Scalar.muli v1081 c16_i32_413
  let c0_i32_415 : BitVec 32 := 0#32
  let v1084 : BitVec 1 := Scalar.cmpi .sgt v1071 c0_i32_415
  let v1085 : BitVec 32 := Scalar.extui v1084
  let c0_i32_416 : BitVec 32 := 0#32
  let v1086 : BitVec 1 := Scalar.cmpi .slt v1071 c0_i32_416
  let v1087 : BitVec 32 := Scalar.extui v1086
  let v1088 : BitVec 32 := Scalar.subi v1085 v1087
  let c2_i32_414 : BitVec 32 := 2#32
  let c0_i32_417 : BitVec 32 := 0#32
  let v1089 : BitVec 1 := Scalar.cmpi .sgt c2_i32_414 c0_i32_417
  let v1090 : BitVec 32 := Scalar.extui v1089
  let c0_i32_418 : BitVec 32 := 0#32
  let v1091 : BitVec 1 := Scalar.cmpi .slt c2_i32_414 c0_i32_418
  let v1092 : BitVec 32 := Scalar.extui v1091
  let v1093 : BitVec 32 := Scalar.subi v1090 v1092
  let v1094 : BitVec 1 := Scalar.cmpi .ne v1088 v1093
  let v1095 : BitVec 32 := Scalar.remsi v1071 c2_i32_414
  let c0_i32_419 : BitVec 32 := 0#32
  let v1096 : BitVec 1 := Scalar.cmpi .ne v1095 c0_i32_419
  let v1097 : BitVec 1 := Scalar.andi v1094 v1096
  let v1083 : BitVec 32 := Scalar.divsi v1071 c2_i32_414
  let c1_i32_420 : BitVec 32 := 1#32
  let v1098 : BitVec 32 := Scalar.subi v1083 c1_i32_420
  let v1099 : BitVec 32 := Scalar.select v1097 v1098 v1083
  let c256_i32_421 : BitVec 32 := 256#32
  let v1100 : BitVec 32 := Scalar.muli v1099 c256_i32_421
  ![7, v1082.toNat, v1100.toNat]
def k0_off39 (i : grid0.Coords) : Fin 3 → Nat :=
  let c8_i32_429 : BitVec 32 := 8#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v1071 : BitVec 32 := Scalar.addi v1 c128_i32
  let c2_i32_407 : BitVec 32 := 2#32
  let c0_i32_408 : BitVec 32 := 0#32
  let v1072 : BitVec 1 := Scalar.cmpi .eq c2_i32_407 c0_i32_408
  let c1_i32_409 : BitVec 32 := 1#32
  let v1073 : BitVec 32 := Scalar.select v1072 c1_i32_409 c2_i32_407
  let v1074 : BitVec 32 := Scalar.remsi v1071 v1073
  let c0_i32_411 : BitVec 32 := 0#32
  let v1076 : BitVec 1 := Scalar.cmpi .slt v1074 c0_i32_411
  let c0_i32_412 : BitVec 32 := 0#32
  let v1077 : BitVec 1 := Scalar.cmpi .slt v1073 c0_i32_412
  let v1078 : BitVec 1 := Scalar.xori v1076 v1077
  let c0_i32_410 : BitVec 32 := 0#32
  let v1075 : BitVec 1 := Scalar.cmpi .ne v1074 c0_i32_410
  let v1079 : BitVec 1 := Scalar.andi v1078 v1075
  let v1080 : BitVec 32 := Scalar.addi v1074 v1073
  let v1081 : BitVec 32 := Scalar.select v1079 v1080 v1074
  let c16_i32_413 : BitVec 32 := 16#32
  let v1082 : BitVec 32 := Scalar.muli v1081 c16_i32_413
  let c0_i32_415 : BitVec 32 := 0#32
  let v1084 : BitVec 1 := Scalar.cmpi .sgt v1071 c0_i32_415
  let v1085 : BitVec 32 := Scalar.extui v1084
  let c0_i32_416 : BitVec 32 := 0#32
  let v1086 : BitVec 1 := Scalar.cmpi .slt v1071 c0_i32_416
  let v1087 : BitVec 32 := Scalar.extui v1086
  let v1088 : BitVec 32 := Scalar.subi v1085 v1087
  let c2_i32_414 : BitVec 32 := 2#32
  let c0_i32_417 : BitVec 32 := 0#32
  let v1089 : BitVec 1 := Scalar.cmpi .sgt c2_i32_414 c0_i32_417
  let v1090 : BitVec 32 := Scalar.extui v1089
  let c0_i32_418 : BitVec 32 := 0#32
  let v1091 : BitVec 1 := Scalar.cmpi .slt c2_i32_414 c0_i32_418
  let v1092 : BitVec 32 := Scalar.extui v1091
  let v1093 : BitVec 32 := Scalar.subi v1090 v1092
  let v1094 : BitVec 1 := Scalar.cmpi .ne v1088 v1093
  let v1095 : BitVec 32 := Scalar.remsi v1071 c2_i32_414
  let c0_i32_419 : BitVec 32 := 0#32
  let v1096 : BitVec 1 := Scalar.cmpi .ne v1095 c0_i32_419
  let v1097 : BitVec 1 := Scalar.andi v1094 v1096
  let v1083 : BitVec 32 := Scalar.divsi v1071 c2_i32_414
  let c1_i32_420 : BitVec 32 := 1#32
  let v1098 : BitVec 32 := Scalar.subi v1083 c1_i32_420
  let v1099 : BitVec 32 := Scalar.select v1097 v1098 v1083
  let c256_i32_421 : BitVec 32 := 256#32
  let v1100 : BitVec 32 := Scalar.muli v1099 c256_i32_421
  ![8, v1082.toNat, v1100.toNat]
def k0_off40 (i : grid0.Coords) : Fin 3 → Nat :=
  let c9_i32_430 : BitVec 32 := 9#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v1071 : BitVec 32 := Scalar.addi v1 c128_i32
  let c2_i32_407 : BitVec 32 := 2#32
  let c0_i32_408 : BitVec 32 := 0#32
  let v1072 : BitVec 1 := Scalar.cmpi .eq c2_i32_407 c0_i32_408
  let c1_i32_409 : BitVec 32 := 1#32
  let v1073 : BitVec 32 := Scalar.select v1072 c1_i32_409 c2_i32_407
  let v1074 : BitVec 32 := Scalar.remsi v1071 v1073
  let c0_i32_411 : BitVec 32 := 0#32
  let v1076 : BitVec 1 := Scalar.cmpi .slt v1074 c0_i32_411
  let c0_i32_412 : BitVec 32 := 0#32
  let v1077 : BitVec 1 := Scalar.cmpi .slt v1073 c0_i32_412
  let v1078 : BitVec 1 := Scalar.xori v1076 v1077
  let c0_i32_410 : BitVec 32 := 0#32
  let v1075 : BitVec 1 := Scalar.cmpi .ne v1074 c0_i32_410
  let v1079 : BitVec 1 := Scalar.andi v1078 v1075
  let v1080 : BitVec 32 := Scalar.addi v1074 v1073
  let v1081 : BitVec 32 := Scalar.select v1079 v1080 v1074
  let c16_i32_413 : BitVec 32 := 16#32
  let v1082 : BitVec 32 := Scalar.muli v1081 c16_i32_413
  let c0_i32_415 : BitVec 32 := 0#32
  let v1084 : BitVec 1 := Scalar.cmpi .sgt v1071 c0_i32_415
  let v1085 : BitVec 32 := Scalar.extui v1084
  let c0_i32_416 : BitVec 32 := 0#32
  let v1086 : BitVec 1 := Scalar.cmpi .slt v1071 c0_i32_416
  let v1087 : BitVec 32 := Scalar.extui v1086
  let v1088 : BitVec 32 := Scalar.subi v1085 v1087
  let c2_i32_414 : BitVec 32 := 2#32
  let c0_i32_417 : BitVec 32 := 0#32
  let v1089 : BitVec 1 := Scalar.cmpi .sgt c2_i32_414 c0_i32_417
  let v1090 : BitVec 32 := Scalar.extui v1089
  let c0_i32_418 : BitVec 32 := 0#32
  let v1091 : BitVec 1 := Scalar.cmpi .slt c2_i32_414 c0_i32_418
  let v1092 : BitVec 32 := Scalar.extui v1091
  let v1093 : BitVec 32 := Scalar.subi v1090 v1092
  let v1094 : BitVec 1 := Scalar.cmpi .ne v1088 v1093
  let v1095 : BitVec 32 := Scalar.remsi v1071 c2_i32_414
  let c0_i32_419 : BitVec 32 := 0#32
  let v1096 : BitVec 1 := Scalar.cmpi .ne v1095 c0_i32_419
  let v1097 : BitVec 1 := Scalar.andi v1094 v1096
  let v1083 : BitVec 32 := Scalar.divsi v1071 c2_i32_414
  let c1_i32_420 : BitVec 32 := 1#32
  let v1098 : BitVec 32 := Scalar.subi v1083 c1_i32_420
  let v1099 : BitVec 32 := Scalar.select v1097 v1098 v1083
  let c256_i32_421 : BitVec 32 := 256#32
  let v1100 : BitVec 32 := Scalar.muli v1099 c256_i32_421
  ![9, v1082.toNat, v1100.toNat]
@[reducible] def k0_t5_loop : Scf.Loop 32 :=
  let c0_i32_431 : BitVec 32 := 0#32
  let c256_i32_432 : BitVec 32 := 256#32
  let v1137 : BitVec 32 := Scalar.addi c0_i32_431 c256_i32_432
  let c1_i32_433 : BitVec 32 := 1#32
  ⟨c0_i32_431, v1137, c1_i32_433⟩
def k0_off41 (k0_t5 : Fin k0_t5_loop.trips) : Fin 2 → Nat :=
  let c0_i32_461 : BitVec 32 := 0#32
  let c0_i32_431 : BitVec 32 := 0#32
  let c1_i32_433 : BitVec 32 := 1#32
  let arg37 : BitVec 32 := Scf.iv c0_i32_431 c1_i32_433 k0_t5
  let c1_i32_460 : BitVec 32 := 1#32
  let v1204 : BitVec 32 := Scalar.muli arg37 c1_i32_460
  let v1205 : BitVec 32 := Scalar.addi c0_i32_461 v1204
  let c0_i32_463 : BitVec 32 := 0#32
  let v1207 : BitVec 1 := Scalar.cmpi .sgt v1205 c0_i32_463
  let v1208 : BitVec 32 := Scalar.extui v1207
  let c0_i32_464 : BitVec 32 := 0#32
  let v1209 : BitVec 1 := Scalar.cmpi .slt v1205 c0_i32_464
  let v1210 : BitVec 32 := Scalar.extui v1209
  let v1211 : BitVec 32 := Scalar.subi v1208 v1210
  let c16_i32_462 : BitVec 32 := 16#32
  let c0_i32_465 : BitVec 32 := 0#32
  let v1212 : BitVec 1 := Scalar.cmpi .sgt c16_i32_462 c0_i32_465
  let v1213 : BitVec 32 := Scalar.extui v1212
  let c0_i32_466 : BitVec 32 := 0#32
  let v1214 : BitVec 1 := Scalar.cmpi .slt c16_i32_462 c0_i32_466
  let v1215 : BitVec 32 := Scalar.extui v1214
  let v1216 : BitVec 32 := Scalar.subi v1213 v1215
  let v1217 : BitVec 1 := Scalar.cmpi .ne v1211 v1216
  let v1218 : BitVec 32 := Scalar.remsi v1205 c16_i32_462
  let c0_i32_467 : BitVec 32 := 0#32
  let v1219 : BitVec 1 := Scalar.cmpi .ne v1218 c0_i32_467
  let v1220 : BitVec 1 := Scalar.andi v1217 v1219
  let v1206 : BitVec 32 := Scalar.divsi v1205 c16_i32_462
  let c1_i32_468 : BitVec 32 := 1#32
  let v1221 : BitVec 32 := Scalar.subi v1206 c1_i32_468
  let v1222 : BitVec 32 := Scalar.select v1220 v1221 v1206
  let v1234 : Index := Scalar.indexCast v1222
  let c16_i32_469 : BitVec 32 := 16#32
  let c0_i32_470 : BitVec 32 := 0#32
  let v1223 : BitVec 1 := Scalar.cmpi .eq c16_i32_469 c0_i32_470
  let c1_i32_471 : BitVec 32 := 1#32
  let v1224 : BitVec 32 := Scalar.select v1223 c1_i32_471 c16_i32_469
  let v1225 : BitVec 32 := Scalar.remsi v1205 v1224
  let c0_i32_473 : BitVec 32 := 0#32
  let v1227 : BitVec 1 := Scalar.cmpi .slt v1225 c0_i32_473
  let c0_i32_474 : BitVec 32 := 0#32
  let v1228 : BitVec 1 := Scalar.cmpi .slt v1224 c0_i32_474
  let v1229 : BitVec 1 := Scalar.xori v1227 v1228
  let c0_i32_472 : BitVec 32 := 0#32
  let v1226 : BitVec 1 := Scalar.cmpi .ne v1225 c0_i32_472
  let v1230 : BitVec 1 := Scalar.andi v1229 v1226
  let v1231 : BitVec 32 := Scalar.addi v1225 v1224
  let v1232 : BitVec 32 := Scalar.select v1230 v1231 v1225
  let c16_i32_475 : BitVec 32 := 16#32
  let v1233 : BitVec 32 := Scalar.muli v1232 c16_i32_475
  let v1235 : Index := Scalar.indexCast v1233
  ![v1234.toNat, v1235.toNat]
def k0_off42 (i : grid0.Coords) : Fin 3 → Nat :=
  let c0_i32_451 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32_435 : BitVec 32 := 128#32
  let v1138 : BitVec 32 := Scalar.addi v1 c128_i32_435
  let c2_i32_436 : BitVec 32 := 2#32
  let c0_i32_437 : BitVec 32 := 0#32
  let v1139 : BitVec 1 := Scalar.cmpi .eq c2_i32_436 c0_i32_437
  let c1_i32_438 : BitVec 32 := 1#32
  let v1140 : BitVec 32 := Scalar.select v1139 c1_i32_438 c2_i32_436
  let v1141 : BitVec 32 := Scalar.remsi v1138 v1140
  let c0_i32_440 : BitVec 32 := 0#32
  let v1143 : BitVec 1 := Scalar.cmpi .slt v1141 c0_i32_440
  let c0_i32_441 : BitVec 32 := 0#32
  let v1144 : BitVec 1 := Scalar.cmpi .slt v1140 c0_i32_441
  let v1145 : BitVec 1 := Scalar.xori v1143 v1144
  let c0_i32_439 : BitVec 32 := 0#32
  let v1142 : BitVec 1 := Scalar.cmpi .ne v1141 c0_i32_439
  let v1146 : BitVec 1 := Scalar.andi v1145 v1142
  let v1147 : BitVec 32 := Scalar.addi v1141 v1140
  let v1148 : BitVec 32 := Scalar.select v1146 v1147 v1141
  let c16_i32_442 : BitVec 32 := 16#32
  let v1149 : BitVec 32 := Scalar.muli v1148 c16_i32_442
  let c0_i32_444 : BitVec 32 := 0#32
  let v1151 : BitVec 1 := Scalar.cmpi .sgt v1138 c0_i32_444
  let v1152 : BitVec 32 := Scalar.extui v1151
  let c0_i32_445 : BitVec 32 := 0#32
  let v1153 : BitVec 1 := Scalar.cmpi .slt v1138 c0_i32_445
  let v1154 : BitVec 32 := Scalar.extui v1153
  let v1155 : BitVec 32 := Scalar.subi v1152 v1154
  let c2_i32_443 : BitVec 32 := 2#32
  let c0_i32_446 : BitVec 32 := 0#32
  let v1156 : BitVec 1 := Scalar.cmpi .sgt c2_i32_443 c0_i32_446
  let v1157 : BitVec 32 := Scalar.extui v1156
  let c0_i32_447 : BitVec 32 := 0#32
  let v1158 : BitVec 1 := Scalar.cmpi .slt c2_i32_443 c0_i32_447
  let v1159 : BitVec 32 := Scalar.extui v1158
  let v1160 : BitVec 32 := Scalar.subi v1157 v1159
  let v1161 : BitVec 1 := Scalar.cmpi .ne v1155 v1160
  let v1162 : BitVec 32 := Scalar.remsi v1138 c2_i32_443
  let c0_i32_448 : BitVec 32 := 0#32
  let v1163 : BitVec 1 := Scalar.cmpi .ne v1162 c0_i32_448
  let v1164 : BitVec 1 := Scalar.andi v1161 v1163
  let v1150 : BitVec 32 := Scalar.divsi v1138 c2_i32_443
  let c1_i32_449 : BitVec 32 := 1#32
  let v1165 : BitVec 32 := Scalar.subi v1150 c1_i32_449
  let v1166 : BitVec 32 := Scalar.select v1164 v1165 v1150
  let c256_i32_450 : BitVec 32 := 256#32
  let v1167 : BitVec 32 := Scalar.muli v1166 c256_i32_450
  ![0, v1149.toNat, v1167.toNat]
def k0_off43 (i : grid0.Coords) : Fin 3 → Nat :=
  let c1_i32_452 : BitVec 32 := 1#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32_435 : BitVec 32 := 128#32
  let v1138 : BitVec 32 := Scalar.addi v1 c128_i32_435
  let c2_i32_436 : BitVec 32 := 2#32
  let c0_i32_437 : BitVec 32 := 0#32
  let v1139 : BitVec 1 := Scalar.cmpi .eq c2_i32_436 c0_i32_437
  let c1_i32_438 : BitVec 32 := 1#32
  let v1140 : BitVec 32 := Scalar.select v1139 c1_i32_438 c2_i32_436
  let v1141 : BitVec 32 := Scalar.remsi v1138 v1140
  let c0_i32_440 : BitVec 32 := 0#32
  let v1143 : BitVec 1 := Scalar.cmpi .slt v1141 c0_i32_440
  let c0_i32_441 : BitVec 32 := 0#32
  let v1144 : BitVec 1 := Scalar.cmpi .slt v1140 c0_i32_441
  let v1145 : BitVec 1 := Scalar.xori v1143 v1144
  let c0_i32_439 : BitVec 32 := 0#32
  let v1142 : BitVec 1 := Scalar.cmpi .ne v1141 c0_i32_439
  let v1146 : BitVec 1 := Scalar.andi v1145 v1142
  let v1147 : BitVec 32 := Scalar.addi v1141 v1140
  let v1148 : BitVec 32 := Scalar.select v1146 v1147 v1141
  let c16_i32_442 : BitVec 32 := 16#32
  let v1149 : BitVec 32 := Scalar.muli v1148 c16_i32_442
  let c0_i32_444 : BitVec 32 := 0#32
  let v1151 : BitVec 1 := Scalar.cmpi .sgt v1138 c0_i32_444
  let v1152 : BitVec 32 := Scalar.extui v1151
  let c0_i32_445 : BitVec 32 := 0#32
  let v1153 : BitVec 1 := Scalar.cmpi .slt v1138 c0_i32_445
  let v1154 : BitVec 32 := Scalar.extui v1153
  let v1155 : BitVec 32 := Scalar.subi v1152 v1154
  let c2_i32_443 : BitVec 32 := 2#32
  let c0_i32_446 : BitVec 32 := 0#32
  let v1156 : BitVec 1 := Scalar.cmpi .sgt c2_i32_443 c0_i32_446
  let v1157 : BitVec 32 := Scalar.extui v1156
  let c0_i32_447 : BitVec 32 := 0#32
  let v1158 : BitVec 1 := Scalar.cmpi .slt c2_i32_443 c0_i32_447
  let v1159 : BitVec 32 := Scalar.extui v1158
  let v1160 : BitVec 32 := Scalar.subi v1157 v1159
  let v1161 : BitVec 1 := Scalar.cmpi .ne v1155 v1160
  let v1162 : BitVec 32 := Scalar.remsi v1138 c2_i32_443
  let c0_i32_448 : BitVec 32 := 0#32
  let v1163 : BitVec 1 := Scalar.cmpi .ne v1162 c0_i32_448
  let v1164 : BitVec 1 := Scalar.andi v1161 v1163
  let v1150 : BitVec 32 := Scalar.divsi v1138 c2_i32_443
  let c1_i32_449 : BitVec 32 := 1#32
  let v1165 : BitVec 32 := Scalar.subi v1150 c1_i32_449
  let v1166 : BitVec 32 := Scalar.select v1164 v1165 v1150
  let c256_i32_450 : BitVec 32 := 256#32
  let v1167 : BitVec 32 := Scalar.muli v1166 c256_i32_450
  ![1, v1149.toNat, v1167.toNat]
def k0_off44 (i : grid0.Coords) : Fin 3 → Nat :=
  let c2_i32_453 : BitVec 32 := 2#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32_435 : BitVec 32 := 128#32
  let v1138 : BitVec 32 := Scalar.addi v1 c128_i32_435
  let c2_i32_436 : BitVec 32 := 2#32
  let c0_i32_437 : BitVec 32 := 0#32
  let v1139 : BitVec 1 := Scalar.cmpi .eq c2_i32_436 c0_i32_437
  let c1_i32_438 : BitVec 32 := 1#32
  let v1140 : BitVec 32 := Scalar.select v1139 c1_i32_438 c2_i32_436
  let v1141 : BitVec 32 := Scalar.remsi v1138 v1140
  let c0_i32_440 : BitVec 32 := 0#32
  let v1143 : BitVec 1 := Scalar.cmpi .slt v1141 c0_i32_440
  let c0_i32_441 : BitVec 32 := 0#32
  let v1144 : BitVec 1 := Scalar.cmpi .slt v1140 c0_i32_441
  let v1145 : BitVec 1 := Scalar.xori v1143 v1144
  let c0_i32_439 : BitVec 32 := 0#32
  let v1142 : BitVec 1 := Scalar.cmpi .ne v1141 c0_i32_439
  let v1146 : BitVec 1 := Scalar.andi v1145 v1142
  let v1147 : BitVec 32 := Scalar.addi v1141 v1140
  let v1148 : BitVec 32 := Scalar.select v1146 v1147 v1141
  let c16_i32_442 : BitVec 32 := 16#32
  let v1149 : BitVec 32 := Scalar.muli v1148 c16_i32_442
  let c0_i32_444 : BitVec 32 := 0#32
  let v1151 : BitVec 1 := Scalar.cmpi .sgt v1138 c0_i32_444
  let v1152 : BitVec 32 := Scalar.extui v1151
  let c0_i32_445 : BitVec 32 := 0#32
  let v1153 : BitVec 1 := Scalar.cmpi .slt v1138 c0_i32_445
  let v1154 : BitVec 32 := Scalar.extui v1153
  let v1155 : BitVec 32 := Scalar.subi v1152 v1154
  let c2_i32_443 : BitVec 32 := 2#32
  let c0_i32_446 : BitVec 32 := 0#32
  let v1156 : BitVec 1 := Scalar.cmpi .sgt c2_i32_443 c0_i32_446
  let v1157 : BitVec 32 := Scalar.extui v1156
  let c0_i32_447 : BitVec 32 := 0#32
  let v1158 : BitVec 1 := Scalar.cmpi .slt c2_i32_443 c0_i32_447
  let v1159 : BitVec 32 := Scalar.extui v1158
  let v1160 : BitVec 32 := Scalar.subi v1157 v1159
  let v1161 : BitVec 1 := Scalar.cmpi .ne v1155 v1160
  let v1162 : BitVec 32 := Scalar.remsi v1138 c2_i32_443
  let c0_i32_448 : BitVec 32 := 0#32
  let v1163 : BitVec 1 := Scalar.cmpi .ne v1162 c0_i32_448
  let v1164 : BitVec 1 := Scalar.andi v1161 v1163
  let v1150 : BitVec 32 := Scalar.divsi v1138 c2_i32_443
  let c1_i32_449 : BitVec 32 := 1#32
  let v1165 : BitVec 32 := Scalar.subi v1150 c1_i32_449
  let v1166 : BitVec 32 := Scalar.select v1164 v1165 v1150
  let c256_i32_450 : BitVec 32 := 256#32
  let v1167 : BitVec 32 := Scalar.muli v1166 c256_i32_450
  ![2, v1149.toNat, v1167.toNat]
def k0_off45 (i : grid0.Coords) : Fin 3 → Nat :=
  let c3_i32_454 : BitVec 32 := 3#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32_435 : BitVec 32 := 128#32
  let v1138 : BitVec 32 := Scalar.addi v1 c128_i32_435
  let c2_i32_436 : BitVec 32 := 2#32
  let c0_i32_437 : BitVec 32 := 0#32
  let v1139 : BitVec 1 := Scalar.cmpi .eq c2_i32_436 c0_i32_437
  let c1_i32_438 : BitVec 32 := 1#32
  let v1140 : BitVec 32 := Scalar.select v1139 c1_i32_438 c2_i32_436
  let v1141 : BitVec 32 := Scalar.remsi v1138 v1140
  let c0_i32_440 : BitVec 32 := 0#32
  let v1143 : BitVec 1 := Scalar.cmpi .slt v1141 c0_i32_440
  let c0_i32_441 : BitVec 32 := 0#32
  let v1144 : BitVec 1 := Scalar.cmpi .slt v1140 c0_i32_441
  let v1145 : BitVec 1 := Scalar.xori v1143 v1144
  let c0_i32_439 : BitVec 32 := 0#32
  let v1142 : BitVec 1 := Scalar.cmpi .ne v1141 c0_i32_439
  let v1146 : BitVec 1 := Scalar.andi v1145 v1142
  let v1147 : BitVec 32 := Scalar.addi v1141 v1140
  let v1148 : BitVec 32 := Scalar.select v1146 v1147 v1141
  let c16_i32_442 : BitVec 32 := 16#32
  let v1149 : BitVec 32 := Scalar.muli v1148 c16_i32_442
  let c0_i32_444 : BitVec 32 := 0#32
  let v1151 : BitVec 1 := Scalar.cmpi .sgt v1138 c0_i32_444
  let v1152 : BitVec 32 := Scalar.extui v1151
  let c0_i32_445 : BitVec 32 := 0#32
  let v1153 : BitVec 1 := Scalar.cmpi .slt v1138 c0_i32_445
  let v1154 : BitVec 32 := Scalar.extui v1153
  let v1155 : BitVec 32 := Scalar.subi v1152 v1154
  let c2_i32_443 : BitVec 32 := 2#32
  let c0_i32_446 : BitVec 32 := 0#32
  let v1156 : BitVec 1 := Scalar.cmpi .sgt c2_i32_443 c0_i32_446
  let v1157 : BitVec 32 := Scalar.extui v1156
  let c0_i32_447 : BitVec 32 := 0#32
  let v1158 : BitVec 1 := Scalar.cmpi .slt c2_i32_443 c0_i32_447
  let v1159 : BitVec 32 := Scalar.extui v1158
  let v1160 : BitVec 32 := Scalar.subi v1157 v1159
  let v1161 : BitVec 1 := Scalar.cmpi .ne v1155 v1160
  let v1162 : BitVec 32 := Scalar.remsi v1138 c2_i32_443
  let c0_i32_448 : BitVec 32 := 0#32
  let v1163 : BitVec 1 := Scalar.cmpi .ne v1162 c0_i32_448
  let v1164 : BitVec 1 := Scalar.andi v1161 v1163
  let v1150 : BitVec 32 := Scalar.divsi v1138 c2_i32_443
  let c1_i32_449 : BitVec 32 := 1#32
  let v1165 : BitVec 32 := Scalar.subi v1150 c1_i32_449
  let v1166 : BitVec 32 := Scalar.select v1164 v1165 v1150
  let c256_i32_450 : BitVec 32 := 256#32
  let v1167 : BitVec 32 := Scalar.muli v1166 c256_i32_450
  ![3, v1149.toNat, v1167.toNat]
def k0_off46 (i : grid0.Coords) : Fin 3 → Nat :=
  let c4_i32_455 : BitVec 32 := 4#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32_435 : BitVec 32 := 128#32
  let v1138 : BitVec 32 := Scalar.addi v1 c128_i32_435
  let c2_i32_436 : BitVec 32 := 2#32
  let c0_i32_437 : BitVec 32 := 0#32
  let v1139 : BitVec 1 := Scalar.cmpi .eq c2_i32_436 c0_i32_437
  let c1_i32_438 : BitVec 32 := 1#32
  let v1140 : BitVec 32 := Scalar.select v1139 c1_i32_438 c2_i32_436
  let v1141 : BitVec 32 := Scalar.remsi v1138 v1140
  let c0_i32_440 : BitVec 32 := 0#32
  let v1143 : BitVec 1 := Scalar.cmpi .slt v1141 c0_i32_440
  let c0_i32_441 : BitVec 32 := 0#32
  let v1144 : BitVec 1 := Scalar.cmpi .slt v1140 c0_i32_441
  let v1145 : BitVec 1 := Scalar.xori v1143 v1144
  let c0_i32_439 : BitVec 32 := 0#32
  let v1142 : BitVec 1 := Scalar.cmpi .ne v1141 c0_i32_439
  let v1146 : BitVec 1 := Scalar.andi v1145 v1142
  let v1147 : BitVec 32 := Scalar.addi v1141 v1140
  let v1148 : BitVec 32 := Scalar.select v1146 v1147 v1141
  let c16_i32_442 : BitVec 32 := 16#32
  let v1149 : BitVec 32 := Scalar.muli v1148 c16_i32_442
  let c0_i32_444 : BitVec 32 := 0#32
  let v1151 : BitVec 1 := Scalar.cmpi .sgt v1138 c0_i32_444
  let v1152 : BitVec 32 := Scalar.extui v1151
  let c0_i32_445 : BitVec 32 := 0#32
  let v1153 : BitVec 1 := Scalar.cmpi .slt v1138 c0_i32_445
  let v1154 : BitVec 32 := Scalar.extui v1153
  let v1155 : BitVec 32 := Scalar.subi v1152 v1154
  let c2_i32_443 : BitVec 32 := 2#32
  let c0_i32_446 : BitVec 32 := 0#32
  let v1156 : BitVec 1 := Scalar.cmpi .sgt c2_i32_443 c0_i32_446
  let v1157 : BitVec 32 := Scalar.extui v1156
  let c0_i32_447 : BitVec 32 := 0#32
  let v1158 : BitVec 1 := Scalar.cmpi .slt c2_i32_443 c0_i32_447
  let v1159 : BitVec 32 := Scalar.extui v1158
  let v1160 : BitVec 32 := Scalar.subi v1157 v1159
  let v1161 : BitVec 1 := Scalar.cmpi .ne v1155 v1160
  let v1162 : BitVec 32 := Scalar.remsi v1138 c2_i32_443
  let c0_i32_448 : BitVec 32 := 0#32
  let v1163 : BitVec 1 := Scalar.cmpi .ne v1162 c0_i32_448
  let v1164 : BitVec 1 := Scalar.andi v1161 v1163
  let v1150 : BitVec 32 := Scalar.divsi v1138 c2_i32_443
  let c1_i32_449 : BitVec 32 := 1#32
  let v1165 : BitVec 32 := Scalar.subi v1150 c1_i32_449
  let v1166 : BitVec 32 := Scalar.select v1164 v1165 v1150
  let c256_i32_450 : BitVec 32 := 256#32
  let v1167 : BitVec 32 := Scalar.muli v1166 c256_i32_450
  ![4, v1149.toNat, v1167.toNat]
def k0_off47 (i : grid0.Coords) : Fin 3 → Nat :=
  let c5_i32_456 : BitVec 32 := 5#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32_435 : BitVec 32 := 128#32
  let v1138 : BitVec 32 := Scalar.addi v1 c128_i32_435
  let c2_i32_436 : BitVec 32 := 2#32
  let c0_i32_437 : BitVec 32 := 0#32
  let v1139 : BitVec 1 := Scalar.cmpi .eq c2_i32_436 c0_i32_437
  let c1_i32_438 : BitVec 32 := 1#32
  let v1140 : BitVec 32 := Scalar.select v1139 c1_i32_438 c2_i32_436
  let v1141 : BitVec 32 := Scalar.remsi v1138 v1140
  let c0_i32_440 : BitVec 32 := 0#32
  let v1143 : BitVec 1 := Scalar.cmpi .slt v1141 c0_i32_440
  let c0_i32_441 : BitVec 32 := 0#32
  let v1144 : BitVec 1 := Scalar.cmpi .slt v1140 c0_i32_441
  let v1145 : BitVec 1 := Scalar.xori v1143 v1144
  let c0_i32_439 : BitVec 32 := 0#32
  let v1142 : BitVec 1 := Scalar.cmpi .ne v1141 c0_i32_439
  let v1146 : BitVec 1 := Scalar.andi v1145 v1142
  let v1147 : BitVec 32 := Scalar.addi v1141 v1140
  let v1148 : BitVec 32 := Scalar.select v1146 v1147 v1141
  let c16_i32_442 : BitVec 32 := 16#32
  let v1149 : BitVec 32 := Scalar.muli v1148 c16_i32_442
  let c0_i32_444 : BitVec 32 := 0#32
  let v1151 : BitVec 1 := Scalar.cmpi .sgt v1138 c0_i32_444
  let v1152 : BitVec 32 := Scalar.extui v1151
  let c0_i32_445 : BitVec 32 := 0#32
  let v1153 : BitVec 1 := Scalar.cmpi .slt v1138 c0_i32_445
  let v1154 : BitVec 32 := Scalar.extui v1153
  let v1155 : BitVec 32 := Scalar.subi v1152 v1154
  let c2_i32_443 : BitVec 32 := 2#32
  let c0_i32_446 : BitVec 32 := 0#32
  let v1156 : BitVec 1 := Scalar.cmpi .sgt c2_i32_443 c0_i32_446
  let v1157 : BitVec 32 := Scalar.extui v1156
  let c0_i32_447 : BitVec 32 := 0#32
  let v1158 : BitVec 1 := Scalar.cmpi .slt c2_i32_443 c0_i32_447
  let v1159 : BitVec 32 := Scalar.extui v1158
  let v1160 : BitVec 32 := Scalar.subi v1157 v1159
  let v1161 : BitVec 1 := Scalar.cmpi .ne v1155 v1160
  let v1162 : BitVec 32 := Scalar.remsi v1138 c2_i32_443
  let c0_i32_448 : BitVec 32 := 0#32
  let v1163 : BitVec 1 := Scalar.cmpi .ne v1162 c0_i32_448
  let v1164 : BitVec 1 := Scalar.andi v1161 v1163
  let v1150 : BitVec 32 := Scalar.divsi v1138 c2_i32_443
  let c1_i32_449 : BitVec 32 := 1#32
  let v1165 : BitVec 32 := Scalar.subi v1150 c1_i32_449
  let v1166 : BitVec 32 := Scalar.select v1164 v1165 v1150
  let c256_i32_450 : BitVec 32 := 256#32
  let v1167 : BitVec 32 := Scalar.muli v1166 c256_i32_450
  ![5, v1149.toNat, v1167.toNat]
def k0_off48 (i : grid0.Coords) : Fin 3 → Nat :=
  let c6_i32_457 : BitVec 32 := 6#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32_435 : BitVec 32 := 128#32
  let v1138 : BitVec 32 := Scalar.addi v1 c128_i32_435
  let c2_i32_436 : BitVec 32 := 2#32
  let c0_i32_437 : BitVec 32 := 0#32
  let v1139 : BitVec 1 := Scalar.cmpi .eq c2_i32_436 c0_i32_437
  let c1_i32_438 : BitVec 32 := 1#32
  let v1140 : BitVec 32 := Scalar.select v1139 c1_i32_438 c2_i32_436
  let v1141 : BitVec 32 := Scalar.remsi v1138 v1140
  let c0_i32_440 : BitVec 32 := 0#32
  let v1143 : BitVec 1 := Scalar.cmpi .slt v1141 c0_i32_440
  let c0_i32_441 : BitVec 32 := 0#32
  let v1144 : BitVec 1 := Scalar.cmpi .slt v1140 c0_i32_441
  let v1145 : BitVec 1 := Scalar.xori v1143 v1144
  let c0_i32_439 : BitVec 32 := 0#32
  let v1142 : BitVec 1 := Scalar.cmpi .ne v1141 c0_i32_439
  let v1146 : BitVec 1 := Scalar.andi v1145 v1142
  let v1147 : BitVec 32 := Scalar.addi v1141 v1140
  let v1148 : BitVec 32 := Scalar.select v1146 v1147 v1141
  let c16_i32_442 : BitVec 32 := 16#32
  let v1149 : BitVec 32 := Scalar.muli v1148 c16_i32_442
  let c0_i32_444 : BitVec 32 := 0#32
  let v1151 : BitVec 1 := Scalar.cmpi .sgt v1138 c0_i32_444
  let v1152 : BitVec 32 := Scalar.extui v1151
  let c0_i32_445 : BitVec 32 := 0#32
  let v1153 : BitVec 1 := Scalar.cmpi .slt v1138 c0_i32_445
  let v1154 : BitVec 32 := Scalar.extui v1153
  let v1155 : BitVec 32 := Scalar.subi v1152 v1154
  let c2_i32_443 : BitVec 32 := 2#32
  let c0_i32_446 : BitVec 32 := 0#32
  let v1156 : BitVec 1 := Scalar.cmpi .sgt c2_i32_443 c0_i32_446
  let v1157 : BitVec 32 := Scalar.extui v1156
  let c0_i32_447 : BitVec 32 := 0#32
  let v1158 : BitVec 1 := Scalar.cmpi .slt c2_i32_443 c0_i32_447
  let v1159 : BitVec 32 := Scalar.extui v1158
  let v1160 : BitVec 32 := Scalar.subi v1157 v1159
  let v1161 : BitVec 1 := Scalar.cmpi .ne v1155 v1160
  let v1162 : BitVec 32 := Scalar.remsi v1138 c2_i32_443
  let c0_i32_448 : BitVec 32 := 0#32
  let v1163 : BitVec 1 := Scalar.cmpi .ne v1162 c0_i32_448
  let v1164 : BitVec 1 := Scalar.andi v1161 v1163
  let v1150 : BitVec 32 := Scalar.divsi v1138 c2_i32_443
  let c1_i32_449 : BitVec 32 := 1#32
  let v1165 : BitVec 32 := Scalar.subi v1150 c1_i32_449
  let v1166 : BitVec 32 := Scalar.select v1164 v1165 v1150
  let c256_i32_450 : BitVec 32 := 256#32
  let v1167 : BitVec 32 := Scalar.muli v1166 c256_i32_450
  ![6, v1149.toNat, v1167.toNat]
def k0_off49 (i : grid0.Coords) : Fin 3 → Nat :=
  let c7_i32_458 : BitVec 32 := 7#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32_435 : BitVec 32 := 128#32
  let v1138 : BitVec 32 := Scalar.addi v1 c128_i32_435
  let c2_i32_436 : BitVec 32 := 2#32
  let c0_i32_437 : BitVec 32 := 0#32
  let v1139 : BitVec 1 := Scalar.cmpi .eq c2_i32_436 c0_i32_437
  let c1_i32_438 : BitVec 32 := 1#32
  let v1140 : BitVec 32 := Scalar.select v1139 c1_i32_438 c2_i32_436
  let v1141 : BitVec 32 := Scalar.remsi v1138 v1140
  let c0_i32_440 : BitVec 32 := 0#32
  let v1143 : BitVec 1 := Scalar.cmpi .slt v1141 c0_i32_440
  let c0_i32_441 : BitVec 32 := 0#32
  let v1144 : BitVec 1 := Scalar.cmpi .slt v1140 c0_i32_441
  let v1145 : BitVec 1 := Scalar.xori v1143 v1144
  let c0_i32_439 : BitVec 32 := 0#32
  let v1142 : BitVec 1 := Scalar.cmpi .ne v1141 c0_i32_439
  let v1146 : BitVec 1 := Scalar.andi v1145 v1142
  let v1147 : BitVec 32 := Scalar.addi v1141 v1140
  let v1148 : BitVec 32 := Scalar.select v1146 v1147 v1141
  let c16_i32_442 : BitVec 32 := 16#32
  let v1149 : BitVec 32 := Scalar.muli v1148 c16_i32_442
  let c0_i32_444 : BitVec 32 := 0#32
  let v1151 : BitVec 1 := Scalar.cmpi .sgt v1138 c0_i32_444
  let v1152 : BitVec 32 := Scalar.extui v1151
  let c0_i32_445 : BitVec 32 := 0#32
  let v1153 : BitVec 1 := Scalar.cmpi .slt v1138 c0_i32_445
  let v1154 : BitVec 32 := Scalar.extui v1153
  let v1155 : BitVec 32 := Scalar.subi v1152 v1154
  let c2_i32_443 : BitVec 32 := 2#32
  let c0_i32_446 : BitVec 32 := 0#32
  let v1156 : BitVec 1 := Scalar.cmpi .sgt c2_i32_443 c0_i32_446
  let v1157 : BitVec 32 := Scalar.extui v1156
  let c0_i32_447 : BitVec 32 := 0#32
  let v1158 : BitVec 1 := Scalar.cmpi .slt c2_i32_443 c0_i32_447
  let v1159 : BitVec 32 := Scalar.extui v1158
  let v1160 : BitVec 32 := Scalar.subi v1157 v1159
  let v1161 : BitVec 1 := Scalar.cmpi .ne v1155 v1160
  let v1162 : BitVec 32 := Scalar.remsi v1138 c2_i32_443
  let c0_i32_448 : BitVec 32 := 0#32
  let v1163 : BitVec 1 := Scalar.cmpi .ne v1162 c0_i32_448
  let v1164 : BitVec 1 := Scalar.andi v1161 v1163
  let v1150 : BitVec 32 := Scalar.divsi v1138 c2_i32_443
  let c1_i32_449 : BitVec 32 := 1#32
  let v1165 : BitVec 32 := Scalar.subi v1150 c1_i32_449
  let v1166 : BitVec 32 := Scalar.select v1164 v1165 v1150
  let c256_i32_450 : BitVec 32 := 256#32
  let v1167 : BitVec 32 := Scalar.muli v1166 c256_i32_450
  ![7, v1149.toNat, v1167.toNat]
def k0_off50 (i : grid0.Coords) : Fin 3 → Nat :=
  let c8_i32_459 : BitVec 32 := 8#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32_435 : BitVec 32 := 128#32
  let v1138 : BitVec 32 := Scalar.addi v1 c128_i32_435
  let c2_i32_436 : BitVec 32 := 2#32
  let c0_i32_437 : BitVec 32 := 0#32
  let v1139 : BitVec 1 := Scalar.cmpi .eq c2_i32_436 c0_i32_437
  let c1_i32_438 : BitVec 32 := 1#32
  let v1140 : BitVec 32 := Scalar.select v1139 c1_i32_438 c2_i32_436
  let v1141 : BitVec 32 := Scalar.remsi v1138 v1140
  let c0_i32_440 : BitVec 32 := 0#32
  let v1143 : BitVec 1 := Scalar.cmpi .slt v1141 c0_i32_440
  let c0_i32_441 : BitVec 32 := 0#32
  let v1144 : BitVec 1 := Scalar.cmpi .slt v1140 c0_i32_441
  let v1145 : BitVec 1 := Scalar.xori v1143 v1144
  let c0_i32_439 : BitVec 32 := 0#32
  let v1142 : BitVec 1 := Scalar.cmpi .ne v1141 c0_i32_439
  let v1146 : BitVec 1 := Scalar.andi v1145 v1142
  let v1147 : BitVec 32 := Scalar.addi v1141 v1140
  let v1148 : BitVec 32 := Scalar.select v1146 v1147 v1141
  let c16_i32_442 : BitVec 32 := 16#32
  let v1149 : BitVec 32 := Scalar.muli v1148 c16_i32_442
  let c0_i32_444 : BitVec 32 := 0#32
  let v1151 : BitVec 1 := Scalar.cmpi .sgt v1138 c0_i32_444
  let v1152 : BitVec 32 := Scalar.extui v1151
  let c0_i32_445 : BitVec 32 := 0#32
  let v1153 : BitVec 1 := Scalar.cmpi .slt v1138 c0_i32_445
  let v1154 : BitVec 32 := Scalar.extui v1153
  let v1155 : BitVec 32 := Scalar.subi v1152 v1154
  let c2_i32_443 : BitVec 32 := 2#32
  let c0_i32_446 : BitVec 32 := 0#32
  let v1156 : BitVec 1 := Scalar.cmpi .sgt c2_i32_443 c0_i32_446
  let v1157 : BitVec 32 := Scalar.extui v1156
  let c0_i32_447 : BitVec 32 := 0#32
  let v1158 : BitVec 1 := Scalar.cmpi .slt c2_i32_443 c0_i32_447
  let v1159 : BitVec 32 := Scalar.extui v1158
  let v1160 : BitVec 32 := Scalar.subi v1157 v1159
  let v1161 : BitVec 1 := Scalar.cmpi .ne v1155 v1160
  let v1162 : BitVec 32 := Scalar.remsi v1138 c2_i32_443
  let c0_i32_448 : BitVec 32 := 0#32
  let v1163 : BitVec 1 := Scalar.cmpi .ne v1162 c0_i32_448
  let v1164 : BitVec 1 := Scalar.andi v1161 v1163
  let v1150 : BitVec 32 := Scalar.divsi v1138 c2_i32_443
  let c1_i32_449 : BitVec 32 := 1#32
  let v1165 : BitVec 32 := Scalar.subi v1150 c1_i32_449
  let v1166 : BitVec 32 := Scalar.select v1164 v1165 v1150
  let c256_i32_450 : BitVec 32 := 256#32
  let v1167 : BitVec 32 := Scalar.muli v1166 c256_i32_450
  ![8, v1149.toNat, v1167.toNat]
def k0_cond3 (i : grid0.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c28_i32_405 : BitVec 32 := 28#32
  let v1068 : BitVec 1 := Scalar.cmpi .slt v1 c28_i32_405
  let v1069 : BitVec 32 := Scalar.extui v1068
  let c0_i32_406 : BitVec 32 := 0#32
  let v1070 : BitVec 1 := Scalar.cmpi .ne v1069 c0_i32_406
  v1070

def k0_off51 (i : grid0.Coords) : Fin 3 → Nat :=
  let c0_i32_422 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v1071 : BitVec 32 := Scalar.addi v1 c128_i32
  let c2_i32_407 : BitVec 32 := 2#32
  let c0_i32_408 : BitVec 32 := 0#32
  let v1072 : BitVec 1 := Scalar.cmpi .eq c2_i32_407 c0_i32_408
  let c1_i32_409 : BitVec 32 := 1#32
  let v1073 : BitVec 32 := Scalar.select v1072 c1_i32_409 c2_i32_407
  let v1074 : BitVec 32 := Scalar.remsi v1071 v1073
  let c0_i32_411 : BitVec 32 := 0#32
  let v1076 : BitVec 1 := Scalar.cmpi .slt v1074 c0_i32_411
  let c0_i32_412 : BitVec 32 := 0#32
  let v1077 : BitVec 1 := Scalar.cmpi .slt v1073 c0_i32_412
  let v1078 : BitVec 1 := Scalar.xori v1076 v1077
  let c0_i32_410 : BitVec 32 := 0#32
  let v1075 : BitVec 1 := Scalar.cmpi .ne v1074 c0_i32_410
  let v1079 : BitVec 1 := Scalar.andi v1078 v1075
  let v1080 : BitVec 32 := Scalar.addi v1074 v1073
  let v1081 : BitVec 32 := Scalar.select v1079 v1080 v1074
  let c16_i32_413 : BitVec 32 := 16#32
  let v1082 : BitVec 32 := Scalar.muli v1081 c16_i32_413
  let c0_i32_415 : BitVec 32 := 0#32
  let v1084 : BitVec 1 := Scalar.cmpi .sgt v1071 c0_i32_415
  let v1085 : BitVec 32 := Scalar.extui v1084
  let c0_i32_416 : BitVec 32 := 0#32
  let v1086 : BitVec 1 := Scalar.cmpi .slt v1071 c0_i32_416
  let v1087 : BitVec 32 := Scalar.extui v1086
  let v1088 : BitVec 32 := Scalar.subi v1085 v1087
  let c2_i32_414 : BitVec 32 := 2#32
  let c0_i32_417 : BitVec 32 := 0#32
  let v1089 : BitVec 1 := Scalar.cmpi .sgt c2_i32_414 c0_i32_417
  let v1090 : BitVec 32 := Scalar.extui v1089
  let c0_i32_418 : BitVec 32 := 0#32
  let v1091 : BitVec 1 := Scalar.cmpi .slt c2_i32_414 c0_i32_418
  let v1092 : BitVec 32 := Scalar.extui v1091
  let v1093 : BitVec 32 := Scalar.subi v1090 v1092
  let v1094 : BitVec 1 := Scalar.cmpi .ne v1088 v1093
  let v1095 : BitVec 32 := Scalar.remsi v1071 c2_i32_414
  let c0_i32_419 : BitVec 32 := 0#32
  let v1096 : BitVec 1 := Scalar.cmpi .ne v1095 c0_i32_419
  let v1097 : BitVec 1 := Scalar.andi v1094 v1096
  let v1083 : BitVec 32 := Scalar.divsi v1071 c2_i32_414
  let c1_i32_420 : BitVec 32 := 1#32
  let v1098 : BitVec 32 := Scalar.subi v1083 c1_i32_420
  let v1099 : BitVec 32 := Scalar.select v1097 v1098 v1083
  let c256_i32_421 : BitVec 32 := 256#32
  let v1100 : BitVec 32 := Scalar.muli v1099 c256_i32_421
  ![0, v1082.toNat, v1100.toNat]
def k0_off52 (i : grid0.Coords) : Fin 3 → Nat :=
  let c1_i32_423 : BitVec 32 := 1#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v1071 : BitVec 32 := Scalar.addi v1 c128_i32
  let c2_i32_407 : BitVec 32 := 2#32
  let c0_i32_408 : BitVec 32 := 0#32
  let v1072 : BitVec 1 := Scalar.cmpi .eq c2_i32_407 c0_i32_408
  let c1_i32_409 : BitVec 32 := 1#32
  let v1073 : BitVec 32 := Scalar.select v1072 c1_i32_409 c2_i32_407
  let v1074 : BitVec 32 := Scalar.remsi v1071 v1073
  let c0_i32_411 : BitVec 32 := 0#32
  let v1076 : BitVec 1 := Scalar.cmpi .slt v1074 c0_i32_411
  let c0_i32_412 : BitVec 32 := 0#32
  let v1077 : BitVec 1 := Scalar.cmpi .slt v1073 c0_i32_412
  let v1078 : BitVec 1 := Scalar.xori v1076 v1077
  let c0_i32_410 : BitVec 32 := 0#32
  let v1075 : BitVec 1 := Scalar.cmpi .ne v1074 c0_i32_410
  let v1079 : BitVec 1 := Scalar.andi v1078 v1075
  let v1080 : BitVec 32 := Scalar.addi v1074 v1073
  let v1081 : BitVec 32 := Scalar.select v1079 v1080 v1074
  let c16_i32_413 : BitVec 32 := 16#32
  let v1082 : BitVec 32 := Scalar.muli v1081 c16_i32_413
  let c0_i32_415 : BitVec 32 := 0#32
  let v1084 : BitVec 1 := Scalar.cmpi .sgt v1071 c0_i32_415
  let v1085 : BitVec 32 := Scalar.extui v1084
  let c0_i32_416 : BitVec 32 := 0#32
  let v1086 : BitVec 1 := Scalar.cmpi .slt v1071 c0_i32_416
  let v1087 : BitVec 32 := Scalar.extui v1086
  let v1088 : BitVec 32 := Scalar.subi v1085 v1087
  let c2_i32_414 : BitVec 32 := 2#32
  let c0_i32_417 : BitVec 32 := 0#32
  let v1089 : BitVec 1 := Scalar.cmpi .sgt c2_i32_414 c0_i32_417
  let v1090 : BitVec 32 := Scalar.extui v1089
  let c0_i32_418 : BitVec 32 := 0#32
  let v1091 : BitVec 1 := Scalar.cmpi .slt c2_i32_414 c0_i32_418
  let v1092 : BitVec 32 := Scalar.extui v1091
  let v1093 : BitVec 32 := Scalar.subi v1090 v1092
  let v1094 : BitVec 1 := Scalar.cmpi .ne v1088 v1093
  let v1095 : BitVec 32 := Scalar.remsi v1071 c2_i32_414
  let c0_i32_419 : BitVec 32 := 0#32
  let v1096 : BitVec 1 := Scalar.cmpi .ne v1095 c0_i32_419
  let v1097 : BitVec 1 := Scalar.andi v1094 v1096
  let v1083 : BitVec 32 := Scalar.divsi v1071 c2_i32_414
  let c1_i32_420 : BitVec 32 := 1#32
  let v1098 : BitVec 32 := Scalar.subi v1083 c1_i32_420
  let v1099 : BitVec 32 := Scalar.select v1097 v1098 v1083
  let c256_i32_421 : BitVec 32 := 256#32
  let v1100 : BitVec 32 := Scalar.muli v1099 c256_i32_421
  ![1, v1082.toNat, v1100.toNat]
def k0_off53 (i : grid0.Coords) : Fin 3 → Nat :=
  let c2_i32_424 : BitVec 32 := 2#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v1071 : BitVec 32 := Scalar.addi v1 c128_i32
  let c2_i32_407 : BitVec 32 := 2#32
  let c0_i32_408 : BitVec 32 := 0#32
  let v1072 : BitVec 1 := Scalar.cmpi .eq c2_i32_407 c0_i32_408
  let c1_i32_409 : BitVec 32 := 1#32
  let v1073 : BitVec 32 := Scalar.select v1072 c1_i32_409 c2_i32_407
  let v1074 : BitVec 32 := Scalar.remsi v1071 v1073
  let c0_i32_411 : BitVec 32 := 0#32
  let v1076 : BitVec 1 := Scalar.cmpi .slt v1074 c0_i32_411
  let c0_i32_412 : BitVec 32 := 0#32
  let v1077 : BitVec 1 := Scalar.cmpi .slt v1073 c0_i32_412
  let v1078 : BitVec 1 := Scalar.xori v1076 v1077
  let c0_i32_410 : BitVec 32 := 0#32
  let v1075 : BitVec 1 := Scalar.cmpi .ne v1074 c0_i32_410
  let v1079 : BitVec 1 := Scalar.andi v1078 v1075
  let v1080 : BitVec 32 := Scalar.addi v1074 v1073
  let v1081 : BitVec 32 := Scalar.select v1079 v1080 v1074
  let c16_i32_413 : BitVec 32 := 16#32
  let v1082 : BitVec 32 := Scalar.muli v1081 c16_i32_413
  let c0_i32_415 : BitVec 32 := 0#32
  let v1084 : BitVec 1 := Scalar.cmpi .sgt v1071 c0_i32_415
  let v1085 : BitVec 32 := Scalar.extui v1084
  let c0_i32_416 : BitVec 32 := 0#32
  let v1086 : BitVec 1 := Scalar.cmpi .slt v1071 c0_i32_416
  let v1087 : BitVec 32 := Scalar.extui v1086
  let v1088 : BitVec 32 := Scalar.subi v1085 v1087
  let c2_i32_414 : BitVec 32 := 2#32
  let c0_i32_417 : BitVec 32 := 0#32
  let v1089 : BitVec 1 := Scalar.cmpi .sgt c2_i32_414 c0_i32_417
  let v1090 : BitVec 32 := Scalar.extui v1089
  let c0_i32_418 : BitVec 32 := 0#32
  let v1091 : BitVec 1 := Scalar.cmpi .slt c2_i32_414 c0_i32_418
  let v1092 : BitVec 32 := Scalar.extui v1091
  let v1093 : BitVec 32 := Scalar.subi v1090 v1092
  let v1094 : BitVec 1 := Scalar.cmpi .ne v1088 v1093
  let v1095 : BitVec 32 := Scalar.remsi v1071 c2_i32_414
  let c0_i32_419 : BitVec 32 := 0#32
  let v1096 : BitVec 1 := Scalar.cmpi .ne v1095 c0_i32_419
  let v1097 : BitVec 1 := Scalar.andi v1094 v1096
  let v1083 : BitVec 32 := Scalar.divsi v1071 c2_i32_414
  let c1_i32_420 : BitVec 32 := 1#32
  let v1098 : BitVec 32 := Scalar.subi v1083 c1_i32_420
  let v1099 : BitVec 32 := Scalar.select v1097 v1098 v1083
  let c256_i32_421 : BitVec 32 := 256#32
  let v1100 : BitVec 32 := Scalar.muli v1099 c256_i32_421
  ![2, v1082.toNat, v1100.toNat]
def k0_off54 (i : grid0.Coords) : Fin 3 → Nat :=
  let c3_i32_425 : BitVec 32 := 3#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v1071 : BitVec 32 := Scalar.addi v1 c128_i32
  let c2_i32_407 : BitVec 32 := 2#32
  let c0_i32_408 : BitVec 32 := 0#32
  let v1072 : BitVec 1 := Scalar.cmpi .eq c2_i32_407 c0_i32_408
  let c1_i32_409 : BitVec 32 := 1#32
  let v1073 : BitVec 32 := Scalar.select v1072 c1_i32_409 c2_i32_407
  let v1074 : BitVec 32 := Scalar.remsi v1071 v1073
  let c0_i32_411 : BitVec 32 := 0#32
  let v1076 : BitVec 1 := Scalar.cmpi .slt v1074 c0_i32_411
  let c0_i32_412 : BitVec 32 := 0#32
  let v1077 : BitVec 1 := Scalar.cmpi .slt v1073 c0_i32_412
  let v1078 : BitVec 1 := Scalar.xori v1076 v1077
  let c0_i32_410 : BitVec 32 := 0#32
  let v1075 : BitVec 1 := Scalar.cmpi .ne v1074 c0_i32_410
  let v1079 : BitVec 1 := Scalar.andi v1078 v1075
  let v1080 : BitVec 32 := Scalar.addi v1074 v1073
  let v1081 : BitVec 32 := Scalar.select v1079 v1080 v1074
  let c16_i32_413 : BitVec 32 := 16#32
  let v1082 : BitVec 32 := Scalar.muli v1081 c16_i32_413
  let c0_i32_415 : BitVec 32 := 0#32
  let v1084 : BitVec 1 := Scalar.cmpi .sgt v1071 c0_i32_415
  let v1085 : BitVec 32 := Scalar.extui v1084
  let c0_i32_416 : BitVec 32 := 0#32
  let v1086 : BitVec 1 := Scalar.cmpi .slt v1071 c0_i32_416
  let v1087 : BitVec 32 := Scalar.extui v1086
  let v1088 : BitVec 32 := Scalar.subi v1085 v1087
  let c2_i32_414 : BitVec 32 := 2#32
  let c0_i32_417 : BitVec 32 := 0#32
  let v1089 : BitVec 1 := Scalar.cmpi .sgt c2_i32_414 c0_i32_417
  let v1090 : BitVec 32 := Scalar.extui v1089
  let c0_i32_418 : BitVec 32 := 0#32
  let v1091 : BitVec 1 := Scalar.cmpi .slt c2_i32_414 c0_i32_418
  let v1092 : BitVec 32 := Scalar.extui v1091
  let v1093 : BitVec 32 := Scalar.subi v1090 v1092
  let v1094 : BitVec 1 := Scalar.cmpi .ne v1088 v1093
  let v1095 : BitVec 32 := Scalar.remsi v1071 c2_i32_414
  let c0_i32_419 : BitVec 32 := 0#32
  let v1096 : BitVec 1 := Scalar.cmpi .ne v1095 c0_i32_419
  let v1097 : BitVec 1 := Scalar.andi v1094 v1096
  let v1083 : BitVec 32 := Scalar.divsi v1071 c2_i32_414
  let c1_i32_420 : BitVec 32 := 1#32
  let v1098 : BitVec 32 := Scalar.subi v1083 c1_i32_420
  let v1099 : BitVec 32 := Scalar.select v1097 v1098 v1083
  let c256_i32_421 : BitVec 32 := 256#32
  let v1100 : BitVec 32 := Scalar.muli v1099 c256_i32_421
  ![3, v1082.toNat, v1100.toNat]
def k0_off55 (i : grid0.Coords) : Fin 3 → Nat :=
  let c4_i32_426 : BitVec 32 := 4#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v1071 : BitVec 32 := Scalar.addi v1 c128_i32
  let c2_i32_407 : BitVec 32 := 2#32
  let c0_i32_408 : BitVec 32 := 0#32
  let v1072 : BitVec 1 := Scalar.cmpi .eq c2_i32_407 c0_i32_408
  let c1_i32_409 : BitVec 32 := 1#32
  let v1073 : BitVec 32 := Scalar.select v1072 c1_i32_409 c2_i32_407
  let v1074 : BitVec 32 := Scalar.remsi v1071 v1073
  let c0_i32_411 : BitVec 32 := 0#32
  let v1076 : BitVec 1 := Scalar.cmpi .slt v1074 c0_i32_411
  let c0_i32_412 : BitVec 32 := 0#32
  let v1077 : BitVec 1 := Scalar.cmpi .slt v1073 c0_i32_412
  let v1078 : BitVec 1 := Scalar.xori v1076 v1077
  let c0_i32_410 : BitVec 32 := 0#32
  let v1075 : BitVec 1 := Scalar.cmpi .ne v1074 c0_i32_410
  let v1079 : BitVec 1 := Scalar.andi v1078 v1075
  let v1080 : BitVec 32 := Scalar.addi v1074 v1073
  let v1081 : BitVec 32 := Scalar.select v1079 v1080 v1074
  let c16_i32_413 : BitVec 32 := 16#32
  let v1082 : BitVec 32 := Scalar.muli v1081 c16_i32_413
  let c0_i32_415 : BitVec 32 := 0#32
  let v1084 : BitVec 1 := Scalar.cmpi .sgt v1071 c0_i32_415
  let v1085 : BitVec 32 := Scalar.extui v1084
  let c0_i32_416 : BitVec 32 := 0#32
  let v1086 : BitVec 1 := Scalar.cmpi .slt v1071 c0_i32_416
  let v1087 : BitVec 32 := Scalar.extui v1086
  let v1088 : BitVec 32 := Scalar.subi v1085 v1087
  let c2_i32_414 : BitVec 32 := 2#32
  let c0_i32_417 : BitVec 32 := 0#32
  let v1089 : BitVec 1 := Scalar.cmpi .sgt c2_i32_414 c0_i32_417
  let v1090 : BitVec 32 := Scalar.extui v1089
  let c0_i32_418 : BitVec 32 := 0#32
  let v1091 : BitVec 1 := Scalar.cmpi .slt c2_i32_414 c0_i32_418
  let v1092 : BitVec 32 := Scalar.extui v1091
  let v1093 : BitVec 32 := Scalar.subi v1090 v1092
  let v1094 : BitVec 1 := Scalar.cmpi .ne v1088 v1093
  let v1095 : BitVec 32 := Scalar.remsi v1071 c2_i32_414
  let c0_i32_419 : BitVec 32 := 0#32
  let v1096 : BitVec 1 := Scalar.cmpi .ne v1095 c0_i32_419
  let v1097 : BitVec 1 := Scalar.andi v1094 v1096
  let v1083 : BitVec 32 := Scalar.divsi v1071 c2_i32_414
  let c1_i32_420 : BitVec 32 := 1#32
  let v1098 : BitVec 32 := Scalar.subi v1083 c1_i32_420
  let v1099 : BitVec 32 := Scalar.select v1097 v1098 v1083
  let c256_i32_421 : BitVec 32 := 256#32
  let v1100 : BitVec 32 := Scalar.muli v1099 c256_i32_421
  ![4, v1082.toNat, v1100.toNat]
def k0_off56 (i : grid0.Coords) : Fin 3 → Nat :=
  let c5_i32_427 : BitVec 32 := 5#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v1071 : BitVec 32 := Scalar.addi v1 c128_i32
  let c2_i32_407 : BitVec 32 := 2#32
  let c0_i32_408 : BitVec 32 := 0#32
  let v1072 : BitVec 1 := Scalar.cmpi .eq c2_i32_407 c0_i32_408
  let c1_i32_409 : BitVec 32 := 1#32
  let v1073 : BitVec 32 := Scalar.select v1072 c1_i32_409 c2_i32_407
  let v1074 : BitVec 32 := Scalar.remsi v1071 v1073
  let c0_i32_411 : BitVec 32 := 0#32
  let v1076 : BitVec 1 := Scalar.cmpi .slt v1074 c0_i32_411
  let c0_i32_412 : BitVec 32 := 0#32
  let v1077 : BitVec 1 := Scalar.cmpi .slt v1073 c0_i32_412
  let v1078 : BitVec 1 := Scalar.xori v1076 v1077
  let c0_i32_410 : BitVec 32 := 0#32
  let v1075 : BitVec 1 := Scalar.cmpi .ne v1074 c0_i32_410
  let v1079 : BitVec 1 := Scalar.andi v1078 v1075
  let v1080 : BitVec 32 := Scalar.addi v1074 v1073
  let v1081 : BitVec 32 := Scalar.select v1079 v1080 v1074
  let c16_i32_413 : BitVec 32 := 16#32
  let v1082 : BitVec 32 := Scalar.muli v1081 c16_i32_413
  let c0_i32_415 : BitVec 32 := 0#32
  let v1084 : BitVec 1 := Scalar.cmpi .sgt v1071 c0_i32_415
  let v1085 : BitVec 32 := Scalar.extui v1084
  let c0_i32_416 : BitVec 32 := 0#32
  let v1086 : BitVec 1 := Scalar.cmpi .slt v1071 c0_i32_416
  let v1087 : BitVec 32 := Scalar.extui v1086
  let v1088 : BitVec 32 := Scalar.subi v1085 v1087
  let c2_i32_414 : BitVec 32 := 2#32
  let c0_i32_417 : BitVec 32 := 0#32
  let v1089 : BitVec 1 := Scalar.cmpi .sgt c2_i32_414 c0_i32_417
  let v1090 : BitVec 32 := Scalar.extui v1089
  let c0_i32_418 : BitVec 32 := 0#32
  let v1091 : BitVec 1 := Scalar.cmpi .slt c2_i32_414 c0_i32_418
  let v1092 : BitVec 32 := Scalar.extui v1091
  let v1093 : BitVec 32 := Scalar.subi v1090 v1092
  let v1094 : BitVec 1 := Scalar.cmpi .ne v1088 v1093
  let v1095 : BitVec 32 := Scalar.remsi v1071 c2_i32_414
  let c0_i32_419 : BitVec 32 := 0#32
  let v1096 : BitVec 1 := Scalar.cmpi .ne v1095 c0_i32_419
  let v1097 : BitVec 1 := Scalar.andi v1094 v1096
  let v1083 : BitVec 32 := Scalar.divsi v1071 c2_i32_414
  let c1_i32_420 : BitVec 32 := 1#32
  let v1098 : BitVec 32 := Scalar.subi v1083 c1_i32_420
  let v1099 : BitVec 32 := Scalar.select v1097 v1098 v1083
  let c256_i32_421 : BitVec 32 := 256#32
  let v1100 : BitVec 32 := Scalar.muli v1099 c256_i32_421
  ![5, v1082.toNat, v1100.toNat]
def k0_off57 (i : grid0.Coords) : Fin 3 → Nat :=
  let c6_i32_428 : BitVec 32 := 6#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v1071 : BitVec 32 := Scalar.addi v1 c128_i32
  let c2_i32_407 : BitVec 32 := 2#32
  let c0_i32_408 : BitVec 32 := 0#32
  let v1072 : BitVec 1 := Scalar.cmpi .eq c2_i32_407 c0_i32_408
  let c1_i32_409 : BitVec 32 := 1#32
  let v1073 : BitVec 32 := Scalar.select v1072 c1_i32_409 c2_i32_407
  let v1074 : BitVec 32 := Scalar.remsi v1071 v1073
  let c0_i32_411 : BitVec 32 := 0#32
  let v1076 : BitVec 1 := Scalar.cmpi .slt v1074 c0_i32_411
  let c0_i32_412 : BitVec 32 := 0#32
  let v1077 : BitVec 1 := Scalar.cmpi .slt v1073 c0_i32_412
  let v1078 : BitVec 1 := Scalar.xori v1076 v1077
  let c0_i32_410 : BitVec 32 := 0#32
  let v1075 : BitVec 1 := Scalar.cmpi .ne v1074 c0_i32_410
  let v1079 : BitVec 1 := Scalar.andi v1078 v1075
  let v1080 : BitVec 32 := Scalar.addi v1074 v1073
  let v1081 : BitVec 32 := Scalar.select v1079 v1080 v1074
  let c16_i32_413 : BitVec 32 := 16#32
  let v1082 : BitVec 32 := Scalar.muli v1081 c16_i32_413
  let c0_i32_415 : BitVec 32 := 0#32
  let v1084 : BitVec 1 := Scalar.cmpi .sgt v1071 c0_i32_415
  let v1085 : BitVec 32 := Scalar.extui v1084
  let c0_i32_416 : BitVec 32 := 0#32
  let v1086 : BitVec 1 := Scalar.cmpi .slt v1071 c0_i32_416
  let v1087 : BitVec 32 := Scalar.extui v1086
  let v1088 : BitVec 32 := Scalar.subi v1085 v1087
  let c2_i32_414 : BitVec 32 := 2#32
  let c0_i32_417 : BitVec 32 := 0#32
  let v1089 : BitVec 1 := Scalar.cmpi .sgt c2_i32_414 c0_i32_417
  let v1090 : BitVec 32 := Scalar.extui v1089
  let c0_i32_418 : BitVec 32 := 0#32
  let v1091 : BitVec 1 := Scalar.cmpi .slt c2_i32_414 c0_i32_418
  let v1092 : BitVec 32 := Scalar.extui v1091
  let v1093 : BitVec 32 := Scalar.subi v1090 v1092
  let v1094 : BitVec 1 := Scalar.cmpi .ne v1088 v1093
  let v1095 : BitVec 32 := Scalar.remsi v1071 c2_i32_414
  let c0_i32_419 : BitVec 32 := 0#32
  let v1096 : BitVec 1 := Scalar.cmpi .ne v1095 c0_i32_419
  let v1097 : BitVec 1 := Scalar.andi v1094 v1096
  let v1083 : BitVec 32 := Scalar.divsi v1071 c2_i32_414
  let c1_i32_420 : BitVec 32 := 1#32
  let v1098 : BitVec 32 := Scalar.subi v1083 c1_i32_420
  let v1099 : BitVec 32 := Scalar.select v1097 v1098 v1083
  let c256_i32_421 : BitVec 32 := 256#32
  let v1100 : BitVec 32 := Scalar.muli v1099 c256_i32_421
  ![6, v1082.toNat, v1100.toNat]
def k0_off58 (i : grid0.Coords) : Fin 3 → Nat :=
  let c7_i32_429 : BitVec 32 := 7#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v1071 : BitVec 32 := Scalar.addi v1 c128_i32
  let c2_i32_407 : BitVec 32 := 2#32
  let c0_i32_408 : BitVec 32 := 0#32
  let v1072 : BitVec 1 := Scalar.cmpi .eq c2_i32_407 c0_i32_408
  let c1_i32_409 : BitVec 32 := 1#32
  let v1073 : BitVec 32 := Scalar.select v1072 c1_i32_409 c2_i32_407
  let v1074 : BitVec 32 := Scalar.remsi v1071 v1073
  let c0_i32_411 : BitVec 32 := 0#32
  let v1076 : BitVec 1 := Scalar.cmpi .slt v1074 c0_i32_411
  let c0_i32_412 : BitVec 32 := 0#32
  let v1077 : BitVec 1 := Scalar.cmpi .slt v1073 c0_i32_412
  let v1078 : BitVec 1 := Scalar.xori v1076 v1077
  let c0_i32_410 : BitVec 32 := 0#32
  let v1075 : BitVec 1 := Scalar.cmpi .ne v1074 c0_i32_410
  let v1079 : BitVec 1 := Scalar.andi v1078 v1075
  let v1080 : BitVec 32 := Scalar.addi v1074 v1073
  let v1081 : BitVec 32 := Scalar.select v1079 v1080 v1074
  let c16_i32_413 : BitVec 32 := 16#32
  let v1082 : BitVec 32 := Scalar.muli v1081 c16_i32_413
  let c0_i32_415 : BitVec 32 := 0#32
  let v1084 : BitVec 1 := Scalar.cmpi .sgt v1071 c0_i32_415
  let v1085 : BitVec 32 := Scalar.extui v1084
  let c0_i32_416 : BitVec 32 := 0#32
  let v1086 : BitVec 1 := Scalar.cmpi .slt v1071 c0_i32_416
  let v1087 : BitVec 32 := Scalar.extui v1086
  let v1088 : BitVec 32 := Scalar.subi v1085 v1087
  let c2_i32_414 : BitVec 32 := 2#32
  let c0_i32_417 : BitVec 32 := 0#32
  let v1089 : BitVec 1 := Scalar.cmpi .sgt c2_i32_414 c0_i32_417
  let v1090 : BitVec 32 := Scalar.extui v1089
  let c0_i32_418 : BitVec 32 := 0#32
  let v1091 : BitVec 1 := Scalar.cmpi .slt c2_i32_414 c0_i32_418
  let v1092 : BitVec 32 := Scalar.extui v1091
  let v1093 : BitVec 32 := Scalar.subi v1090 v1092
  let v1094 : BitVec 1 := Scalar.cmpi .ne v1088 v1093
  let v1095 : BitVec 32 := Scalar.remsi v1071 c2_i32_414
  let c0_i32_419 : BitVec 32 := 0#32
  let v1096 : BitVec 1 := Scalar.cmpi .ne v1095 c0_i32_419
  let v1097 : BitVec 1 := Scalar.andi v1094 v1096
  let v1083 : BitVec 32 := Scalar.divsi v1071 c2_i32_414
  let c1_i32_420 : BitVec 32 := 1#32
  let v1098 : BitVec 32 := Scalar.subi v1083 c1_i32_420
  let v1099 : BitVec 32 := Scalar.select v1097 v1098 v1083
  let c256_i32_421 : BitVec 32 := 256#32
  let v1100 : BitVec 32 := Scalar.muli v1099 c256_i32_421
  ![7, v1082.toNat, v1100.toNat]
def k0_off59 (i : grid0.Coords) : Fin 3 → Nat :=
  let c8_i32_430 : BitVec 32 := 8#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v1071 : BitVec 32 := Scalar.addi v1 c128_i32
  let c2_i32_407 : BitVec 32 := 2#32
  let c0_i32_408 : BitVec 32 := 0#32
  let v1072 : BitVec 1 := Scalar.cmpi .eq c2_i32_407 c0_i32_408
  let c1_i32_409 : BitVec 32 := 1#32
  let v1073 : BitVec 32 := Scalar.select v1072 c1_i32_409 c2_i32_407
  let v1074 : BitVec 32 := Scalar.remsi v1071 v1073
  let c0_i32_411 : BitVec 32 := 0#32
  let v1076 : BitVec 1 := Scalar.cmpi .slt v1074 c0_i32_411
  let c0_i32_412 : BitVec 32 := 0#32
  let v1077 : BitVec 1 := Scalar.cmpi .slt v1073 c0_i32_412
  let v1078 : BitVec 1 := Scalar.xori v1076 v1077
  let c0_i32_410 : BitVec 32 := 0#32
  let v1075 : BitVec 1 := Scalar.cmpi .ne v1074 c0_i32_410
  let v1079 : BitVec 1 := Scalar.andi v1078 v1075
  let v1080 : BitVec 32 := Scalar.addi v1074 v1073
  let v1081 : BitVec 32 := Scalar.select v1079 v1080 v1074
  let c16_i32_413 : BitVec 32 := 16#32
  let v1082 : BitVec 32 := Scalar.muli v1081 c16_i32_413
  let c0_i32_415 : BitVec 32 := 0#32
  let v1084 : BitVec 1 := Scalar.cmpi .sgt v1071 c0_i32_415
  let v1085 : BitVec 32 := Scalar.extui v1084
  let c0_i32_416 : BitVec 32 := 0#32
  let v1086 : BitVec 1 := Scalar.cmpi .slt v1071 c0_i32_416
  let v1087 : BitVec 32 := Scalar.extui v1086
  let v1088 : BitVec 32 := Scalar.subi v1085 v1087
  let c2_i32_414 : BitVec 32 := 2#32
  let c0_i32_417 : BitVec 32 := 0#32
  let v1089 : BitVec 1 := Scalar.cmpi .sgt c2_i32_414 c0_i32_417
  let v1090 : BitVec 32 := Scalar.extui v1089
  let c0_i32_418 : BitVec 32 := 0#32
  let v1091 : BitVec 1 := Scalar.cmpi .slt c2_i32_414 c0_i32_418
  let v1092 : BitVec 32 := Scalar.extui v1091
  let v1093 : BitVec 32 := Scalar.subi v1090 v1092
  let v1094 : BitVec 1 := Scalar.cmpi .ne v1088 v1093
  let v1095 : BitVec 32 := Scalar.remsi v1071 c2_i32_414
  let c0_i32_419 : BitVec 32 := 0#32
  let v1096 : BitVec 1 := Scalar.cmpi .ne v1095 c0_i32_419
  let v1097 : BitVec 1 := Scalar.andi v1094 v1096
  let v1083 : BitVec 32 := Scalar.divsi v1071 c2_i32_414
  let c1_i32_420 : BitVec 32 := 1#32
  let v1098 : BitVec 32 := Scalar.subi v1083 c1_i32_420
  let v1099 : BitVec 32 := Scalar.select v1097 v1098 v1083
  let c256_i32_421 : BitVec 32 := 256#32
  let v1100 : BitVec 32 := Scalar.muli v1099 c256_i32_421
  ![8, v1082.toNat, v1100.toNat]
abbrev grid1 : Pipeline.Grid := ⟨1, ![1], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c156_i32 : BitVec 32 := 156#32
  let c0_i32_1 : BitVec 32 := 0#32
  ![c0_i32.toNat, c0_i32_0.toNat, c156_i32.toNat]

def cc1_transform_2 (i : grid1.Coords) : Fin 3 → Nat :=
  let arg0 : BitVec 32 := BitVec.ofNat 32 (i 0).val
  let c0_i32 : BitVec 32 := 0#32
  let c0_i32_0 : BitVec 32 := 0#32
  let c156_i32 : BitVec 32 := 156#32
  let c0_i32_1 : BitVec 32 := 0#32
  ![c0_i32.toNat, c0_i32_0.toNat, c156_i32.toNat]

abbrev stage1_0 : Fin 1 → Memref sig .tc .vmem S10x32x128 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S9x32x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== KernelIdeal.lean ====
variable {F : FTy → Type} [FloatOps F] [Named F]
def κ : String → Option EReal := fun
  | "inv640" => some ((640⁻¹ : ℝ) : EReal)
  | _ => none
-- ==== ReferenceIdeal.lean ====
abbrev S32x20000x10 : Shape := ⟨3, ![32, 20000, 10]⟩
abbrev S9 : Shape := ⟨1, ![9]⟩
abbrev S4 : Shape := ⟨1, ![4]⟩
abbrev S_ : Shape := ⟨0, ![]⟩
abbrev S9x1 : Shape := ⟨2, ![9, 1]⟩
abbrev S1 : Shape := ⟨1, ![1]⟩
abbrev S1x1 : Shape := ⟨2, ![1, 1]⟩
abbrev S32x20000x9 : Shape := ⟨3, ![32, 20000, 9]⟩
abbrev S32x20000x4 : Shape := ⟨3, ![32, 20000, 4]⟩
abbrev S32x20000x5 : Shape := ⟨3, ![32, 20000, 5]⟩
abbrev S32x20000x1 : Shape := ⟨3, ![32, 20000, 1]⟩
abbrev S32x20000 : Shape := ⟨2, ![32, 20000]⟩
abbrev S1x1x4 : Shape := ⟨3, ![1, 1, 4]⟩

abbrev nBuf : Space → Nat
  | .hbm => 47
  | .vmem => 0
  | .smem => 0
  | _ => 0

abbrev bufTy : (tb : Table) → Fin (tcTables nBuf tb) → BufTy
  | .hbm, ⟨0, _⟩ => ⟨S32x20000x10, .f32⟩
  | .hbm, ⟨1, _⟩ => ⟨S9, .i32⟩
  | .hbm, ⟨2, _⟩ => ⟨S4, .f32⟩
  | .hbm, ⟨3, _⟩ => ⟨S_, .i32⟩
  | .hbm, ⟨4, _⟩ => ⟨S9, .i32⟩
  | .hbm, ⟨5, _⟩ => ⟨S9, .i1⟩
  | .hbm, ⟨6, _⟩ => ⟨S_, .i32⟩
  | .hbm, ⟨7, _⟩ => ⟨S9, .i32⟩
  | .hbm, ⟨8, _⟩ => ⟨S9, .i32⟩
  | .hbm, ⟨9, _⟩ => ⟨S9, .i32⟩
  | .hbm, ⟨10, _⟩ => ⟨S9x1, .i32⟩
  | .hbm, ⟨11, _⟩ => ⟨S1, .i32⟩
  | .hbm, ⟨12, _⟩ => ⟨S_, .i32⟩
  | .hbm, ⟨13, _⟩ => ⟨S9x1, .i32⟩
  | .hbm, ⟨14, _⟩ => ⟨S9x1, .i1⟩
  | .hbm, ⟨15, _⟩ => ⟨S1x1, .i32⟩
  | .hbm, ⟨16, _⟩ => ⟨S9x1, .i32⟩
  | .hbm, ⟨17, _⟩ => ⟨S9x1, .i1⟩
  | .hbm, ⟨18, _⟩ => ⟨S9x1, .i1⟩
  | .hbm, ⟨19, _⟩ => ⟨S_, .i1⟩
  | .hbm, ⟨20, _⟩ => ⟨S9, .i1⟩
  | .hbm, ⟨21, _⟩ => ⟨S32x20000x9, .f32⟩
  | .hbm, ⟨22, _⟩ => ⟨S32x20000x9, .i1⟩
  | .hbm, ⟨23, _⟩ => ⟨S_, .f32⟩
  | .hbm, ⟨24, _⟩ => ⟨S32x20000x9, .f32⟩
  | .hbm, ⟨25, _⟩ => ⟨S32x20000x9, .f32⟩
  | .hbm, ⟨26, _⟩ => ⟨S32x20000x4, .f32⟩
  | .hbm, ⟨27, _⟩ => ⟨S32x20000x5, .f32⟩
  | .hbm, ⟨28, _⟩ => ⟨S32x20000x1, .f32⟩
  | .hbm, ⟨29, _⟩ => ⟨S32x20000, .f32⟩
  | .hbm, ⟨30, _⟩ => ⟨S32x20000x1, .f32⟩
  | .hbm, ⟨31, _⟩ => ⟨S32x20000, .f32⟩
  | .hbm, ⟨32, _⟩ => ⟨S32x20000x1, .f32⟩
  | .hbm, ⟨33, _⟩ => ⟨S32x20000, .f32⟩
  | .hbm, ⟨34, _⟩ => ⟨S32x20000x1, .f32⟩
  | .hbm, ⟨35, _⟩ => ⟨S32x20000, .f32⟩
  | .hbm, ⟨36, _⟩ => ⟨S32x20000, .f32⟩
  | .hbm, ⟨37, _⟩ => ⟨S32x20000, .f32⟩
  | .hbm, ⟨38, _⟩ => ⟨S32x20000x1, .f32⟩
  | .hbm, ⟨39, _⟩ => ⟨S32x20000x1, .f32⟩
  | .hbm, ⟨40, _⟩ => ⟨S32x20000x1, .f32⟩
  | .hbm, ⟨41, _⟩ => ⟨S32x20000x1, .f32⟩
  | .hbm, ⟨42, _⟩ => ⟨S32x20000x4, .f32⟩
  | .hbm, ⟨43, _⟩ => ⟨S1x1x4, .f32⟩
  | .hbm, ⟨44, _⟩ => ⟨S32x20000x4, .f32⟩
  | .hbm, ⟨45, _⟩ => ⟨S32x20000x4, .f32⟩
  | .hbm, ⟨46, _⟩ => ⟨S32x20000x9, .f32⟩
  | _, _ => ⟨S32x20000x10, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_cst : Ref sig .tc := ⟨.hbm, 2, rfl⟩
abbrev main_call0_c : Ref sig .tc := ⟨.hbm, 3, rfl⟩
abbrev main_call0_v0 : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_c_1 : Ref sig .tc := ⟨.hbm, 11, rfl⟩
abbrev main_call0_c_2 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_3 : Ref sig .tc := ⟨.hbm, 19, rfl⟩
abbrev main_call0_v12 : Ref sig .tc := ⟨.hbm, 20, rfl⟩
abbrev main_call0_v13 : Ref sig .tc := ⟨.hbm, 21, rfl⟩
abbrev main_call0_v14 : Ref sig .tc := ⟨.hbm, 22, rfl⟩
abbrev main_call0_cst : Ref sig .tc := ⟨.hbm, 23, rfl⟩
abbrev main_call0_v15 : Ref sig .tc := ⟨.hbm, 24, rfl⟩
abbrev main_v0 : Ref sig .tc := ⟨.hbm, 25, rfl⟩
abbrev main_v1 : Ref sig .tc := ⟨.hbm, 26, rfl⟩
abbrev main_v2 : Ref sig .tc := ⟨.hbm, 27, rfl⟩
abbrev main_v3 : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩

abbrev nD : Nat := 1
abbrev τ : Topo := Topo.v7x

variable {F : FTy → Type} [FloatOps F]
-- ==== Proof.Ki.Base.lean ====
/-
  The launch set-up, the tile's memrefs in the body's spelling, the partition of the two planar arrays into the blocks the tiles
  move, and the value each block of the result is to hold.
-/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points

@[expose] public section

noncomputable section

namespace Cert.Proof.Ki

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

/-! ## The program as the launch theorem sees it -/

abbrev ΛP : Labels := Pipeline.Sig Λ₀ (Fin 1) fun p => (pcfgs (F := F) p).Adm
abbrev K : SparseCore.Cfg τ sig (ΛP (F := F)) 1 := sc (F := F)
abbrev D : Defs nD τ sig (Elt F) (ΛP (F := F)) := Pipeline.defs pcfgs defs₀
abbrev 𝒱₀ : Variants := Variants.none
abbrev 𝒱 : Variants := 𝒱₀.lift
abbrev v₀ : 𝒱.V := Sum.inl none

omit [FloatOps F] [Named F] in
/-- The call runs on all sixteen tiles of a SparseCore. -/
theorem nSub_zero : (K (F := F)).nSub 0 = 16 := rfl

omit [FloatOps F] [Named F] in
/-- The facts about the call that the launch asks for. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds library, the transfers' counters -/

abbrev UH : Type := URounds (GSem nD τ sig) ℕ
abbrev UP : Type := URounds (GSem nD τ sig) Unit
abbrev UU : Type := UH × (UP × Counters)

local notation "𝕄" => MT nD τ sig (HIx 1) (Elt F) ℕ UU ℕ

abbrev EH : Emb UH (MT nD τ sig (HIx 1) (Elt F) ℕ UU ℕ) := embL
/-- The TensorCore pipeline's ghost state, embedded beside the handshakes'. -/
def EP : Emb UP (MT nD τ sig (HIx 1) (Elt F) ℕ UU ℕ) :=
  ((Emb.inl : Emb UP (UP × Counters)).trans (Emb.inr : Emb (UP × Counters) UU)).trans (uEmb (nD := nD) (sig := sig) (Ix := HIx 1) (Val := Elt F) (Name := ℕ) (U := UU) (Lvl := ℕ)).toEmb
instance EP_landsIn : (EP (F := F)).LandsIn (upEmb : UEmb _ 𝕄) := by unfold EP; infer_instance

/-! ## The launch memory and the buffers -/

abbrev aLoc (d : Dev nD) : Loc nD τ sig := (SparseCore.T d).loc main_arg0
abbrev xLoc (d : Dev nD) : Loc nD τ sig := (SparseCore.T d).loc main_v0
abbrev oLoc (d : Dev nD) : Loc nD τ sig := (SparseCore.T d).loc main_v1
abbrev wLoc (d : Dev nD) : Loc nD τ sig := (SparseCore.T d).loc main_v2
abbrev rLoc (d : Dev nD) : Loc nD τ sig := (SparseCore.T d).loc main_v3

local notation "xV" => (Memref.whole Cert.KernelIdeal.main_v0_scv : Memref Cert.KernelIdeal.sig Kind.scVector Space.hbm Cert.KernelIdeal.S10x32x20000 EltTy.f32)
local notation "oV" => (Memref.whole Cert.KernelIdeal.main_v1_scv : Memref Cert.KernelIdeal.sig Kind.scVector Space.hbm Cert.KernelIdeal.S9x32x20000 EltTy.f32)

/-! ## The tile's coordinates -/

abbrev cV (L : grid0.Coords) : Fin τ.nSC := (L 0).castLE hcore0
abbrev jV (L : grid0.Coords) : Fin τ.nSub := (L 1).castLE hsub0
abbrev VT (d : Dev nD) (L : grid0.Coords) : Thread nD τ := V d (cV L) (jV L)
abbrev wid (L : grid0.Coords) : Nat := (L 1).val * 2 + (L 0).val

/-! ## The blocks -/

/-- Block `u` of plane `p`: rows `16 (u mod 2) ‥ +16`, columns `256 (u / 2) ‥ +256`. -/
def xBlk (p u : Nat) : Finset S10x32x20000.Idx :=
  Finset.univ.filter fun x => (x 0).val = p ∧ (x 1).val / 16 = u % 2 ∧ (x 2).val / 256 = u / 2
def oBlk (p u : Nat) : Finset S9x32x20000.Idx :=
  Finset.univ.filter fun x => (x 0).val = p ∧ (x 1).val / 16 = u % 2 ∧ (x 2).val / 256 = u / 2

/-- The offsets of block `u` of plane `p`. -/
abbrev bOff (p u : Nat) : Fin 3 → Nat := ![p, u % 2 * 16, u / 2 * 256]

/-- A `[1,16,256]` window of the planar operand, squeezed to `[16,256]`, as the body slices it. -/
abbrev xWin (off : Fin 3 → Nat) (h : ∀ a, off a + S1x16x256.size a ≤ S10x32x20000.size a) : Memref sig .scVector .hbm S16x256 .f32 :=
  ((xV).slice (Rect.unit (s := S10x32x20000) off S1x16x256.size h) (fun _ => rfl)).squeeze S16x256 squeezes_S1x16x256_S16x256
abbrev oWin (off : Fin 3 → Nat) (h : ∀ a, off a + S1x16x256.size a ≤ S9x32x20000.size a) : Memref sig .scVector .hbm S16x256 .f32 :=
  ((oV).slice (Rect.unit (s := S9x32x20000) off S1x16x256.size h) (fun _ => rfl)).squeeze S16x256 squeezes_S1x16x256_S16x256

/-- An index of a block, seen in the block with its leading axis of one: the two coordinates are the same. -/
theorem sq_emb : ∀ y : S16x256.Idx, ∀ a, ((Shape.reshapeEquiv (s := S1x16x256) (s' := S16x256) squeezes_S1x16x256_S16x256.numel_eq) y a).val
    = (![0, (y 0).val, (y 1).val] : Fin 3 → Nat) a := by decide +kernel

/-- Where an index of a window lies in the planar operand. -/
theorem xWin_emb (off) (h) (y : S16x256.Idx) (a : Fin 3) :
    ((xWin off h).view.emb y a).val = off a + (![0, (y 0).val, (y 1).val] : Fin 3 → Nat) a := by
  show (off a + 1 * ((Shape.reshapeEquiv squeezes_S1x16x256_S16x256.numel_eq) y a).val) = _
  rw [sq_emb y a, one_mul]
/-- Where an index of a window lies in the planar result. -/
theorem oWin_emb (off) (h) (y : S16x256.Idx) (a : Fin 3) :
    ((oWin off h).view.emb y a).val = off a + (![0, (y 0).val, (y 1).val] : Fin 3 → Nat) a := by
  show (off a + 1 * ((Shape.reshapeEquiv squeezes_S1x16x256_S16x256.numel_eq) y a).val) = _
  rw [sq_emb y a, one_mul]

/-- A window of the operand at block `u` of plane `p` covers that block. -/
theorem xWin_set (off) (h) (p u : Nat) (e : ∀ a, off a = bOff p u a) : (xWin off h).view.set = xBlk p u := by
  obtain rfl : off = bOff p u := funext e
  show (((xV).view.slice (Rect.unit (s := S10x32x20000) _ S1x16x256.size h)).reshape S16x256 squeezes_S1x16x256_S16x256.numel_eq).set = _
  rw [View.set_reshape]
  show ((View.whole (main_v0_scv : Ref sig .scVector)).slice _).set = _
  rw [View.set_slice]
  refine Finset.map_refl.trans ?_
  ext x
  rw [Rect.mem_set_unit, xBlk, Finset.mem_filter]
  constructor
  · intro hx
    have h0 : p ≤ (x 0).val ∧ (x 0).val < p + 1 := hx 0
    have h1 : u % 2 * 16 ≤ (x 1).val ∧ (x 1).val < u % 2 * 16 + 16 := hx 1
    have h2 : u / 2 * 256 ≤ (x 2).val ∧ (x 2).val < u / 2 * 256 + 256 := hx 2
    exact ⟨Finset.mem_univ _, by omega, by omega, by omega⟩
  · rintro ⟨-, h0, h1, h2⟩ a
    fin_cases a
    · show p ≤ (x 0).val ∧ (x 0).val < p + 1; omega
    · show u % 2 * 16 ≤ (x 1).val ∧ (x 1).val < u % 2 * 16 + 16; omega
    · show u / 2 * 256 ≤ (x 2).val ∧ (x 2).val < u / 2 * 256 + 256; omega
/-- A window of the result at block `u` of plane `p` covers that block. -/
theorem oWin_set (off) (h) (p u : Nat) (e : ∀ a, off a = bOff p u a) : (oWin off h).view.set = oBlk p u := by
  obtain rfl : off = bOff p u := funext e
  show (((oV).view.slice (Rect.unit (s := S9x32x20000) _ S1x16x256.size h)).reshape S16x256 squeezes_S1x16x256_S16x256.numel_eq).set = _
  rw [View.set_reshape]
  show ((View.whole (main_v1_scv : Ref sig .scVector)).slice _).set = _
  rw [View.set_slice]
  refine Finset.map_refl.trans ?_
  ext x
  rw [Rect.mem_set_unit, oBlk, Finset.mem_filter]
  constructor
  · intro hx
    have h0 : p ≤ (x 0).val ∧ (x 0).val < p + 1 := hx 0
    have h1 : u % 2 * 16 ≤ (x 1).val ∧ (x 1).val < u % 2 * 16 + 16 := hx 1
    have h2 : u / 2 * 256 ≤ (x 2).val ∧ (x 2).val < u / 2 * 256 + 256 := hx 2
    exact ⟨Finset.mem_univ _, by omega, by omega, by omega⟩
  · rintro ⟨-, h0, h1, h2⟩ a
    fin_cases a
    · show p ≤ (x 0).val ∧ (x 0).val < p + 1; omega
    · show u % 2 * 16 ≤ (x 1).val ∧ (x 1).val < u % 2 * 16 + 16; omega
    · show u / 2 * 256 ≤ (x 2).val ∧ (x 2).val < u / 2 * 256 + 256; omega

/-! ## The values -/

/-- The scale. -/
abbrev SC : F .f32 := Named.named κ "inv640" 0x3ACCCCCD#32

/-- What plane `c` of the result holds, from the ten planes at one place. -/
def outv (X : Fin 10 → F .f32) (c : Fin 9) : F .f32 :=
  match c with
  | 0 => FloatOps.mulf (X 0) SC
  | 1 => FloatOps.mulf (X 1) SC
  | 2 => FloatOps.mulf (FloatOps.subf (X 2) (X 0)) SC
  | 3 => FloatOps.mulf (FloatOps.subf (X 3) (X 1)) SC
  | 4 => X 6
  | 5 => X 7
  | 6 => X 8
  | 7 => X 9
  | 8 => X 4

abbrev XC : Type := S10x32x20000.Idx → F .f32
abbrev OC : Type := S9x32x20000.Idx → F .f32

/-- An index of the planar operand / of the planar result. -/
def xix (p : Fin 10) (y : Fin 32) (z : Fin 20000) : S10x32x20000.Idx := fun | 0 => p | 1 => y | 2 => z

/-- The whole planar result from the planar operand. -/
def OUT (X : XC (F := F)) : OC (F := F) := fun x => outv (fun p => X (xix p (x 1) (x 2))) (x 0)
/-- What the SparseCore call leaves: the result on the columns its blocks cover, the old contents past them. -/
def OUTF (X : XC (F := F)) (V1 : OC (F := F)) : OC (F := F) := fun x => if (x 2).val < 19968 then OUT X x else V1 x

end Cert.Proof.Ki

end
-- ==== Proof.Ki.Offs.lean ====
/-
  The offsets the body computes, in closed form: block `wid + 32 r` of each plane for the transfers, sixteen lanes at group `k` for the
  loops; the three branch conditions agree.
-/
module

public import proofs.«01_k».proof.Proof.Ki.Base

@[expose] public section

set_option Elab.async false

noncomputable section

namespace Cert.Proof.Ki

open Cert.KernelIdeal Cert.KernelIdeal.Gen
open Idealize.ShloMosaic

/-- The offset 1 is the block's place on its plane. -/
theorem off1_eq : ∀ (i : grid0.Coords) (r : Fin 4) (a : Fin 3), k0_off1 i (BitVec.ofNat 32 (32 * r.val)) a = bOff 0 (wid i + 32 * r.val) a := by decide +kernel
/-- The offset 2 is the block's place on its plane. -/
theorem off2_eq : ∀ (i : grid0.Coords) (r : Fin 4) (a : Fin 3), k0_off2 i (BitVec.ofNat 32 (32 * r.val)) a = bOff 1 (wid i + 32 * r.val) a := by decide +kernel
/-- The offset 3 is the block's place on its plane. -/
theorem off3_eq : ∀ (i : grid0.Coords) (r : Fin 4) (a : Fin 3), k0_off3 i (BitVec.ofNat 32 (32 * r.val)) a = bOff 2 (wid i + 32 * r.val) a := by decide +kernel
/-- The offset 4 is the block's place on its plane. -/
theorem off4_eq : ∀ (i : grid0.Coords) (r : Fin 4) (a : Fin 3), k0_off4 i (BitVec.ofNat 32 (32 * r.val)) a = bOff 3 (wid i + 32 * r.val) a := by decide +kernel
/-- The offset 5 is the block's place on its plane. -/
theorem off5_eq : ∀ (i : grid0.Coords) (r : Fin 4) (a : Fin 3), k0_off5 i (BitVec.ofNat 32 (32 * r.val)) a = bOff 4 (wid i + 32 * r.val) a := by decide +kernel
/-- The offset 6 is the block's place on its plane. -/
theorem off6_eq : ∀ (i : grid0.Coords) (r : Fin 4) (a : Fin 3), k0_off6 i (BitVec.ofNat 32 (32 * r.val)) a = bOff 6 (wid i + 32 * r.val) a := by decide +kernel
/-- The offset 7 is the block's place on its plane. -/
theorem off7_eq : ∀ (i : grid0.Coords) (r : Fin 4) (a : Fin 3), k0_off7 i (BitVec.ofNat 32 (32 * r.val)) a = bOff 7 (wid i + 32 * r.val) a := by decide +kernel
/-- The offset 8 is the block's place on its plane. -/
theorem off8_eq : ∀ (i : grid0.Coords) (r : Fin 4) (a : Fin 3), k0_off8 i (BitVec.ofNat 32 (32 * r.val)) a = bOff 8 (wid i + 32 * r.val) a := by decide +kernel
/-- The offset 9 is the block's place on its plane. -/
theorem off9_eq : ∀ (i : grid0.Coords) (r : Fin 4) (a : Fin 3), k0_off9 i (BitVec.ofNat 32 (32 * r.val)) a = bOff 9 (wid i + 32 * r.val) a := by decide +kernel
/-- The offset 11 is the block's place on its plane. -/
theorem off11_eq : ∀ (i : grid0.Coords) (r : Fin 4) (a : Fin 3), k0_off11 i (BitVec.ofNat 32 (32 * r.val)) a = bOff 0 (wid i + 32 * r.val) a := by decide +kernel
/-- The offset 12 is the block's place on its plane. -/
theorem off12_eq : ∀ (i : grid0.Coords) (r : Fin 4) (a : Fin 3), k0_off12 i (BitVec.ofNat 32 (32 * r.val)) a = bOff 1 (wid i + 32 * r.val) a := by decide +kernel
/-- The offset 13 is the block's place on its plane. -/
theorem off13_eq : ∀ (i : grid0.Coords) (r : Fin 4) (a : Fin 3), k0_off13 i (BitVec.ofNat 32 (32 * r.val)) a = bOff 2 (wid i + 32 * r.val) a := by decide +kernel
/-- The offset 14 is the block's place on its plane. -/
theorem off14_eq : ∀ (i : grid0.Coords) (r : Fin 4) (a : Fin 3), k0_off14 i (BitVec.ofNat 32 (32 * r.val)) a = bOff 3 (wid i + 32 * r.val) a := by decide +kernel
/-- The offset 15 is the block's place on its plane. -/
theorem off15_eq : ∀ (i : grid0.Coords) (r : Fin 4) (a : Fin 3), k0_off15 i (BitVec.ofNat 32 (32 * r.val)) a = bOff 4 (wid i + 32 * r.val) a := by decide +kernel
/-- The offset 16 is the block's place on its plane. -/
theorem off16_eq : ∀ (i : grid0.Coords) (r : Fin 4) (a : Fin 3), k0_off16 i (BitVec.ofNat 32 (32 * r.val)) a = bOff 5 (wid i + 32 * r.val) a := by decide +kernel
/-- The offset 17 is the block's place on its plane. -/
theorem off17_eq : ∀ (i : grid0.Coords) (r : Fin 4) (a : Fin 3), k0_off17 i (BitVec.ofNat 32 (32 * r.val)) a = bOff 6 (wid i + 32 * r.val) a := by decide +kernel
/-- The offset 18 is the block's place on its plane. -/
theorem off18_eq : ∀ (i : grid0.Coords) (r : Fin 4) (a : Fin 3), k0_off18 i (BitVec.ofNat 32 (32 * r.val)) a = bOff 7 (wid i + 32 * r.val) a := by decide +kernel
/-- The offset 19 is the block's place on its plane. -/
theorem off19_eq : ∀ (i : grid0.Coords) (r : Fin 4) (a : Fin 3), k0_off19 i (BitVec.ofNat 32 (32 * r.val)) a = bOff 8 (wid i + 32 * r.val) a := by decide +kernel
/-- The offset 22 is the block's place on its plane. -/
theorem off22_eq : ∀ (i : grid0.Coords) (a : Fin 3), k0_off22 i a = bOff 0 (wid i + 128) a := by decide +kernel
/-- The offset 23 is the block's place on its plane. -/
theorem off23_eq : ∀ (i : grid0.Coords) (a : Fin 3), k0_off23 i a = bOff 1 (wid i + 128) a := by decide +kernel
/-- The offset 24 is the block's place on its plane. -/
theorem off24_eq : ∀ (i : grid0.Coords) (a : Fin 3), k0_off24 i a = bOff 2 (wid i + 128) a := by decide +kernel
/-- The offset 25 is the block's place on its plane. -/
theorem off25_eq : ∀ (i : grid0.Coords) (a : Fin 3), k0_off25 i a = bOff 3 (wid i + 128) a := by decide +kernel
/-- The offset 26 is the block's place on its plane. -/
theorem off26_eq : ∀ (i : grid0.Coords) (a : Fin 3), k0_off26 i a = bOff 4 (wid i + 128) a := by decide +kernel
/-- The offset 27 is the block's place on its plane. -/
theorem off27_eq : ∀ (i : grid0.Coords) (a : Fin 3), k0_off27 i a = bOff 6 (wid i + 128) a := by decide +kernel
/-- The offset 28 is the block's place on its plane. -/
theorem off28_eq : ∀ (i : grid0.Coords) (a : Fin 3), k0_off28 i a = bOff 7 (wid i + 128) a := by decide +kernel
/-- The offset 29 is the block's place on its plane. -/
theorem off29_eq : ∀ (i : grid0.Coords) (a : Fin 3), k0_off29 i a = bOff 8 (wid i + 128) a := by decide +kernel
/-- The offset 30 is the block's place on its plane. -/
theorem off30_eq : ∀ (i : grid0.Coords) (a : Fin 3), k0_off30 i a = bOff 9 (wid i + 128) a := by decide +kernel
/-- The offset 42 is the block's place on its plane. -/
theorem off42_eq : ∀ (i : grid0.Coords) (a : Fin 3), k0_off42 i a = bOff 0 (wid i + 128) a := by decide +kernel
/-- The offset 43 is the block's place on its plane. -/
theorem off43_eq : ∀ (i : grid0.Coords) (a : Fin 3), k0_off43 i a = bOff 1 (wid i + 128) a := by decide +kernel
/-- The offset 44 is the block's place on its plane. -/
theorem off44_eq : ∀ (i : grid0.Coords) (a : Fin 3), k0_off44 i a = bOff 2 (wid i + 128) a := by decide +kernel
/-- The offset 45 is the block's place on its plane. -/
theorem off45_eq : ∀ (i : grid0.Coords) (a : Fin 3), k0_off45 i a = bOff 3 (wid i + 128) a := by decide +kernel
/-- The offset 46 is the block's place on its plane. -/
theorem off46_eq : ∀ (i : grid0.Coords) (a : Fin 3), k0_off46 i a = bOff 4 (wid i + 128) a := by decide +kernel
/-- The offset 47 is the block's place on its plane. -/
theorem off47_eq : ∀ (i : grid0.Coords) (a : Fin 3), k0_off47 i a = bOff 5 (wid i + 128) a := by decide +kernel
/-- The offset 48 is the block's place on its plane. -/
theorem off48_eq : ∀ (i : grid0.Coords) (a : Fin 3), k0_off48 i a = bOff 6 (wid i + 128) a := by decide +kernel
/-- The offset 49 is the block's place on its plane. -/
theorem off49_eq : ∀ (i : grid0.Coords) (a : Fin 3), k0_off49 i a = bOff 7 (wid i + 128) a := by decide +kernel
/-- The offset 50 is the block's place on its plane. -/
theorem off50_eq : ∀ (i : grid0.Coords) (a : Fin 3), k0_off50 i a = bOff 8 (wid i + 128) a := by decide +kernel
/-- The offset 10 of a loop: sixteen lanes at group `k`. -/
theorem off10_eq : ∀ (k : Fin k0_t1_loop.trips) (a : Fin 2), k0_off10 k a = (![k.val / 16, k.val % 16 * 16] : Fin 2 → Nat) a := by decide +kernel
/-- The offset 20 of a loop: sixteen lanes at group `k`. -/
theorem off20_eq : ∀ (k : Fin k0_t2_loop.trips) (a : Fin 2), k0_off20 k a = (![k.val / 16, k.val % 16 * 16] : Fin 2 → Nat) a := by decide +kernel
/-- The offset 21 of a loop: sixteen lanes at group `k`. -/
theorem off21_eq : ∀ (k : Fin k0_t3_loop.trips) (a : Fin 2), k0_off21 k a = (![k.val / 16, k.val % 16 * 16] : Fin 2 → Nat) a := by decide +kernel
/-- The offset 31 of a loop: sixteen lanes at group `k`. -/
theorem off31_eq : ∀ (k : Fin k0_t4_loop.trips) (a : Fin 2), k0_off31 k a = (![k.val / 16, k.val % 16 * 16] : Fin 2 → Nat) a := by decide +kernel
/-- The offset 41 of a loop: sixteen lanes at group `k`. -/
theorem off41_eq : ∀ (k : Fin k0_t5_loop.trips) (a : Fin 2), k0_off41 k a = (![k.val / 16, k.val % 16 * 16] : Fin 2 → Nat) a := by decide +kernel

/-- The test 1 for the last round holds on the first 28 tiles. -/
theorem cond1_iff : ∀ i : grid0.Coords, k0_cond1 i = 1#1 ↔ wid i < 28 := by decide +kernel
/-- The test 2 for the last round holds on the first 28 tiles. -/
theorem cond2_iff : ∀ i : grid0.Coords, k0_cond2 i = 1#1 ↔ wid i < 28 := by decide +kernel
/-- The test 3 for the last round holds on the first 28 tiles. -/
theorem cond3_iff : ∀ i : grid0.Coords, k0_cond3 i = 1#1 ↔ wid i < 28 := by decide +kernel
/-- There are 32 tiles. -/
theorem wid_lt : ∀ i : grid0.Coords, wid i < 32 := by decide +kernel

end Cert.Proof.Ki

end
-- ==== Proof.Ki.Vals.lean ====
/-
  The contents of a tile's buffers as functions of the planar operand, and what a trip of the scaling loop stores: sixteen lanes of
  the scaled planes over what was there.
-/
module

public import proofs.«01_k».proof.Proof.Ki.Offs

@[expose] public section

noncomputable section

namespace Cert.Proof.Ki

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

/-- Lane group of a buffer index: a loop's trip `k` handles group `k`. -/
def grp (y : S16x256.Idx) : Nat := (y 0).val * 16 + (y 1).val / 16

/-- A buffer after `k` trips: the groups below `k` at the new values. -/
def stp (k : Nat) (new old : S16x256.Idx → F .f32) : S16x256.Idx → F .f32 := fun y => if grp y < k then new y else old y

/-- Before the first trip a buffer holds the old values. -/
theorem stp_zero (new old : S16x256.Idx → F .f32) : stp 0 new old = old := by
  funext y; simp [stp]
/-- After the last trip a buffer holds the new values. -/
theorem stp_full (new old : S16x256.Idx → F .f32) : stp 256 new old = new := by
  funext y
  have h0 : (y 0).val < 16 := (y 0).isLt
  have h1 : (y 1).val < 256 := (y 1).isLt
  have : grp y < 256 := by unfold grp; omega
  simp [stp, this]

/-- The scaled plane, and the scaled difference of two planes. -/
def sA (x : S16x256.Idx → F .f32) : S16x256.Idx → F .f32 := fun y => FloatOps.mulf (x y) SC
def sD (x z : S16x256.Idx → F .f32) : S16x256.Idx → F .f32 := fun y => FloatOps.mulf (FloatOps.subf (x y) (z y)) SC

/-- Where a lane of the rectangle at group `k` lies. -/
theorem lane_emb (off : Fin 2 → Nat) (h : ∀ a, off a + S1x16.size a ≤ S16x256.size a) (k : Nat)
    (e : ∀ a, off a = (![k / 16, k % 16 * 16] : Fin 2 → Nat) a) (z : S1x16.Idx) :
    grp ((Rect.unit (s := S16x256) off S1x16.size h).emb z) = k := by
  have e0 : (((Rect.unit (s := S16x256) off S1x16.size h).emb z) 0).val = off 0 + 1 * (z 0).val := rfl
  have e1 : (((Rect.unit (s := S16x256) off S1x16.size h).emb z) 1).val = off 1 + 1 * (z 1).val := rfl
  have h0 : off 0 = k / 16 := e 0
  have h1 : off 1 = k % 16 * 16 := e 1
  have z0 : (z 0).val < 1 := (z 0).isLt
  have z1 : (z 1).val < 16 := (z 1).isLt
  unfold grp; rw [e0, e1, h0, h1]; omega
/-- The lanes stored by trip `k` are those of group `k`. -/
theorem lane_mem (off : Fin 2 → Nat) (h : ∀ a, off a + S1x16.size a ≤ S16x256.size a) (k : Nat) (hk : k < 256)
    (e : ∀ a, off a = (![k / 16, k % 16 * 16] : Fin 2 → Nat) a) (y : S16x256.Idx) (hy : grp y = k) :
    y ∈ (Rect.unit (s := S16x256) off S1x16.size h).set := by
  rw [Rect.mem_set_unit]
  have h0 : off 0 = k / 16 := e 0
  have h1 : off 1 = k % 16 * 16 := e 1
  have y0 : (y 0).val < 16 := (y 0).isLt
  have y1 : (y 1).val < 256 := (y 1).isLt
  unfold grp at hy
  intro a; fin_cases a
  · show off 0 ≤ (y 0).val ∧ (y 0).val < off 0 + 1; omega
  · show off 1 ≤ (y 1).val ∧ (y 1).val < off 1 + 16; omega

/-- The store of group `k`. -/
theorem store_stp (m : Memref sig .scVector .vmem S16x256 .f32) (off : Fin 2 → Nat) (h : ∀ a, off a + S1x16.size a ≤ S16x256.size a) (k : Nat) (hk : k < 256)
    (e : ∀ a, off a = (![k / 16, k % 16 * 16] : Fin 2 → Nat) a) (new old : S16x256.Idx → F .f32)
    (f : m.view.ty.Contents (Elt F)) (hf : m.view.read (Elt F) f = stp k new old)
    (w : S1x16.Idx → F .f32) (hw : ∀ z, w z = new ((Rect.unit (s := S16x256) off S1x16.size h).emb z)) :
    m.view.read (Elt F) (m.view.writes (Elt F) f [⟨Rect.unit (s := S16x256) off S1x16.size h, w⟩]) = stp (k + 1) new old := by
  funext y
  by_cases hy : grp y = k
  · obtain ⟨z, hz⟩ := (Rect.unit (s := S16x256) off S1x16.size h).exists_idx_of_mem (lane_mem off h k hk e y hy)
    obtain rfl : (Rect.unit (s := S16x256) off S1x16.size h).emb z = y := hz
    rw [View.read_writes_cons_emb, hw]
    simp [stp, hy]
  · rw [View.read_writes_apply_of_forall_not_mem, hf]
    · have : grp y < k + 1 ↔ grp y < k := by omega
      simp only [stp, this]
    · intro p hp hy'
      rw [List.mem_singleton] at hp; subst hp
      obtain ⟨z, rfl⟩ := (Rect.unit (s := S16x256) off S1x16.size h).exists_idx_of_mem hy'
      exact hy (lane_emb off h k e z)

/-- A lane re-shaped to sixteen and back. -/
theorem lane_cast (G : S1x16.Idx → F .f32) (z : S1x16.Idx) :
    G (Shape.reshapeEquiv shapeCasts_S1x16_S16 (Shape.reshapeEquiv shapeCasts_S16_S1x16 z)) = G z := by
  rw [Shape.reshapeEquiv_reshapeEquiv, Shape.reshapeEquiv_self]

/-- What a load of group `k` reads before that group's store. -/
theorem ld_stp (off : Fin 2 → Nat) (h : ∀ a, off a + S1x16.size a ≤ S16x256.size a) (k : Nat)
    (e : ∀ a, off a = (![k / 16, k % 16 * 16] : Fin 2 → Nat) a) (new old : S16x256.Idx → F .f32) (z : S1x16.Idx) :
    stp k new old ((Rect.unit (s := S16x256) off S1x16.size h).emb z) = old ((Rect.unit (s := S16x256) off S1x16.size h).emb z) := by
  unfold stp; rw [lane_emb off h k e z, if_neg (Nat.lt_irrefl k)]

/-- The lanes stored for a scaled plane, and for a scaled difference. -/
theorem lanes_sA (off : Fin 2 → Nat) (h : ∀ a, off a + S1x16.size a ≤ S16x256.size a) (k : Nat)
    (e : ∀ a, off a = (![k / 16, k % 16 * 16] : Fin 2 → Nat) a) (new old : S16x256.Idx → F .f32) (z : S1x16.Idx) :
    FloatOps.mulf (stp k new old ((Rect.unit (s := S16x256) off S1x16.size h).emb
        (Shape.reshapeEquiv shapeCasts_S1x16_S16 (Shape.reshapeEquiv shapeCasts_S16_S1x16 z)))) SC
      = sA old ((Rect.unit (s := S16x256) off S1x16.size h).emb z) := by
  rw [ld_stp off h k e, lane_cast (fun z => old ((Rect.unit (s := S16x256) off S1x16.size h).emb z))]; rfl
/-- The lanes trip `k` computes for a scaled difference are its values there. -/
theorem lanes_sD (off : Fin 2 → Nat) (h : ∀ a, off a + S1x16.size a ≤ S16x256.size a) (k : Nat)
    (e : ∀ a, off a = (![k / 16, k % 16 * 16] : Fin 2 → Nat) a) (new old new' old' : S16x256.Idx → F .f32) (z : S1x16.Idx) :
    FloatOps.mulf (FloatOps.subf (stp k new old ((Rect.unit (s := S16x256) off S1x16.size h).emb
        (Shape.reshapeEquiv shapeCasts_S1x16_S16 (Shape.reshapeEquiv shapeCasts_S16_S1x16 z))))
        (stp k new' old' ((Rect.unit (s := S16x256) off S1x16.size h).emb
        (Shape.reshapeEquiv shapeCasts_S1x16_S16 (Shape.reshapeEquiv shapeCasts_S16_S1x16 z))))) SC
      = sD old old' ((Rect.unit (s := S16x256) off S1x16.size h).emb z) := by
  rw [ld_stp off h k e, ld_stp off h k e, lane_cast (fun z => old ((Rect.unit (s := S16x256) off S1x16.size h).emb z)),
    lane_cast (fun z => old' ((Rect.unit (s := S16x256) off S1x16.size h).emb z))]; rfl

end Cert.Proof.Ki

end
-- ==== Proof.Ki.Loop.lean ====
/-
  One trip of each of the five scaling loops, on the buffers of its set: group `k` of the first four buffers goes from the planes as
  fetched to the scaled planes and differences.
-/
module

public import proofs.«01_k».proof.Proof.Ki.Vals

@[expose] public section

noncomputable section

namespace Cert.Proof.Ki

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ
local notation "xV" => (Memref.whole Cert.KernelIdeal.main_v0_scv : Memref Cert.KernelIdeal.sig Kind.scVector Space.hbm Cert.KernelIdeal.S10x32x20000 EltTy.f32)
local notation "oV" => (Memref.whole Cert.KernelIdeal.main_v1_scv : Memref Cert.KernelIdeal.sig Kind.scVector Space.hbm Cert.KernelIdeal.S9x32x20000 EltTy.f32)
local notation "b0" => (Memref.whole Cert.KernelIdeal.cc0_scratch0 : Memref Cert.KernelIdeal.sig Kind.scVector Space.vmem Cert.KernelIdeal.S16x256 EltTy.f32)
local notation "b1" => (Memref.whole Cert.KernelIdeal.cc0_scratch1 : Memref Cert.KernelIdeal.sig Kind.scVector Space.vmem Cert.KernelIdeal.S16x256 EltTy.f32)
local notation "b2" => (Memref.whole Cert.KernelIdeal.cc0_scratch2 : Memref Cert.KernelIdeal.sig Kind.scVector Space.vmem Cert.KernelIdeal.S16x256 EltTy.f32)
local notation "b3" => (Memref.whole Cert.KernelIdeal.cc0_scratch3 : Memref Cert.KernelIdeal.sig Kind.scVector Space.vmem Cert.KernelIdeal.S16x256 EltTy.f32)
local notation "b4" => (Memref.whole Cert.KernelIdeal.cc0_scratch4 : Memref Cert.KernelIdeal.sig Kind.scVector Space.vmem Cert.KernelIdeal.S16x256 EltTy.f32)
local notation "b5" => (Memref.whole Cert.KernelIdeal.cc0_scratch5 : Memref Cert.KernelIdeal.sig Kind.scVector Space.vmem Cert.KernelIdeal.S16x256 EltTy.f32)
local notation "b6" => (Memref.whole Cert.KernelIdeal.cc0_scratch6 : Memref Cert.KernelIdeal.sig Kind.scVector Space.vmem Cert.KernelIdeal.S16x256 EltTy.f32)
local notation "b7" => (Memref.whole Cert.KernelIdeal.cc0_scratch7 : Memref Cert.KernelIdeal.sig Kind.scVector Space.vmem Cert.KernelIdeal.S16x256 EltTy.f32)
local notation "b8" => (Memref.whole Cert.KernelIdeal.cc0_scratch8 : Memref Cert.KernelIdeal.sig Kind.scVector Space.vmem Cert.KernelIdeal.S16x256 EltTy.f32)
local notation "b9" => (Memref.whole Cert.KernelIdeal.cc0_scratch9 : Memref Cert.KernelIdeal.sig Kind.scVector Space.vmem Cert.KernelIdeal.S16x256 EltTy.f32)
local notation "b10" => (Memref.whole Cert.KernelIdeal.cc0_scratch10 : Memref Cert.KernelIdeal.sig Kind.scVector Space.vmem Cert.KernelIdeal.S16x256 EltTy.f32)
local notation "b11" => (Memref.whole Cert.KernelIdeal.cc0_scratch11 : Memref Cert.KernelIdeal.sig Kind.scVector Space.vmem Cert.KernelIdeal.S16x256 EltTy.f32)
local notation "b12" => (Memref.whole Cert.KernelIdeal.cc0_scratch12 : Memref Cert.KernelIdeal.sig Kind.scVector Space.vmem Cert.KernelIdeal.S16x256 EltTy.f32)
local notation "b13" => (Memref.whole Cert.KernelIdeal.cc0_scratch13 : Memref Cert.KernelIdeal.sig Kind.scVector Space.vmem Cert.KernelIdeal.S16x256 EltTy.f32)
local notation "b14" => (Memref.whole Cert.KernelIdeal.cc0_scratch14 : Memref Cert.KernelIdeal.sig Kind.scVector Space.vmem Cert.KernelIdeal.S16x256 EltTy.f32)
local notation "b15" => (Memref.whole Cert.KernelIdeal.cc0_scratch15 : Memref Cert.KernelIdeal.sig Kind.scVector Space.vmem Cert.KernelIdeal.S16x256 EltTy.f32)
local notation "b16" => (Memref.whole Cert.KernelIdeal.cc0_scratch16 : Memref Cert.KernelIdeal.sig Kind.scVector Space.vmem Cert.KernelIdeal.S16x256 EltTy.f32)
local notation "b17" => (Memref.whole Cert.KernelIdeal.cc0_scratch17 : Memref Cert.KernelIdeal.sig Kind.scVector Space.vmem Cert.KernelIdeal.S16x256 EltTy.f32)
local notation "b18" => (Memref.whole Cert.KernelIdeal.cc0_scratch18 : Memref Cert.KernelIdeal.sig Kind.scVector Space.vmem Cert.KernelIdeal.S16x256 EltTy.f32)
local notation "b19" => (Memref.whole Cert.KernelIdeal.cc0_scratch19 : Memref Cert.KernelIdeal.sig Kind.scVector Space.vmem Cert.KernelIdeal.S16x256 EltTy.f32)
local notation "b20" => (Memref.whole Cert.KernelIdeal.cc0_scratch20 : Memref Cert.KernelIdeal.sig Kind.scVector Space.vmem Cert.KernelIdeal.S16x256 EltTy.f32)
local notation "b21" => (Memref.whole Cert.KernelIdeal.cc0_scratch21 : Memref Cert.KernelIdeal.sig Kind.scVector Space.vmem Cert.KernelIdeal.S16x256 EltTy.f32)
local notation "b22" => (Memref.whole Cert.KernelIdeal.cc0_scratch22 : Memref Cert.KernelIdeal.sig Kind.scVector Space.vmem Cert.KernelIdeal.S16x256 EltTy.f32)
local notation "b23" => (Memref.whole Cert.KernelIdeal.cc0_scratch23 : Memref Cert.KernelIdeal.sig Kind.scVector Space.vmem Cert.KernelIdeal.S16x256 EltTy.f32)
local notation "b24" => (Memref.whole Cert.KernelIdeal.cc0_scratch24 : Memref Cert.KernelIdeal.sig Kind.scVector Space.vmem Cert.KernelIdeal.S16x256 EltTy.f32)
local notation "b25" => (Memref.whole Cert.KernelIdeal.cc0_scratch25 : Memref Cert.KernelIdeal.sig Kind.scVector Space.vmem Cert.KernelIdeal.S16x256 EltTy.f32)
local notation "b26" => (Memref.whole Cert.KernelIdeal.cc0_scratch26 : Memref Cert.KernelIdeal.sig Kind.scVector Space.vmem Cert.KernelIdeal.S16x256 EltTy.f32)

variable (d : Dev nD) (L : grid0.Coords)

/-- What loop 1 holds after `k` trips. -/
def inv1 (x0 x1 x2 x3 : S16x256.Idx → F .f32) (k : Nat) (_ : PUnit) : sProp 𝕄 :=
  iprop(((b0).view.loc (VT d L) ↦[(b0).view.set]{fullShare} (stp k (sA x0) x0))
    ∗ ((b1).view.loc (VT d L) ↦[(b1).view.set]{fullShare} (stp k (sA x1) x1))
    ∗ ((b2).view.loc (VT d L) ↦[(b2).view.set]{fullShare} (stp k (sD x2 x0) x2))
    ∗ ((b3).view.loc (VT d L) ↦[(b3).view.set]{fullShare} (stp k (sD x3 x1) x3)))

/-- A trip of loop 1. -/
theorem trip1 (x0 x1 x2 x3 : S16x256.Idx → F .f32) (w : BitVec 32) (k : Fin k0_t1_loop.trips) (a : PUnit) :
    inv1 d L x0 x1 x2 x3 k.val a
      ⊢ wp frame (wpE (defs₀ (F := F)) 𝒱₀ (VT d L) none) Set.univ
          (k0_t1_body L xV (Memref.isWhole_whole _) oV (Memref.isWhole_whole _)
            b0 (Memref.isWhole_whole _) b1 (Memref.isWhole_whole _) b2 (Memref.isWhole_whole _) b3 (Memref.isWhole_whole _) b4 (Memref.isWhole_whole _) b5 (Memref.isWhole_whole _) b6 (Memref.isWhole_whole _) b7 (Memref.isWhole_whole _) b8 (Memref.isWhole_whole _) b9 (Memref.isWhole_whole _) b10 (Memref.isWhole_whole _) b11 (Memref.isWhole_whole _) b12 (Memref.isWhole_whole _) b13 (Memref.isWhole_whole _) b14 (Memref.isWhole_whole _) b15 (Memref.isWhole_whole _) b16 (Memref.isWhole_whole _) b17 (Memref.isWhole_whole _) b18 (Memref.isWhole_whole _) b19 (Memref.isWhole_whole _) b20 (Memref.isWhole_whole _) b21 (Memref.isWhole_whole _) b22 (Memref.isWhole_whole _) b23 (Memref.isWhole_whole _) b24 (Memref.isWhole_whole _) b25 (Memref.isWhole_whole _) b26 (Memref.isWhole_whole _) cc0_scratch27 cc0_scratch28 cc0_scratch29 cc0_scratch30 cc0_scratch31 cc0_scratch32  w  k a)
          fun a' => inv1 d L x0 x1 x2 x3 (k.val + 1) a' := by
  have hk : k.val < 256 := k.isLt
  have e0 : ∀ w : S1x16.Idx → F .f32, (∀ z, w z = (sA x0) ((Rect.unit (s := S16x256) (k0_off10 k) S1x16.size (k0_off10_inb k)).emb z)) →
      (b0).view.writes (Elt F) (stp k.val (sA x0) x0) [⟨Rect.unit (s := S16x256) (k0_off10 k) S1x16.size (k0_off10_inb k), w⟩] = stp (k.val + 1) (sA x0) x0 :=
    fun w hw => store_stp b0 _ (k0_off10_inb k) k.val hk (off10_eq k) (sA x0) x0 (stp k.val (sA x0) x0) rfl w hw
  have e1 : ∀ w : S1x16.Idx → F .f32, (∀ z, w z = (sA x1) ((Rect.unit (s := S16x256) (k0_off10 k) S1x16.size (k0_off10_inb k)).emb z)) →
      (b1).view.writes (Elt F) (stp k.val (sA x1) x1) [⟨Rect.unit (s := S16x256) (k0_off10 k) S1x16.size (k0_off10_inb k), w⟩] = stp (k.val + 1) (sA x1) x1 :=
    fun w hw => store_stp b1 _ (k0_off10_inb k) k.val hk (off10_eq k) (sA x1) x1 (stp k.val (sA x1) x1) rfl w hw
  have e2 : ∀ w : S1x16.Idx → F .f32, (∀ z, w z = (sD x2 x0) ((Rect.unit (s := S16x256) (k0_off10 k) S1x16.size (k0_off10_inb k)).emb z)) →
      (b2).view.writes (Elt F) (stp k.val (sD x2 x0) x2) [⟨Rect.unit (s := S16x256) (k0_off10 k) S1x16.size (k0_off10_inb k), w⟩] = stp (k.val + 1) (sD x2 x0) x2 :=
    fun w hw => store_stp b2 _ (k0_off10_inb k) k.val hk (off10_eq k) (sD x2 x0) x2 (stp k.val (sD x2 x0) x2) rfl w hw
  have e3 : ∀ w : S1x16.Idx → F .f32, (∀ z, w z = (sD x3 x1) ((Rect.unit (s := S16x256) (k0_off10 k) S1x16.size (k0_off10_inb k)).emb z)) →
      (b3).view.writes (Elt F) (stp k.val (sD x3 x1) x3) [⟨Rect.unit (s := S16x256) (k0_off10 k) S1x16.size (k0_off10_inb k), w⟩] = stp (k.val + 1) (sD x3 x1) x3 :=
    fun w hw => store_stp b3 _ (k0_off10_inb k) k.val hk (off10_eq k) (sD x3 x1) x3 (stp k.val (sD x3 x1) x3) rfl w hw
  unfold inv1
  iintro ⟨H0, H1, H2, H3⟩
  sl_unfold [k0_t1_body]
  sl_exec
  rw [e0 _ ?_, e1 _ ?_, e2 _ ?_, e3 _ ?_]
  · sl_step
    sl_close
  · intro z; exact lanes_sD _ (k0_off10_inb k) k.val (off10_eq k) (sD x3 x1) x3 (sA x1) x1 z
  · intro z; exact lanes_sD _ (k0_off10_inb k) k.val (off10_eq k) (sD x2 x0) x2 (sA x0) x0 z
  · intro z; exact lanes_sA _ (k0_off10_inb k) k.val (off10_eq k) (sA x1) x1 z
  · intro z; exact lanes_sA _ (k0_off10_inb k) k.val (off10_eq k) (sA x0) x0 z

/-- What loop 2 holds after `k` trips. -/
def inv2 (x0 x1 x2 x3 : S16x256.Idx → F .f32) (k : Nat) (_ : PUnit) : sProp 𝕄 :=
  iprop(((b9).view.loc (VT d L) ↦[(b9).view.set]{fullShare} (stp k (sA x0) x0))
    ∗ ((b10).view.loc (VT d L) ↦[(b10).view.set]{fullShare} (stp k (sA x1) x1))
    ∗ ((b11).view.loc (VT d L) ↦[(b11).view.set]{fullShare} (stp k (sD x2 x0) x2))
    ∗ ((b12).view.loc (VT d L) ↦[(b12).view.set]{fullShare} (stp k (sD x3 x1) x3)))

/-- A trip of loop 2. -/
theorem trip2 (x0 x1 x2 x3 : S16x256.Idx → F .f32) (w : BitVec 32) (k : Fin k0_t2_loop.trips) (a : PUnit) :
    inv2 d L x0 x1 x2 x3 k.val a
      ⊢ wp frame (wpE (defs₀ (F := F)) 𝒱₀ (VT d L) none) Set.univ
          (k0_t2_body L xV (Memref.isWhole_whole _) oV (Memref.isWhole_whole _)
            b0 (Memref.isWhole_whole _) b1 (Memref.isWhole_whole _) b2 (Memref.isWhole_whole _) b3 (Memref.isWhole_whole _) b4 (Memref.isWhole_whole _) b5 (Memref.isWhole_whole _) b6 (Memref.isWhole_whole _) b7 (Memref.isWhole_whole _) b8 (Memref.isWhole_whole _) b9 (Memref.isWhole_whole _) b10 (Memref.isWhole_whole _) b11 (Memref.isWhole_whole _) b12 (Memref.isWhole_whole _) b13 (Memref.isWhole_whole _) b14 (Memref.isWhole_whole _) b15 (Memref.isWhole_whole _) b16 (Memref.isWhole_whole _) b17 (Memref.isWhole_whole _) b18 (Memref.isWhole_whole _) b19 (Memref.isWhole_whole _) b20 (Memref.isWhole_whole _) b21 (Memref.isWhole_whole _) b22 (Memref.isWhole_whole _) b23 (Memref.isWhole_whole _) b24 (Memref.isWhole_whole _) b25 (Memref.isWhole_whole _) b26 (Memref.isWhole_whole _) cc0_scratch27 cc0_scratch28 cc0_scratch29 cc0_scratch30 cc0_scratch31 cc0_scratch32  w  k a)
          fun a' => inv2 d L x0 x1 x2 x3 (k.val + 1) a' := by
  have hk : k.val < 256 := k.isLt
  have e0 : ∀ w : S1x16.Idx → F .f32, (∀ z, w z = (sA x0) ((Rect.unit (s := S16x256) (k0_off20 k) S1x16.size (k0_off20_inb k)).emb z)) →
      (b9).view.writes (Elt F) (stp k.val (sA x0) x0) [⟨Rect.unit (s := S16x256) (k0_off20 k) S1x16.size (k0_off20_inb k), w⟩] = stp (k.val + 1) (sA x0) x0 :=
    fun w hw => store_stp b9 _ (k0_off20_inb k) k.val hk (off20_eq k) (sA x0) x0 (stp k.val (sA x0) x0) rfl w hw
  have e1 : ∀ w : S1x16.Idx → F .f32, (∀ z, w z = (sA x1) ((Rect.unit (s := S16x256) (k0_off20 k) S1x16.size (k0_off20_inb k)).emb z)) →
      (b10).view.writes (Elt F) (stp k.val (sA x1) x1) [⟨Rect.unit (s := S16x256) (k0_off20 k) S1x16.size (k0_off20_inb k), w⟩] = stp (k.val + 1) (sA x1) x1 :=
    fun w hw => store_stp b10 _ (k0_off20_inb k) k.val hk (off20_eq k) (sA x1) x1 (stp k.val (sA x1) x1) rfl w hw
  have e2 : ∀ w : S1x16.Idx → F .f32, (∀ z, w z = (sD x2 x0) ((Rect.unit (s := S16x256) (k0_off20 k) S1x16.size (k0_off20_inb k)).emb z)) →
      (b11).view.writes (Elt F) (stp k.val (sD x2 x0) x2) [⟨Rect.unit (s := S16x256) (k0_off20 k) S1x16.size (k0_off20_inb k), w⟩] = stp (k.val + 1) (sD x2 x0) x2 :=
    fun w hw => store_stp b11 _ (k0_off20_inb k) k.val hk (off20_eq k) (sD x2 x0) x2 (stp k.val (sD x2 x0) x2) rfl w hw
  have e3 : ∀ w : S1x16.Idx → F .f32, (∀ z, w z = (sD x3 x1) ((Rect.unit (s := S16x256) (k0_off20 k) S1x16.size (k0_off20_inb k)).emb z)) →
      (b12).view.writes (Elt F) (stp k.val (sD x3 x1) x3) [⟨Rect.unit (s := S16x256) (k0_off20 k) S1x16.size (k0_off20_inb k), w⟩] = stp (k.val + 1) (sD x3 x1) x3 :=
    fun w hw => store_stp b12 _ (k0_off20_inb k) k.val hk (off20_eq k) (sD x3 x1) x3 (stp k.val (sD x3 x1) x3) rfl w hw
  unfold inv2
  iintro ⟨H0, H1, H2, H3⟩
  sl_unfold [k0_t2_body]
  sl_exec
  rw [e0 _ ?_, e1 _ ?_, e2 _ ?_, e3 _ ?_]
  · sl_step
    sl_close
  · intro z; exact lanes_sD _ (k0_off20_inb k) k.val (off20_eq k) (sD x3 x1) x3 (sA x1) x1 z
  · intro z; exact lanes_sD _ (k0_off20_inb k) k.val (off20_eq k) (sD x2 x0) x2 (sA x0) x0 z
  · intro z; exact lanes_sA _ (k0_off20_inb k) k.val (off20_eq k) (sA x1) x1 z
  · intro z; exact lanes_sA _ (k0_off20_inb k) k.val (off20_eq k) (sA x0) x0 z

/-- What loop 3 holds after `k` trips. -/
def inv3 (x0 x1 x2 x3 : S16x256.Idx → F .f32) (k : Nat) (_ : PUnit) : sProp 𝕄 :=
  iprop(((b18).view.loc (VT d L) ↦[(b18).view.set]{fullShare} (stp k (sA x0) x0))
    ∗ ((b19).view.loc (VT d L) ↦[(b19).view.set]{fullShare} (stp k (sA x1) x1))
    ∗ ((b20).view.loc (VT d L) ↦[(b20).view.set]{fullShare} (stp k (sD x2 x0) x2))
    ∗ ((b21).view.loc (VT d L) ↦[(b21).view.set]{fullShare} (stp k (sD x3 x1) x3)))

/-- A trip of loop 3. -/
theorem trip3 (x0 x1 x2 x3 : S16x256.Idx → F .f32) (w : BitVec 32) (w2 : BitVec 32) (k : Fin k0_t3_loop.trips) (a : PUnit) :
    inv3 d L x0 x1 x2 x3 k.val a
      ⊢ wp frame (wpE (defs₀ (F := F)) 𝒱₀ (VT d L) none) Set.univ
          (k0_t3_body L xV (Memref.isWhole_whole _) oV (Memref.isWhole_whole _)
            b0 (Memref.isWhole_whole _) b1 (Memref.isWhole_whole _) b2 (Memref.isWhole_whole _) b3 (Memref.isWhole_whole _) b4 (Memref.isWhole_whole _) b5 (Memref.isWhole_whole _) b6 (Memref.isWhole_whole _) b7 (Memref.isWhole_whole _) b8 (Memref.isWhole_whole _) b9 (Memref.isWhole_whole _) b10 (Memref.isWhole_whole _) b11 (Memref.isWhole_whole _) b12 (Memref.isWhole_whole _) b13 (Memref.isWhole_whole _) b14 (Memref.isWhole_whole _) b15 (Memref.isWhole_whole _) b16 (Memref.isWhole_whole _) b17 (Memref.isWhole_whole _) b18 (Memref.isWhole_whole _) b19 (Memref.isWhole_whole _) b20 (Memref.isWhole_whole _) b21 (Memref.isWhole_whole _) b22 (Memref.isWhole_whole _) b23 (Memref.isWhole_whole _) b24 (Memref.isWhole_whole _) b25 (Memref.isWhole_whole _) b26 (Memref.isWhole_whole _) cc0_scratch27 cc0_scratch28 cc0_scratch29 cc0_scratch30 cc0_scratch31 cc0_scratch32  w w2  k a)
          fun a' => inv3 d L x0 x1 x2 x3 (k.val + 1) a' := by
  have hk : k.val < 256 := k.isLt
  have e0 : ∀ w : S1x16.Idx → F .f32, (∀ z, w z = (sA x0) ((Rect.unit (s := S16x256) (k0_off21 k) S1x16.size (k0_off21_inb k)).emb z)) →
      (b18).view.writes (Elt F) (stp k.val (sA x0) x0) [⟨Rect.unit (s := S16x256) (k0_off21 k) S1x16.size (k0_off21_inb k), w⟩] = stp (k.val + 1) (sA x0) x0 :=
    fun w hw => store_stp b18 _ (k0_off21_inb k) k.val hk (off21_eq k) (sA x0) x0 (stp k.val (sA x0) x0) rfl w hw
  have e1 : ∀ w : S1x16.Idx → F .f32, (∀ z, w z = (sA x1) ((Rect.unit (s := S16x256) (k0_off21 k) S1x16.size (k0_off21_inb k)).emb z)) →
      (b19).view.writes (Elt F) (stp k.val (sA x1) x1) [⟨Rect.unit (s := S16x256) (k0_off21 k) S1x16.size (k0_off21_inb k), w⟩] = stp (k.val + 1) (sA x1) x1 :=
    fun w hw => store_stp b19 _ (k0_off21_inb k) k.val hk (off21_eq k) (sA x1) x1 (stp k.val (sA x1) x1) rfl w hw
  have e2 : ∀ w : S1x16.Idx → F .f32, (∀ z, w z = (sD x2 x0) ((Rect.unit (s := S16x256) (k0_off21 k) S1x16.size (k0_off21_inb k)).emb z)) →
      (b20).view.writes (Elt F) (stp k.val (sD x2 x0) x2) [⟨Rect.unit (s := S16x256) (k0_off21 k) S1x16.size (k0_off21_inb k), w⟩] = stp (k.val + 1) (sD x2 x0) x2 :=
    fun w hw => store_stp b20 _ (k0_off21_inb k) k.val hk (off21_eq k) (sD x2 x0) x2 (stp k.val (sD x2 x0) x2) rfl w hw
  have e3 : ∀ w : S1x16.Idx → F .f32, (∀ z, w z = (sD x3 x1) ((Rect.unit (s := S16x256) (k0_off21 k) S1x16.size (k0_off21_inb k)).emb z)) →
      (b21).view.writes (Elt F) (stp k.val (sD x3 x1) x3) [⟨Rect.unit (s := S16x256) (k0_off21 k) S1x16.size (k0_off21_inb k), w⟩] = stp (k.val + 1) (sD x3 x1) x3 :=
    fun w hw => store_stp b21 _ (k0_off21_inb k) k.val hk (off21_eq k) (sD x3 x1) x3 (stp k.val (sD x3 x1) x3) rfl w hw
  unfold inv3
  iintro ⟨H0, H1, H2, H3⟩
  sl_unfold [k0_t3_body]
  sl_exec
  rw [e0 _ ?_, e1 _ ?_, e2 _ ?_, e3 _ ?_]
  · sl_step
    sl_close
  · intro z; exact lanes_sD _ (k0_off21_inb k) k.val (off21_eq k) (sD x3 x1) x3 (sA x1) x1 z
  · intro z; exact lanes_sD _ (k0_off21_inb k) k.val (off21_eq k) (sD x2 x0) x2 (sA x0) x0 z
  · intro z; exact lanes_sA _ (k0_off21_inb k) k.val (off21_eq k) (sA x1) x1 z
  · intro z; exact lanes_sA _ (k0_off21_inb k) k.val (off21_eq k) (sA x0) x0 z

/-- What loop 4 holds after `k` trips. -/
def inv4 (x0 x1 x2 x3 : S16x256.Idx → F .f32) (k : Nat) (_ : PUnit) : sProp 𝕄 :=
  iprop(((b0).view.loc (VT d L) ↦[(b0).view.set]{fullShare} (stp k (sA x0) x0))
    ∗ ((b1).view.loc (VT d L) ↦[(b1).view.set]{fullShare} (stp k (sA x1) x1))
    ∗ ((b2).view.loc (VT d L) ↦[(b2).view.set]{fullShare} (stp k (sD x2 x0) x2))
    ∗ ((b3).view.loc (VT d L) ↦[(b3).view.set]{fullShare} (stp k (sD x3 x1) x3)))

/-- A trip of loop 4. -/
theorem trip4 (x0 x1 x2 x3 : S16x256.Idx → F .f32) (w : BitVec 32) (k : Fin k0_t4_loop.trips) (a : PUnit) :
    inv4 d L x0 x1 x2 x3 k.val a
      ⊢ wp frame (wpE (defs₀ (F := F)) 𝒱₀ (VT d L) none) Set.univ
          (k0_t4_body L xV (Memref.isWhole_whole _) oV (Memref.isWhole_whole _)
            b0 (Memref.isWhole_whole _) b1 (Memref.isWhole_whole _) b2 (Memref.isWhole_whole _) b3 (Memref.isWhole_whole _) b4 (Memref.isWhole_whole _) b5 (Memref.isWhole_whole _) b6 (Memref.isWhole_whole _) b7 (Memref.isWhole_whole _) b8 (Memref.isWhole_whole _) b9 (Memref.isWhole_whole _) b10 (Memref.isWhole_whole _) b11 (Memref.isWhole_whole _) b12 (Memref.isWhole_whole _) b13 (Memref.isWhole_whole _) b14 (Memref.isWhole_whole _) b15 (Memref.isWhole_whole _) b16 (Memref.isWhole_whole _) b17 (Memref.isWhole_whole _) b18 (Memref.isWhole_whole _) b19 (Memref.isWhole_whole _) b20 (Memref.isWhole_whole _) b21 (Memref.isWhole_whole _) b22 (Memref.isWhole_whole _) b23 (Memref.isWhole_whole _) b24 (Memref.isWhole_whole _) b25 (Memref.isWhole_whole _) b26 (Memref.isWhole_whole _) cc0_scratch27 cc0_scratch28 cc0_scratch29 cc0_scratch30 cc0_scratch31 cc0_scratch32  w  k a)
          fun a' => inv4 d L x0 x1 x2 x3 (k.val + 1) a' := by
  have hk : k.val < 256 := k.isLt
  have e0 : ∀ w : S1x16.Idx → F .f32, (∀ z, w z = (sA x0) ((Rect.unit (s := S16x256) (k0_off31 k) S1x16.size (k0_off31_inb k)).emb z)) →
      (b0).view.writes (Elt F) (stp k.val (sA x0) x0) [⟨Rect.unit (s := S16x256) (k0_off31 k) S1x16.size (k0_off31_inb k), w⟩] = stp (k.val + 1) (sA x0) x0 :=
    fun w hw => store_stp b0 _ (k0_off31_inb k) k.val hk (off31_eq k) (sA x0) x0 (stp k.val (sA x0) x0) rfl w hw
  have e1 : ∀ w : S1x16.Idx → F .f32, (∀ z, w z = (sA x1) ((Rect.unit (s := S16x256) (k0_off31 k) S1x16.size (k0_off31_inb k)).emb z)) →
      (b1).view.writes (Elt F) (stp k.val (sA x1) x1) [⟨Rect.unit (s := S16x256) (k0_off31 k) S1x16.size (k0_off31_inb k), w⟩] = stp (k.val + 1) (sA x1) x1 :=
    fun w hw => store_stp b1 _ (k0_off31_inb k) k.val hk (off31_eq k) (sA x1) x1 (stp k.val (sA x1) x1) rfl w hw
  have e2 : ∀ w : S1x16.Idx → F .f32, (∀ z, w z = (sD x2 x0) ((Rect.unit (s := S16x256) (k0_off31 k) S1x16.size (k0_off31_inb k)).emb z)) →
      (b2).view.writes (Elt F) (stp k.val (sD x2 x0) x2) [⟨Rect.unit (s := S16x256) (k0_off31 k) S1x16.size (k0_off31_inb k), w⟩] = stp (k.val + 1) (sD x2 x0) x2 :=
    fun w hw => store_stp b2 _ (k0_off31_inb k) k.val hk (off31_eq k) (sD x2 x0) x2 (stp k.val (sD x2 x0) x2) rfl w hw
  have e3 : ∀ w : S1x16.Idx → F .f32, (∀ z, w z = (sD x3 x1) ((Rect.unit (s := S16x256) (k0_off31 k) S1x16.size (k0_off31_inb k)).emb z)) →
      (b3).view.writes (Elt F) (stp k.val (sD x3 x1) x3) [⟨Rect.unit (s := S16x256) (k0_off31 k) S1x16.size (k0_off31_inb k), w⟩] = stp (k.val + 1) (sD x3 x1) x3 :=
    fun w hw => store_stp b3 _ (k0_off31_inb k) k.val hk (off31_eq k) (sD x3 x1) x3 (stp k.val (sD x3 x1) x3) rfl w hw
  unfold inv4
  iintro ⟨H0, H1, H2, H3⟩
  sl_unfold [k0_t4_body]
  sl_exec
  rw [e0 _ ?_, e1 _ ?_, e2 _ ?_, e3 _ ?_]
  · sl_step
    sl_close
  · intro z; exact lanes_sD _ (k0_off31_inb k) k.val (off31_eq k) (sD x3 x1) x3 (sA x1) x1 z
  · intro z; exact lanes_sD _ (k0_off31_inb k) k.val (off31_eq k) (sD x2 x0) x2 (sA x0) x0 z
  · intro z; exact lanes_sA _ (k0_off31_inb k) k.val (off31_eq k) (sA x1) x1 z
  · intro z; exact lanes_sA _ (k0_off31_inb k) k.val (off31_eq k) (sA x0) x0 z

/-- What loop 5 holds after `k` trips. -/
def inv5 (x0 x1 x2 x3 : S16x256.Idx → F .f32) (k : Nat) (_ : PUnit) : sProp 𝕄 :=
  iprop(((b9).view.loc (VT d L) ↦[(b9).view.set]{fullShare} (stp k (sA x0) x0))
    ∗ ((b10).view.loc (VT d L) ↦[(b10).view.set]{fullShare} (stp k (sA x1) x1))
    ∗ ((b11).view.loc (VT d L) ↦[(b11).view.set]{fullShare} (stp k (sD x2 x0) x2))
    ∗ ((b12).view.loc (VT d L) ↦[(b12).view.set]{fullShare} (stp k (sD x3 x1) x3)))

/-- A trip of loop 5. -/
theorem trip5 (x0 x1 x2 x3 : S16x256.Idx → F .f32) (h2 : k0_cond2 L = 1#1) (w : BitVec 32) (k : Fin k0_t5_loop.trips) (a : PUnit) :
    inv5 d L x0 x1 x2 x3 k.val a
      ⊢ wp frame (wpE (defs₀ (F := F)) 𝒱₀ (VT d L) none) Set.univ
          (k0_t5_body L xV (Memref.isWhole_whole _) oV (Memref.isWhole_whole _)
            b0 (Memref.isWhole_whole _) b1 (Memref.isWhole_whole _) b2 (Memref.isWhole_whole _) b3 (Memref.isWhole_whole _) b4 (Memref.isWhole_whole _) b5 (Memref.isWhole_whole _) b6 (Memref.isWhole_whole _) b7 (Memref.isWhole_whole _) b8 (Memref.isWhole_whole _) b9 (Memref.isWhole_whole _) b10 (Memref.isWhole_whole _) b11 (Memref.isWhole_whole _) b12 (Memref.isWhole_whole _) b13 (Memref.isWhole_whole _) b14 (Memref.isWhole_whole _) b15 (Memref.isWhole_whole _) b16 (Memref.isWhole_whole _) b17 (Memref.isWhole_whole _) b18 (Memref.isWhole_whole _) b19 (Memref.isWhole_whole _) b20 (Memref.isWhole_whole _) b21 (Memref.isWhole_whole _) b22 (Memref.isWhole_whole _) b23 (Memref.isWhole_whole _) b24 (Memref.isWhole_whole _) b25 (Memref.isWhole_whole _) b26 (Memref.isWhole_whole _) cc0_scratch27 cc0_scratch28 cc0_scratch29 cc0_scratch30 cc0_scratch31 cc0_scratch32  w h2 k a)
          fun a' => inv5 d L x0 x1 x2 x3 (k.val + 1) a' := by
  have hk : k.val < 256 := k.isLt
  have e0 : ∀ w : S1x16.Idx → F .f32, (∀ z, w z = (sA x0) ((Rect.unit (s := S16x256) (k0_off41 k) S1x16.size (k0_off41_inb L k h2)).emb z)) →
      (b9).view.writes (Elt F) (stp k.val (sA x0) x0) [⟨Rect.unit (s := S16x256) (k0_off41 k) S1x16.size (k0_off41_inb L k h2), w⟩] = stp (k.val + 1) (sA x0) x0 :=
    fun w hw => store_stp b9 _ (k0_off41_inb L k h2) k.val hk (off41_eq k) (sA x0) x0 (stp k.val (sA x0) x0) rfl w hw
  have e1 : ∀ w : S1x16.Idx → F .f32, (∀ z, w z = (sA x1) ((Rect.unit (s := S16x256) (k0_off41 k) S1x16.size (k0_off41_inb L k h2)).emb z)) →
      (b10).view.writes (Elt F) (stp k.val (sA x1) x1) [⟨Rect.unit (s := S16x256) (k0_off41 k) S1x16.size (k0_off41_inb L k h2), w⟩] = stp (k.val + 1) (sA x1) x1 :=
    fun w hw => store_stp b10 _ (k0_off41_inb L k h2) k.val hk (off41_eq k) (sA x1) x1 (stp k.val (sA x1) x1) rfl w hw
  have e2 : ∀ w : S1x16.Idx → F .f32, (∀ z, w z = (sD x2 x0) ((Rect.unit (s := S16x256) (k0_off41 k) S1x16.size (k0_off41_inb L k h2)).emb z)) →
      (b11).view.writes (Elt F) (stp k.val (sD x2 x0) x2) [⟨Rect.unit (s := S16x256) (k0_off41 k) S1x16.size (k0_off41_inb L k h2), w⟩] = stp (k.val + 1) (sD x2 x0) x2 :=
    fun w hw => store_stp b11 _ (k0_off41_inb L k h2) k.val hk (off41_eq k) (sD x2 x0) x2 (stp k.val (sD x2 x0) x2) rfl w hw
  have e3 : ∀ w : S1x16.Idx → F .f32, (∀ z, w z = (sD x3 x1) ((Rect.unit (s := S16x256) (k0_off41 k) S1x16.size (k0_off41_inb L k h2)).emb z)) →
      (b12).view.writes (Elt F) (stp k.val (sD x3 x1) x3) [⟨Rect.unit (s := S16x256) (k0_off41 k) S1x16.size (k0_off41_inb L k h2), w⟩] = stp (k.val + 1) (sD x3 x1) x3 :=
    fun w hw => store_stp b12 _ (k0_off41_inb L k h2) k.val hk (off41_eq k) (sD x3 x1) x3 (stp k.val (sD x3 x1) x3) rfl w hw
  unfold inv5
  iintro ⟨H0, H1, H2, H3⟩
  sl_unfold [k0_t5_body]
  sl_exec
  rw [e0 _ ?_, e1 _ ?_, e2 _ ?_, e3 _ ?_]
  · sl_step
    sl_close
  · intro z; exact lanes_sD _ (k0_off41_inb L k h2) k.val (off41_eq k) (sD x3 x1) x3 (sA x1) x1 z
  · intro z; exact lanes_sD _ (k0_off41_inb L k h2) k.val (off41_eq k) (sD x2 x0) x2 (sA x0) x0 z
  · intro z; exact lanes_sA _ (k0_off41_inb L k h2) k.val (off41_eq k) (sA x1) x1 z
  · intro z; exact lanes_sA _ (k0_off41_inb L k h2) k.val (off41_eq k) (sA x0) x0 z

end Cert.Proof.Ki

end
-- ==== Proof.Ki.Pack.lean ====
/-
The blocks of a round bundled, the bundle in the body's spelling of the windows, and the values a fetched block and a
  delivered block hold.
-/
module

public import proofs.«01_k».proof.Proof.Ki.Loop

@[expose] public section

noncomputable section

namespace Cert.Proof.Ki

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ
local notation "xV" => (Memref.whole Cert.KernelIdeal.main_v0_scv : Memref Cert.KernelIdeal.sig Kind.scVector Space.hbm Cert.KernelIdeal.S10x32x20000 EltTy.f32)
local notation "oV" => (Memref.whole Cert.KernelIdeal.main_v1_scv : Memref Cert.KernelIdeal.sig Kind.scVector Space.hbm Cert.KernelIdeal.S9x32x20000 EltTy.f32)
local notation "b0" => (Memref.whole Cert.KernelIdeal.cc0_scratch0 : Memref Cert.KernelIdeal.sig Kind.scVector Space.vmem Cert.KernelIdeal.S16x256 EltTy.f32)
local notation "b1" => (Memref.whole Cert.KernelIdeal.cc0_scratch1 : Memref Cert.KernelIdeal.sig Kind.scVector Space.vmem Cert.KernelIdeal.S16x256 EltTy.f32)
local notation "b2" => (Memref.whole Cert.KernelIdeal.cc0_scratch2 : Memref Cert.KernelIdeal.sig Kind.scVector Space.vmem Cert.KernelIdeal.S16x256 EltTy.f32)
local notation "b3" => (Memref.whole Cert.KernelIdeal.cc0_scratch3 : Memref Cert.KernelIdeal.sig Kind.scVector Space.vmem Cert.KernelIdeal.S16x256 EltTy.f32)
local notation "b4" => (Memref.whole Cert.KernelIdeal.cc0_scratch4 : Memref Cert.KernelIdeal.sig Kind.scVector Space.vmem Cert.KernelIdeal.S16x256 EltTy.f32)
local notation "b5" => (Memref.whole Cert.KernelIdeal.cc0_scratch5 : Memref Cert.KernelIdeal.sig Kind.scVector Space.vmem Cert.KernelIdeal.S16x256 EltTy.f32)
local notation "b6" => (Memref.whole Cert.KernelIdeal.cc0_scratch6 : Memref Cert.KernelIdeal.sig Kind.scVector Space.vmem Cert.KernelIdeal.S16x256 EltTy.f32)
local notation "b7" => (Memref.whole Cert.KernelIdeal.cc0_scratch7 : Memref Cert.KernelIdeal.sig Kind.scVector Space.vmem Cert.KernelIdeal.S16x256 EltTy.f32)
local notation "b8" => (Memref.whole Cert.KernelIdeal.cc0_scratch8 : Memref Cert.KernelIdeal.sig Kind.scVector Space.vmem Cert.KernelIdeal.S16x256 EltTy.f32)
local notation "b9" => (Memref.whole Cert.KernelIdeal.cc0_scratch9 : Memref Cert.KernelIdeal.sig Kind.scVector Space.vmem Cert.KernelIdeal.S16x256 EltTy.f32)
local notation "b10" => (Memref.whole Cert.KernelIdeal.cc0_scratch10 : Memref Cert.KernelIdeal.sig Kind.scVector Space.vmem Cert.KernelIdeal.S16x256 EltTy.f32)
local notation "b11" => (Memref.whole Cert.KernelIdeal.cc0_scratch11 : Memref Cert.KernelIdeal.sig Kind.scVector Space.vmem Cert.KernelIdeal.S16x256 EltTy.f32)
local notation "b12" => (Memref.whole Cert.KernelIdeal.cc0_scratch12 : Memref Cert.KernelIdeal.sig Kind.scVector Space.vmem Cert.KernelIdeal.S16x256 EltTy.f32)
local notation "b13" => (Memref.whole Cert.KernelIdeal.cc0_scratch13 : Memref Cert.KernelIdeal.sig Kind.scVector Space.vmem Cert.KernelIdeal.S16x256 EltTy.f32)
local notation "b14" => (Memref.whole Cert.KernelIdeal.cc0_scratch14 : Memref Cert.KernelIdeal.sig Kind.scVector Space.vmem Cert.KernelIdeal.S16x256 EltTy.f32)
local notation "b15" => (Memref.whole Cert.KernelIdeal.cc0_scratch15 : Memref Cert.KernelIdeal.sig Kind.scVector Space.vmem Cert.KernelIdeal.S16x256 EltTy.f32)
local notation "b16" => (Memref.whole Cert.KernelIdeal.cc0_scratch16 : Memref Cert.KernelIdeal.sig Kind.scVector Space.vmem Cert.KernelIdeal.S16x256 EltTy.f32)
local notation "b17" => (Memref.whole Cert.KernelIdeal.cc0_scratch17 : Memref Cert.KernelIdeal.sig Kind.scVector Space.vmem Cert.KernelIdeal.S16x256 EltTy.f32)
local notation "b18" => (Memref.whole Cert.KernelIdeal.cc0_scratch18 : Memref Cert.KernelIdeal.sig Kind.scVector Space.vmem Cert.KernelIdeal.S16x256 EltTy.f32)
local notation "b19" => (Memref.whole Cert.KernelIdeal.cc0_scratch19 : Memref Cert.KernelIdeal.sig Kind.scVector Space.vmem Cert.KernelIdeal.S16x256 EltTy.f32)
local notation "b20" => (Memref.whole Cert.KernelIdeal.cc0_scratch20 : Memref Cert.KernelIdeal.sig Kind.scVector Space.vmem Cert.KernelIdeal.S16x256 EltTy.f32)
local notation "b21" => (Memref.whole Cert.KernelIdeal.cc0_scratch21 : Memref Cert.KernelIdeal.sig Kind.scVector Space.vmem Cert.KernelIdeal.S16x256 EltTy.f32)
local notation "b22" => (Memref.whole Cert.KernelIdeal.cc0_scratch22 : Memref Cert.KernelIdeal.sig Kind.scVector Space.vmem Cert.KernelIdeal.S16x256 EltTy.f32)
local notation "b23" => (Memref.whole Cert.KernelIdeal.cc0_scratch23 : Memref Cert.KernelIdeal.sig Kind.scVector Space.vmem Cert.KernelIdeal.S16x256 EltTy.f32)
local notation "b24" => (Memref.whole Cert.KernelIdeal.cc0_scratch24 : Memref Cert.KernelIdeal.sig Kind.scVector Space.vmem Cert.KernelIdeal.S16x256 EltTy.f32)
local notation "b25" => (Memref.whole Cert.KernelIdeal.cc0_scratch25 : Memref Cert.KernelIdeal.sig Kind.scVector Space.vmem Cert.KernelIdeal.S16x256 EltTy.f32)
local notation "b26" => (Memref.whole Cert.KernelIdeal.cc0_scratch26 : Memref Cert.KernelIdeal.sig Kind.scVector Space.vmem Cert.KernelIdeal.S16x256 EltTy.f32)
variable (d : Dev nD) (L : grid0.Coords)

/-! ## Values -/

/-- The place of element `y` of block `u` on plane `q`. -/
def pix (q : Fin 10) (u : Nat) (y : S16x256.Idx) : S10x32x20000.Idx :=
  xix q ⟨u % 2 * 16 + (y 0).val, by have h : (y 0).val < 16 := (y 0).isLt; omega⟩
    ⟨(u / 2 * 256 + (y 1).val) % 20000, Nat.mod_lt _ (by decide)⟩
/-- Block `u` of plane `q` of the planar operand. -/
def xin (X : XC (F := F)) (q : Fin 10) (u : Nat) : S16x256.Idx → F .f32 := fun y => X (pix q u y)

/-- What a window of the operand reads: the block of its plane. -/
theorem read_xin (X : XC (F := F)) (off : Fin 3 → Nat) (h) (q : Fin 10) (u : Nat) (hu : u < 156) (e : ∀ a, off a = bOff q.val u a) :
    (xWin off h).view.read (Elt F) X = xin X q u := by
  funext y
  show X ((xWin off h).view.emb y) = X (pix q u y)
  congr 1
  funext a
  apply Fin.ext
  rw [xWin_emb, e a]
  have h1 : (y 1).val < 256 := (y 1).isLt
  match a with
  | 0 => rfl
  | 1 => rfl
  | 2 => show u / 2 * 256 + (y 1).val = (u / 2 * 256 + (y 1).val) % 20000
         rw [Nat.mod_eq_of_lt (by omega)]

/-- A whole store to buffer 0 leaves what was stored. -/
theorem wr0 (f w : S16x256.Idx → F .f32) : (b0).view.writes (Elt F) f [⟨Rect.whole cc0_scratch0.ty.shape, w⟩] = w :=
  (View.read_whole (Val := Elt F) cc0_scratch0 _).symm.trans (View.read_writes_whole (Val := Elt F) (b0).view f w)
/-- A whole store to buffer 1 leaves what was stored. -/
theorem wr1 (f w : S16x256.Idx → F .f32) : (b1).view.writes (Elt F) f [⟨Rect.whole cc0_scratch1.ty.shape, w⟩] = w :=
  (View.read_whole (Val := Elt F) cc0_scratch1 _).symm.trans (View.read_writes_whole (Val := Elt F) (b1).view f w)
/-- A whole store to buffer 2 leaves what was stored. -/
theorem wr2 (f w : S16x256.Idx → F .f32) : (b2).view.writes (Elt F) f [⟨Rect.whole cc0_scratch2.ty.shape, w⟩] = w :=
  (View.read_whole (Val := Elt F) cc0_scratch2 _).symm.trans (View.read_writes_whole (Val := Elt F) (b2).view f w)
/-- A whole store to buffer 3 leaves what was stored. -/
theorem wr3 (f w : S16x256.Idx → F .f32) : (b3).view.writes (Elt F) f [⟨Rect.whole cc0_scratch3.ty.shape, w⟩] = w :=
  (View.read_whole (Val := Elt F) cc0_scratch3 _).symm.trans (View.read_writes_whole (Val := Elt F) (b3).view f w)
/-- A whole store to buffer 4 leaves what was stored. -/
theorem wr4 (f w : S16x256.Idx → F .f32) : (b4).view.writes (Elt F) f [⟨Rect.whole cc0_scratch4.ty.shape, w⟩] = w :=
  (View.read_whole (Val := Elt F) cc0_scratch4 _).symm.trans (View.read_writes_whole (Val := Elt F) (b4).view f w)
/-- A whole store to buffer 5 leaves what was stored. -/
theorem wr5 (f w : S16x256.Idx → F .f32) : (b5).view.writes (Elt F) f [⟨Rect.whole cc0_scratch5.ty.shape, w⟩] = w :=
  (View.read_whole (Val := Elt F) cc0_scratch5 _).symm.trans (View.read_writes_whole (Val := Elt F) (b5).view f w)
/-- A whole store to buffer 6 leaves what was stored. -/
theorem wr6 (f w : S16x256.Idx → F .f32) : (b6).view.writes (Elt F) f [⟨Rect.whole cc0_scratch6.ty.shape, w⟩] = w :=
  (View.read_whole (Val := Elt F) cc0_scratch6 _).symm.trans (View.read_writes_whole (Val := Elt F) (b6).view f w)
/-- A whole store to buffer 7 leaves what was stored. -/
theorem wr7 (f w : S16x256.Idx → F .f32) : (b7).view.writes (Elt F) f [⟨Rect.whole cc0_scratch7.ty.shape, w⟩] = w :=
  (View.read_whole (Val := Elt F) cc0_scratch7 _).symm.trans (View.read_writes_whole (Val := Elt F) (b7).view f w)
/-- A whole store to buffer 8 leaves what was stored. -/
theorem wr8 (f w : S16x256.Idx → F .f32) : (b8).view.writes (Elt F) f [⟨Rect.whole cc0_scratch8.ty.shape, w⟩] = w :=
  (View.read_whole (Val := Elt F) cc0_scratch8 _).symm.trans (View.read_writes_whole (Val := Elt F) (b8).view f w)
/-- A whole store to buffer 9 leaves what was stored. -/
theorem wr9 (f w : S16x256.Idx → F .f32) : (b9).view.writes (Elt F) f [⟨Rect.whole cc0_scratch9.ty.shape, w⟩] = w :=
  (View.read_whole (Val := Elt F) cc0_scratch9 _).symm.trans (View.read_writes_whole (Val := Elt F) (b9).view f w)
/-- A whole store to buffer 10 leaves what was stored. -/
theorem wr10 (f w : S16x256.Idx → F .f32) : (b10).view.writes (Elt F) f [⟨Rect.whole cc0_scratch10.ty.shape, w⟩] = w :=
  (View.read_whole (Val := Elt F) cc0_scratch10 _).symm.trans (View.read_writes_whole (Val := Elt F) (b10).view f w)
/-- A whole store to buffer 11 leaves what was stored. -/
theorem wr11 (f w : S16x256.Idx → F .f32) : (b11).view.writes (Elt F) f [⟨Rect.whole cc0_scratch11.ty.shape, w⟩] = w :=
  (View.read_whole (Val := Elt F) cc0_scratch11 _).symm.trans (View.read_writes_whole (Val := Elt F) (b11).view f w)
/-- A whole store to buffer 12 leaves what was stored. -/
theorem wr12 (f w : S16x256.Idx → F .f32) : (b12).view.writes (Elt F) f [⟨Rect.whole cc0_scratch12.ty.shape, w⟩] = w :=
  (View.read_whole (Val := Elt F) cc0_scratch12 _).symm.trans (View.read_writes_whole (Val := Elt F) (b12).view f w)
/-- A whole store to buffer 13 leaves what was stored. -/
theorem wr13 (f w : S16x256.Idx → F .f32) : (b13).view.writes (Elt F) f [⟨Rect.whole cc0_scratch13.ty.shape, w⟩] = w :=
  (View.read_whole (Val := Elt F) cc0_scratch13 _).symm.trans (View.read_writes_whole (Val := Elt F) (b13).view f w)
/-- A whole store to buffer 14 leaves what was stored. -/
theorem wr14 (f w : S16x256.Idx → F .f32) : (b14).view.writes (Elt F) f [⟨Rect.whole cc0_scratch14.ty.shape, w⟩] = w :=
  (View.read_whole (Val := Elt F) cc0_scratch14 _).symm.trans (View.read_writes_whole (Val := Elt F) (b14).view f w)
/-- A whole store to buffer 15 leaves what was stored. -/
theorem wr15 (f w : S16x256.Idx → F .f32) : (b15).view.writes (Elt F) f [⟨Rect.whole cc0_scratch15.ty.shape, w⟩] = w :=
  (View.read_whole (Val := Elt F) cc0_scratch15 _).symm.trans (View.read_writes_whole (Val := Elt F) (b15).view f w)
/-- A whole store to buffer 16 leaves what was stored. -/
theorem wr16 (f w : S16x256.Idx → F .f32) : (b16).view.writes (Elt F) f [⟨Rect.whole cc0_scratch16.ty.shape, w⟩] = w :=
  (View.read_whole (Val := Elt F) cc0_scratch16 _).symm.trans (View.read_writes_whole (Val := Elt F) (b16).view f w)
/-- A whole store to buffer 17 leaves what was stored. -/
theorem wr17 (f w : S16x256.Idx → F .f32) : (b17).view.writes (Elt F) f [⟨Rect.whole cc0_scratch17.ty.shape, w⟩] = w :=
  (View.read_whole (Val := Elt F) cc0_scratch17 _).symm.trans (View.read_writes_whole (Val := Elt F) (b17).view f w)
/-- A whole store to buffer 18 leaves what was stored. -/
theorem wr18 (f w : S16x256.Idx → F .f32) : (b18).view.writes (Elt F) f [⟨Rect.whole cc0_scratch18.ty.shape, w⟩] = w :=
  (View.read_whole (Val := Elt F) cc0_scratch18 _).symm.trans (View.read_writes_whole (Val := Elt F) (b18).view f w)
/-- A whole store to buffer 19 leaves what was stored. -/
theorem wr19 (f w : S16x256.Idx → F .f32) : (b19).view.writes (Elt F) f [⟨Rect.whole cc0_scratch19.ty.shape, w⟩] = w :=
  (View.read_whole (Val := Elt F) cc0_scratch19 _).symm.trans (View.read_writes_whole (Val := Elt F) (b19).view f w)
/-- A whole store to buffer 20 leaves what was stored. -/
theorem wr20 (f w : S16x256.Idx → F .f32) : (b20).view.writes (Elt F) f [⟨Rect.whole cc0_scratch20.ty.shape, w⟩] = w :=
  (View.read_whole (Val := Elt F) cc0_scratch20 _).symm.trans (View.read_writes_whole (Val := Elt F) (b20).view f w)
/-- A whole store to buffer 21 leaves what was stored. -/
theorem wr21 (f w : S16x256.Idx → F .f32) : (b21).view.writes (Elt F) f [⟨Rect.whole cc0_scratch21.ty.shape, w⟩] = w :=
  (View.read_whole (Val := Elt F) cc0_scratch21 _).symm.trans (View.read_writes_whole (Val := Elt F) (b21).view f w)
/-- A whole store to buffer 22 leaves what was stored. -/
theorem wr22 (f w : S16x256.Idx → F .f32) : (b22).view.writes (Elt F) f [⟨Rect.whole cc0_scratch22.ty.shape, w⟩] = w :=
  (View.read_whole (Val := Elt F) cc0_scratch22 _).symm.trans (View.read_writes_whole (Val := Elt F) (b22).view f w)
/-- A whole store to buffer 23 leaves what was stored. -/
theorem wr23 (f w : S16x256.Idx → F .f32) : (b23).view.writes (Elt F) f [⟨Rect.whole cc0_scratch23.ty.shape, w⟩] = w :=
  (View.read_whole (Val := Elt F) cc0_scratch23 _).symm.trans (View.read_writes_whole (Val := Elt F) (b23).view f w)
/-- A whole store to buffer 24 leaves what was stored. -/
theorem wr24 (f w : S16x256.Idx → F .f32) : (b24).view.writes (Elt F) f [⟨Rect.whole cc0_scratch24.ty.shape, w⟩] = w :=
  (View.read_whole (Val := Elt F) cc0_scratch24 _).symm.trans (View.read_writes_whole (Val := Elt F) (b24).view f w)
/-- A whole store to buffer 25 leaves what was stored. -/
theorem wr25 (f w : S16x256.Idx → F .f32) : (b25).view.writes (Elt F) f [⟨Rect.whole cc0_scratch25.ty.shape, w⟩] = w :=
  (View.read_whole (Val := Elt F) cc0_scratch25 _).symm.trans (View.read_writes_whole (Val := Elt F) (b25).view f w)
/-- A whole store to buffer 26 leaves what was stored. -/
theorem wr26 (f w : S16x256.Idx → F .f32) : (b26).view.writes (Elt F) f [⟨Rect.whole cc0_scratch26.ty.shape, w⟩] = w :=
  (View.read_whole (Val := Elt F) cc0_scratch26 _).symm.trans (View.read_writes_whole (Val := Elt F) (b26).view f w)

/-- After 256 trips a buffer holds the new values. -/
theorem stp256 (new old : S16x256.Idx → F .f32) : stp 256 new old = new := stp_full new old

/-- An element of a delivered block. -/
theorem out_val (X : XC (F := F)) (V1 f : OC (F := F)) (off : Fin 3 → Nat) (h) (p : Fin 9) (u : Nat) (hu : u < 156) (e : ∀ a, off a = bOff p.val u a)
    (w : S16x256.Idx → F .f32) (hw : ∀ y, w y = outv (fun q => xin X q u y) p) (x : S9x32x20000.Idx) (hx : x ∈ (oWin off h).view.set) :
    (oWin off h).view.writes (Elt F) f [⟨Rect.whole S16x256, w⟩] x = OUTF X V1 x := by
  obtain ⟨y, rfl⟩ := Finset.mem_map.mp hx |>.imp fun _ h => h.2
  have e1 : (oWin off h).view.read (Elt F) ((oWin off h).view.writes (Elt F) f [⟨Rect.whole S16x256, w⟩]) y = w y :=
    congrFun (View.read_writes_whole (Val := Elt F) (oWin off h).view f w) y
  have e0 : (oWin off h).view.read (Elt F) ((oWin off h).view.writes (Elt F) f [⟨Rect.whole S16x256, w⟩]) y
      = (oWin off h).view.writes (Elt F) f [⟨Rect.whole S16x256, w⟩] ((oWin off h).view.emb y) := (View.read_apply _ _).trans (cast_eq _ _)
  rw [← e0, e1, hw y]
  have h0 : ((oWin off h).view.emb y 0) = p := by apply Fin.ext; rw [oWin_emb, e]; rfl
  have h1 : ((oWin off h).view.emb y 1).val = u % 2 * 16 + (y 0).val := by rw [oWin_emb, e]; rfl
  have h2 : ((oWin off h).view.emb y 2).val = u / 2 * 256 + (y 1).val := by rw [oWin_emb, e]; rfl
  have hy : (y 1).val < 256 := (y 1).isLt
  unfold OUTF
  rw [if_pos (by rw [h2]; omega)]
  show _ = outv (fun q => X (xix q ((oWin off h).view.emb y 1) ((oWin off h).view.emb y 2))) ((oWin off h).view.emb y 0)
  rw [h0]
  congr 1
  funext q
  show X (pix q u y) = _
  congr 1
  funext a
  match a with
  | 0 => rfl
  | 1 => exact Fin.ext h1.symm
  | 2 => apply Fin.ext
         show (u / 2 * 256 + (y 1).val) % 20000 = _
         rw [Nat.mod_eq_of_lt (by omega)]; exact h2.symm

/-! ## Bundles -/

/-- After its last trip loop 1 leaves the scaled planes and differences. -/
theorem inv1_end (x0 x1 x2 x3 : S16x256.Idx → F .f32) (a : PUnit) : inv1 d L x0 x1 x2 x3 k0_t1_loop.trips a ⊢
    iprop(((b0).view.loc (VT d L) ↦[(b0).view.set]{fullShare} (sA x0)) ∗ ((b1).view.loc (VT d L) ↦[(b1).view.set]{fullShare} (sA x1))
      ∗ ((b2).view.loc (VT d L) ↦[(b2).view.set]{fullShare} (sD x2 x0)) ∗ ((b3).view.loc (VT d L) ↦[(b3).view.set]{fullShare} (sD x3 x1))) := by
  unfold inv1; rw [show k0_t1_loop.trips = 256 from rfl, stp256, stp256, stp256, stp256]
/-- After its last trip loop 2 leaves the scaled planes and differences. -/
theorem inv2_end (x0 x1 x2 x3 : S16x256.Idx → F .f32) (a : PUnit) : inv2 d L x0 x1 x2 x3 k0_t2_loop.trips a ⊢
    iprop(((b9).view.loc (VT d L) ↦[(b9).view.set]{fullShare} (sA x0)) ∗ ((b10).view.loc (VT d L) ↦[(b10).view.set]{fullShare} (sA x1))
      ∗ ((b11).view.loc (VT d L) ↦[(b11).view.set]{fullShare} (sD x2 x0)) ∗ ((b12).view.loc (VT d L) ↦[(b12).view.set]{fullShare} (sD x3 x1))) := by
  unfold inv2; rw [show k0_t2_loop.trips = 256 from rfl, stp256, stp256, stp256, stp256]
/-- After its last trip loop 3 leaves the scaled planes and differences. -/
theorem inv3_end (x0 x1 x2 x3 : S16x256.Idx → F .f32) (a : PUnit) : inv3 d L x0 x1 x2 x3 k0_t3_loop.trips a ⊢
    iprop(((b18).view.loc (VT d L) ↦[(b18).view.set]{fullShare} (sA x0)) ∗ ((b19).view.loc (VT d L) ↦[(b19).view.set]{fullShare} (sA x1))
      ∗ ((b20).view.loc (VT d L) ↦[(b20).view.set]{fullShare} (sD x2 x0)) ∗ ((b21).view.loc (VT d L) ↦[(b21).view.set]{fullShare} (sD x3 x1))) := by
  unfold inv3; rw [show k0_t3_loop.trips = 256 from rfl, stp256, stp256, stp256, stp256]
/-- After its last trip loop 4 leaves the scaled planes and differences. -/
theorem inv4_end (x0 x1 x2 x3 : S16x256.Idx → F .f32) (a : PUnit) : inv4 d L x0 x1 x2 x3 k0_t4_loop.trips a ⊢
    iprop(((b0).view.loc (VT d L) ↦[(b0).view.set]{fullShare} (sA x0)) ∗ ((b1).view.loc (VT d L) ↦[(b1).view.set]{fullShare} (sA x1))
      ∗ ((b2).view.loc (VT d L) ↦[(b2).view.set]{fullShare} (sD x2 x0)) ∗ ((b3).view.loc (VT d L) ↦[(b3).view.set]{fullShare} (sD x3 x1))) := by
  unfold inv4; rw [show k0_t4_loop.trips = 256 from rfl, stp256, stp256, stp256, stp256]
/-- After its last trip loop 5 leaves the scaled planes and differences. -/
theorem inv5_end (x0 x1 x2 x3 : S16x256.Idx → F .f32) (a : PUnit) : inv5 d L x0 x1 x2 x3 k0_t5_loop.trips a ⊢
    iprop(((b9).view.loc (VT d L) ↦[(b9).view.set]{fullShare} (sA x0)) ∗ ((b10).view.loc (VT d L) ↦[(b10).view.set]{fullShare} (sA x1))
      ∗ ((b11).view.loc (VT d L) ↦[(b11).view.set]{fullShare} (sD x2 x0)) ∗ ((b12).view.loc (VT d L) ↦[(b12).view.set]{fullShare} (sD x3 x1))) := by
  unfold inv5; rw [show k0_t5_loop.trips = 256 from rfl, stp256, stp256, stp256, stp256]
/-- A read of buffer 4 after a whole store is what was stored. -/
theorem rd4 (f w : S16x256.Idx → F .f32) (ps : List (View.Piece (Elt F) S16x256 .f32)) (y : S16x256.Idx) :
    (ReadAs.same.apply ((b4).view.read (Elt F) ((b4).view.writes (Elt F) f (⟨Rect.whole cc0_scratch4.ty.shape, w⟩ :: ps))) : S16x256.Idx → F .f32) y = w y :=
  congrFun (View.read_writes_whole (Val := Elt F) (b4).view ((b4).view.writes (Elt F) f ps) w) y
/-- A read of buffer 5 after a whole store is what was stored. -/
theorem rd5 (f w : S16x256.Idx → F .f32) (ps : List (View.Piece (Elt F) S16x256 .f32)) (y : S16x256.Idx) :
    (ReadAs.same.apply ((b5).view.read (Elt F) ((b5).view.writes (Elt F) f (⟨Rect.whole cc0_scratch5.ty.shape, w⟩ :: ps))) : S16x256.Idx → F .f32) y = w y :=
  congrFun (View.read_writes_whole (Val := Elt F) (b5).view ((b5).view.writes (Elt F) f ps) w) y
/-- A read of buffer 6 after a whole store is what was stored. -/
theorem rd6 (f w : S16x256.Idx → F .f32) (ps : List (View.Piece (Elt F) S16x256 .f32)) (y : S16x256.Idx) :
    (ReadAs.same.apply ((b6).view.read (Elt F) ((b6).view.writes (Elt F) f (⟨Rect.whole cc0_scratch6.ty.shape, w⟩ :: ps))) : S16x256.Idx → F .f32) y = w y :=
  congrFun (View.read_writes_whole (Val := Elt F) (b6).view ((b6).view.writes (Elt F) f ps) w) y
/-- A read of buffer 7 after a whole store is what was stored. -/
theorem rd7 (f w : S16x256.Idx → F .f32) (ps : List (View.Piece (Elt F) S16x256 .f32)) (y : S16x256.Idx) :
    (ReadAs.same.apply ((b7).view.read (Elt F) ((b7).view.writes (Elt F) f (⟨Rect.whole cc0_scratch7.ty.shape, w⟩ :: ps))) : S16x256.Idx → F .f32) y = w y :=
  congrFun (View.read_writes_whole (Val := Elt F) (b7).view ((b7).view.writes (Elt F) f ps) w) y
/-- A read of buffer 8 after a whole store is what was stored. -/
theorem rd8 (f w : S16x256.Idx → F .f32) (ps : List (View.Piece (Elt F) S16x256 .f32)) (y : S16x256.Idx) :
    (ReadAs.same.apply ((b8).view.read (Elt F) ((b8).view.writes (Elt F) f (⟨Rect.whole cc0_scratch8.ty.shape, w⟩ :: ps))) : S16x256.Idx → F .f32) y = w y :=
  congrFun (View.read_writes_whole (Val := Elt F) (b8).view ((b8).view.writes (Elt F) f ps) w) y
/-- A read of buffer 13 after a whole store is what was stored. -/
theorem rd13 (f w : S16x256.Idx → F .f32) (ps : List (View.Piece (Elt F) S16x256 .f32)) (y : S16x256.Idx) :
    (ReadAs.same.apply ((b13).view.read (Elt F) ((b13).view.writes (Elt F) f (⟨Rect.whole cc0_scratch13.ty.shape, w⟩ :: ps))) : S16x256.Idx → F .f32) y = w y :=
  congrFun (View.read_writes_whole (Val := Elt F) (b13).view ((b13).view.writes (Elt F) f ps) w) y
/-- A read of buffer 14 after a whole store is what was stored. -/
theorem rd14 (f w : S16x256.Idx → F .f32) (ps : List (View.Piece (Elt F) S16x256 .f32)) (y : S16x256.Idx) :
    (ReadAs.same.apply ((b14).view.read (Elt F) ((b14).view.writes (Elt F) f (⟨Rect.whole cc0_scratch14.ty.shape, w⟩ :: ps))) : S16x256.Idx → F .f32) y = w y :=
  congrFun (View.read_writes_whole (Val := Elt F) (b14).view ((b14).view.writes (Elt F) f ps) w) y
/-- A read of buffer 15 after a whole store is what was stored. -/
theorem rd15 (f w : S16x256.Idx → F .f32) (ps : List (View.Piece (Elt F) S16x256 .f32)) (y : S16x256.Idx) :
    (ReadAs.same.apply ((b15).view.read (Elt F) ((b15).view.writes (Elt F) f (⟨Rect.whole cc0_scratch15.ty.shape, w⟩ :: ps))) : S16x256.Idx → F .f32) y = w y :=
  congrFun (View.read_writes_whole (Val := Elt F) (b15).view ((b15).view.writes (Elt F) f ps) w) y
/-- A read of buffer 16 after a whole store is what was stored. -/
theorem rd16 (f w : S16x256.Idx → F .f32) (ps : List (View.Piece (Elt F) S16x256 .f32)) (y : S16x256.Idx) :
    (ReadAs.same.apply ((b16).view.read (Elt F) ((b16).view.writes (Elt F) f (⟨Rect.whole cc0_scratch16.ty.shape, w⟩ :: ps))) : S16x256.Idx → F .f32) y = w y :=
  congrFun (View.read_writes_whole (Val := Elt F) (b16).view ((b16).view.writes (Elt F) f ps) w) y
/-- A read of buffer 17 after a whole store is what was stored. -/
theorem rd17 (f w : S16x256.Idx → F .f32) (ps : List (View.Piece (Elt F) S16x256 .f32)) (y : S16x256.Idx) :
    (ReadAs.same.apply ((b17).view.read (Elt F) ((b17).view.writes (Elt F) f (⟨Rect.whole cc0_scratch17.ty.shape, w⟩ :: ps))) : S16x256.Idx → F .f32) y = w y :=
  congrFun (View.read_writes_whole (Val := Elt F) (b17).view ((b17).view.writes (Elt F) f ps) w) y
/-- A read of buffer 22 after a whole store is what was stored. -/
theorem rd22 (f w : S16x256.Idx → F .f32) (ps : List (View.Piece (Elt F) S16x256 .f32)) (y : S16x256.Idx) :
    (ReadAs.same.apply ((b22).view.read (Elt F) ((b22).view.writes (Elt F) f (⟨Rect.whole cc0_scratch22.ty.shape, w⟩ :: ps))) : S16x256.Idx → F .f32) y = w y :=
  congrFun (View.read_writes_whole (Val := Elt F) (b22).view ((b22).view.writes (Elt F) f ps) w) y
/-- A read of buffer 23 after a whole store is what was stored. -/
theorem rd23 (f w : S16x256.Idx → F .f32) (ps : List (View.Piece (Elt F) S16x256 .f32)) (y : S16x256.Idx) :
    (ReadAs.same.apply ((b23).view.read (Elt F) ((b23).view.writes (Elt F) f (⟨Rect.whole cc0_scratch23.ty.shape, w⟩ :: ps))) : S16x256.Idx → F .f32) y = w y :=
  congrFun (View.read_writes_whole (Val := Elt F) (b23).view ((b23).view.writes (Elt F) f ps) w) y
/-- A read of buffer 24 after a whole store is what was stored. -/
theorem rd24 (f w : S16x256.Idx → F .f32) (ps : List (View.Piece (Elt F) S16x256 .f32)) (y : S16x256.Idx) :
    (ReadAs.same.apply ((b24).view.read (Elt F) ((b24).view.writes (Elt F) f (⟨Rect.whole cc0_scratch24.ty.shape, w⟩ :: ps))) : S16x256.Idx → F .f32) y = w y :=
  congrFun (View.read_writes_whole (Val := Elt F) (b24).view ((b24).view.writes (Elt F) f ps) w) y
/-- A read of buffer 25 after a whole store is what was stored. -/
theorem rd25 (f w : S16x256.Idx → F .f32) (ps : List (View.Piece (Elt F) S16x256 .f32)) (y : S16x256.Idx) :
    (ReadAs.same.apply ((b25).view.read (Elt F) ((b25).view.writes (Elt F) f (⟨Rect.whole cc0_scratch25.ty.shape, w⟩ :: ps))) : S16x256.Idx → F .f32) y = w y :=
  congrFun (View.read_writes_whole (Val := Elt F) (b25).view ((b25).view.writes (Elt F) f ps) w) y
/-- A read of buffer 26 after a whole store is what was stored. -/
theorem rd26 (f w : S16x256.Idx → F .f32) (ps : List (View.Piece (Elt F) S16x256 .f32)) (y : S16x256.Idx) :
    (ReadAs.same.apply ((b26).view.read (Elt F) ((b26).view.writes (Elt F) f (⟨Rect.whole cc0_scratch26.ty.shape, w⟩ :: ps))) : S16x256.Idx → F .f32) y = w y :=
  congrFun (View.read_writes_whole (Val := Elt F) (b26).view ((b26).view.writes (Elt F) f ps) w) y
/-- Buffer 0 after its block has come in is at its values before the first trip. -/
theorem in_cl0 (f w new x : S16x256.Idx → F .f32) (h : w = x) :
    (((b0).view.loc (VT d L) ↦[(b0).view.set]{fullShare} (b0).view.writes (Elt F) f [⟨Rect.whole cc0_scratch0.ty.shape, w⟩]) : sProp 𝕄)
      ⊢ ((b0).view.loc (VT d L) ↦[(b0).view.set]{fullShare} stp 0 new x) := by
  subst h; rw [wr0, stp_zero]
/-- Buffer 1 after its block has come in is at its values before the first trip. -/
theorem in_cl1 (f w new x : S16x256.Idx → F .f32) (h : w = x) :
    (((b1).view.loc (VT d L) ↦[(b1).view.set]{fullShare} (b1).view.writes (Elt F) f [⟨Rect.whole cc0_scratch1.ty.shape, w⟩]) : sProp 𝕄)
      ⊢ ((b1).view.loc (VT d L) ↦[(b1).view.set]{fullShare} stp 0 new x) := by
  subst h; rw [wr1, stp_zero]
/-- Buffer 2 after its block has come in is at its values before the first trip. -/
theorem in_cl2 (f w new x : S16x256.Idx → F .f32) (h : w = x) :
    (((b2).view.loc (VT d L) ↦[(b2).view.set]{fullShare} (b2).view.writes (Elt F) f [⟨Rect.whole cc0_scratch2.ty.shape, w⟩]) : sProp 𝕄)
      ⊢ ((b2).view.loc (VT d L) ↦[(b2).view.set]{fullShare} stp 0 new x) := by
  subst h; rw [wr2, stp_zero]
/-- Buffer 3 after its block has come in is at its values before the first trip. -/
theorem in_cl3 (f w new x : S16x256.Idx → F .f32) (h : w = x) :
    (((b3).view.loc (VT d L) ↦[(b3).view.set]{fullShare} (b3).view.writes (Elt F) f [⟨Rect.whole cc0_scratch3.ty.shape, w⟩]) : sProp 𝕄)
      ⊢ ((b3).view.loc (VT d L) ↦[(b3).view.set]{fullShare} stp 0 new x) := by
  subst h; rw [wr3, stp_zero]
/-- Buffer 9 after its block has come in is at its values before the first trip. -/
theorem in_cl9 (f w new x : S16x256.Idx → F .f32) (h : w = x) :
    (((b9).view.loc (VT d L) ↦[(b9).view.set]{fullShare} (b9).view.writes (Elt F) f [⟨Rect.whole cc0_scratch9.ty.shape, w⟩]) : sProp 𝕄)
      ⊢ ((b9).view.loc (VT d L) ↦[(b9).view.set]{fullShare} stp 0 new x) := by
  subst h; rw [wr9, stp_zero]
/-- Buffer 10 after its block has come in is at its values before the first trip. -/
theorem in_cl10 (f w new x : S16x256.Idx → F .f32) (h : w = x) :
    (((b10).view.loc (VT d L) ↦[(b10).view.set]{fullShare} (b10).view.writes (Elt F) f [⟨Rect.whole cc0_scratch10.ty.shape, w⟩]) : sProp 𝕄)
      ⊢ ((b10).view.loc (VT d L) ↦[(b10).view.set]{fullShare} stp 0 new x) := by
  subst h; rw [wr10, stp_zero]
/-- Buffer 11 after its block has come in is at its values before the first trip. -/
theorem in_cl11 (f w new x : S16x256.Idx → F .f32) (h : w = x) :
    (((b11).view.loc (VT d L) ↦[(b11).view.set]{fullShare} (b11).view.writes (Elt F) f [⟨Rect.whole cc0_scratch11.ty.shape, w⟩]) : sProp 𝕄)
      ⊢ ((b11).view.loc (VT d L) ↦[(b11).view.set]{fullShare} stp 0 new x) := by
  subst h; rw [wr11, stp_zero]
/-- Buffer 12 after its block has come in is at its values before the first trip. -/
theorem in_cl12 (f w new x : S16x256.Idx → F .f32) (h : w = x) :
    (((b12).view.loc (VT d L) ↦[(b12).view.set]{fullShare} (b12).view.writes (Elt F) f [⟨Rect.whole cc0_scratch12.ty.shape, w⟩]) : sProp 𝕄)
      ⊢ ((b12).view.loc (VT d L) ↦[(b12).view.set]{fullShare} stp 0 new x) := by
  subst h; rw [wr12, stp_zero]
/-- Buffer 18 after its block has come in is at its values before the first trip. -/
theorem in_cl18 (f w new x : S16x256.Idx → F .f32) (h : w = x) :
    (((b18).view.loc (VT d L) ↦[(b18).view.set]{fullShare} (b18).view.writes (Elt F) f [⟨Rect.whole cc0_scratch18.ty.shape, w⟩]) : sProp 𝕄)
      ⊢ ((b18).view.loc (VT d L) ↦[(b18).view.set]{fullShare} stp 0 new x) := by
  subst h; rw [wr18, stp_zero]
/-- Buffer 19 after its block has come in is at its values before the first trip. -/
theorem in_cl19 (f w new x : S16x256.Idx → F .f32) (h : w = x) :
    (((b19).view.loc (VT d L) ↦[(b19).view.set]{fullShare} (b19).view.writes (Elt F) f [⟨Rect.whole cc0_scratch19.ty.shape, w⟩]) : sProp 𝕄)
      ⊢ ((b19).view.loc (VT d L) ↦[(b19).view.set]{fullShare} stp 0 new x) := by
  subst h; rw [wr19, stp_zero]
/-- Buffer 20 after its block has come in is at its values before the first trip. -/
theorem in_cl20 (f w new x : S16x256.Idx → F .f32) (h : w = x) :
    (((b20).view.loc (VT d L) ↦[(b20).view.set]{fullShare} (b20).view.writes (Elt F) f [⟨Rect.whole cc0_scratch20.ty.shape, w⟩]) : sProp 𝕄)
      ⊢ ((b20).view.loc (VT d L) ↦[(b20).view.set]{fullShare} stp 0 new x) := by
  subst h; rw [wr20, stp_zero]
/-- Buffer 21 after its block has come in is at its values before the first trip. -/
theorem in_cl21 (f w new x : S16x256.Idx → F .f32) (h : w = x) :
    (((b21).view.loc (VT d L) ↦[(b21).view.set]{fullShare} (b21).view.writes (Elt F) f [⟨Rect.whole cc0_scratch21.ty.shape, w⟩]) : sProp 𝕄)
      ⊢ ((b21).view.loc (VT d L) ↦[(b21).view.set]{fullShare} stp 0 new x) := by
  subst h; rw [wr21, stp_zero]
/-- A delivered block holds the result. -/
theorem out_cl (X : Buf (Elt F) (xLoc d)) (V1 f : Buf (Elt F) (oLoc d)) (off : Fin 3 → Nat) (h) (p : Fin 9) (u : Nat) (hu : u < 156) (e : ∀ a, off a = bOff p.val u a)
    (w : S16x256.Idx → F .f32) (hw : ∀ y, w y = outv (fun q => xin X q u y) p) :
    (((oWin off h).view.loc (VT d L) ↦[(oWin off h).view.set]{fullShare} (oWin off h).view.writes (Elt F) f [⟨Rect.whole S16x256, w⟩]) : sProp 𝕄)
      ⊢ ((oWin off h).view.loc (VT d L) ↦[(oWin off h).view.set]{fullShare} OUTF X V1) :=
  Entails.of_eq (pointsTo_congr fun x hx => out_val X V1 f off h p u hu e w hw x hx)

/-- Block `u` of the nine fetched planes. -/
def inB (u : Nat) (X : Buf (Elt F) (xLoc d)) : sProp 𝕄 :=
  iprop((xLoc d ↦[xBlk 0 u]{fullShare} X)
    ∗ (xLoc d ↦[xBlk 1 u]{fullShare} X)
    ∗ (xLoc d ↦[xBlk 2 u]{fullShare} X)
    ∗ (xLoc d ↦[xBlk 3 u]{fullShare} X)
    ∗ (xLoc d ↦[xBlk 4 u]{fullShare} X)
    ∗ (xLoc d ↦[xBlk 6 u]{fullShare} X)
    ∗ (xLoc d ↦[xBlk 7 u]{fullShare} X)
    ∗ (xLoc d ↦[xBlk 8 u]{fullShare} X)
    ∗ (xLoc d ↦[xBlk 9 u]{fullShare} X))
/-- Block `u` of the nine result planes. -/
def outB (u : Nat) (V : Buf (Elt F) (oLoc d)) : sProp 𝕄 :=
  iprop((oLoc d ↦[oBlk 0 u]{fullShare} V)
    ∗ (oLoc d ↦[oBlk 1 u]{fullShare} V)
    ∗ (oLoc d ↦[oBlk 2 u]{fullShare} V)
    ∗ (oLoc d ↦[oBlk 3 u]{fullShare} V)
    ∗ (oLoc d ↦[oBlk 4 u]{fullShare} V)
    ∗ (oLoc d ↦[oBlk 5 u]{fullShare} V)
    ∗ (oLoc d ↦[oBlk 6 u]{fullShare} V)
    ∗ (oLoc d ↦[oBlk 7 u]{fullShare} V)
    ∗ (oLoc d ↦[oBlk 8 u]{fullShare} V))

/-- A block past the covered columns is left as it was. -/
theorem outB_skip (u : Nat) (X : Buf (Elt F) (xLoc d)) (V1 : Buf (Elt F) (oLoc d)) (hu : 156 ≤ u) : outB d u V1 ⊢ outB d u (OUTF X V1) := by
  have e : ∀ p, ((oLoc d ↦[oBlk p u]{fullShare} V1) : sProp 𝕄) = (oLoc d ↦[oBlk p u]{fullShare} OUTF X V1) := fun p =>
    pointsTo_congr fun x hx => by
      have h2 : (x 2).val / 256 = u / 2 := (Finset.mem_filter.mp hx).2.2.2
      unfold OUTF
      rw [if_neg (by omega)]
  unfold outB
  exact Entails.of_eq (by rw [e 0, e 1, e 2, e 3, e 4, e 5, e 6, e 7, e 8])

/-- Equal parts make equal conjunctions. -/
theorem sep_eq {P P' Q Q' : sProp 𝕄} (h : P = P') (h' : Q = Q') : iprop(P ∗ Q) = iprop(P' ∗ Q') := by rw [h, h']
/-- A block of the operand in the body's spelling of its window. -/
theorem pt_x (X : Buf (Elt F) (xLoc d)) (off : Fin 3 → Nat) (h) (p u : Nat) (e : ∀ a, off a = bOff p u a) :
    ((xLoc d ↦[xBlk p u]{fullShare} X) : sProp 𝕄) = ((xWin off h).view.loc (VT d L) ↦[(xWin off h).view.set]{fullShare} X) := by
  rw [xWin_set off h p u e]
/-- A block of the result in the body's spelling of its window. -/
theorem pt_o (V : Buf (Elt F) (oLoc d)) (off : Fin 3 → Nat) (h) (p u : Nat) (e : ∀ a, off a = bOff p u a) :
    ((oLoc d ↦[oBlk p u]{fullShare} V) : sProp 𝕄) = ((oWin off h).view.loc (VT d L) ↦[(oWin off h).view.set]{fullShare} V) := by
  rw [oWin_set off h p u e]

/-- The operand's blocks of round 0 in the body's spelling. -/
theorem inB_un0 (X : Buf (Elt F) (xLoc d)) : inB d (wid L + 0) X =
    iprop(((xWin (k0_off1 L 0#32) (k0_off1_inb L 0)).view.loc (VT d L) ↦[(xWin (k0_off1 L 0#32) (k0_off1_inb L 0)).view.set]{fullShare} X)
      ∗ ((xWin (k0_off2 L 0#32) (k0_off2_inb L 0)).view.loc (VT d L) ↦[(xWin (k0_off2 L 0#32) (k0_off2_inb L 0)).view.set]{fullShare} X)
      ∗ ((xWin (k0_off3 L 0#32) (k0_off3_inb L 0)).view.loc (VT d L) ↦[(xWin (k0_off3 L 0#32) (k0_off3_inb L 0)).view.set]{fullShare} X)
      ∗ ((xWin (k0_off4 L 0#32) (k0_off4_inb L 0)).view.loc (VT d L) ↦[(xWin (k0_off4 L 0#32) (k0_off4_inb L 0)).view.set]{fullShare} X)
      ∗ ((xWin (k0_off5 L 0#32) (k0_off5_inb L 0)).view.loc (VT d L) ↦[(xWin (k0_off5 L 0#32) (k0_off5_inb L 0)).view.set]{fullShare} X)
      ∗ ((xWin (k0_off6 L 0#32) (k0_off6_inb L 0)).view.loc (VT d L) ↦[(xWin (k0_off6 L 0#32) (k0_off6_inb L 0)).view.set]{fullShare} X)
      ∗ ((xWin (k0_off7 L 0#32) (k0_off7_inb L 0)).view.loc (VT d L) ↦[(xWin (k0_off7 L 0#32) (k0_off7_inb L 0)).view.set]{fullShare} X)
      ∗ ((xWin (k0_off8 L 0#32) (k0_off8_inb L 0)).view.loc (VT d L) ↦[(xWin (k0_off8 L 0#32) (k0_off8_inb L 0)).view.set]{fullShare} X)
      ∗ ((xWin (k0_off9 L 0#32) (k0_off9_inb L 0)).view.loc (VT d L) ↦[(xWin (k0_off9 L 0#32) (k0_off9_inb L 0)).view.set]{fullShare} X)) := by
  unfold inB
  exact (sep_eq (pt_x d L X (k0_off1 L 0#32) (k0_off1_inb L 0) 0 (wid L + 0) (off1_eq L 0))
    (sep_eq (pt_x d L X (k0_off2 L 0#32) (k0_off2_inb L 0) 1 (wid L + 0) (off2_eq L 0))
    (sep_eq (pt_x d L X (k0_off3 L 0#32) (k0_off3_inb L 0) 2 (wid L + 0) (off3_eq L 0))
    (sep_eq (pt_x d L X (k0_off4 L 0#32) (k0_off4_inb L 0) 3 (wid L + 0) (off4_eq L 0))
    (sep_eq (pt_x d L X (k0_off5 L 0#32) (k0_off5_inb L 0) 4 (wid L + 0) (off5_eq L 0))
    (sep_eq (pt_x d L X (k0_off6 L 0#32) (k0_off6_inb L 0) 6 (wid L + 0) (off6_eq L 0))
    (sep_eq (pt_x d L X (k0_off7 L 0#32) (k0_off7_inb L 0) 7 (wid L + 0) (off7_eq L 0))
    (sep_eq (pt_x d L X (k0_off8 L 0#32) (k0_off8_inb L 0) 8 (wid L + 0) (off8_eq L 0))
    (pt_x d L X (k0_off9 L 0#32) (k0_off9_inb L 0) 9 (wid L + 0) (off9_eq L 0))))))))))
/-- The result's blocks of round 0 in the body's spelling. -/
theorem outB_un0 (V : Buf (Elt F) (oLoc d)) : outB d (wid L + 0) V =
    iprop(((oWin (k0_off11 L 0#32) (k0_off11_inb L 0)).view.loc (VT d L) ↦[(oWin (k0_off11 L 0#32) (k0_off11_inb L 0)).view.set]{fullShare} V)
      ∗ ((oWin (k0_off12 L 0#32) (k0_off12_inb L 0)).view.loc (VT d L) ↦[(oWin (k0_off12 L 0#32) (k0_off12_inb L 0)).view.set]{fullShare} V)
      ∗ ((oWin (k0_off13 L 0#32) (k0_off13_inb L 0)).view.loc (VT d L) ↦[(oWin (k0_off13 L 0#32) (k0_off13_inb L 0)).view.set]{fullShare} V)
      ∗ ((oWin (k0_off14 L 0#32) (k0_off14_inb L 0)).view.loc (VT d L) ↦[(oWin (k0_off14 L 0#32) (k0_off14_inb L 0)).view.set]{fullShare} V)
      ∗ ((oWin (k0_off15 L 0#32) (k0_off15_inb L 0)).view.loc (VT d L) ↦[(oWin (k0_off15 L 0#32) (k0_off15_inb L 0)).view.set]{fullShare} V)
      ∗ ((oWin (k0_off16 L 0#32) (k0_off16_inb L 0)).view.loc (VT d L) ↦[(oWin (k0_off16 L 0#32) (k0_off16_inb L 0)).view.set]{fullShare} V)
      ∗ ((oWin (k0_off17 L 0#32) (k0_off17_inb L 0)).view.loc (VT d L) ↦[(oWin (k0_off17 L 0#32) (k0_off17_inb L 0)).view.set]{fullShare} V)
      ∗ ((oWin (k0_off18 L 0#32) (k0_off18_inb L 0)).view.loc (VT d L) ↦[(oWin (k0_off18 L 0#32) (k0_off18_inb L 0)).view.set]{fullShare} V)
      ∗ ((oWin (k0_off19 L 0#32) (k0_off19_inb L 0)).view.loc (VT d L) ↦[(oWin (k0_off19 L 0#32) (k0_off19_inb L 0)).view.set]{fullShare} V)) := by
  unfold outB
  exact (sep_eq (pt_o d L V (k0_off11 L 0#32) (k0_off11_inb L 0) 0 (wid L + 0) (off11_eq L 0))
    (sep_eq (pt_o d L V (k0_off12 L 0#32) (k0_off12_inb L 0) 1 (wid L + 0) (off12_eq L 0))
    (sep_eq (pt_o d L V (k0_off13 L 0#32) (k0_off13_inb L 0) 2 (wid L + 0) (off13_eq L 0))
    (sep_eq (pt_o d L V (k0_off14 L 0#32) (k0_off14_inb L 0) 3 (wid L + 0) (off14_eq L 0))
    (sep_eq (pt_o d L V (k0_off15 L 0#32) (k0_off15_inb L 0) 4 (wid L + 0) (off15_eq L 0))
    (sep_eq (pt_o d L V (k0_off16 L 0#32) (k0_off16_inb L 0) 5 (wid L + 0) (off16_eq L 0))
    (sep_eq (pt_o d L V (k0_off17 L 0#32) (k0_off17_inb L 0) 6 (wid L + 0) (off17_eq L 0))
    (sep_eq (pt_o d L V (k0_off18 L 0#32) (k0_off18_inb L 0) 7 (wid L + 0) (off18_eq L 0))
    (pt_o d L V (k0_off19 L 0#32) (k0_off19_inb L 0) 8 (wid L + 0) (off19_eq L 0))))))))))
/-- The operand's blocks of round 1 in the body's spelling. -/
theorem inB_un1 (X : Buf (Elt F) (xLoc d)) : inB d (wid L + 32) X =
    iprop(((xWin (k0_off1 L 32#32) (k0_off1_inb L 1)).view.loc (VT d L) ↦[(xWin (k0_off1 L 32#32) (k0_off1_inb L 1)).view.set]{fullShare} X)
      ∗ ((xWin (k0_off2 L 32#32) (k0_off2_inb L 1)).view.loc (VT d L) ↦[(xWin (k0_off2 L 32#32) (k0_off2_inb L 1)).view.set]{fullShare} X)
      ∗ ((xWin (k0_off3 L 32#32) (k0_off3_inb L 1)).view.loc (VT d L) ↦[(xWin (k0_off3 L 32#32) (k0_off3_inb L 1)).view.set]{fullShare} X)
      ∗ ((xWin (k0_off4 L 32#32) (k0_off4_inb L 1)).view.loc (VT d L) ↦[(xWin (k0_off4 L 32#32) (k0_off4_inb L 1)).view.set]{fullShare} X)
      ∗ ((xWin (k0_off5 L 32#32) (k0_off5_inb L 1)).view.loc (VT d L) ↦[(xWin (k0_off5 L 32#32) (k0_off5_inb L 1)).view.set]{fullShare} X)
      ∗ ((xWin (k0_off6 L 32#32) (k0_off6_inb L 1)).view.loc (VT d L) ↦[(xWin (k0_off6 L 32#32) (k0_off6_inb L 1)).view.set]{fullShare} X)
      ∗ ((xWin (k0_off7 L 32#32) (k0_off7_inb L 1)).view.loc (VT d L) ↦[(xWin (k0_off7 L 32#32) (k0_off7_inb L 1)).view.set]{fullShare} X)
      ∗ ((xWin (k0_off8 L 32#32) (k0_off8_inb L 1)).view.loc (VT d L) ↦[(xWin (k0_off8 L 32#32) (k0_off8_inb L 1)).view.set]{fullShare} X)
      ∗ ((xWin (k0_off9 L 32#32) (k0_off9_inb L 1)).view.loc (VT d L) ↦[(xWin (k0_off9 L 32#32) (k0_off9_inb L 1)).view.set]{fullShare} X)) := by
  unfold inB
  exact (sep_eq (pt_x d L X (k0_off1 L 32#32) (k0_off1_inb L 1) 0 (wid L + 32) (off1_eq L 1))
    (sep_eq (pt_x d L X (k0_off2 L 32#32) (k0_off2_inb L 1) 1 (wid L + 32) (off2_eq L 1))
    (sep_eq (pt_x d L X (k0_off3 L 32#32) (k0_off3_inb L 1) 2 (wid L + 32) (off3_eq L 1))
    (sep_eq (pt_x d L X (k0_off4 L 32#32) (k0_off4_inb L 1) 3 (wid L + 32) (off4_eq L 1))
    (sep_eq (pt_x d L X (k0_off5 L 32#32) (k0_off5_inb L 1) 4 (wid L + 32) (off5_eq L 1))
    (sep_eq (pt_x d L X (k0_off6 L 32#32) (k0_off6_inb L 1) 6 (wid L + 32) (off6_eq L 1))
    (sep_eq (pt_x d L X (k0_off7 L 32#32) (k0_off7_inb L 1) 7 (wid L + 32) (off7_eq L 1))
    (sep_eq (pt_x d L X (k0_off8 L 32#32) (k0_off8_inb L 1) 8 (wid L + 32) (off8_eq L 1))
    (pt_x d L X (k0_off9 L 32#32) (k0_off9_inb L 1) 9 (wid L + 32) (off9_eq L 1))))))))))
/-- The result's blocks of round 1 in the body's spelling. -/
theorem outB_un1 (V : Buf (Elt F) (oLoc d)) : outB d (wid L + 32) V =
    iprop(((oWin (k0_off11 L 32#32) (k0_off11_inb L 1)).view.loc (VT d L) ↦[(oWin (k0_off11 L 32#32) (k0_off11_inb L 1)).view.set]{fullShare} V)
      ∗ ((oWin (k0_off12 L 32#32) (k0_off12_inb L 1)).view.loc (VT d L) ↦[(oWin (k0_off12 L 32#32) (k0_off12_inb L 1)).view.set]{fullShare} V)
      ∗ ((oWin (k0_off13 L 32#32) (k0_off13_inb L 1)).view.loc (VT d L) ↦[(oWin (k0_off13 L 32#32) (k0_off13_inb L 1)).view.set]{fullShare} V)
      ∗ ((oWin (k0_off14 L 32#32) (k0_off14_inb L 1)).view.loc (VT d L) ↦[(oWin (k0_off14 L 32#32) (k0_off14_inb L 1)).view.set]{fullShare} V)
      ∗ ((oWin (k0_off15 L 32#32) (k0_off15_inb L 1)).view.loc (VT d L) ↦[(oWin (k0_off15 L 32#32) (k0_off15_inb L 1)).view.set]{fullShare} V)
      ∗ ((oWin (k0_off16 L 32#32) (k0_off16_inb L 1)).view.loc (VT d L) ↦[(oWin (k0_off16 L 32#32) (k0_off16_inb L 1)).view.set]{fullShare} V)
      ∗ ((oWin (k0_off17 L 32#32) (k0_off17_inb L 1)).view.loc (VT d L) ↦[(oWin (k0_off17 L 32#32) (k0_off17_inb L 1)).view.set]{fullShare} V)
      ∗ ((oWin (k0_off18 L 32#32) (k0_off18_inb L 1)).view.loc (VT d L) ↦[(oWin (k0_off18 L 32#32) (k0_off18_inb L 1)).view.set]{fullShare} V)
      ∗ ((oWin (k0_off19 L 32#32) (k0_off19_inb L 1)).view.loc (VT d L) ↦[(oWin (k0_off19 L 32#32) (k0_off19_inb L 1)).view.set]{fullShare} V)) := by
  unfold outB
  exact (sep_eq (pt_o d L V (k0_off11 L 32#32) (k0_off11_inb L 1) 0 (wid L + 32) (off11_eq L 1))
    (sep_eq (pt_o d L V (k0_off12 L 32#32) (k0_off12_inb L 1) 1 (wid L + 32) (off12_eq L 1))
    (sep_eq (pt_o d L V (k0_off13 L 32#32) (k0_off13_inb L 1) 2 (wid L + 32) (off13_eq L 1))
    (sep_eq (pt_o d L V (k0_off14 L 32#32) (k0_off14_inb L 1) 3 (wid L + 32) (off14_eq L 1))
    (sep_eq (pt_o d L V (k0_off15 L 32#32) (k0_off15_inb L 1) 4 (wid L + 32) (off15_eq L 1))
    (sep_eq (pt_o d L V (k0_off16 L 32#32) (k0_off16_inb L 1) 5 (wid L + 32) (off16_eq L 1))
    (sep_eq (pt_o d L V (k0_off17 L 32#32) (k0_off17_inb L 1) 6 (wid L + 32) (off17_eq L 1))
    (sep_eq (pt_o d L V (k0_off18 L 32#32) (k0_off18_inb L 1) 7 (wid L + 32) (off18_eq L 1))
    (pt_o d L V (k0_off19 L 32#32) (k0_off19_inb L 1) 8 (wid L + 32) (off19_eq L 1))))))))))
/-- The operand's blocks of round 2 in the body's spelling. -/
theorem inB_un2 (X : Buf (Elt F) (xLoc d)) : inB d (wid L + 64) X =
    iprop(((xWin (k0_off1 L 64#32) (k0_off1_inb L 2)).view.loc (VT d L) ↦[(xWin (k0_off1 L 64#32) (k0_off1_inb L 2)).view.set]{fullShare} X)
      ∗ ((xWin (k0_off2 L 64#32) (k0_off2_inb L 2)).view.loc (VT d L) ↦[(xWin (k0_off2 L 64#32) (k0_off2_inb L 2)).view.set]{fullShare} X)
      ∗ ((xWin (k0_off3 L 64#32) (k0_off3_inb L 2)).view.loc (VT d L) ↦[(xWin (k0_off3 L 64#32) (k0_off3_inb L 2)).view.set]{fullShare} X)
      ∗ ((xWin (k0_off4 L 64#32) (k0_off4_inb L 2)).view.loc (VT d L) ↦[(xWin (k0_off4 L 64#32) (k0_off4_inb L 2)).view.set]{fullShare} X)
      ∗ ((xWin (k0_off5 L 64#32) (k0_off5_inb L 2)).view.loc (VT d L) ↦[(xWin (k0_off5 L 64#32) (k0_off5_inb L 2)).view.set]{fullShare} X)
      ∗ ((xWin (k0_off6 L 64#32) (k0_off6_inb L 2)).view.loc (VT d L) ↦[(xWin (k0_off6 L 64#32) (k0_off6_inb L 2)).view.set]{fullShare} X)
      ∗ ((xWin (k0_off7 L 64#32) (k0_off7_inb L 2)).view.loc (VT d L) ↦[(xWin (k0_off7 L 64#32) (k0_off7_inb L 2)).view.set]{fullShare} X)
      ∗ ((xWin (k0_off8 L 64#32) (k0_off8_inb L 2)).view.loc (VT d L) ↦[(xWin (k0_off8 L 64#32) (k0_off8_inb L 2)).view.set]{fullShare} X)
      ∗ ((xWin (k0_off9 L 64#32) (k0_off9_inb L 2)).view.loc (VT d L) ↦[(xWin (k0_off9 L 64#32) (k0_off9_inb L 2)).view.set]{fullShare} X)) := by
  unfold inB
  exact (sep_eq (pt_x d L X (k0_off1 L 64#32) (k0_off1_inb L 2) 0 (wid L + 64) (off1_eq L 2))
    (sep_eq (pt_x d L X (k0_off2 L 64#32) (k0_off2_inb L 2) 1 (wid L + 64) (off2_eq L 2))
    (sep_eq (pt_x d L X (k0_off3 L 64#32) (k0_off3_inb L 2) 2 (wid L + 64) (off3_eq L 2))
    (sep_eq (pt_x d L X (k0_off4 L 64#32) (k0_off4_inb L 2) 3 (wid L + 64) (off4_eq L 2))
    (sep_eq (pt_x d L X (k0_off5 L 64#32) (k0_off5_inb L 2) 4 (wid L + 64) (off5_eq L 2))
    (sep_eq (pt_x d L X (k0_off6 L 64#32) (k0_off6_inb L 2) 6 (wid L + 64) (off6_eq L 2))
    (sep_eq (pt_x d L X (k0_off7 L 64#32) (k0_off7_inb L 2) 7 (wid L + 64) (off7_eq L 2))
    (sep_eq (pt_x d L X (k0_off8 L 64#32) (k0_off8_inb L 2) 8 (wid L + 64) (off8_eq L 2))
    (pt_x d L X (k0_off9 L 64#32) (k0_off9_inb L 2) 9 (wid L + 64) (off9_eq L 2))))))))))
/-- The result's blocks of round 2 in the body's spelling. -/
theorem outB_un2 (V : Buf (Elt F) (oLoc d)) : outB d (wid L + 64) V =
    iprop(((oWin (k0_off11 L 64#32) (k0_off11_inb L 2)).view.loc (VT d L) ↦[(oWin (k0_off11 L 64#32) (k0_off11_inb L 2)).view.set]{fullShare} V)
      ∗ ((oWin (k0_off12 L 64#32) (k0_off12_inb L 2)).view.loc (VT d L) ↦[(oWin (k0_off12 L 64#32) (k0_off12_inb L 2)).view.set]{fullShare} V)
      ∗ ((oWin (k0_off13 L 64#32) (k0_off13_inb L 2)).view.loc (VT d L) ↦[(oWin (k0_off13 L 64#32) (k0_off13_inb L 2)).view.set]{fullShare} V)
      ∗ ((oWin (k0_off14 L 64#32) (k0_off14_inb L 2)).view.loc (VT d L) ↦[(oWin (k0_off14 L 64#32) (k0_off14_inb L 2)).view.set]{fullShare} V)
      ∗ ((oWin (k0_off15 L 64#32) (k0_off15_inb L 2)).view.loc (VT d L) ↦[(oWin (k0_off15 L 64#32) (k0_off15_inb L 2)).view.set]{fullShare} V)
      ∗ ((oWin (k0_off16 L 64#32) (k0_off16_inb L 2)).view.loc (VT d L) ↦[(oWin (k0_off16 L 64#32) (k0_off16_inb L 2)).view.set]{fullShare} V)
      ∗ ((oWin (k0_off17 L 64#32) (k0_off17_inb L 2)).view.loc (VT d L) ↦[(oWin (k0_off17 L 64#32) (k0_off17_inb L 2)).view.set]{fullShare} V)
      ∗ ((oWin (k0_off18 L 64#32) (k0_off18_inb L 2)).view.loc (VT d L) ↦[(oWin (k0_off18 L 64#32) (k0_off18_inb L 2)).view.set]{fullShare} V)
      ∗ ((oWin (k0_off19 L 64#32) (k0_off19_inb L 2)).view.loc (VT d L) ↦[(oWin (k0_off19 L 64#32) (k0_off19_inb L 2)).view.set]{fullShare} V)) := by
  unfold outB
  exact (sep_eq (pt_o d L V (k0_off11 L 64#32) (k0_off11_inb L 2) 0 (wid L + 64) (off11_eq L 2))
    (sep_eq (pt_o d L V (k0_off12 L 64#32) (k0_off12_inb L 2) 1 (wid L + 64) (off12_eq L 2))
    (sep_eq (pt_o d L V (k0_off13 L 64#32) (k0_off13_inb L 2) 2 (wid L + 64) (off13_eq L 2))
    (sep_eq (pt_o d L V (k0_off14 L 64#32) (k0_off14_inb L 2) 3 (wid L + 64) (off14_eq L 2))
    (sep_eq (pt_o d L V (k0_off15 L 64#32) (k0_off15_inb L 2) 4 (wid L + 64) (off15_eq L 2))
    (sep_eq (pt_o d L V (k0_off16 L 64#32) (k0_off16_inb L 2) 5 (wid L + 64) (off16_eq L 2))
    (sep_eq (pt_o d L V (k0_off17 L 64#32) (k0_off17_inb L 2) 6 (wid L + 64) (off17_eq L 2))
    (sep_eq (pt_o d L V (k0_off18 L 64#32) (k0_off18_inb L 2) 7 (wid L + 64) (off18_eq L 2))
    (pt_o d L V (k0_off19 L 64#32) (k0_off19_inb L 2) 8 (wid L + 64) (off19_eq L 2))))))))))
/-- The operand's blocks of round 3 in the body's spelling. -/
theorem inB_un3 (X : Buf (Elt F) (xLoc d)) : inB d (wid L + 96) X =
    iprop(((xWin (k0_off1 L 96#32) (k0_off1_inb L 3)).view.loc (VT d L) ↦[(xWin (k0_off1 L 96#32) (k0_off1_inb L 3)).view.set]{fullShare} X)
      ∗ ((xWin (k0_off2 L 96#32) (k0_off2_inb L 3)).view.loc (VT d L) ↦[(xWin (k0_off2 L 96#32) (k0_off2_inb L 3)).view.set]{fullShare} X)
      ∗ ((xWin (k0_off3 L 96#32) (k0_off3_inb L 3)).view.loc (VT d L) ↦[(xWin (k0_off3 L 96#32) (k0_off3_inb L 3)).view.set]{fullShare} X)
      ∗ ((xWin (k0_off4 L 96#32) (k0_off4_inb L 3)).view.loc (VT d L) ↦[(xWin (k0_off4 L 96#32) (k0_off4_inb L 3)).view.set]{fullShare} X)
      ∗ ((xWin (k0_off5 L 96#32) (k0_off5_inb L 3)).view.loc (VT d L) ↦[(xWin (k0_off5 L 96#32) (k0_off5_inb L 3)).view.set]{fullShare} X)
      ∗ ((xWin (k0_off6 L 96#32) (k0_off6_inb L 3)).view.loc (VT d L) ↦[(xWin (k0_off6 L 96#32) (k0_off6_inb L 3)).view.set]{fullShare} X)
      ∗ ((xWin (k0_off7 L 96#32) (k0_off7_inb L 3)).view.loc (VT d L) ↦[(xWin (k0_off7 L 96#32) (k0_off7_inb L 3)).view.set]{fullShare} X)
      ∗ ((xWin (k0_off8 L 96#32) (k0_off8_inb L 3)).view.loc (VT d L) ↦[(xWin (k0_off8 L 96#32) (k0_off8_inb L 3)).view.set]{fullShare} X)
      ∗ ((xWin (k0_off9 L 96#32) (k0_off9_inb L 3)).view.loc (VT d L) ↦[(xWin (k0_off9 L 96#32) (k0_off9_inb L 3)).view.set]{fullShare} X)) := by
  unfold inB
  exact (sep_eq (pt_x d L X (k0_off1 L 96#32) (k0_off1_inb L 3) 0 (wid L + 96) (off1_eq L 3))
    (sep_eq (pt_x d L X (k0_off2 L 96#32) (k0_off2_inb L 3) 1 (wid L + 96) (off2_eq L 3))
    (sep_eq (pt_x d L X (k0_off3 L 96#32) (k0_off3_inb L 3) 2 (wid L + 96) (off3_eq L 3))
    (sep_eq (pt_x d L X (k0_off4 L 96#32) (k0_off4_inb L 3) 3 (wid L + 96) (off4_eq L 3))
    (sep_eq (pt_x d L X (k0_off5 L 96#32) (k0_off5_inb L 3) 4 (wid L + 96) (off5_eq L 3))
    (sep_eq (pt_x d L X (k0_off6 L 96#32) (k0_off6_inb L 3) 6 (wid L + 96) (off6_eq L 3))
    (sep_eq (pt_x d L X (k0_off7 L 96#32) (k0_off7_inb L 3) 7 (wid L + 96) (off7_eq L 3))
    (sep_eq (pt_x d L X (k0_off8 L 96#32) (k0_off8_inb L 3) 8 (wid L + 96) (off8_eq L 3))
    (pt_x d L X (k0_off9 L 96#32) (k0_off9_inb L 3) 9 (wid L + 96) (off9_eq L 3))))))))))
/-- The result's blocks of round 3 in the body's spelling. -/
theorem outB_un3 (V : Buf (Elt F) (oLoc d)) : outB d (wid L + 96) V =
    iprop(((oWin (k0_off11 L 96#32) (k0_off11_inb L 3)).view.loc (VT d L) ↦[(oWin (k0_off11 L 96#32) (k0_off11_inb L 3)).view.set]{fullShare} V)
      ∗ ((oWin (k0_off12 L 96#32) (k0_off12_inb L 3)).view.loc (VT d L) ↦[(oWin (k0_off12 L 96#32) (k0_off12_inb L 3)).view.set]{fullShare} V)
      ∗ ((oWin (k0_off13 L 96#32) (k0_off13_inb L 3)).view.loc (VT d L) ↦[(oWin (k0_off13 L 96#32) (k0_off13_inb L 3)).view.set]{fullShare} V)
      ∗ ((oWin (k0_off14 L 96#32) (k0_off14_inb L 3)).view.loc (VT d L) ↦[(oWin (k0_off14 L 96#32) (k0_off14_inb L 3)).view.set]{fullShare} V)
      ∗ ((oWin (k0_off15 L 96#32) (k0_off15_inb L 3)).view.loc (VT d L) ↦[(oWin (k0_off15 L 96#32) (k0_off15_inb L 3)).view.set]{fullShare} V)
      ∗ ((oWin (k0_off16 L 96#32) (k0_off16_inb L 3)).view.loc (VT d L) ↦[(oWin (k0_off16 L 96#32) (k0_off16_inb L 3)).view.set]{fullShare} V)
      ∗ ((oWin (k0_off17 L 96#32) (k0_off17_inb L 3)).view.loc (VT d L) ↦[(oWin (k0_off17 L 96#32) (k0_off17_inb L 3)).view.set]{fullShare} V)
      ∗ ((oWin (k0_off18 L 96#32) (k0_off18_inb L 3)).view.loc (VT d L) ↦[(oWin (k0_off18 L 96#32) (k0_off18_inb L 3)).view.set]{fullShare} V)
      ∗ ((oWin (k0_off19 L 96#32) (k0_off19_inb L 3)).view.loc (VT d L) ↦[(oWin (k0_off19 L 96#32) (k0_off19_inb L 3)).view.set]{fullShare} V)) := by
  unfold outB
  exact (sep_eq (pt_o d L V (k0_off11 L 96#32) (k0_off11_inb L 3) 0 (wid L + 96) (off11_eq L 3))
    (sep_eq (pt_o d L V (k0_off12 L 96#32) (k0_off12_inb L 3) 1 (wid L + 96) (off12_eq L 3))
    (sep_eq (pt_o d L V (k0_off13 L 96#32) (k0_off13_inb L 3) 2 (wid L + 96) (off13_eq L 3))
    (sep_eq (pt_o d L V (k0_off14 L 96#32) (k0_off14_inb L 3) 3 (wid L + 96) (off14_eq L 3))
    (sep_eq (pt_o d L V (k0_off15 L 96#32) (k0_off15_inb L 3) 4 (wid L + 96) (off15_eq L 3))
    (sep_eq (pt_o d L V (k0_off16 L 96#32) (k0_off16_inb L 3) 5 (wid L + 96) (off16_eq L 3))
    (sep_eq (pt_o d L V (k0_off17 L 96#32) (k0_off17_inb L 3) 6 (wid L + 96) (off17_eq L 3))
    (sep_eq (pt_o d L V (k0_off18 L 96#32) (k0_off18_inb L 3) 7 (wid L + 96) (off18_eq L 3))
    (pt_o d L V (k0_off19 L 96#32) (k0_off19_inb L 3) 8 (wid L + 96) (off19_eq L 3))))))))))
/-- The operand's blocks of round 4 in the body's spelling. -/
theorem inB_un4 (X : Buf (Elt F) (xLoc d)) (h1 : k0_cond1 L = 1#1) : inB d (wid L + 128) X =
    iprop(((xWin (k0_off22 L) (k0_off22_inb L h1)).view.loc (VT d L) ↦[(xWin (k0_off22 L) (k0_off22_inb L h1)).view.set]{fullShare} X)
      ∗ ((xWin (k0_off23 L) (k0_off23_inb L h1)).view.loc (VT d L) ↦[(xWin (k0_off23 L) (k0_off23_inb L h1)).view.set]{fullShare} X)
      ∗ ((xWin (k0_off24 L) (k0_off24_inb L h1)).view.loc (VT d L) ↦[(xWin (k0_off24 L) (k0_off24_inb L h1)).view.set]{fullShare} X)
      ∗ ((xWin (k0_off25 L) (k0_off25_inb L h1)).view.loc (VT d L) ↦[(xWin (k0_off25 L) (k0_off25_inb L h1)).view.set]{fullShare} X)
      ∗ ((xWin (k0_off26 L) (k0_off26_inb L h1)).view.loc (VT d L) ↦[(xWin (k0_off26 L) (k0_off26_inb L h1)).view.set]{fullShare} X)
      ∗ ((xWin (k0_off27 L) (k0_off27_inb L h1)).view.loc (VT d L) ↦[(xWin (k0_off27 L) (k0_off27_inb L h1)).view.set]{fullShare} X)
      ∗ ((xWin (k0_off28 L) (k0_off28_inb L h1)).view.loc (VT d L) ↦[(xWin (k0_off28 L) (k0_off28_inb L h1)).view.set]{fullShare} X)
      ∗ ((xWin (k0_off29 L) (k0_off29_inb L h1)).view.loc (VT d L) ↦[(xWin (k0_off29 L) (k0_off29_inb L h1)).view.set]{fullShare} X)
      ∗ ((xWin (k0_off30 L) (k0_off30_inb L h1)).view.loc (VT d L) ↦[(xWin (k0_off30 L) (k0_off30_inb L h1)).view.set]{fullShare} X)) := by
  unfold inB
  exact (sep_eq (pt_x d L X (k0_off22 L) (k0_off22_inb L h1) 0 (wid L + 128) (off22_eq L))
    (sep_eq (pt_x d L X (k0_off23 L) (k0_off23_inb L h1) 1 (wid L + 128) (off23_eq L))
    (sep_eq (pt_x d L X (k0_off24 L) (k0_off24_inb L h1) 2 (wid L + 128) (off24_eq L))
    (sep_eq (pt_x d L X (k0_off25 L) (k0_off25_inb L h1) 3 (wid L + 128) (off25_eq L))
    (sep_eq (pt_x d L X (k0_off26 L) (k0_off26_inb L h1) 4 (wid L + 128) (off26_eq L))
    (sep_eq (pt_x d L X (k0_off27 L) (k0_off27_inb L h1) 6 (wid L + 128) (off27_eq L))
    (sep_eq (pt_x d L X (k0_off28 L) (k0_off28_inb L h1) 7 (wid L + 128) (off28_eq L))
    (sep_eq (pt_x d L X (k0_off29 L) (k0_off29_inb L h1) 8 (wid L + 128) (off29_eq L))
    (pt_x d L X (k0_off30 L) (k0_off30_inb L h1) 9 (wid L + 128) (off30_eq L))))))))))
/-- The result's blocks of round 4 in the body's spelling. -/
theorem outB_un4 (V : Buf (Elt F) (oLoc d)) (h2 : k0_cond2 L = 1#1) : outB d (wid L + 128) V =
    iprop(((oWin (k0_off42 L) (k0_off42_inb L h2)).view.loc (VT d L) ↦[(oWin (k0_off42 L) (k0_off42_inb L h2)).view.set]{fullShare} V)
      ∗ ((oWin (k0_off43 L) (k0_off43_inb L h2)).view.loc (VT d L) ↦[(oWin (k0_off43 L) (k0_off43_inb L h2)).view.set]{fullShare} V)
      ∗ ((oWin (k0_off44 L) (k0_off44_inb L h2)).view.loc (VT d L) ↦[(oWin (k0_off44 L) (k0_off44_inb L h2)).view.set]{fullShare} V)
      ∗ ((oWin (k0_off45 L) (k0_off45_inb L h2)).view.loc (VT d L) ↦[(oWin (k0_off45 L) (k0_off45_inb L h2)).view.set]{fullShare} V)
      ∗ ((oWin (k0_off46 L) (k0_off46_inb L h2)).view.loc (VT d L) ↦[(oWin (k0_off46 L) (k0_off46_inb L h2)).view.set]{fullShare} V)
      ∗ ((oWin (k0_off47 L) (k0_off47_inb L h2)).view.loc (VT d L) ↦[(oWin (k0_off47 L) (k0_off47_inb L h2)).view.set]{fullShare} V)
      ∗ ((oWin (k0_off48 L) (k0_off48_inb L h2)).view.loc (VT d L) ↦[(oWin (k0_off48 L) (k0_off48_inb L h2)).view.set]{fullShare} V)
      ∗ ((oWin (k0_off49 L) (k0_off49_inb L h2)).view.loc (VT d L) ↦[(oWin (k0_off49 L) (k0_off49_inb L h2)).view.set]{fullShare} V)
      ∗ ((oWin (k0_off50 L) (k0_off50_inb L h2)).view.loc (VT d L) ↦[(oWin (k0_off50 L) (k0_off50_inb L h2)).view.set]{fullShare} V)) := by
  unfold outB
  exact (sep_eq (pt_o d L V (k0_off42 L) (k0_off42_inb L h2) 0 (wid L + 128) (off42_eq L))
    (sep_eq (pt_o d L V (k0_off43 L) (k0_off43_inb L h2) 1 (wid L + 128) (off43_eq L))
    (sep_eq (pt_o d L V (k0_off44 L) (k0_off44_inb L h2) 2 (wid L + 128) (off44_eq L))
    (sep_eq (pt_o d L V (k0_off45 L) (k0_off45_inb L h2) 3 (wid L + 128) (off45_eq L))
    (sep_eq (pt_o d L V (k0_off46 L) (k0_off46_inb L h2) 4 (wid L + 128) (off46_eq L))
    (sep_eq (pt_o d L V (k0_off47 L) (k0_off47_inb L h2) 5 (wid L + 128) (off47_eq L))
    (sep_eq (pt_o d L V (k0_off48 L) (k0_off48_inb L h2) 6 (wid L + 128) (off48_eq L))
    (sep_eq (pt_o d L V (k0_off49 L) (k0_off49_inb L h2) 7 (wid L + 128) (off49_eq L))
    (pt_o d L V (k0_off50 L) (k0_off50_inb L h2) 8 (wid L + 128) (off50_eq L))))))))))

end Cert.Proof.Ki

end
-- ==== Proof.Ki.Split.lean ====
/-
  The two planar arrays cut into the blocks the tiles move.
-/
module

public import proofs.«01_k».proof.Proof.Ki.Pack

@[expose] public section

noncomputable section

namespace Cert.Proof.Ki

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ
local notation "xV" => (Memref.whole Cert.KernelIdeal.main_v0_scv : Memref Cert.KernelIdeal.sig Kind.scVector Space.hbm Cert.KernelIdeal.S10x32x20000 EltTy.f32)
local notation "oV" => (Memref.whole Cert.KernelIdeal.main_v1_scv : Memref Cert.KernelIdeal.sig Kind.scVector Space.hbm Cert.KernelIdeal.S9x32x20000 EltTy.f32)

/-! ## The two planar arrays cut into the tiles' blocks -/

variable (d : Dev nD)

/-- The unit tile `(c, s)` moves in round `k`. -/
abbrev unt (c s : Nat) (k : Fin 5) : Nat := s * 2 + c + 32 * k.val

/-- The tiles' blocks of the operand are disjoint. -/
theorem xcut_disj : ∀ t ∈ (Finset.univ : Finset (Fin 2 × Fin 16 × Fin 5 × Fin 10)), ∀ t' ∈ (Finset.univ : Finset (Fin 2 × Fin 16 × Fin 5 × Fin 10)), t ≠ t' →
    Disjoint (xBlk t.2.2.2.val (unt t.1.val t.2.1.val t.2.2.1)) (xBlk t'.2.2.2.val (unt t'.1.val t'.2.1.val t'.2.2.1)) := by
  rintro ⟨c, s, k, p⟩ - ⟨c', s', k', p'⟩ - hne
  refine Finset.disjoint_left.mpr fun x hx hx' => hne ?_
  simp only [xBlk, unt, Finset.mem_filter, Finset.mem_univ, true_and] at hx hx'
  have := c.isLt; have := c'.isLt; have := s.isLt; have := s'.isLt; have := k.isLt; have := k'.isLt
  have h1 : c = c' := Fin.ext (by omega)
  have h2 : k = k' := Fin.ext (by omega)
  have h3 : s = s' := Fin.ext (by omega)
  have h4 : p = p' := Fin.ext (by omega)
  rw [h1, h2, h3, h4]
/-- The tiles' blocks of the operand cover its columns below 19968. -/
theorem xcut_cover : (Finset.univ : Finset (Fin 2 × Fin 16 × Fin 5 × Fin 10)).biUnion (fun t => xBlk t.2.2.2.val (unt t.1.val t.2.1.val t.2.2.1)) = Finset.univ := by
  rw [Finset.eq_univ_iff_forall]
  intro x
  rw [Finset.mem_biUnion]
  have h0 : (x 0).val < 10 := (x 0).isLt
  have h1 : (x 1).val < 32 := (x 1).isLt
  have h2 : (x 2).val < 20000 := (x 2).isLt
  refine ⟨(⟨(x 1).val / 16, by omega⟩, ⟨(x 2).val / 256 % 16, by omega⟩, ⟨(x 2).val / 256 / 16, by omega⟩, ⟨(x 0).val, h0⟩), Finset.mem_univ _, ?_⟩
  simp only [xBlk, unt, Finset.mem_filter, Finset.mem_univ, true_and]
  omega
/-- The tiles' blocks of the result are disjoint. -/
theorem ocut_disj : ∀ t ∈ (Finset.univ : Finset (Fin 2 × Fin 16 × Fin 5 × Fin 9)), ∀ t' ∈ (Finset.univ : Finset (Fin 2 × Fin 16 × Fin 5 × Fin 9)), t ≠ t' →
    Disjoint (oBlk t.2.2.2.val (unt t.1.val t.2.1.val t.2.2.1)) (oBlk t'.2.2.2.val (unt t'.1.val t'.2.1.val t'.2.2.1)) := by
  rintro ⟨c, s, k, p⟩ - ⟨c', s', k', p'⟩ - hne
  refine Finset.disjoint_left.mpr fun x hx hx' => hne ?_
  simp only [oBlk, unt, Finset.mem_filter, Finset.mem_univ, true_and] at hx hx'
  have := c.isLt; have := c'.isLt; have := s.isLt; have := s'.isLt; have := k.isLt; have := k'.isLt
  have h1 : c = c' := Fin.ext (by omega)
  have h2 : k = k' := Fin.ext (by omega)
  have h3 : s = s' := Fin.ext (by omega)
  have h4 : p = p' := Fin.ext (by omega)
  rw [h1, h2, h3, h4]
/-- The tiles' blocks of the result cover its columns below 19968. -/
theorem ocut_cover : (Finset.univ : Finset (Fin 2 × Fin 16 × Fin 5 × Fin 9)).biUnion (fun t => oBlk t.2.2.2.val (unt t.1.val t.2.1.val t.2.2.1)) = Finset.univ := by
  rw [Finset.eq_univ_iff_forall]
  intro x
  rw [Finset.mem_biUnion]
  have h0 : (x 0).val < 9 := (x 0).isLt
  have h1 : (x 1).val < 32 := (x 1).isLt
  have h2 : (x 2).val < 20000 := (x 2).isLt
  refine ⟨(⟨(x 1).val / 16, by omega⟩, ⟨(x 2).val / 256 % 16, by omega⟩, ⟨(x 2).val / 256 / 16, by omega⟩, ⟨(x 0).val, h0⟩), Finset.mem_univ _, ?_⟩
  simp only [oBlk, unt, Finset.mem_filter, Finset.mem_univ, true_and]
  omega

/-- The blocks of the plane no copy reads, which the tile carries along. -/
def restX (c s : Nat) (X : Buf (Elt F) (xLoc d)) : sProp 𝕄 := bigSep Finset.univ fun k : Fin 5 => xLoc d ↦[xBlk 5 (unt c s k)]{fullShare} X
/-- The blocks of the nine fetched planes, round by round. -/
def insX (c s : Nat) (X : Buf (Elt F) (xLoc d)) : sProp 𝕄 := bigSep Finset.univ fun k : Fin 5 => inB d (unt c s k) X
/-- The blocks of the nine result planes, round by round. -/
def outs (c s : Nat) (V : Buf (Elt F) (oLoc d)) : sProp 𝕄 := bigSep Finset.univ fun k : Fin 5 => outB d (unt c s k) V

/-- Ten planes one by one. -/
theorem ten_planes (Φ : Fin 10 → sProp 𝕄) : bigSep Finset.univ Φ
    = iprop(Φ 5 ∗ Φ 0 ∗ Φ 1 ∗ Φ 2 ∗ Φ 3 ∗ Φ 4 ∗ Φ 6 ∗ Φ 7 ∗ Φ 8 ∗ Φ 9) := by
  rw [show (Finset.univ : Finset (Fin 10)) = {5, 0, 1, 2, 3, 4, 6, 7, 8, 9} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]
/-- Nine planes one by one. -/
theorem nine_planes (Φ : Fin 9 → sProp 𝕄) : bigSep Finset.univ Φ
    = iprop(Φ 0 ∗ Φ 1 ∗ Φ 2 ∗ Φ 3 ∗ Φ 4 ∗ Φ 5 ∗ Φ 6 ∗ Φ 7 ∗ Φ 8) := by
  rw [show (Finset.univ : Finset (Fin 9)) = {0, 1, 2, 3, 4, 5, 6, 7, 8} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), bigSep_singleton]
/-- Five rounds one by one. -/
theorem five_rounds (Φ : Fin 5 → sProp 𝕄) : bigSep Finset.univ Φ = iprop(Φ 0 ∗ Φ 1 ∗ Φ 2 ∗ Φ 3 ∗ Φ 4) := by
  rw [show (Finset.univ : Finset (Fin 5)) = {0, 1, 2, 3, 4} by decide,
    SparseCore.bigSep_insert' (by decide), SparseCore.bigSep_insert' (by decide), SparseCore.bigSep_insert' (by decide),
    SparseCore.bigSep_insert' (by decide), bigSep_singleton]

/-- The planar operand whole is the tiles' blocks of it. -/
theorem xPts_cut (X : Buf (Elt F) (xLoc d)) :
    (xLoc d ↦{fullShare} X : sProp 𝕄)
      = bigSep Finset.univ fun c : Fin 2 => bigSep Finset.univ fun s : Fin 16 => iprop(restX d c.val s.val X ∗ insX d c.val s.val X) := by
  have h : (xLoc d ↦{fullShare} X : sProp 𝕄) = bigSep Finset.univ fun t : Fin 2 × Fin 16 × Fin 5 × Fin 10 =>
      xLoc d ↦[xBlk t.2.2.2.val (unt t.1.val t.2.1.val t.2.2.1)]{fullShare} X := by
    rw [← pointsTo_biUnion Finset.univ (ℓ := xLoc d) (fun t : Fin 2 × Fin 16 × Fin 5 × Fin 10 => xBlk t.2.2.2.val (unt t.1.val t.2.1.val t.2.2.1)) xcut_disj, xcut_cover]
    try rfl
  rw [h, BI.bigSep_univ_prod]
  refine bigSep_congr fun c _ => ?_
  rw [BI.bigSep_univ_prod]
  refine bigSep_congr fun s _ => ?_
  rw [BI.bigSep_univ_prod]
  unfold restX insX
  rw [← bigSep_sep']
  refine bigSep_congr fun k _ => ?_
  rw [ten_planes]
  unfold inB
  rfl
/-- The planar result whole is the tiles' blocks of it. -/
theorem oPts_cut (V : Buf (Elt F) (oLoc d)) :
    (oLoc d ↦{fullShare} V : sProp 𝕄)
      = bigSep Finset.univ fun c : Fin 2 => bigSep Finset.univ fun s : Fin 16 => outs d c.val s.val V := by
  have h : (oLoc d ↦{fullShare} V : sProp 𝕄) = bigSep Finset.univ fun t : Fin 2 × Fin 16 × Fin 5 × Fin 9 =>
      oLoc d ↦[oBlk t.2.2.2.val (unt t.1.val t.2.1.val t.2.2.1)]{fullShare} V := by
    rw [← pointsTo_biUnion Finset.univ (ℓ := oLoc d) (fun t : Fin 2 × Fin 16 × Fin 5 × Fin 9 => oBlk t.2.2.2.val (unt t.1.val t.2.1.val t.2.2.1)) ocut_disj, ocut_cover]
    try rfl
  rw [h, BI.bigSep_univ_prod]
  refine bigSep_congr fun c _ => ?_
  rw [BI.bigSep_univ_prod]
  refine bigSep_congr fun s _ => ?_
  rw [BI.bigSep_univ_prod]
  unfold outs
  refine bigSep_congr fun k _ => ?_
  rw [nine_planes]
  unfold outB
  rfl

/-- What a tile is handed and hands back. -/
def tilePts (c s : Nat) (X : Buf (Elt F) (xLoc d)) (V : Buf (Elt F) (oLoc d)) : sProp 𝕄 :=
  iprop(restX d c s X ∗ insX d c s X ∗ outs d c s V)
instance tilePts_storable (c s : Nat) (X : Buf (Elt F) (xLoc d)) (V : Buf (Elt F) (oLoc d)) : BI.Storable (upEmb : UEmb _ 𝕄) (tilePts d c s X V) := by
  unfold tilePts restX insX outs inB outB; infer_instance
/-- A conjunction of three regrouped. -/
theorem sep3 (A B C : sProp 𝕄) : (iprop(A ∗ B ∗ C) : sProp 𝕄) = iprop((A ∗ B) ∗ C) := by
  have h1 : (iprop(A ∗ B ∗ C) : sProp 𝕄) ⊢ iprop((A ∗ B) ∗ C) := by
    iintro ⟨H1, H2, H3⟩
    isplitl [H1 H2]; · isplitl [H1] <;> iassumption
    iexact H3
  have h2 : (iprop((A ∗ B) ∗ C) : sProp 𝕄) ⊢ iprop(A ∗ B ∗ C) := by
    iintro ⟨⟨H1, H2⟩, H3⟩
    isplitl [H1]; · iexact H1
    isplitl [H2] <;> iassumption
  exact BI.Entails.antisymm h1 h2
/-- The two arrays whole are the tiles' blocks of both. -/
theorem cut_both (X : Buf (Elt F) (xLoc d)) (V : Buf (Elt F) (oLoc d)) :
    (bigSep Finset.univ fun c : Fin 2 => bigSep Finset.univ fun s : Fin 16 => tilePts d c.val s.val X V)
      = (iprop((xLoc d ↦{fullShare} X) ∗ (oLoc d ↦{fullShare} V)) : sProp 𝕄) := by
  rw [xPts_cut, oPts_cut, ← bigSep_sep']
  refine bigSep_congr fun c _ => ?_
  rw [← bigSep_sep']
  refine bigSep_congr fun s _ => ?_
  unfold tilePts
  exact sep3 _ _ _

end Cert.Proof.Ki

end
-- ==== Proof.Ki.Region.lean ====
/-
  The call of the last columns: its body read at an index, its proof data from any contents of the arrays, its body's obligation, and
  the array it leaves.
-/
module

public import proofs.«01_k».proof.Proof.Ki.Base
public import Idealize.ShloMosaic.Lib.Pipeline.Regions
public import Idealize.ShloMosaic.Lib.Pipeline.RegionsLoop
public import Idealize.ShloMosaic.Lib.Pipeline.Value

@[expose] public section

noncomputable section

namespace Cert.Proof.Ki

open Cert.KernelIdeal Cert.KernelIdeal.Gen

open Idealize.ShloMosaic
open Idealize.ShloMosaic.TcCoe
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Window BodyObligation BodyObligationLoose cellOf)

variable {F : FTy → Type} [FloatOps F] [Named F]

local notation "𝕄" => MT nD τ sig (HIx 1) (Elt F) ℕ UU ℕ

/-! ## The body's value at an index -/

/-- An index of the staged operand. -/
def tix (p : Fin 10) (y : Fin 32) (z : Fin 128) : S10x32x128.Idx := fun | 0 => p | 1 => y | 2 => z

/-- The last coordinate of an index built from three. -/
theorem tix_2 (p : Fin 10) (y : Fin 32) (z : Fin 128) (h : (2 : Nat) < 3) : tix p y z ⟨2, h⟩ = z := rfl
/-- An index of the part of a block inside the array keeps its coordinates. -/
theorem xinj_at {G : Pipeline.Grid} (w : Window sig G) (i : G.Coords) (j : (w.xblock i).Idx) (a : Fin w.shape.rank) :
    (w.xinj i j a : Nat) = j a := rfl

/-- The nine planes of the staged result, from the ten of the staged operand. -/
def tOUT (v : S10x32x128.Idx → F .f32) : S9x32x128.Idx → F .f32 := fun j => outv (fun p => v (tix p (j 1) (j 2))) (j 0)

/-- The value the body stores is the nine planes of the value it loads. -/
theorem pay_eq (v : Vec F S10x32x128 .f32) : k1_pay1 v = tOUT v := by
  funext j
  unfold k1_pay1 tOUT
  simp only [shapeCast_self]
  have hj : (j 0).val < 9 := (j 0).isLt
  obtain ⟨c, hc⟩ : ∃ c : Fin 9, j 0 = c := ⟨j 0, rfl⟩
  rw [hc]
  have hv : (j (0 : Fin S9x32x128.rank)).val = c.val := congrArg Fin.val hc
  fin_cases c
  · refine (concatenate_apply_piece (0 : Fin S9x32x128.rank) _ _ j 0 (by exact (show 0 < 4 by decide)) S2x32x128 _ rfl rfl 0 rfl
      (fun | 0 => (0 : Fin 2) | 1 => j 1 | 2 => j 2) (fun b hb => by fin_cases b; exact absurd rfl hb; rfl; rfl) (by rw [hv]; rfl)).trans ?_
    refine congrArg (fun z => FloatOps.mulf (v z) SC) (funext fun a => ?_); fin_cases a <;> refine Fin.ext ?_ <;> simp [tix]
  · refine (concatenate_apply_piece (0 : Fin S9x32x128.rank) _ _ j 0 (by exact (show 0 < 4 by decide)) S2x32x128 _ rfl rfl 0 rfl
      (fun | 0 => (1 : Fin 2) | 1 => j 1 | 2 => j 2) (fun b hb => by fin_cases b; exact absurd rfl hb; rfl; rfl) (by rw [hv]; rfl)).trans ?_
    refine congrArg (fun z => FloatOps.mulf (v z) SC) (funext fun a => ?_); fin_cases a <;> refine Fin.ext ?_ <;> simp [tix]
  · refine (concatenate_apply_piece (0 : Fin S9x32x128.rank) _ _ j 1 (by exact (show 1 < 4 by decide)) S2x32x128 _ rfl rfl 2 rfl
      (fun | 0 => (0 : Fin 2) | 1 => j 1 | 2 => j 2) (fun b hb => by fin_cases b; exact absurd rfl hb; rfl; rfl) (by rw [hv]; rfl)).trans ?_
    refine congrArg₂ (fun z w => FloatOps.mulf (FloatOps.subf (v z) (v w)) SC) (funext fun a => ?_) (funext fun a => ?_) <;> fin_cases a <;> refine Fin.ext ?_ <;> simp [tix]
  · refine (concatenate_apply_piece (0 : Fin S9x32x128.rank) _ _ j 1 (by exact (show 1 < 4 by decide)) S2x32x128 _ rfl rfl 2 rfl
      (fun | 0 => (1 : Fin 2) | 1 => j 1 | 2 => j 2) (fun b hb => by fin_cases b; exact absurd rfl hb; rfl; rfl) (by rw [hv]; rfl)).trans ?_
    refine congrArg₂ (fun z w => FloatOps.mulf (FloatOps.subf (v z) (v w)) SC) (funext fun a => ?_) (funext fun a => ?_) <;> fin_cases a <;> refine Fin.ext ?_ <;> simp [tix]
  · refine (concatenate_apply_piece (0 : Fin S9x32x128.rank) _ _ j 2 (by exact (show 2 < 4 by decide)) S4x32x128 _ rfl rfl 4 rfl
      (fun | 0 => (0 : Fin 4) | 1 => j 1 | 2 => j 2) (fun b hb => by fin_cases b; exact absurd rfl hb; rfl; rfl) (by rw [hv]; rfl)).trans ?_
    refine congrArg (fun z => v z) (funext fun a => ?_); fin_cases a <;> refine Fin.ext ?_ <;> simp [tix]
  · refine (concatenate_apply_piece (0 : Fin S9x32x128.rank) _ _ j 2 (by exact (show 2 < 4 by decide)) S4x32x128 _ rfl rfl 4 rfl
      (fun | 0 => (1 : Fin 4) | 1 => j 1 | 2 => j 2) (fun b hb => by fin_cases b; exact absurd rfl hb; rfl; rfl) (by rw [hv]; rfl)).trans ?_
    refine congrArg (fun z => v z) (funext fun a => ?_); fin_cases a <;> refine Fin.ext ?_ <;> simp [tix]
  · refine (concatenate_apply_piece (0 : Fin S9x32x128.rank) _ _ j 2 (by exact (show 2 < 4 by decide)) S4x32x128 _ rfl rfl 4 rfl
      (fun | 0 => (2 : Fin 4) | 1 => j 1 | 2 => j 2) (fun b hb => by fin_cases b; exact absurd rfl hb; rfl; rfl) (by rw [hv]; rfl)).trans ?_
    refine congrArg (fun z => v z) (funext fun a => ?_); fin_cases a <;> refine Fin.ext ?_ <;> simp [tix]
  · refine (concatenate_apply_piece (0 : Fin S9x32x128.rank) _ _ j 2 (by exact (show 2 < 4 by decide)) S4x32x128 _ rfl rfl 4 rfl
      (fun | 0 => (3 : Fin 4) | 1 => j 1 | 2 => j 2) (fun b hb => by fin_cases b; exact absurd rfl hb; rfl; rfl) (by rw [hv]; rfl)).trans ?_
    refine congrArg (fun z => v z) (funext fun a => ?_); fin_cases a <;> refine Fin.ext ?_ <;> simp [tix]
  · refine (concatenate_apply_piece (0 : Fin S9x32x128.rank) _ _ j 3 (by exact (show 3 < 4 by decide)) S1x32x128 _ rfl rfl 8 rfl
      (fun | 0 => (0 : Fin 1) | 1 => j 1 | 2 => j 2) (fun b hb => by fin_cases b; exact absurd rfl hb; rfl; rfl) (by rw [hv]; rfl)).trans ?_
    refine congrArg (fun z => v z) (funext fun a => ?_); fin_cases a <;> refine Fin.ext ?_ <;> simp [tix]

/-! ## The proof data, from any contents of the arrays -/

variable (A : (c : Dev nD) → (b : Ref sig .tc) → Buf (Elt F) ((c : Thread nD τ).loc b))

/-- The operand's block as the fetch reads it: the columns inside the array. -/
def tblk (c : Dev nD) (t : Fin cfg1.N) : (win1_0.xblock (grid1.coords t)).Idx → Elt F .f32 :=
  (win1_0.blk t).view.read (Elt F) (A c main_v0)
/-- That block, zero past the array's end. -/
def tfill (c : Dev nD) (t : Fin cfg1.N) : S10x32x128.Idx → Elt F .f32 :=
  win1_0.fill (grid1.coords t) (fun _ => Scalar.ofBits .f32 0#32) (tblk A c t)

/-- The proof data: the two arrays at the entry contents; after the body the operand's buffer as fetched and the result's the nine
    planes of it; nothing owed. -/
def tdat (c : Dev nD) : Dat τ (Elt F) (HIx 1) ℕ UU ℕ cfg1 c where
  A w := A c (Pipeline.arrRef spec1 w)
  after w t := match w with
    | ⟨0, _⟩ => tfill A c t
    | ⟨1, _⟩ => tOUT (tfill A c t)
  Φ _ := iprop(emp)
  q _ := fullShare
  owed _ := 0
  recorded _ := {p | (K (F := F)).lev ((SparseCore.T c : Thread nD τ), p.1) p.2 ≤ 8}

/-- The operand's block is unchanged by the body. -/
theorem tafter_0 (c : Dev nD) (t : Fin cfg1.N) : (tdat A c).after (0 : Fin 2) t = tfill A c t := by dsimp only [tdat]
/-- The result's block after the body. -/
theorem tafter_1 (c : Dev nD) (t : Fin cfg1.N) : (tdat A c).after (1 : Fin 2) t = tOUT (tfill A c t) := by dsimp only [tdat]

/-- The operand's block before the body. -/
theorem tbefore_0 (c : Dev nD) (t : Fin cfg1.N) (d) :
    (tdat A c).before (0 : Fin 2) t d = win1_0.fill (grid1.coords t) d (tblk A c t) := by
  unfold Dat.before; rw [if_pos (fetch1_0 t)]; rfl
/-- The result's block before the body is anything. -/
theorem tbefore_1 (c : Dev nD) (t : Fin cfg1.N) (d) : (tdat A c).before (1 : Fin 2) t d = d := by
  unfold Dat.before
  rw [if_neg (by obtain rfl := fin_N1 t; decide)]
  obtain rfl := fin_N1 t
  rfl

/-- The body, from its two blocks, stores the scaled and rearranged planes. -/
theorem tsound (c : Dev nD) (E : Set ℕ) (i : grid1.Coords) (s0 s1 : Fin 1)
    (X0 : S10x32x128.Idx → Elt F .f32) (X1 : S9x32x128.Idx → Elt F .f32) (Q : PUnit → sProp 𝕄) :
    iprop((owns (c : Thread nD τ) (stage1_0 s0) fullShare X0 ∗ owns (c : Thread nD τ) (stage1_1 s1) fullShare X1)
          ∗ (iprop(owns (c : Thread nD τ) (stage1_0 s0) fullShare X0 ∗ owns (c : Thread nD τ) (stage1_1 s1) fullShare (tOUT X0)) -∗ Q ⟨⟩))
      ⊢ wp frame (wpE (defs₀ (F := F)) 𝒱₀ c none) E
          (cc1__tail_body i (stage1_0 s0) (hstage1_0 s0) (Memref.whole main_v1) (Memref.isWhole_whole _) (stage1_1 s1) (hstage1_1 s1)) Q := by
  obtain rfl : s0 = 0 := Subsingleton.elim _ _
  obtain rfl : s1 = 0 := Subsingleton.elim _ _
  have hz : (![0, 0, 0] : Fin 3 → Nat) = fun _ => 0 := funext fun a => by fin_cases a <;> rfl
  have hr0 : (Memref.whole cc1_stg0_0 : Memref sig .tc _ _ _).view.readAt (Elt F) (Rect.unit (s := S10x32x128) ![0, 0, 0] S10x32x128.size
      inb_S10x32x128_S10x32x128_0_0_0).toLoadRect = id := funext (Memref.readAt_unit_zero (Elt F) cc1_stg0_0 hz _)
  have hw1 : ∀ f w, (((Memref.whole cc1_stg1_0).access (Rect.unit (s := S9x32x128) ![0, 0, 0] S9x32x128.size inb_S9x32x128_S9x32x128_0_0_0)) :
      View sig .tc _ _ _).write (Elt F) f w Finset.univ = w := Memref.write_access_unit_zero_univ (Elt F) cc1_stg1_0 hz _
  simp only [owns_whole_eq, cc1__tail_body_eq_skeleton]; unfold cc1__tail_body_skel
  simp only [Prog.lift, Prog.bind_op, Prog.bind_ret]
  iintro ⟨⟨⟨%f0, %hf0, H0⟩, ⟨%f1, %hf1, H1⟩⟩, Hk⟩
  sl_steps
  iapply Hk
  rw [hr0, hw1]
  isplitl [H0]
  · iexists f0; isplitr; · ipureintro; exact hf0
    iexact H0
  · iexists k1_pay1 f0; isplitr; · ipureintro; rw [pay_eq, hf0]
    iexact H1

/-- Where the cut transfers move: columns below 32. -/
theorem tmoved_0 (t : Fin cfg1.N) (j : S10x32x128.Idx) : win1_0.moved (grid1.coords t) j = true ↔ (j 2).val < 32 := by
  rw [Window.moved_iff]
  obtain rfl := fin_N1 t
  constructor
  · intro h; exact h 2
  · intro h a
    fin_cases a
    · exact (j 0).isLt
    · exact (j 1).isLt
    · exact h
/-- Of the result's block the 32 columns inside the array are written back. -/
theorem tmoved_1 (t : Fin cfg1.N) (j : S9x32x128.Idx) : win1_1.moved (grid1.coords t) j = true ↔ (j 2).val < 32 := by
  rw [Window.moved_iff]
  obtain rfl := fin_N1 t
  constructor
  · intro h; exact h 2
  · intro h a
    fin_cases a
    · exact (j 0).isLt
    · exact (j 1).isLt
    · exact h

/-- A moved index of a filled block reads what was moved. -/
theorem fill_moved {G : Pipeline.Grid} (w : Window sig G) {α : Type} (i : G.Coords) (d d' : w.block.Idx → α) (g : (w.xblock i).Idx → α) (j : w.block.Idx)
    (h : w.moved i j = true) : w.fill i d g j = w.fill i d' g j := by
  unfold Window.fill; rw [dif_pos h, dif_pos h]

/-- On the columns inside the array the result's block does not depend on what the operand's block holds past them. -/
theorem tfill_out (c : Dev nD) (t : Fin cfg1.N) (d : S10x32x128.Idx → Elt F .f32) :
    win1_1.fill (grid1.coords t) (tOUT (win1_0.fill (grid1.coords t) d (tblk A c t))) (win1_1.cut (grid1.coords t) (tOUT (tfill A c t)))
      = tOUT (win1_0.fill (grid1.coords t) d (tblk A c t)) := by
  funext j
  unfold Window.fill
  split
  · next h =>
    have hj := (tmoved_1 t j).mp h
    show tOUT (tfill A c t) j = tOUT _ j
    unfold tOUT
    refine congrArg (fun X => outv X (j 0)) (funext fun p => ?_)
    have hm : win1_0.moved (grid1.coords t) (tix p (j 1) (j 2)) = true := (tmoved_0 t _).mpr hj
    exact fill_moved win1_0 (grid1.coords t) _ _ _ _ hm
  · rfl

set_option maxHeartbeats 2000000 in
/-- The body's obligation at every point of the grid. -/
theorem tbody (c : Dev nD) : BodyObligationLoose (tdat A c) (defs₀ (F := F)) 𝒱₀ none Set.univ := fun t => by
  rw [bigSep_W1, bigSep_W1]
  simp only
  rw [show (tdat A c).Φ t.succ = (tdat A c).Φ t.castSucc from rfl,
    show (tdat A c).owesAt none t.succ = (tdat A c).owesAt none t.castSucc from rfl]
  iintro ⟨HΦ, Ho, ⟨%d0, H0⟩, ⟨%d1, H1⟩⟩
  rw [tbefore_0 A c t d0, tbefore_1 A c t d1]
  iapply (tsound (F := F) c Set.univ (grid1.coords t) (cfg1.slots t 0) (cfg1.slots t 1) (win1_0.fill (grid1.coords t) d0 (tblk A c t)) d1 _)
  isplitl [H0 H1]
  · isplitl [H0]
    · iexact H0
    · iexact H1
  iintro ⟨H0, H1⟩
  isplitl [HΦ]; · iexact HΦ
  isplitl [Ho]; · iexact Ho
  have hx : win1_0.fill (grid1.coords t) d0 (win1_0.cut (grid1.coords t) (tfill A c t)) = win1_0.fill (grid1.coords t) d0 (tblk A c t) :=
    congrArg (win1_0.fill (grid1.coords t) d0) (win1_0.cut_fill _ _ _)
  isplitl [H0]
  · iexists d0
    rw [show (tdat A c).after 0 t = tfill A c t from tafter_0 A c t]
    iapply (Entails.of_eq (congrArg (owns (c : Thread nD τ) (stage1_0 (cfg1.slots t 0)) fullShare) hx.symm)); iexact H0
  · iexists tOUT (win1_0.fill (grid1.coords t) d0 (tblk A c t))
    rw [show (tdat A c).after 1 t = tOUT (tfill A c t) from tafter_1 A c t]
    iapply (Entails.of_eq (congrArg (owns (c : Thread nD τ) (stage1_1 (cfg1.slots t 1)) fullShare) (tfill_out A c t d0).symm)); iexact H1

/-- What the call leaves of the planar result: the columns from 19968 on the result's, the others as they were. -/
def WOUT (X : XC (F := F)) (W : OC (F := F)) : OC (F := F) := fun x => if (x 2).val < 19968 then W x else OUT X x

/-- Where an index of the operand's block lies in the array. -/
theorem temb_0 (t : Fin cfg1.N) (y : (win1_0.xblock (grid1.coords t)).Idx) (a : Fin 3) :
    (((win1_0.blk t).view.emb y : S10x32x20000.Idx) a).val = (![0, 0, 19968] : Fin 3 → Nat) a + (y a).val := by
  obtain rfl := fin_N1 t
  show (win1_0.index t1_0 a * win1_0.size a + 1 * (y a).val) = _
  rw [show win1_0.index t1_0 a * win1_0.size a = (![0, 0, 19968] : Fin 3 → Nat) a from by fin_cases a <;> decide +kernel, one_mul]
/-- Where an index of the result's block lies in the array. -/
theorem temb_1 (t : Fin cfg1.N) (y : (win1_1.xblock (grid1.coords t)).Idx) (a : Fin 3) :
    (((win1_1.blk t).view.emb y : S9x32x20000.Idx) a).val = (![0, 0, 19968] : Fin 3 → Nat) a + (y a).val := by
  obtain rfl := fin_N1 t
  show (win1_1.index t1_0 a * win1_1.size a + 1 * (y a).val) = _
  rw [show win1_1.index t1_0 a * win1_1.size a = (![0, 0, 19968] : Fin 3 → Nat) a from by fin_cases a <;> decide +kernel, one_mul]

/-- The block written covers the columns from 19968. -/
theorem tmem (t : Fin cfg1.N) (i : S9x32x20000.Idx) : i ∈ (win1_1.blk t).view.setOn Finset.univ ↔ 19968 ≤ (i 2).val := by
  obtain rfl := fin_N1 t
  rw [View.setOn_univ]
  show i ∈ ((View.whole main_v2).slice (win1_1.rect t1_0)).set ↔ _
  rw [View.set_slice_whole, Rect.mem_set_unit]
  have h0 : (i 0).val < 9 := (i 0).isLt
  have h1 : (i 1).val < 32 := (i 1).isLt
  have h2 : (i 2).val < 20000 := (i 2).isLt
  have e : ∀ a : Fin 3, win1_1.index t1_0 a * win1_1.size a = (![0, 0, 19968] : Fin 3 → Nat) a ∧ win1_1.xsize (grid1.coords t1_0) a = (![9, 32, 32] : Fin 3 → Nat) a := by
    intro a; fin_cases a <;> decide +kernel
  constructor
  · intro h
    have h' : win1_1.index t1_0 2 * win1_1.size 2 ≤ (i 2).val ∧ _ := h 2
    rw [(e 2).1] at h'
    exact h'.1
  · intro h a
    change win1_1.index t1_0 a * win1_1.size a ≤ (i a).val ∧ (i a).val < win1_1.index t1_0 a * win1_1.size a + win1_1.xsize (grid1.coords t1_0) a
    rw [(e a).1, (e a).2]
    fin_cases a
    · show 0 ≤ (i 0).val ∧ (i 0).val < 0 + 9; omega
    · show 0 ≤ (i 1).val ∧ (i 1).val < 0 + 32; omega
    · show 19968 ≤ (i 2).val ∧ (i 2).val < 19968 + 32; omega

/-- The planes written back are the result's, read through the block. -/
theorem tcut (c : Dev nD) (t : Fin cfg1.N) :
    win1_1.cut (grid1.coords t) (tOUT (tfill A c t)) = (win1_1.blk t).view.read (Elt F) (OUT (A c main_v0)) := by
  funext y
  show outv (fun p => tfill A c t (tix p (win1_1.xinj (grid1.coords t) y 1) (win1_1.xinj (grid1.coords t) y 2))) (win1_1.xinj (grid1.coords t) y 0)
    = OUT (A c main_v0) ((win1_1.blk t).view.emb y)
  have e0 := temb_1 t y 0
  have e1 := temb_1 t y 1
  have e2 := temb_1 t y 2
  have hm : ∀ p : Fin 10, win1_0.moved (grid1.coords t) (tix p (win1_1.xinj (grid1.coords t) y 1) (win1_1.xinj (grid1.coords t) y 2)) = true :=
    fun p => (tmoved_0 t _).mpr ((tmoved_1 t _).mp (win1_1.moved_xinj (grid1.coords t) y))
  have hx2 : ∀ (p : Fin 10) (h : (2 : Nat) < 3), (tix p (win1_1.xinj (grid1.coords t) y 1) (win1_1.xinj (grid1.coords t) y 2) ⟨2, h⟩ : Nat) = (y 2).val :=
    fun p h => (congrArg Fin.val (tix_2 p _ _ h)).trans (xinj_at win1_1 (grid1.coords t) y 2)
  have hX : ∀ p : Fin 10, tfill A c t (tix p (win1_1.xinj (grid1.coords t) y 1) (win1_1.xinj (grid1.coords t) y 2))
      = A c main_v0 (xix p (((win1_1.blk t).view.emb y : S9x32x20000.Idx) 1) (((win1_1.blk t).view.emb y : S9x32x20000.Idx) 2)) := by
    intro p
    unfold tfill Window.fill
    refine (dif_pos (hm p)).trans ?_
    show A c main_v0 ((win1_0.blk t).view.emb _) = _
    refine congrArg (A c main_v0) (funext fun a => Fin.ext ?_)
    refine (temb_0 t _ a).trans ?_
    fin_cases a
    · show 0 + p.val = p.val; omega
    · exact e1.symm
    · refine Eq.trans (congrArg (fun n => (![0, 0, 19968] : Fin 3 → Nat) 2 + n) ?_) e2.symm
      dsimp only
      exact hx2 p _
  have hc : (win1_1.xinj (grid1.coords t) y 0 : Fin 9) = (((win1_1.blk t).view.emb y : S9x32x20000.Idx) 0 : Fin 9) :=
    Fin.ext (((Nat.zero_add _).symm).trans e0.symm)
  unfold OUT
  rw [hc, funext hX]

/-- What the call leaves in the array it writes. -/
theorem tarr (c : Dev nD) : (tdat A c).arrAt (1 : Fin 2) cfg1.N = WOUT (A c main_v0) (A c main_v2) := by
  have h : (tdat A c).arrAt (1 : Fin 2) cfg1.N = (win1_1.blk t1_0).view.write (Elt F) (A c main_v2) (win1_1.cut (grid1.coords t1_0) (tOUT (tfill A c t1_0))) Finset.univ := by
    rw [show cfg1.N = t1_0.val + 1 from rfl, (tdat A c).arrAt_succ (1 : Fin 2) t1_0, if_pos (flush1_1 _)]
    rw [show (tdat A c).flushed (1 : Fin 2) t1_0 = win1_1.cut (grid1.coords t1_0) ((tdat A c).after (1 : Fin 2) t1_0) from rfl, tafter_1]
    rfl
  rw [h, tcut, View.write_read_eq_piecewise]
  funext i
  have hm := tmem t1_0 i
  unfold Finset.piecewise WOUT
  split
  · next hi => rw [if_neg (by have := hm.mp hi; omega)]
  · next hi => rw [if_pos (by by_contra hc; exact hi (hm.mpr (by omega)))]

/-! ## The call as a region -/

/-- The call's tables: none. -/
def tadm : (p : Fin 1) → (pcfgs (F := F) p).Adm := fun p => (cfgs p).toPCfg_adm

/-- The proof data of the only pipeline. -/
def tdats : (p : Fin 1) → (c : Dev nD) → Dat τ (Elt F) (HIx 1) ℕ UU ℕ (Pipeline.pin (pcfgs (F := F)) tadm p) c
  | ⟨0, _⟩ => fun c => tdat A c

variable (B : (c : Dev nD) → (b : Ref sig .tc) → Buf (Elt F) ((c : Thread nD τ).loc b))

/-- What the core owes: nothing, its recorded waits at the handshakes' last level at most. -/
abbrev owes0 (c : Dev nD) : sProp 𝕄 :=
  iprop(∃ W, ⌜(K (F := F)).WBelow (SparseCore.T c) W 8⌝ ∗ owes (c : Thread nD τ) (0 : CellTallies nD τ sig (HIx 1)) W)

set_option backward.isDefEq.respectTransparency.types false in
/-- The call over every unscoped buffer: entered at `A`, left at any `B` that holds the call's result at its output and agrees with
    `A` elsewhere. -/
def reg (hB_out : ∀ c, B c main_v2 = WOUT (A c main_v0) (A c main_v2)) (hB_ne : ∀ c (b : Ref sig .tc), b ≠ main_v2 → B c b = A c b) :
    Pipeline.RegionSeg (pcfgs (F := F)) tadm (tdats A) (none : HIx 1) defs₀ 𝒱₀ (K (F := F)).L (K (F := F)).lev 0 where
  win := (launch1).win.to₀
  block_pos := (launch1).block_pos
  stage_whole := (launch1).stage_whole
  K := PEmpty
  osem k := k.elim
  ho := Pipeline.OwnSemFacts.none _
  hbody c := tbody A c
  hwaits := Pipeline.hwaits_of_owed_zero _ _ _ _ (K (F := F)).L (K (F := F)).lev 0 fun _ _ => rfl
  pre c := iprop(unscopedBufs c (A c) ∗ owes0 c)
  post c := iprop(unscopedBufs c (B c) ∗ owes0 c)
  X _ := BI.emp
  Y _ := BI.emp
  Z c := Pipeline.unscopedRest (Ix := HIx 1) (Name := ℕ) (U := UU) (Lvl := ℕ) spec1 c (A c)
  hentry c := by
    rw [Pipeline.ownSems0_none]
    have hsplit := Pipeline.arrays_of_unscopedBufs (p := 0) (pcfgs (F := F)) tadm (tdats A) (launch1).win (launch1).arr_whole c
      ((tdats A 0 c).share_full fun _ => rfl) (A c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun p hp => Or.inl (hW p hp)
      iexact HO
    isplitr; · iempintro
    iexact Hrest
  hin c := by
    rw [show (tdats A 0 c).Φ 0 = iprop(emp) from rfl]
    iintro ⟨-, -, -⟩; iempintro
  hout c := by
    rw [Pipeline.ownSems0_none, show (tdats A 0 c).Φ (Fin.last _) = iprop(emp) from rfl]
    iintro -
    isplitr; · iempintro
    isplitr; · iempintro
    iapply (show (BI.emp : sProp 𝕄) ⊢ Pipeline.scopedRest (Val := Elt F) spec1 c from by rw [scopedRest1_eq])
    iempintro
  hexit c := by
    have hjoin := Pipeline.unscopedBufs_of_arrays (p := 0) (pcfgs (F := F)) tadm (Ix := HIx 1) (Name := ℕ) (U := UU) (Lvl := ℕ) (launch1).win (launch1).arr_whole c
      (tdats A) ((tdats A 0 c).share_full fun _ => rfl) (A c) (B c) ((tdats A 0 c).arrAt · cfg1.N)
      (fun w => by
        fin_cases w
        · exact ((tdats A 0 c).arrAt_in 0 rfl _).trans (hB_ne c main_v0 (by decide)).symm
        · exact (tarr A c).trans (hB_out c).symm)
      (fun b hb => hB_ne c b fun h => hb (h ▸ Finset.mem_image.mpr ⟨1, Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%W, %hW, HO⟩; iexists W
    isplitr
    · ipureintro
      intro p hp
      rcases hW hp with h | h
      · exact h
      · obtain ⟨w, s, rfl⟩ := h
        exact Nat.zero_le _
    iexact HO

end Cert.Proof.Ki

end
-- ==== Proof.Ki.Main.lean ====
/-
  The launch set-up: what each handshake of the SparseCore call carries, the launch's ghost state, @main on the TensorCore — the
  transpose, the SparseCore call, the copy, the call of the last columns, the transpose back — and what it leaves.
-/
module

public import proofs.«01_k».proof.Proof.Ki.Split
public import proofs.«01_k».proof.Proof.Ki.Region

@[expose] public section

noncomputable section

namespace Cert.Proof.Ki

open Cert.KernelIdeal Cert.KernelIdeal.Gen

open Idealize.ShloMosaic
open Idealize.ShloMosaic.TcCoe
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held held_split held_sdiff_result wp_hlo_within)

variable {F : FTy → Type} [FloatOps F] [Named F]

local notation "𝕄" => MT nD τ sig (HIx 1) (Elt F) ℕ UU ℕ

variable (m : (ℓ : Loc nD τ sig) → Buf (Elt F) ℓ) (ρ : Dev nD → PrngReg)

/-! ## The host's operations and the contents they leave -/

abbrev a' : DevRef τ sig := Proc.devRef .tc (main_arg0 : Ref sig .tc)
abbrev x' : DevRef τ sig := Proc.devRef .tc (main_v0 : Ref sig .tc)
abbrev o' : DevRef τ sig := Proc.devRef .tc (main_v1 : Ref sig .tc)
abbrev w' : DevRef τ sig := Proc.devRef .tc (main_v2 : Ref sig .tc)
abbrev r' : DevRef τ sig := Proc.devRef .tc (main_v3 : Ref sig .tc)

/-- The transpose to planes. -/
abbrev toPlanes (A : (⟨S32x20000x10, .f32⟩ : BufTy).Contents (Elt F)) : (⟨S10x32x20000, .f32⟩ : BufTy).Contents (Elt F) :=
  transpose S10x32x20000 [2, 0, 1] A transposes_S32x20000x10_S10x32x20000_2_0_1
/-- The transpose of the planes back. -/
abbrev ofPlanes (A : (⟨S9x32x20000, .f32⟩ : BufTy).Contents (Elt F)) : (⟨S32x20000x9, .f32⟩ : BufTy).Contents (Elt F) :=
  transpose S32x20000x9 [1, 2, 0] A transposes_S9x32x20000_S32x20000x9_1_2_0

abbrev opT : HloOp τ sig (Elt F) := StableHlo.unary main_arg0 main_v0 (toPlanes (F := F))
abbrev opC : HloOp τ sig (Elt F) := StableHlo.unary main_v1 main_v2 id
abbrev opR : HloOp τ sig (Elt F) := StableHlo.unary main_v2 main_v3 (ofPlanes (F := F))

abbrev S5 : Finset (DevRef τ sig) := {a', x', o', w', r'}

/-- The five arrays of @main, one by one. -/
theorem held_S5 (d : Dev nD) (W : Valuation τ sig (Elt F)) :
    (held (T d) S5 W : sProp 𝕄)
      = iprop((aLoc d ↦{fullShare} W a') ∗ (xLoc d ↦{fullShare} W x') ∗ (oLoc d ↦{fullShare} W o')
          ∗ (wLoc d ↦{fullShare} W w') ∗ rLoc d ↦{fullShare} W r') := by
  unfold held S5
  rw [SparseCore.bigSep_insert' (by decide), SparseCore.bigSep_insert' (by decide), SparseCore.bigSep_insert' (by decide),
    SparseCore.bigSep_insert' (by decide), bigSep_singleton]

/-- The arrays outside any scope are the five of @main. -/
theorem unscopedBufs_eq (d : Dev nD) (W : (b : Ref sig .tc) → Buf (Elt F) ((d.tc : Thread nD τ).loc b)) :
    (unscopedBufs d W : sProp 𝕄)
      = iprop((aLoc d ↦{fullShare} W main_arg0) ∗ (xLoc d ↦{fullShare} W main_v0) ∗ (oLoc d ↦{fullShare} W main_v1)
          ∗ (wLoc d ↦{fullShare} W main_v2) ∗ rLoc d ↦{fullShare} W main_v3) := by
  unfold unscopedBufs
  rw [show (Finset.univ.filter fun b : Ref sig .tc => ¬ b.isScoped) = {main_arg0, main_v0, main_v1, main_v2, main_v3} by decide,
    SparseCore.bigSep_insert' (by decide), SparseCore.bigSep_insert' (by decide), SparseCore.bigSep_insert' (by decide),
    SparseCore.bigSep_insert' (by decide), bigSep_singleton]

/-- A valuation of the device's buffers, read at the core's. -/
def at' (d : Dev nD) (W : Valuation τ sig (Elt F)) : (b : Ref sig .tc) → Buf (Elt F) ((d.tc : Thread nD τ).loc b) :=
  fun b => W (Proc.devRef .tc b)

/-- The arrays outside any scope at given contents, held. -/
theorem unscoped_at (d : Dev nD) (W : Valuation τ sig (Elt F)) : (unscopedBufs d (at' d W) : sProp 𝕄) = held (T d) S5 W := by
  rw [unscopedBufs_eq, held_S5]; rfl

/-- The contents at launch. -/
def V0 (d : Dev nD) : Valuation τ sig (Elt F) := fun b => m (d, b)
/-- The planes of the launch argument. -/
@[irreducible] def XT (d : Dev nD) : Buf (Elt F) (xLoc d) := toPlanes (m (aLoc d))
/-- The contents before the SparseCore call. -/
def V1 (d : Dev nD) : Valuation τ sig (Elt F) := (opT (F := F)).result (V0 m d)
/-- The contents after it. -/
def V2 (d : Dev nD) : Valuation τ sig (Elt F) := Function.update (V1 m d) o' (OUTF (XT m d) (m (oLoc d)))
/-- The contents after the copy. -/
def V3 (d : Dev nD) : Valuation τ sig (Elt F) := (opC (F := F)).result (V2 m d)
/-- The contents after the call of the last columns. -/
def V4 (d : Dev nD) : Valuation τ sig (Elt F) := Function.update (V3 m d) w' (OUT (XT m d))
/-- The contents at the end. -/
def V5 (d : Dev nD) : Valuation τ sig (Elt F) := (opR (F := F)).result (V4 m d)
/-- The result. -/
abbrev RV (d : Dev nD) : Buf (Elt F) (rLoc d) := ofPlanes (OUT (XT m d))

/-- The arrays outside any scope at given contents, held. -/
theorem unscoped_held (d : Dev nD) : (unscopedBufs d (fun b => m ((SparseCore.T d).loc b)) : sProp 𝕄) = held (T d) S5 (V0 m d) :=
  unscoped_at d (V0 m d)

/-- The first transpose writes the planar operand. -/
theorem V1_x (d : Dev nD) : V1 m d x' = XT m d := by unfold XT; exact StableHlo.unary_result _ _ _ _ _ _
/-- The first transpose leaves the other arrays as they were. -/
theorem V1_ne (d : Dev nD) (b : DevRef τ sig) (h : b ∉ ({x'} : Finset (DevRef τ sig))) : V1 m d b = m (d, b) :=
  (opT (F := F)).result_of_not_mem _ h
/-- The SparseCore call leaves the result on the columns its blocks cover. -/
theorem V2_o (d : Dev nD) : V2 m d o' = OUTF (XT m d) (m (oLoc d)) := Function.update_self _ _ _
/-- The SparseCore call leaves the other arrays as they were. -/
theorem V2_ne (d : Dev nD) (b : DevRef τ sig) (h : b ≠ o') : V2 m d b = V1 m d b := Function.update_of_ne h _ _
/-- The copy writes what the SparseCore call left. -/
theorem V3_w (d : Dev nD) : V3 m d w' = OUTF (XT m d) (m (oLoc d)) := (StableHlo.unary_result _ _ _ _ _ _).trans (V2_o m d)
/-- The copy leaves the other arrays as they were. -/
theorem V3_ne (d : Dev nD) (b : DevRef τ sig) (h : b ∉ ({w'} : Finset (DevRef τ sig))) : V3 m d b = V2 m d b :=
  (opC (F := F)).result_of_not_mem _ h
/-- The planar operand is still there before the last call. -/
theorem V3_x (d : Dev nD) : V3 m d x' = XT m d :=
  (V3_ne m d x' (by decide)).trans ((V2_ne m d x' (by decide)).trans (V1_x m d))
/-- The last call completes the planar result. -/
theorem V4_w (d : Dev nD) : V4 m d w' = OUT (XT m d) := Function.update_self _ _ _
/-- The last call leaves the other arrays as they were. -/
theorem V4_ne (d : Dev nD) (b : DevRef τ sig) (h : b ≠ w') : V4 m d b = V3 m d b := Function.update_of_ne h _ _
/-- The last transpose writes the result. -/
theorem V5_r (d : Dev nD) : V5 m d r' = RV m d := (StableHlo.unary_result _ _ _ _ _ _).trans (by rw [V4_w])
/-- The last transpose leaves the other arrays as they were. -/
theorem V5_ne (d : Dev nD) (b : DevRef τ sig) (h : b ∉ ({r'} : Finset (DevRef τ sig))) : V5 m d b = V4 m d b :=
  (opR (F := F)).result_of_not_mem _ h
/-- The argument is unchanged at the end. -/
theorem V5_a (d : Dev nD) : V5 m d a' = m (aLoc d) :=
  (V5_ne m d a' (by decide)).trans ((V4_ne m d a' (by decide)).trans ((V3_ne m d a' (by decide)).trans
    ((V2_ne m d a' (by decide)).trans (V1_ne m d a' (by decide)))))

/-- The last columns laid over the SparseCore call's columns: the whole result. -/
theorem WOUT_OUTF (X : XC (F := F)) (W : OC (F := F)) : WOUT X (OUTF X W) = OUT X := by
  funext x
  unfold WOUT OUTF
  by_cases h : (x 2).val < 19968
  · simp only [h, if_true]
  · simp only [h, if_false]

/-- The arrays before the SparseCore call: its operand and result apart. -/
theorem held_V1 (d : Dev nD) :
    (held (T d) S5 ((opT (F := F)).result (V0 m d)) : sProp 𝕄)
      = iprop((aLoc d ↦{fullShare} V1 m d a') ∗ (xLoc d ↦{fullShare} XT m d) ∗ (oLoc d ↦{fullShare} m (oLoc d))
          ∗ (wLoc d ↦{fullShare} V1 m d w') ∗ rLoc d ↦{fullShare} V1 m d r') := by
  show held (SparseCore.T d) S5 (V1 m d) = _
  rw [held_S5, V1_x, V1_ne m d o' (by decide)]
/-- The arrays after the SparseCore call put together again. -/
theorem held_V2 (d : Dev nD) :
    (held (T d) S5 (V2 m d) : sProp 𝕄)
      = iprop((aLoc d ↦{fullShare} V1 m d a') ∗ (xLoc d ↦{fullShare} XT m d) ∗ (oLoc d ↦{fullShare} OUTF (XT m d) (m (oLoc d)))
          ∗ (wLoc d ↦{fullShare} V1 m d w') ∗ rLoc d ↦{fullShare} V1 m d r') := by
  rw [held_S5, V2_o, V2_ne m d a' (by decide), V2_ne m d x' (by decide), V2_ne m d w' (by decide), V2_ne m d r' (by decide), V1_x]

/-! ## What the SparseCore call's handshakes carry -/

/-- What tile `(c, s)` is handed: its blocks of both arrays, at the contents before the call. -/
@[irreducible] def goP (d : Dev nD) (c s : Nat) : sProp 𝕄 := tilePts d c s (XT m d) (m (oLoc d))
/-- What it hands back: the same blocks, the result's written. -/
@[irreducible] def tdP (d : Dev nD) (c s : Nat) : sProp 𝕄 := tilePts d c s (XT m d) (OUTF (XT m d) (m (oLoc d)))
instance goP_storable (d : Dev nD) (c s : Nat) : BI.Storable (upEmb : UEmb _ 𝕄) (goP m d c s) := by unfold goP; infer_instance
instance tdP_storable (d : Dev nD) (c s : Nat) : BI.Storable (upEmb : UEmb _ 𝕄) (tdP m d c s) := by unfold tdP; infer_instance

/-- The call's payloads: each tile its blocks of both planar arrays, at the launch contents going in, the result's blocks written coming
    back; each SparseCore its sixteen tiles' blocks. -/
def P : (K (F := F)).Pay (nD := nD) (Val := Elt F) (Name := ℕ) (U := UU) where
  st := fun q d c => match q with
    | 0 => bigSep Finset.univ fun i : Fin 16 => goP m d c.val i.val
  dn := fun q d c => match q with
    | 0 => bigSep Finset.univ fun i : Fin 16 => tdP m d c.val i.val
  go := fun q d c i => match q with
    | 0 => goP m d c.val i.val
  td := fun q d c i => match q with
    | 0 => tdP m d c.val i.val
  x := fun _ _ => iprop(emp)

instance P_storable : (P m).IsStorable where
  st q d c := match q with
    | 0 => (inferInstance : BI.Storable (upEmb : UEmb _ 𝕄) (bigSep Finset.univ fun i : Fin 16 => goP m d c.val i.val))
  dn q d c := match q with
    | 0 => (inferInstance : BI.Storable (upEmb : UEmb _ 𝕄) (bigSep Finset.univ fun i : Fin 16 => tdP m d c.val i.val))
  go q d c i := match q with
    | 0 => (inferInstance : BI.Storable (upEmb : UEmb _ 𝕄) (goP m d c.val i.val))
  td q d c i := match q with
    | 0 => (inferInstance : BI.Storable (upEmb : UEmb _ 𝕄) (tdP m d c.val i.val))

/-- What each SparseCore gets is what its tiles get, and what they hand back is what it hands back. -/
theorem vecSplit : (K (F := F)).VecSplit' (P m) 0 := by
  intro d c
  show (bigSep Finset.univ fun i : Fin 16 => goP m d c.val i.val : sProp 𝕄) ⊢ |={Set.univ}=> iprop(
      (bigSep Finset.univ fun i : Fin 16 => goP m d c.val i.val)
      ∗ ((bigSep Finset.univ fun i : Fin 16 => tdP m d c.val i.val)
          -∗ bigSep Finset.univ fun i : Fin 16 => tdP m d c.val i.val))
  iintro H
  imodintro
  isplitl [H]; · iexact H
  iintro H; iexact H

/-- What the SparseCores get, from the two planar arrays. -/
theorem st0_eq (d : Dev nD) : (bigSep Finset.univ fun c : Fin ((K (F := F)).nCore 0) => (P m).st 0 d c)
    = iprop((xLoc d ↦{fullShare} XT m d) ∗ (oLoc d ↦{fullShare} m (oLoc d))) := by
  rw [← cut_both d (XT m d) (m (oLoc d))]
  show (bigSep Finset.univ fun c : Fin 2 => bigSep Finset.univ fun s : Fin 16 => goP m d c.val s.val : sProp 𝕄) = _
  unfold goP; rfl
/-- What the SparseCores hand back is the two planar arrays. -/
theorem dn0_eq (d : Dev nD) : (bigSep Finset.univ fun c : Fin ((K (F := F)).nCore 0) => (P m).dn 0 d c)
    = iprop((xLoc d ↦{fullShare} XT m d) ∗ (oLoc d ↦{fullShare} OUTF (XT m d) (m (oLoc d)))) := by
  rw [← cut_both d (XT m d) (OUTF (XT m d) (m (oLoc d)))]
  show (bigSep Finset.univ fun c : Fin 2 => bigSep Finset.univ fun s : Fin 16 => tdP m d c.val s.val : sProp 𝕄) = _
  unfold tdP; rfl

/-! ## The launch's ghost state -/

abbrev pcs0 := Pipeline.pin (pcfgs (F := F)) tadm

/-- The cells of the TensorCore call's pipeline are distinct. -/
theorem pinj : Function.Injective (Pipeline.cellOf (nD := nD) (τ := τ) (pcs0 (F := F))) := cellOf_inj

/-- What the launch deals a device's TensorCore: its pipeline's cells. -/
abbrev G (d : Dev nD) : sProp 𝕄 := iprop(Pipeline.cellsGhost (pcs0 (F := F)) EP 0 d ∗ Pipeline.toksInit (pcs0 (F := F)) EP 0 d)

def u₀ : UU := (initOf (K (F := F)).hsCells (K (F := F)).hsToks,
  (initOf (Pipeline.cells (nD := nD) (τ := τ) (pcs0 (F := F)) pinj) (Pipeline.launchToks (pcs0 (F := F)) pinj), 1))

/-- The launch's ghost element is the handshakes' and the pipeline's. -/
theorem ownU_split (a : UH) (b : UP) : (ownU (a, (b, (1 : Counters))) : sProp 𝕄) ⊢ iprop(BI.own (EH a) ∗ BI.own (EP b)) :=
  BI.own_op_elim ((uEmb (nD := nD) (sig := sig) (Ix := HIx 1) (Val := Elt F) (Name := ℕ) (U := UU) (Lvl := ℕ)).toEmb.op_of_mem
    (Prod.mk_mem_op (URA.mem_op_one a) (URA.mem_one_op (b, (1 : Counters)))))

/-- No thread keeps anything else. -/
theorem x_emp : (bigSep Finset.univ fun thr : Thread nD τ => bigSep Finset.univ fun q : Fin 1 => (P m).x q thr : sProp 𝕄) = iprop(emp) := by
  rw [show (bigSep Finset.univ fun thr : Thread nD τ => bigSep Finset.univ fun q : Fin 1 => (P m).x q thr : sProp 𝕄)
      = bigSep Finset.univ fun _ : Thread nD τ => iprop(emp) from BI.bigSep_congr fun _ _ => bigSep_univ_of_subsingleton (0 : Fin 1)]
  exact bigSep_emp_const _

/-- The pipeline's ghost state of the one device and the one call. -/
theorem cg_eq : (bigSep Finset.univ fun d : Dev nD => bigSep Finset.univ fun p : Fin 1 => Pipeline.cellsGhost (pcs0 (F := F)) EP p d : sProp 𝕄)
    = bigSep Finset.univ fun d : Dev nD => Pipeline.cellsGhost (pcs0 (F := F)) EP 0 d :=
  BI.bigSep_congr fun d _ => bigSep_univ_of_subsingleton (0 : Fin 1)
/-- The pipeline's tokens of the one device and the one call. -/
theorem tk_eq : (bigSep Finset.univ fun d : Dev nD => bigSep Finset.univ fun p : Fin 1 => Pipeline.toksInit (pcs0 (F := F)) EP p d : sProp 𝕄)
    = bigSep Finset.univ fun d : Dev nD => Pipeline.toksInit (pcs0 (F := F)) EP 0 d :=
  BI.bigSep_congr fun d _ => bigSep_univ_of_subsingleton (0 : Fin 1)

/-- The launch's ghost element gives the handshakes' and the pipeline's initial states. -/
theorem hu₀ : (ownU (u₀ (F := F)) : sProp 𝕄)
    ⊢ |={Set.univ}=> iprop(BI.own (EH (initOf (K (F := F)).hsCells (K (F := F)).hsToks)) ∗ (bigSep Finset.univ fun d : Dev nD => G d)
        ∗ bigSep Finset.univ fun thr : Thread nD τ => bigSep Finset.univ fun q : Fin 1 => (P m).x q thr) := by
  unfold u₀
  iintro Hu
  ihave H := (ownU_split _ _) $$ Hu
  icases H with ⟨HH, HP⟩
  imod (Pipeline.fund_ghost (pcs0 (F := F)) EP pinj) $$ HP with ⟨Hg, Ht⟩
  imodintro
  isplitl [HH]; · iexact HH
  isplitl [Hg Ht]
  · rw [bigSep_sep']
    isplitl [Hg]
    · iapply (Entails.of_eq (cg_eq (F := F))); iexact Hg
    · iapply (Entails.of_eq (tk_eq (F := F))); iexact Ht
  rw [x_emp]; iempintro

/-! ## @main on the TensorCore -/

/-- The first transpose works on @main's arrays. -/
theorem hT : (opT (F := F)).bufs ⊆ S5 := show ({a', x'} : Finset (DevRef τ sig)) ⊆ S5 by decide
/-- The copy works on @main's arrays. -/
theorem hC : (opC (F := F)).bufs ⊆ S5 := show ({o', w'} : Finset (DevRef τ sig)) ⊆ S5 by decide
/-- The last transpose works on @main's arrays. -/
theorem hR : (opR (F := F)).bufs ⊆ S5 := show ({w', r'} : Finset (DevRef τ sig)) ⊆ S5 by decide

/-- What @main leaves the claims: the argument at its launch contents, the result. -/
abbrev FIN (d : Dev nD) : sProp 𝕄 := iprop((aLoc d ↦{fullShare} m (aLoc d)) ∗ rLoc d ↦{fullShare} RV m d)

/-- What the TensorCore holds after the SparseCore call beside what it owes. -/
def tcRest (d : Dev nD) : sProp 𝕄 :=
  iprop(atPos EH ((K (F := F)).doneCell d) 1 ∅ 0 ∗ reached EH ((K (F := F)).doneCell d) 1
    ∗ (bigSep Finset.univ fun c : Fin τ.nSC => reached EH ((K (F := F)).startCell d c) ((K (F := F)).sRank c 1))
    ∗ bigSep (SparseCore.Cfg.callsFrom 1) fun q => bigSep Finset.univ fun c : Fin ((K (F := F)).nCore q) =>
        iprop(dutyTok EH ((K (F := F)).startCell d ((K (F := F)).core q c)) ((K (F := F)).sRank ((K (F := F)).core q c) q.val) 0
          ∗ cred (tallyAt ((K (F := F)).doneCell d) (some q) 1)))

/-- What the TensorCore holds after the SparseCore call: what it owes, and the rest. -/
theorem tcSt1_eq (d : Dev nD) : ((K (F := F)).tcSt EH d 1 : sProp 𝕄) = iprop(owes0 d ∗ tcRest d) := by
  unfold SparseCore.Cfg.tcSt
  rw [(K (F := F)).Otc_end d le_rfl]
  rfl

/-- The call of the last columns in @main, from the same call in the pipeline's language. -/
theorem call_wp (d : Dev nD) (Φ : PUnit → sProp 𝕄) :
    wp frame (wpE (D (F := F)) 𝒱 (SparseCore.T d) none) Set.univ (.op (.customCall (Pipeline.entry 0) ()) .ret) Φ
      ⊢ wp frame (wpE ((K (F := F)).defs (D (F := F))) 𝒱 (SparseCore.T d) none) Set.univ
          (Prog.lift (.customCall (SparseCore.inner (Pipeline.entry 0)) ())) Φ :=
  (K (F := F)).wp_liftProg (D (F := F)) 𝒱 (SparseCore.T d) Set.univ none (.op (.customCall (Pipeline.entry 0) ()) .ret) Φ

/-- The call's proof data at @main's contents. -/
def theReg : Pipeline.RegionSeg (pcfgs (F := F)) tadm (tdats fun d => at' d (V3 m d)) (none : HIx 1) defs₀ 𝒱₀ (K (F := F)).L (K (F := F)).lev 0 :=
  reg (fun d => at' d (V3 m d)) (fun d => at' d (V4 m d))
    (fun d => by
      show V4 m d w' = WOUT (V3 m d x') (V3 m d w')
      rw [V4_w, V3_w, V3_x, WOUT_OUTF])
    (fun d b h => V4_ne m d _ fun e => h (Proc.devRef_injective _ e))

/-- The copy, the call of the last columns and the last transpose, from the arrays after the SparseCore call. -/
theorem tail_wp [∀ e, Nonempty (Elt F e)] (d : Dev nD) (Φ : PUnit → sProp 𝕄) :
    iprop(levAts (K (F := F)).L (K (F := F)).lev ∗ boundary (SparseCore.T d) ∗ held (T d) S5 (V3 m d) ∗ owes0 d ∗ G d
        ∗ (iprop(boundary (SparseCore.T d) ∗ held (T d) S5 (V4 m d) ∗ owes0 d) -∗ Φ ⟨⟩))
      ⊢ wp frame (wpE ((K (F := F)).defs (D (F := F))) 𝒱 (SparseCore.T d) none) Set.univ
          (Prog.lift (.customCall (SparseCore.inner (Pipeline.entry 0)) ())) Φ := by
  refine BI.Entails.trans ?_ (call_wp d Φ)
  refine BI.Entails.trans ?_ (Pipeline.RegionSeg.wp (pcfgs (F := F)) tadm (tdats fun d => at' d (V3 m d)) (none : HIx 1) pinj EP defs₀ 𝒱₀
    (K (F := F)).L (K (F := F)).lev (theReg m) d none (fun u hu => nomatch hu) .ret Φ)
  have hpre : (theReg m).pre d = iprop(held (T d) S5 (V3 m d) ∗ owes0 d) := by rw [← unscoped_at]; rfl
  have hpost : (theReg m).post d = iprop(held (T d) S5 (V4 m d) ∗ owes0 d) := by rw [← unscoped_at]; rfl
  rw [hpre, hpost]
  show (iprop(levAts (K (F := F)).L (K (F := F)).lev ∗ boundary (SparseCore.T d) ∗ held (T d) S5 (V3 m d) ∗ owes0 d ∗ G d
        ∗ (iprop(boundary (SparseCore.T d) ∗ held (T d) S5 (V4 m d) ∗ owes0 d) -∗ Φ ⟨⟩)) : sProp 𝕄) ⊢ _
  iintro ⟨#Hlv, Hb, Hh, HO, ⟨Hg, Ht⟩, Hk⟩
  isplitl [Hk]
  · iintro ⟨Hb, Hh, HO⟩
    rw [wp_ret]; imodintro
    iapply Hk
    isplitl [Hb]; · iexact Hb
    isplitl [Hh] <;> iassumption
  isplitl [Hb]; · iexact Hb
  isplitl [Hh HO]
  · isplitl [Hh] <;> iassumption
  isplitr; · iexact Hlv
  isplitl [Hg] <;> iassumption

/-- @main on the TensorCore runs from the argument to the result. -/
theorem hmain [∀ e, Nonempty (Elt F e)] (κ : GSem nD τ sig → ℕ) (d : Dev nD) :
    iprop((K (F := F)).ctx EH (P m) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, HG⟩
  iapply (wp_hlo_within 𝒱 (SparseCore.T d) none Set.univ (op := opT) (S := S5) hT (V := V0 m d)) $$ [Hb Hheld]
  · isplitl [Hb] <;> iassumption
  iintro ⟨Hb, Hheld⟩
  rw [wp_ret]; imodintro
  ihave Hh := (Entails.of_eq (held_V1 (F := F) m d)) $$ Hheld
  icases Hh with ⟨Ha, Hx, Ho, Hw, Hr⟩
  iapply ((K (F := F)).wp_run (D (F := F)) 𝒱 (EH := EH) (P := P m) κ d 0) $$ [Hst Hx Ho Hb Ha Hw Hr Hts HG]
  isplitr; · iexact Hctx
  isplitl [Hst]; · iexact Hst
  isplitl [Hx Ho]
  · rw [st0_eq]
    isplitl [Hx] <;> iassumption
  iintro ⟨Hst, Hdn⟩
  ihave Hdn' := (Entails.of_eq (dn0_eq m d)) $$ Hdn
  icases Hdn' with ⟨Hx, Ho⟩
  iapply (wp_hlo_within 𝒱 (SparseCore.T d) none Set.univ (op := opC) (S := S5) hC (V := V2 m d)) $$ [Hb Ha Hx Ho Hw Hr]
  · isplitl [Hb]; · iexact Hb
    rw [held_V2]
    isplitl [Ha]; · iexact Ha
    isplitl [Hx]; · iexact Hx
    isplitl [Ho]; · iexact Ho
    isplitl [Hw] <;> iassumption
  iintro ⟨Hb, Hheld⟩
  rw [wp_ret]; imodintro
  ihave Hst' := (Entails.of_eq (show ((K (F := F)).tcSt EH d ((0 : Fin 1).val + 1) : sProp 𝕄) = iprop(owes0 d ∗ tcRest d) from tcSt1_eq d)) $$ Hst
  icases Hst' with ⟨HO, Hrest⟩
  iapply (tail_wp m d _)
  isplitr; · iapply (SparseCore.Cfg.ctx_levAts (K := K (F := F)) (EH := EH) (P := P m) κ); iexact Hctx
  isplitl [Hb]; · iexact Hb
  isplitl [Hheld]; · iexact Hheld
  isplitl [HO]; · iexact HO
  isplitl [HG]; · iexact HG
  iintro ⟨Hb, Hheld, HO⟩
  iapply (wp_hlo_within 𝒱 (SparseCore.T d) none Set.univ (op := opR) (S := S5) hR (V := V4 m d)) $$ [Hb Hheld]
  · isplitl [Hb] <;> iassumption
  iintro ⟨Hb, Hheld⟩
  ihave Hh := (Entails.of_eq ((show (held (T d) S5 ((opR (F := F)).result (V4 m d)) : sProp 𝕄) = held (T d) S5 (V5 m d) from rfl).trans (held_S5 d (V5 m d)))) $$ Hheld
  rw [V5_a, V5_r]
  icases Hh with ⟨Ha, -, -, -, Hr⟩
  rw [wp_ret]; imodintro; imodintro
  isplitl [HO Hrest]
  · rw [tcSt1_eq]; isplitl [HO] <;> iassumption
  isplitr [Hb Hts]
  · isplitl [Ha] <;> iassumption
  isplitl [Hb] <;> iassumption

/-- What the claims read of device `d`'s final state: the result, and the argument unchanged. -/
def fq (d : Dev nD) (s' : Phys nD τ sig (Elt F)) : Prop := s'.mem.mem (rLoc d) = RV m d ∧ s'.mem.mem (aLoc d) = m (aLoc d)

/-- What the TensorCore holds at the end says what the memory holds. -/
theorem hfin (d : Dev nD) (s' : Phys nD τ sig (Elt F)) : iprop(FIN m d ∗ SI s') ⊢ (⌜fq m d s'⌝ : sProp 𝕄) := by
  iintro ⟨⟨Ha, Hr⟩, HSI⟩
  ihave H := (persistent_entails_right (SI_pointsTo_agree (st := s') (ℓ := aLoc d) (I := Finset.univ) (q := fullShare) (f := m (aLoc d)))) $$ [HSI Ha]
  · isplitl [HSI] <;> iassumption
  icases H with ⟨%ha, HSI, -⟩
  ihave H := (SI_pointsTo_agree (st := s') (ℓ := rLoc d) (I := Finset.univ) (q := fullShare) (f := RV m d)) $$ [HSI Hr]
  · isplitl [HSI] <;> iassumption
  icases H with %hr
  ipureintro; exact ⟨funext fun i => hr i (Finset.mem_univ i), funext fun i => ha i (Finset.mem_univ i)⟩

/-- What every run of the program ends in: on each device the result in place, the argument unchanged; every semaphore back at zero. -/
def QC : PUnit × MemSt nD τ sig (Elt F) → Prop :=
  fun r => (∀ c : Dev nD, r.2.mem (rLoc c) = RV m c ∧ r.2.mem (aLoc c) = m (aLoc c)) ∧ r.2.sem = fun _ => 0

end Cert.Proof.Ki

end
-- ==== Proof.Ki.Tile.lean ====
/-
The run of one tile, at a symbolic pair of SparseCore and tile.
-/
module

public import proofs.«01_k».proof.Proof.Ki.Pack

@[expose] public section

noncomputable section

namespace Cert.Proof.Ki

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ
local notation "xV" => (Memref.whole Cert.KernelIdeal.main_v0_scv : Memref Cert.KernelIdeal.sig Kind.scVector Space.hbm Cert.KernelIdeal.S10x32x20000 EltTy.f32)
local notation "oV" => (Memref.whole Cert.KernelIdeal.main_v1_scv : Memref Cert.KernelIdeal.sig Kind.scVector Space.hbm Cert.KernelIdeal.S9x32x20000 EltTy.f32)
local notation "b0" => (Memref.whole Cert.KernelIdeal.cc0_scratch0 : Memref Cert.KernelIdeal.sig Kind.scVector Space.vmem Cert.KernelIdeal.S16x256 EltTy.f32)
local notation "b1" => (Memref.whole Cert.KernelIdeal.cc0_scratch1 : Memref Cert.KernelIdeal.sig Kind.scVector Space.vmem Cert.KernelIdeal.S16x256 EltTy.f32)
local notation "b2" => (Memref.whole Cert.KernelIdeal.cc0_scratch2 : Memref Cert.KernelIdeal.sig Kind.scVector Space.vmem Cert.KernelIdeal.S16x256 EltTy.f32)
local notation "b3" => (Memref.whole Cert.KernelIdeal.cc0_scratch3 : Memref Cert.KernelIdeal.sig Kind.scVector Space.vmem Cert.KernelIdeal.S16x256 EltTy.f32)
local notation "b4" => (Memref.whole Cert.KernelIdeal.cc0_scratch4 : Memref Cert.KernelIdeal.sig Kind.scVector Space.vmem Cert.KernelIdeal.S16x256 EltTy.f32)
local notation "b5" => (Memref.whole Cert.KernelIdeal.cc0_scratch5 : Memref Cert.KernelIdeal.sig Kind.scVector Space.vmem Cert.KernelIdeal.S16x256 EltTy.f32)
local notation "b6" => (Memref.whole Cert.KernelIdeal.cc0_scratch6 : Memref Cert.KernelIdeal.sig Kind.scVector Space.vmem Cert.KernelIdeal.S16x256 EltTy.f32)
local notation "b7" => (Memref.whole Cert.KernelIdeal.cc0_scratch7 : Memref Cert.KernelIdeal.sig Kind.scVector Space.vmem Cert.KernelIdeal.S16x256 EltTy.f32)
local notation "b8" => (Memref.whole Cert.KernelIdeal.cc0_scratch8 : Memref Cert.KernelIdeal.sig Kind.scVector Space.vmem Cert.KernelIdeal.S16x256 EltTy.f32)
local notation "b9" => (Memref.whole Cert.KernelIdeal.cc0_scratch9 : Memref Cert.KernelIdeal.sig Kind.scVector Space.vmem Cert.KernelIdeal.S16x256 EltTy.f32)
local notation "b10" => (Memref.whole Cert.KernelIdeal.cc0_scratch10 : Memref Cert.KernelIdeal.sig Kind.scVector Space.vmem Cert.KernelIdeal.S16x256 EltTy.f32)
local notation "b11" => (Memref.whole Cert.KernelIdeal.cc0_scratch11 : Memref Cert.KernelIdeal.sig Kind.scVector Space.vmem Cert.KernelIdeal.S16x256 EltTy.f32)
local notation "b12" => (Memref.whole Cert.KernelIdeal.cc0_scratch12 : Memref Cert.KernelIdeal.sig Kind.scVector Space.vmem Cert.KernelIdeal.S16x256 EltTy.f32)
local notation "b13" => (Memref.whole Cert.KernelIdeal.cc0_scratch13 : Memref Cert.KernelIdeal.sig Kind.scVector Space.vmem Cert.KernelIdeal.S16x256 EltTy.f32)
local notation "b14" => (Memref.whole Cert.KernelIdeal.cc0_scratch14 : Memref Cert.KernelIdeal.sig Kind.scVector Space.vmem Cert.KernelIdeal.S16x256 EltTy.f32)
local notation "b15" => (Memref.whole Cert.KernelIdeal.cc0_scratch15 : Memref Cert.KernelIdeal.sig Kind.scVector Space.vmem Cert.KernelIdeal.S16x256 EltTy.f32)
local notation "b16" => (Memref.whole Cert.KernelIdeal.cc0_scratch16 : Memref Cert.KernelIdeal.sig Kind.scVector Space.vmem Cert.KernelIdeal.S16x256 EltTy.f32)
local notation "b17" => (Memref.whole Cert.KernelIdeal.cc0_scratch17 : Memref Cert.KernelIdeal.sig Kind.scVector Space.vmem Cert.KernelIdeal.S16x256 EltTy.f32)
local notation "b18" => (Memref.whole Cert.KernelIdeal.cc0_scratch18 : Memref Cert.KernelIdeal.sig Kind.scVector Space.vmem Cert.KernelIdeal.S16x256 EltTy.f32)
local notation "b19" => (Memref.whole Cert.KernelIdeal.cc0_scratch19 : Memref Cert.KernelIdeal.sig Kind.scVector Space.vmem Cert.KernelIdeal.S16x256 EltTy.f32)
local notation "b20" => (Memref.whole Cert.KernelIdeal.cc0_scratch20 : Memref Cert.KernelIdeal.sig Kind.scVector Space.vmem Cert.KernelIdeal.S16x256 EltTy.f32)
local notation "b21" => (Memref.whole Cert.KernelIdeal.cc0_scratch21 : Memref Cert.KernelIdeal.sig Kind.scVector Space.vmem Cert.KernelIdeal.S16x256 EltTy.f32)
local notation "b22" => (Memref.whole Cert.KernelIdeal.cc0_scratch22 : Memref Cert.KernelIdeal.sig Kind.scVector Space.vmem Cert.KernelIdeal.S16x256 EltTy.f32)
local notation "b23" => (Memref.whole Cert.KernelIdeal.cc0_scratch23 : Memref Cert.KernelIdeal.sig Kind.scVector Space.vmem Cert.KernelIdeal.S16x256 EltTy.f32)
local notation "b24" => (Memref.whole Cert.KernelIdeal.cc0_scratch24 : Memref Cert.KernelIdeal.sig Kind.scVector Space.vmem Cert.KernelIdeal.S16x256 EltTy.f32)
local notation "b25" => (Memref.whole Cert.KernelIdeal.cc0_scratch25 : Memref Cert.KernelIdeal.sig Kind.scVector Space.vmem Cert.KernelIdeal.S16x256 EltTy.f32)
local notation "b26" => (Memref.whole Cert.KernelIdeal.cc0_scratch26 : Memref Cert.KernelIdeal.sig Kind.scVector Space.vmem Cert.KernelIdeal.S16x256 EltTy.f32)

abbrev csem (k : Nat) (hk : k < 8 := by decide) : DmaSem sig := ⟨k, hk⟩
abbrev cells0 (d : Dev nD) (L : grid0.Coords) : sProp 𝕄 :=
  iprop(semVal (VT d L, SemLoc.dma (csem 0)) 0 ∗ semVal (VT d L, SemLoc.dma (csem 1)) 0 ∗ semVal (VT d L, SemLoc.dma (csem 2)) 0 ∗ semVal (VT d L, SemLoc.dma (csem 3)) 0 ∗ semVal (VT d L, SemLoc.dma (csem 4)) 0 ∗ semVal (VT d L, SemLoc.dma (csem 5)) 0)

variable (d : Dev nD) (L : grid0.Coords)

set_option maxHeartbeats 0 in
/-- The run of one tile from its blocks of the two arrays, its scratch buffers and its semaphores. -/
theorem tile_run (O : CellTallies nD τ sig (HIx 1)) (W : Waits sig (HIx 1)) (X : Buf (Elt F) (xLoc d)) (V1 : Buf (Elt F) (oLoc d))
    (g0 : Buf (Elt F) ((b0).view.loc (VT d L)))
    (g1 : Buf (Elt F) ((b1).view.loc (VT d L)))
    (g2 : Buf (Elt F) ((b2).view.loc (VT d L)))
    (g3 : Buf (Elt F) ((b3).view.loc (VT d L)))
    (g4 : Buf (Elt F) ((b4).view.loc (VT d L)))
    (g5 : Buf (Elt F) ((b5).view.loc (VT d L)))
    (g6 : Buf (Elt F) ((b6).view.loc (VT d L)))
    (g7 : Buf (Elt F) ((b7).view.loc (VT d L)))
    (g8 : Buf (Elt F) ((b8).view.loc (VT d L)))
    (g9 : Buf (Elt F) ((b9).view.loc (VT d L)))
    (g10 : Buf (Elt F) ((b10).view.loc (VT d L)))
    (g11 : Buf (Elt F) ((b11).view.loc (VT d L)))
    (g12 : Buf (Elt F) ((b12).view.loc (VT d L)))
    (g13 : Buf (Elt F) ((b13).view.loc (VT d L)))
    (g14 : Buf (Elt F) ((b14).view.loc (VT d L)))
    (g15 : Buf (Elt F) ((b15).view.loc (VT d L)))
    (g16 : Buf (Elt F) ((b16).view.loc (VT d L)))
    (g17 : Buf (Elt F) ((b17).view.loc (VT d L)))
    (g18 : Buf (Elt F) ((b18).view.loc (VT d L)))
    (g19 : Buf (Elt F) ((b19).view.loc (VT d L)))
    (g20 : Buf (Elt F) ((b20).view.loc (VT d L)))
    (g21 : Buf (Elt F) ((b21).view.loc (VT d L)))
    (g22 : Buf (Elt F) ((b22).view.loc (VT d L)))
    (g23 : Buf (Elt F) ((b23).view.loc (VT d L)))
    (g24 : Buf (Elt F) ((b24).view.loc (VT d L)))
    (g25 : Buf (Elt F) ((b25).view.loc (VT d L)))
    (g26 : Buf (Elt F) ((b26).view.loc (VT d L)))
  :
    (iprop(Transfers.MayWaits (VT d L) (default : HIx 1) O
      ∗ inB d (wid L + 0) X
      ∗ inB d (wid L + 32) X
      ∗ inB d (wid L + 64) X
      ∗ inB d (wid L + 96) X
      ∗ inB d (wid L + 128) X
      ∗ outB d (wid L + 0) V1
      ∗ outB d (wid L + 32) V1
      ∗ outB d (wid L + 64) V1
      ∗ outB d (wid L + 96) V1
      ∗ outB d (wid L + 128) V1
      ∗ ((b0).view.loc (VT d L) ↦[(b0).view.set]{fullShare} g0)
      ∗ ((b1).view.loc (VT d L) ↦[(b1).view.set]{fullShare} g1)
      ∗ ((b2).view.loc (VT d L) ↦[(b2).view.set]{fullShare} g2)
      ∗ ((b3).view.loc (VT d L) ↦[(b3).view.set]{fullShare} g3)
      ∗ ((b4).view.loc (VT d L) ↦[(b4).view.set]{fullShare} g4)
      ∗ ((b5).view.loc (VT d L) ↦[(b5).view.set]{fullShare} g5)
      ∗ ((b6).view.loc (VT d L) ↦[(b6).view.set]{fullShare} g6)
      ∗ ((b7).view.loc (VT d L) ↦[(b7).view.set]{fullShare} g7)
      ∗ ((b8).view.loc (VT d L) ↦[(b8).view.set]{fullShare} g8)
      ∗ ((b9).view.loc (VT d L) ↦[(b9).view.set]{fullShare} g9)
      ∗ ((b10).view.loc (VT d L) ↦[(b10).view.set]{fullShare} g10)
      ∗ ((b11).view.loc (VT d L) ↦[(b11).view.set]{fullShare} g11)
      ∗ ((b12).view.loc (VT d L) ↦[(b12).view.set]{fullShare} g12)
      ∗ ((b13).view.loc (VT d L) ↦[(b13).view.set]{fullShare} g13)
      ∗ ((b14).view.loc (VT d L) ↦[(b14).view.set]{fullShare} g14)
      ∗ ((b15).view.loc (VT d L) ↦[(b15).view.set]{fullShare} g15)
      ∗ ((b16).view.loc (VT d L) ↦[(b16).view.set]{fullShare} g16)
      ∗ ((b17).view.loc (VT d L) ↦[(b17).view.set]{fullShare} g17)
      ∗ ((b18).view.loc (VT d L) ↦[(b18).view.set]{fullShare} g18)
      ∗ ((b19).view.loc (VT d L) ↦[(b19).view.set]{fullShare} g19)
      ∗ ((b20).view.loc (VT d L) ↦[(b20).view.set]{fullShare} g20)
      ∗ ((b21).view.loc (VT d L) ↦[(b21).view.set]{fullShare} g21)
      ∗ ((b22).view.loc (VT d L) ↦[(b22).view.set]{fullShare} g22)
      ∗ ((b23).view.loc (VT d L) ↦[(b23).view.set]{fullShare} g23)
      ∗ ((b24).view.loc (VT d L) ↦[(b24).view.set]{fullShare} g24)
      ∗ ((b25).view.loc (VT d L) ↦[(b25).view.set]{fullShare} g25)
      ∗ ((b26).view.loc (VT d L) ↦[(b26).view.set]{fullShare} g26)
      ∗ cells0 d L
      ∗ owes (VT d L) O W) : sProp 𝕄)
      ⊢ wp frame (wpE (defs₀ (F := F)) 𝒱₀ (VT d L) none) Set.univ
          (cc0__adapter L xV (Memref.isWhole_whole _) oV (Memref.isWhole_whole _)
            b0 (Memref.isWhole_whole _) b1 (Memref.isWhole_whole _) b2 (Memref.isWhole_whole _) b3 (Memref.isWhole_whole _) b4 (Memref.isWhole_whole _) b5 (Memref.isWhole_whole _) b6 (Memref.isWhole_whole _) b7 (Memref.isWhole_whole _) b8 (Memref.isWhole_whole _) b9 (Memref.isWhole_whole _) b10 (Memref.isWhole_whole _) b11 (Memref.isWhole_whole _) b12 (Memref.isWhole_whole _) b13 (Memref.isWhole_whole _) b14 (Memref.isWhole_whole _) b15 (Memref.isWhole_whole _) b16 (Memref.isWhole_whole _) b17 (Memref.isWhole_whole _) b18 (Memref.isWhole_whole _) b19 (Memref.isWhole_whole _) b20 (Memref.isWhole_whole _) b21 (Memref.isWhole_whole _) b22 (Memref.isWhole_whole _) b23 (Memref.isWhole_whole _) b24 (Memref.isWhole_whole _) b25 (Memref.isWhole_whole _) b26 (Memref.isWhole_whole _) cc0_scratch27 cc0_scratch28 cc0_scratch29 cc0_scratch30 cc0_scratch31 cc0_scratch32)
          fun _ => iprop(inB d (wid L + 0) X
            ∗ inB d (wid L + 32) X
            ∗ inB d (wid L + 64) X
            ∗ inB d (wid L + 96) X
            ∗ inB d (wid L + 128) X
            ∗ outB d (wid L + 0) (OUTF X V1)
            ∗ outB d (wid L + 32) (OUTF X V1)
            ∗ outB d (wid L + 64) (OUTF X V1)
            ∗ outB d (wid L + 96) (OUTF X V1)
            ∗ outB d (wid L + 128) (OUTF X V1)
            ∗ (∃ g, (b0).view.loc (VT d L) ↦[(b0).view.set]{fullShare} g)
            ∗ (∃ g, (b1).view.loc (VT d L) ↦[(b1).view.set]{fullShare} g)
            ∗ (∃ g, (b2).view.loc (VT d L) ↦[(b2).view.set]{fullShare} g)
            ∗ (∃ g, (b3).view.loc (VT d L) ↦[(b3).view.set]{fullShare} g)
            ∗ (∃ g, (b4).view.loc (VT d L) ↦[(b4).view.set]{fullShare} g)
            ∗ (∃ g, (b5).view.loc (VT d L) ↦[(b5).view.set]{fullShare} g)
            ∗ (∃ g, (b6).view.loc (VT d L) ↦[(b6).view.set]{fullShare} g)
            ∗ (∃ g, (b7).view.loc (VT d L) ↦[(b7).view.set]{fullShare} g)
            ∗ (∃ g, (b8).view.loc (VT d L) ↦[(b8).view.set]{fullShare} g)
            ∗ (∃ g, (b9).view.loc (VT d L) ↦[(b9).view.set]{fullShare} g)
            ∗ (∃ g, (b10).view.loc (VT d L) ↦[(b10).view.set]{fullShare} g)
            ∗ (∃ g, (b11).view.loc (VT d L) ↦[(b11).view.set]{fullShare} g)
            ∗ (∃ g, (b12).view.loc (VT d L) ↦[(b12).view.set]{fullShare} g)
            ∗ (∃ g, (b13).view.loc (VT d L) ↦[(b13).view.set]{fullShare} g)
            ∗ (∃ g, (b14).view.loc (VT d L) ↦[(b14).view.set]{fullShare} g)
            ∗ (∃ g, (b15).view.loc (VT d L) ↦[(b15).view.set]{fullShare} g)
            ∗ (∃ g, (b16).view.loc (VT d L) ↦[(b16).view.set]{fullShare} g)
            ∗ (∃ g, (b17).view.loc (VT d L) ↦[(b17).view.set]{fullShare} g)
            ∗ (∃ g, (b18).view.loc (VT d L) ↦[(b18).view.set]{fullShare} g)
            ∗ (∃ g, (b19).view.loc (VT d L) ↦[(b19).view.set]{fullShare} g)
            ∗ (∃ g, (b20).view.loc (VT d L) ↦[(b20).view.set]{fullShare} g)
            ∗ (∃ g, (b21).view.loc (VT d L) ↦[(b21).view.set]{fullShare} g)
            ∗ (∃ g, (b22).view.loc (VT d L) ↦[(b22).view.set]{fullShare} g)
            ∗ (∃ g, (b23).view.loc (VT d L) ↦[(b23).view.set]{fullShare} g)
            ∗ (∃ g, (b24).view.loc (VT d L) ↦[(b24).view.set]{fullShare} g)
            ∗ (∃ g, (b25).view.loc (VT d L) ↦[(b25).view.set]{fullShare} g)
            ∗ (∃ g, (b26).view.loc (VT d L) ↦[(b26).view.set]{fullShare} g)
            ∗ cells0 d L
            ∗ (∃ W', owes (VT d L) O W')) := by
  iintro ⟨#Hmw, HX0, HX1, HX2, HX3, HX4, HV0, HV1, HV2, HV3, HV4, HG0, HG1, HG2, HG3, HG4, HG5, HG6, HG7, HG8, HG9, HG10, HG11, HG12, HG13, HG14, HG15, HG16, HG17, HG18, HG19, HG20, HG21, HG22, HG23, HG24, HG25, HG26, ⟨Hc0, Hc1, Hc2, Hc3, Hc4, Hc5⟩, HO⟩
  have hb0 : Transfers.BatchOf (VT d L) (SemLoc.dma (csem 0)) 9 := trivial
  have hb1 : Transfers.BatchOf (VT d L) (SemLoc.dma (csem 1)) 9 := trivial
  have hb2 : Transfers.BatchOf (VT d L) (SemLoc.dma (csem 2)) 9 := trivial
  have hb3 : Transfers.BatchOf (VT d L) (SemLoc.dma (csem 3)) 9 := trivial
  have hb4 : Transfers.BatchOf (VT d L) (SemLoc.dma (csem 4)) 9 := trivial
  have hb5 : Transfers.BatchOf (VT d L) (SemLoc.dma (csem 5)) 9 := trivial
  have hw : wid L < 32 := wid_lt L
  ihave HX0' := (Entails.of_eq (inB_un0 d L X)) $$ HX0
  icases HX0' with ⟨HI0_0, HI0_1, HI0_2, HI0_3, HI0_4, HI0_5, HI0_6, HI0_7, HI0_8⟩
  ihave HX1' := (Entails.of_eq (inB_un1 d L X)) $$ HX1
  icases HX1' with ⟨HI1_0, HI1_1, HI1_2, HI1_3, HI1_4, HI1_5, HI1_6, HI1_7, HI1_8⟩
  sl_unfold [cc0__adapter]
  sl_exec
  ihave HX0 := (Entails.of_eq (inB_un0 d L X).symm) $$ [HI0_0 HI0_1 HI0_2 HI0_3 HI0_4 HI0_5 HI0_6 HI0_7 HI0_8]
  · sl_close
  sl_for (inv1 d L (xin X 0 (wid L + 0)) (xin X 1 (wid L + 0)) (xin X 2 (wid L + 0)) (xin X 3 (wid L + 0))) $$ [HG0 HG1 HG2 HG3]
  case region => intro k _; exact trip1 d L (xin X 0 (wid L + 0)) (xin X 1 (wid L + 0)) (xin X 2 (wid L + 0)) (xin X 3 (wid L + 0)) _ k _
  · unfold inv1
    isplitl [HG0]; · iapply (in_cl0 d L ((b0).view.junk (Val := Elt F)) (tile_run.sl.dma0 d L X) (sA (xin X 0 (wid L + 0))) (xin X 0 (wid L + 0)) (show tile_run.sl.dma0 d L X = xin X 0 (wid L + 0) from read_xin X (k0_off1 L 0#32) (k0_off1_inb L 0) 0 (wid L + 0) (by omega) (off1_eq L 0))); iexact HG0
    isplitl [HG1]; · iapply (in_cl1 d L ((b1).view.junk (Val := Elt F)) (tile_run.sl.dma1 d L X) (sA (xin X 1 (wid L + 0))) (xin X 1 (wid L + 0)) (show tile_run.sl.dma1 d L X = xin X 1 (wid L + 0) from read_xin X (k0_off2 L 0#32) (k0_off2_inb L 0) 1 (wid L + 0) (by omega) (off2_eq L 0))); iexact HG1
    isplitl [HG2]; · iapply (in_cl2 d L ((b2).view.junk (Val := Elt F)) (tile_run.sl.dma2 d L X) (sD (xin X 2 (wid L + 0)) (xin X 0 (wid L + 0))) (xin X 2 (wid L + 0)) (show tile_run.sl.dma2 d L X = xin X 2 (wid L + 0) from read_xin X (k0_off3 L 0#32) (k0_off3_inb L 0) 2 (wid L + 0) (by omega) (off3_eq L 0))); iexact HG2
    iapply (in_cl3 d L ((b3).view.junk (Val := Elt F)) (tile_run.sl.dma3 d L X) (sD (xin X 3 (wid L + 0)) (xin X 1 (wid L + 0))) (xin X 3 (wid L + 0)) (show tile_run.sl.dma3 d L X = xin X 3 (wid L + 0) from read_xin X (k0_off4 L 0#32) (k0_off4_inb L 0) 3 (wid L + 0) (by omega) (off4_eq L 0))); iexact HG3
  iintro %_ HI
  ihave HI := (inv1_end d L (xin X 0 (wid L + 0)) (xin X 1 (wid L + 0)) (xin X 2 (wid L + 0)) (xin X 3 (wid L + 0)) _) $$ HI
  icases HI with ⟨HG0, HG1, HG2, HG3⟩
  ihave HV0' := (Entails.of_eq (outB_un0 d L V1)) $$ HV0
  icases HV0' with ⟨HO0_0, HO0_1, HO0_2, HO0_3, HO0_4, HO0_5, HO0_6, HO0_7, HO0_8⟩
  ihave HX2' := (Entails.of_eq (inB_un2 d L X)) $$ HX2
  icases HX2' with ⟨HI2_0, HI2_1, HI2_2, HI2_3, HI2_4, HI2_5, HI2_6, HI2_7, HI2_8⟩
  sl_exec
  ihave HX1 := (Entails.of_eq (inB_un1 d L X).symm) $$ [HI1_0 HI1_1 HI1_2 HI1_3 HI1_4 HI1_5 HI1_6 HI1_7 HI1_8]
  · sl_close
  sl_for (inv2 d L (xin X 0 (wid L + 32)) (xin X 1 (wid L + 32)) (xin X 2 (wid L + 32)) (xin X 3 (wid L + 32))) $$ [HG9 HG10 HG11 HG12]
  case region => intro k _; exact trip2 d L (xin X 0 (wid L + 32)) (xin X 1 (wid L + 32)) (xin X 2 (wid L + 32)) (xin X 3 (wid L + 32)) _ k _
  · unfold inv2
    isplitl [HG9]; · iapply (in_cl9 d L ((b9).view.junk (Val := Elt F)) (tile_run.sl.dma9 d L X) (sA (xin X 0 (wid L + 32))) (xin X 0 (wid L + 32)) (show tile_run.sl.dma9 d L X = xin X 0 (wid L + 32) from read_xin X (k0_off1 L 32#32) (k0_off1_inb L 1) 0 (wid L + 32) (by omega) (off1_eq L 1))); iexact HG9
    isplitl [HG10]; · iapply (in_cl10 d L ((b10).view.junk (Val := Elt F)) (tile_run.sl.dma10 d L X) (sA (xin X 1 (wid L + 32))) (xin X 1 (wid L + 32)) (show tile_run.sl.dma10 d L X = xin X 1 (wid L + 32) from read_xin X (k0_off2 L 32#32) (k0_off2_inb L 1) 1 (wid L + 32) (by omega) (off2_eq L 1))); iexact HG10
    isplitl [HG11]; · iapply (in_cl11 d L ((b11).view.junk (Val := Elt F)) (tile_run.sl.dma11 d L X) (sD (xin X 2 (wid L + 32)) (xin X 0 (wid L + 32))) (xin X 2 (wid L + 32)) (show tile_run.sl.dma11 d L X = xin X 2 (wid L + 32) from read_xin X (k0_off3 L 32#32) (k0_off3_inb L 1) 2 (wid L + 32) (by omega) (off3_eq L 1))); iexact HG11
    iapply (in_cl12 d L ((b12).view.junk (Val := Elt F)) (tile_run.sl.dma12 d L X) (sD (xin X 3 (wid L + 32)) (xin X 1 (wid L + 32))) (xin X 3 (wid L + 32)) (show tile_run.sl.dma12 d L X = xin X 3 (wid L + 32) from read_xin X (k0_off4 L 32#32) (k0_off4_inb L 1) 3 (wid L + 32) (by omega) (off4_eq L 1))); iexact HG12
  iintro %_ HI
  ihave HI := (inv2_end d L (xin X 0 (wid L + 32)) (xin X 1 (wid L + 32)) (xin X 2 (wid L + 32)) (xin X 3 (wid L + 32)) _) $$ HI
  icases HI with ⟨HG9, HG10, HG11, HG12⟩
  ihave HV1' := (Entails.of_eq (outB_un1 d L V1)) $$ HV1
  icases HV1' with ⟨HO1_0, HO1_1, HO1_2, HO1_3, HO1_4, HO1_5, HO1_6, HO1_7, HO1_8⟩
  ihave HX3' := (Entails.of_eq (inB_un3 d L X)) $$ HX3
  icases HX3' with ⟨HI3_0, HI3_1, HI3_2, HI3_3, HI3_4, HI3_5, HI3_6, HI3_7, HI3_8⟩
  sl_exec
  ihave HX2 := (Entails.of_eq (inB_un2 d L X).symm) $$ [HI2_0 HI2_1 HI2_2 HI2_3 HI2_4 HI2_5 HI2_6 HI2_7 HI2_8]
  · sl_close
  ihave HV0 := (Entails.of_eq (outB_un0 d L (OUTF X V1)).symm) $$ [HO0_0 HO0_1 HO0_2 HO0_3 HO0_4 HO0_5 HO0_6 HO0_7 HO0_8]
  · isplitl [HO0_0]; · iapply (out_cl d L X V1 ((oWin (k0_off11 L 0#32) (k0_off11_inb L 0)).view.junk (Val := Elt F)) (k0_off11 L 0#32) (k0_off11_inb L 0) 0 (wid L + 0) (by omega) (off11_eq L 0) (tile_run.sl.dma0_1 d L X) (fun y => rfl)); iexact HO0_0
    isplitl [HO0_1]; · iapply (out_cl d L X V1 ((oWin (k0_off12 L 0#32) (k0_off12_inb L 0)).view.junk (Val := Elt F)) (k0_off12 L 0#32) (k0_off12_inb L 0) 1 (wid L + 0) (by omega) (off12_eq L 0) (tile_run.sl.dma1_1 d L X) (fun y => rfl)); iexact HO0_1
    isplitl [HO0_2]; · iapply (out_cl d L X V1 ((oWin (k0_off13 L 0#32) (k0_off13_inb L 0)).view.junk (Val := Elt F)) (k0_off13 L 0#32) (k0_off13_inb L 0) 2 (wid L + 0) (by omega) (off13_eq L 0) (tile_run.sl.dma2_1 d L X) (fun y => rfl)); iexact HO0_2
    isplitl [HO0_3]; · iapply (out_cl d L X V1 ((oWin (k0_off14 L 0#32) (k0_off14_inb L 0)).view.junk (Val := Elt F)) (k0_off14 L 0#32) (k0_off14_inb L 0) 3 (wid L + 0) (by omega) (off14_eq L 0) (tile_run.sl.dma3_1 d L X) (fun y => rfl)); iexact HO0_3
    isplitl [HO0_4]; · iapply (out_cl d L X V1 ((oWin (k0_off15 L 0#32) (k0_off15_inb L 0)).view.junk (Val := Elt F)) (k0_off15 L 0#32) (k0_off15_inb L 0) 4 (wid L + 0) (by omega) (off15_eq L 0) (tile_run.sl.dma4_1 d L X) (by intro y; unfold tile_run.sl.dma4_1; exact (rd5 ((b5).view.junk (Val := Elt F)) (tile_run.sl.dma5 d L X) _ y).trans (congrFun (show tile_run.sl.dma5 d L X = xin X 6 (wid L + 0) from read_xin X (k0_off6 L 0#32) (k0_off6_inb L 0) 6 (wid L + 0) (by omega) (off6_eq L 0)) y))); iexact HO0_4
    isplitl [HO0_5]; · iapply (out_cl d L X V1 ((oWin (k0_off16 L 0#32) (k0_off16_inb L 0)).view.junk (Val := Elt F)) (k0_off16 L 0#32) (k0_off16_inb L 0) 5 (wid L + 0) (by omega) (off16_eq L 0) (tile_run.sl.dma5_1 d L X) (by intro y; unfold tile_run.sl.dma5_1; exact (rd6 ((b6).view.junk (Val := Elt F)) (tile_run.sl.dma6 d L X) _ y).trans (congrFun (show tile_run.sl.dma6 d L X = xin X 7 (wid L + 0) from read_xin X (k0_off7 L 0#32) (k0_off7_inb L 0) 7 (wid L + 0) (by omega) (off7_eq L 0)) y))); iexact HO0_5
    isplitl [HO0_6]; · iapply (out_cl d L X V1 ((oWin (k0_off17 L 0#32) (k0_off17_inb L 0)).view.junk (Val := Elt F)) (k0_off17 L 0#32) (k0_off17_inb L 0) 6 (wid L + 0) (by omega) (off17_eq L 0) (tile_run.sl.dma6_1 d L X) (by intro y; unfold tile_run.sl.dma6_1; exact (rd7 ((b7).view.junk (Val := Elt F)) (tile_run.sl.dma7 d L X) _ y).trans (congrFun (show tile_run.sl.dma7 d L X = xin X 8 (wid L + 0) from read_xin X (k0_off8 L 0#32) (k0_off8_inb L 0) 8 (wid L + 0) (by omega) (off8_eq L 0)) y))); iexact HO0_6
    isplitl [HO0_7]; · iapply (out_cl d L X V1 ((oWin (k0_off18 L 0#32) (k0_off18_inb L 0)).view.junk (Val := Elt F)) (k0_off18 L 0#32) (k0_off18_inb L 0) 7 (wid L + 0) (by omega) (off18_eq L 0) (tile_run.sl.dma7_1 d L X) (by intro y; unfold tile_run.sl.dma7_1; exact (rd8 ((b8).view.junk (Val := Elt F)) (tile_run.sl.dma8 d L X) _ y).trans (congrFun (show tile_run.sl.dma8 d L X = xin X 9 (wid L + 0) from read_xin X (k0_off9 L 0#32) (k0_off9_inb L 0) 9 (wid L + 0) (by omega) (off9_eq L 0)) y))); iexact HO0_7
    iapply (out_cl d L X V1 ((oWin (k0_off19 L 0#32) (k0_off19_inb L 0)).view.junk (Val := Elt F)) (k0_off19 L 0#32) (k0_off19_inb L 0) 8 (wid L + 0) (by omega) (off19_eq L 0) (tile_run.sl.dma8_1 d L X) (by intro y; unfold tile_run.sl.dma8_1; exact (rd4 ((b4).view.junk (Val := Elt F)) (tile_run.sl.dma4 d L X) _ y).trans (congrFun (show tile_run.sl.dma4 d L X = xin X 4 (wid L + 0) from read_xin X (k0_off5 L 0#32) (k0_off5_inb L 0) 4 (wid L + 0) (by omega) (off5_eq L 0)) y))); iexact HO0_8
  sl_for (inv3 d L (xin X 0 (wid L + 64)) (xin X 1 (wid L + 64)) (xin X 2 (wid L + 64)) (xin X 3 (wid L + 64))) $$ [HG18 HG19 HG20 HG21]
  case region => intro k _; exact trip3 d L (xin X 0 (wid L + 64)) (xin X 1 (wid L + 64)) (xin X 2 (wid L + 64)) (xin X 3 (wid L + 64)) _ _ k _
  · unfold inv3
    isplitl [HG18]; · iapply (in_cl18 d L ((b18).view.junk (Val := Elt F)) (tile_run.sl.dma9_1 d L X) (sA (xin X 0 (wid L + 64))) (xin X 0 (wid L + 64)) (show tile_run.sl.dma9_1 d L X = xin X 0 (wid L + 64) from read_xin X (k0_off1 L 64#32) (k0_off1_inb L 2) 0 (wid L + 64) (by omega) (off1_eq L 2))); iexact HG18
    isplitl [HG19]; · iapply (in_cl19 d L ((b19).view.junk (Val := Elt F)) (tile_run.sl.dma10_1 d L X) (sA (xin X 1 (wid L + 64))) (xin X 1 (wid L + 64)) (show tile_run.sl.dma10_1 d L X = xin X 1 (wid L + 64) from read_xin X (k0_off2 L 64#32) (k0_off2_inb L 2) 1 (wid L + 64) (by omega) (off2_eq L 2))); iexact HG19
    isplitl [HG20]; · iapply (in_cl20 d L ((b20).view.junk (Val := Elt F)) (tile_run.sl.dma11_1 d L X) (sD (xin X 2 (wid L + 64)) (xin X 0 (wid L + 64))) (xin X 2 (wid L + 64)) (show tile_run.sl.dma11_1 d L X = xin X 2 (wid L + 64) from read_xin X (k0_off3 L 64#32) (k0_off3_inb L 2) 2 (wid L + 64) (by omega) (off3_eq L 2))); iexact HG20
    iapply (in_cl21 d L ((b21).view.junk (Val := Elt F)) (tile_run.sl.dma12_1 d L X) (sD (xin X 3 (wid L + 64)) (xin X 1 (wid L + 64))) (xin X 3 (wid L + 64)) (show tile_run.sl.dma12_1 d L X = xin X 3 (wid L + 64) from read_xin X (k0_off4 L 64#32) (k0_off4_inb L 2) 3 (wid L + 64) (by omega) (off4_eq L 2))); iexact HG21
  iintro %_ HI
  ihave HI := (inv3_end d L (xin X 0 (wid L + 64)) (xin X 1 (wid L + 64)) (xin X 2 (wid L + 64)) (xin X 3 (wid L + 64)) _) $$ HI
  icases HI with ⟨HG18, HG19, HG20, HG21⟩
  ihave HV2' := (Entails.of_eq (outB_un2 d L V1)) $$ HV2
  icases HV2' with ⟨HO2_0, HO2_1, HO2_2, HO2_3, HO2_4, HO2_5, HO2_6, HO2_7, HO2_8⟩
  rcases Classical.em (k0_cond1 L = 1#1) with h1 | h1
  · have hu : wid L < 28 := (cond1_iff L).mp h1
    have h2 : k0_cond2 L = 1#1 := (cond2_iff L).mpr hu
    have h3 : k0_cond3 L = 1#1 := (cond3_iff L).mpr hu
    ihave HX4' := (Entails.of_eq (inB_un4 d L X h1)) $$ HX4
    icases HX4' with ⟨HI4_0, HI4_1, HI4_2, HI4_3, HI4_4, HI4_5, HI4_6, HI4_7, HI4_8⟩
    sl_exec (disch := first | sl_exact h1 | sl_exact h2 | sl_exact h3 | omega)
    ihave HX3 := (Entails.of_eq (inB_un3 d L X).symm) $$ [HI3_0 HI3_1 HI3_2 HI3_3 HI3_4 HI3_5 HI3_6 HI3_7 HI3_8]
    · sl_close
    ihave HV1 := (Entails.of_eq (outB_un1 d L (OUTF X V1)).symm) $$ [HO1_0 HO1_1 HO1_2 HO1_3 HO1_4 HO1_5 HO1_6 HO1_7 HO1_8]
    · isplitl [HO1_0]; · iapply (out_cl d L X V1 ((oWin (k0_off11 L 32#32) (k0_off11_inb L 1)).view.junk (Val := Elt F)) (k0_off11 L 32#32) (k0_off11_inb L 1) 0 (wid L + 32) (by omega) (off11_eq L 1) (tile_run.sl.dma0_2 d L X) (fun y => rfl)); iexact HO1_0
      isplitl [HO1_1]; · iapply (out_cl d L X V1 ((oWin (k0_off12 L 32#32) (k0_off12_inb L 1)).view.junk (Val := Elt F)) (k0_off12 L 32#32) (k0_off12_inb L 1) 1 (wid L + 32) (by omega) (off12_eq L 1) (tile_run.sl.dma1_2 d L X) (fun y => rfl)); iexact HO1_1
      isplitl [HO1_2]; · iapply (out_cl d L X V1 ((oWin (k0_off13 L 32#32) (k0_off13_inb L 1)).view.junk (Val := Elt F)) (k0_off13 L 32#32) (k0_off13_inb L 1) 2 (wid L + 32) (by omega) (off13_eq L 1) (tile_run.sl.dma2_2 d L X) (fun y => rfl)); iexact HO1_2
      isplitl [HO1_3]; · iapply (out_cl d L X V1 ((oWin (k0_off14 L 32#32) (k0_off14_inb L 1)).view.junk (Val := Elt F)) (k0_off14 L 32#32) (k0_off14_inb L 1) 3 (wid L + 32) (by omega) (off14_eq L 1) (tile_run.sl.dma3_2 d L X) (fun y => rfl)); iexact HO1_3
      isplitl [HO1_4]; · iapply (out_cl d L X V1 ((oWin (k0_off15 L 32#32) (k0_off15_inb L 1)).view.junk (Val := Elt F)) (k0_off15 L 32#32) (k0_off15_inb L 1) 4 (wid L + 32) (by omega) (off15_eq L 1) (tile_run.sl.dma4_2 d L X) (by intro y; unfold tile_run.sl.dma4_2; exact (rd14 ((b14).view.junk (Val := Elt F)) (tile_run.sl.dma14 d L X) _ y).trans (congrFun (show tile_run.sl.dma14 d L X = xin X 6 (wid L + 32) from read_xin X (k0_off6 L 32#32) (k0_off6_inb L 1) 6 (wid L + 32) (by omega) (off6_eq L 1)) y))); iexact HO1_4
      isplitl [HO1_5]; · iapply (out_cl d L X V1 ((oWin (k0_off16 L 32#32) (k0_off16_inb L 1)).view.junk (Val := Elt F)) (k0_off16 L 32#32) (k0_off16_inb L 1) 5 (wid L + 32) (by omega) (off16_eq L 1) (tile_run.sl.dma5_2 d L X) (by intro y; unfold tile_run.sl.dma5_2; exact (rd15 ((b15).view.junk (Val := Elt F)) (tile_run.sl.dma15 d L X) _ y).trans (congrFun (show tile_run.sl.dma15 d L X = xin X 7 (wid L + 32) from read_xin X (k0_off7 L 32#32) (k0_off7_inb L 1) 7 (wid L + 32) (by omega) (off7_eq L 1)) y))); iexact HO1_5
      isplitl [HO1_6]; · iapply (out_cl d L X V1 ((oWin (k0_off17 L 32#32) (k0_off17_inb L 1)).view.junk (Val := Elt F)) (k0_off17 L 32#32) (k0_off17_inb L 1) 6 (wid L + 32) (by omega) (off17_eq L 1) (tile_run.sl.dma6_2 d L X) (by intro y; unfold tile_run.sl.dma6_2; exact (rd16 ((b16).view.junk (Val := Elt F)) (tile_run.sl.dma16 d L X) _ y).trans (congrFun (show tile_run.sl.dma16 d L X = xin X 8 (wid L + 32) from read_xin X (k0_off8 L 32#32) (k0_off8_inb L 1) 8 (wid L + 32) (by omega) (off8_eq L 1)) y))); iexact HO1_6
      isplitl [HO1_7]; · iapply (out_cl d L X V1 ((oWin (k0_off18 L 32#32) (k0_off18_inb L 1)).view.junk (Val := Elt F)) (k0_off18 L 32#32) (k0_off18_inb L 1) 7 (wid L + 32) (by omega) (off18_eq L 1) (tile_run.sl.dma7_2 d L X) (by intro y; unfold tile_run.sl.dma7_2; exact (rd17 ((b17).view.junk (Val := Elt F)) (tile_run.sl.dma17 d L X) _ y).trans (congrFun (show tile_run.sl.dma17 d L X = xin X 9 (wid L + 32) from read_xin X (k0_off9 L 32#32) (k0_off9_inb L 1) 9 (wid L + 32) (by omega) (off9_eq L 1)) y))); iexact HO1_7
      iapply (out_cl d L X V1 ((oWin (k0_off19 L 32#32) (k0_off19_inb L 1)).view.junk (Val := Elt F)) (k0_off19 L 32#32) (k0_off19_inb L 1) 8 (wid L + 32) (by omega) (off19_eq L 1) (tile_run.sl.dma8_2 d L X) (by intro y; unfold tile_run.sl.dma8_2; exact (rd13 ((b13).view.junk (Val := Elt F)) (tile_run.sl.dma13 d L X) _ y).trans (congrFun (show tile_run.sl.dma13 d L X = xin X 4 (wid L + 32) from read_xin X (k0_off5 L 32#32) (k0_off5_inb L 1) 4 (wid L + 32) (by omega) (off5_eq L 1)) y))); iexact HO1_8
    sl_for (inv4 d L (xin X 0 (wid L + 96)) (xin X 1 (wid L + 96)) (xin X 2 (wid L + 96)) (xin X 3 (wid L + 96))) $$ [HG0 HG1 HG2 HG3]
    case region => intro k _; exact trip4 d L (xin X 0 (wid L + 96)) (xin X 1 (wid L + 96)) (xin X 2 (wid L + 96)) (xin X 3 (wid L + 96)) _ k _
    · unfold inv4
      isplitl [HG0]; · iapply (in_cl0 d L ((b0).view.junk (Val := Elt F)) (tile_run.sl.dma9_2 d L X) (sA (xin X 0 (wid L + 96))) (xin X 0 (wid L + 96)) (show tile_run.sl.dma9_2 d L X = xin X 0 (wid L + 96) from read_xin X (k0_off1 L 96#32) (k0_off1_inb L 3) 0 (wid L + 96) (by omega) (off1_eq L 3))); iexact HG0
      isplitl [HG1]; · iapply (in_cl1 d L ((b1).view.junk (Val := Elt F)) (tile_run.sl.dma10_2 d L X) (sA (xin X 1 (wid L + 96))) (xin X 1 (wid L + 96)) (show tile_run.sl.dma10_2 d L X = xin X 1 (wid L + 96) from read_xin X (k0_off2 L 96#32) (k0_off2_inb L 3) 1 (wid L + 96) (by omega) (off2_eq L 3))); iexact HG1
      isplitl [HG2]; · iapply (in_cl2 d L ((b2).view.junk (Val := Elt F)) (tile_run.sl.dma11_2 d L X) (sD (xin X 2 (wid L + 96)) (xin X 0 (wid L + 96))) (xin X 2 (wid L + 96)) (show tile_run.sl.dma11_2 d L X = xin X 2 (wid L + 96) from read_xin X (k0_off3 L 96#32) (k0_off3_inb L 3) 2 (wid L + 96) (by omega) (off3_eq L 3))); iexact HG2
      iapply (in_cl3 d L ((b3).view.junk (Val := Elt F)) (tile_run.sl.dma12_2 d L X) (sD (xin X 3 (wid L + 96)) (xin X 1 (wid L + 96))) (xin X 3 (wid L + 96)) (show tile_run.sl.dma12_2 d L X = xin X 3 (wid L + 96) from read_xin X (k0_off4 L 96#32) (k0_off4_inb L 3) 3 (wid L + 96) (by omega) (off4_eq L 3))); iexact HG3
    iintro %_ HI
    ihave HI := (inv4_end d L (xin X 0 (wid L + 96)) (xin X 1 (wid L + 96)) (xin X 2 (wid L + 96)) (xin X 3 (wid L + 96)) _) $$ HI
    icases HI with ⟨HG0, HG1, HG2, HG3⟩
    ihave HV3' := (Entails.of_eq (outB_un3 d L V1)) $$ HV3
    icases HV3' with ⟨HO3_0, HO3_1, HO3_2, HO3_3, HO3_4, HO3_5, HO3_6, HO3_7, HO3_8⟩
    ihave HV4' := (Entails.of_eq (outB_un4 d L V1 h2)) $$ HV4
    icases HV4' with ⟨HO4_0, HO4_1, HO4_2, HO4_3, HO4_4, HO4_5, HO4_6, HO4_7, HO4_8⟩
    sl_exec (disch := first | sl_exact h1 | sl_exact h2 | sl_exact h3 | omega)
    ihave HX4 := (Entails.of_eq (inB_un4 d L X h1).symm) $$ [HI4_0 HI4_1 HI4_2 HI4_3 HI4_4 HI4_5 HI4_6 HI4_7 HI4_8]
    · sl_close
    sl_for (inv5 d L (xin X 0 (wid L + 128)) (xin X 1 (wid L + 128)) (xin X 2 (wid L + 128)) (xin X 3 (wid L + 128))) $$ [HG9 HG10 HG11 HG12]
    case region => intro k _; exact trip5 d L (xin X 0 (wid L + 128)) (xin X 1 (wid L + 128)) (xin X 2 (wid L + 128)) (xin X 3 (wid L + 128)) h2 _ k _
    · unfold inv5
      isplitl [HG9]; · iapply (in_cl9 d L ((b9).view.junk (Val := Elt F)) (tile_run.sl.dma9_3 d L X h1) (sA (xin X 0 (wid L + 128))) (xin X 0 (wid L + 128)) (show tile_run.sl.dma9_3 d L X h1 = xin X 0 (wid L + 128) from read_xin X (k0_off22 L) (k0_off22_inb L h1) 0 (wid L + 128) (by omega) (off22_eq L))); iexact HG9
      isplitl [HG10]; · iapply (in_cl10 d L ((b10).view.junk (Val := Elt F)) (tile_run.sl.dma10_3 d L X h1) (sA (xin X 1 (wid L + 128))) (xin X 1 (wid L + 128)) (show tile_run.sl.dma10_3 d L X h1 = xin X 1 (wid L + 128) from read_xin X (k0_off23 L) (k0_off23_inb L h1) 1 (wid L + 128) (by omega) (off23_eq L))); iexact HG10
      isplitl [HG11]; · iapply (in_cl11 d L ((b11).view.junk (Val := Elt F)) (tile_run.sl.dma11_3 d L X h1) (sD (xin X 2 (wid L + 128)) (xin X 0 (wid L + 128))) (xin X 2 (wid L + 128)) (show tile_run.sl.dma11_3 d L X h1 = xin X 2 (wid L + 128) from read_xin X (k0_off24 L) (k0_off24_inb L h1) 2 (wid L + 128) (by omega) (off24_eq L))); iexact HG11
      iapply (in_cl12 d L ((b12).view.junk (Val := Elt F)) (tile_run.sl.dma12_3 d L X h1) (sD (xin X 3 (wid L + 128)) (xin X 1 (wid L + 128))) (xin X 3 (wid L + 128)) (show tile_run.sl.dma12_3 d L X h1 = xin X 3 (wid L + 128) from read_xin X (k0_off25 L) (k0_off25_inb L h1) 3 (wid L + 128) (by omega) (off25_eq L))); iexact HG12
    iintro %_ HI
    ihave HI := (inv5_end d L (xin X 0 (wid L + 128)) (xin X 1 (wid L + 128)) (xin X 2 (wid L + 128)) (xin X 3 (wid L + 128)) _) $$ HI
    icases HI with ⟨HG9, HG10, HG11, HG12⟩
    sl_exec (disch := first | sl_exact h1 | sl_exact h2 | sl_exact h3 | omega)
    ihave HV2 := (Entails.of_eq (outB_un2 d L (OUTF X V1)).symm) $$ [HO2_0 HO2_1 HO2_2 HO2_3 HO2_4 HO2_5 HO2_6 HO2_7 HO2_8]
    · isplitl [HO2_0]; · iapply (out_cl d L X V1 (V1) (k0_off11 L 64#32) (k0_off11_inb L 2) 0 (wid L + 64) (by omega) (off11_eq L 2) (tile_run.sl.dma0_3 d L X) (fun y => rfl)); iexact HO2_0
      isplitl [HO2_1]; · iapply (out_cl d L X V1 (V1) (k0_off12 L 64#32) (k0_off12_inb L 2) 1 (wid L + 64) (by omega) (off12_eq L 2) (tile_run.sl.dma1_3 d L X) (fun y => rfl)); iexact HO2_1
      isplitl [HO2_2]; · iapply (out_cl d L X V1 (V1) (k0_off13 L 64#32) (k0_off13_inb L 2) 2 (wid L + 64) (by omega) (off13_eq L 2) (tile_run.sl.dma2_3 d L X) (fun y => rfl)); iexact HO2_2
      isplitl [HO2_3]; · iapply (out_cl d L X V1 (V1) (k0_off14 L 64#32) (k0_off14_inb L 2) 3 (wid L + 64) (by omega) (off14_eq L 2) (tile_run.sl.dma3_3 d L X) (fun y => rfl)); iexact HO2_3
      isplitl [HO2_4]; · iapply (out_cl d L X V1 (V1) (k0_off15 L 64#32) (k0_off15_inb L 2) 4 (wid L + 64) (by omega) (off15_eq L 2) (tile_run.sl.dma4_3 d L X) (by intro y; unfold tile_run.sl.dma4_3; exact (rd23 ((b23).view.junk (Val := Elt F)) (tile_run.sl.dma14_1 d L X) _ y).trans (congrFun (show tile_run.sl.dma14_1 d L X = xin X 6 (wid L + 64) from read_xin X (k0_off6 L 64#32) (k0_off6_inb L 2) 6 (wid L + 64) (by omega) (off6_eq L 2)) y))); iexact HO2_4
      isplitl [HO2_5]; · iapply (out_cl d L X V1 (V1) (k0_off16 L 64#32) (k0_off16_inb L 2) 5 (wid L + 64) (by omega) (off16_eq L 2) (tile_run.sl.dma5_3 d L X) (by intro y; unfold tile_run.sl.dma5_3; exact (rd24 ((b24).view.junk (Val := Elt F)) (tile_run.sl.dma15_1 d L X) _ y).trans (congrFun (show tile_run.sl.dma15_1 d L X = xin X 7 (wid L + 64) from read_xin X (k0_off7 L 64#32) (k0_off7_inb L 2) 7 (wid L + 64) (by omega) (off7_eq L 2)) y))); iexact HO2_5
      isplitl [HO2_6]; · iapply (out_cl d L X V1 (V1) (k0_off17 L 64#32) (k0_off17_inb L 2) 6 (wid L + 64) (by omega) (off17_eq L 2) (tile_run.sl.dma6_3 d L X) (by intro y; unfold tile_run.sl.dma6_3; exact (rd25 ((b25).view.junk (Val := Elt F)) (tile_run.sl.dma16_1 d L X) _ y).trans (congrFun (show tile_run.sl.dma16_1 d L X = xin X 8 (wid L + 64) from read_xin X (k0_off8 L 64#32) (k0_off8_inb L 2) 8 (wid L + 64) (by omega) (off8_eq L 2)) y))); iexact HO2_6
      isplitl [HO2_7]; · iapply (out_cl d L X V1 (V1) (k0_off18 L 64#32) (k0_off18_inb L 2) 7 (wid L + 64) (by omega) (off18_eq L 2) (tile_run.sl.dma7_3 d L X) (by intro y; unfold tile_run.sl.dma7_3; exact (rd26 ((b26).view.junk (Val := Elt F)) (tile_run.sl.dma17_1 d L X) _ y).trans (congrFun (show tile_run.sl.dma17_1 d L X = xin X 9 (wid L + 64) from read_xin X (k0_off9 L 64#32) (k0_off9_inb L 2) 9 (wid L + 64) (by omega) (off9_eq L 2)) y))); iexact HO2_7
      iapply (out_cl d L X V1 (V1) (k0_off19 L 64#32) (k0_off19_inb L 2) 8 (wid L + 64) (by omega) (off19_eq L 2) (tile_run.sl.dma8_3 d L X) (by intro y; unfold tile_run.sl.dma8_3; exact (rd22 ((b22).view.junk (Val := Elt F)) (tile_run.sl.dma13_1 d L X) _ y).trans (congrFun (show tile_run.sl.dma13_1 d L X = xin X 4 (wid L + 64) from read_xin X (k0_off5 L 64#32) (k0_off5_inb L 2) 4 (wid L + 64) (by omega) (off5_eq L 2)) y))); iexact HO2_8
    ihave HV3 := (Entails.of_eq (outB_un3 d L (OUTF X V1)).symm) $$ [HO3_0 HO3_1 HO3_2 HO3_3 HO3_4 HO3_5 HO3_6 HO3_7 HO3_8]
    · isplitl [HO3_0]; · iapply (out_cl d L X V1 (V1) (k0_off11 L 96#32) (k0_off11_inb L 3) 0 (wid L + 96) (by omega) (off11_eq L 3) (tile_run.sl.dma0_4 d L X) (fun y => rfl)); iexact HO3_0
      isplitl [HO3_1]; · iapply (out_cl d L X V1 (V1) (k0_off12 L 96#32) (k0_off12_inb L 3) 1 (wid L + 96) (by omega) (off12_eq L 3) (tile_run.sl.dma1_4 d L X) (fun y => rfl)); iexact HO3_1
      isplitl [HO3_2]; · iapply (out_cl d L X V1 (V1) (k0_off13 L 96#32) (k0_off13_inb L 3) 2 (wid L + 96) (by omega) (off13_eq L 3) (tile_run.sl.dma2_4 d L X) (fun y => rfl)); iexact HO3_2
      isplitl [HO3_3]; · iapply (out_cl d L X V1 (V1) (k0_off14 L 96#32) (k0_off14_inb L 3) 3 (wid L + 96) (by omega) (off14_eq L 3) (tile_run.sl.dma3_4 d L X) (fun y => rfl)); iexact HO3_3
      isplitl [HO3_4]; · iapply (out_cl d L X V1 (V1) (k0_off15 L 96#32) (k0_off15_inb L 3) 4 (wid L + 96) (by omega) (off15_eq L 3) (tile_run.sl.dma4_4 d L X) (by intro y; unfold tile_run.sl.dma4_4; exact (rd5 ((b5).view.junk (Val := Elt F)) (tile_run.sl.dma14_2 d L X) _ y).trans (congrFun (show tile_run.sl.dma14_2 d L X = xin X 6 (wid L + 96) from read_xin X (k0_off6 L 96#32) (k0_off6_inb L 3) 6 (wid L + 96) (by omega) (off6_eq L 3)) y))); iexact HO3_4
      isplitl [HO3_5]; · iapply (out_cl d L X V1 (V1) (k0_off16 L 96#32) (k0_off16_inb L 3) 5 (wid L + 96) (by omega) (off16_eq L 3) (tile_run.sl.dma5_4 d L X) (by intro y; unfold tile_run.sl.dma5_4; exact (rd6 ((b6).view.junk (Val := Elt F)) (tile_run.sl.dma15_2 d L X) _ y).trans (congrFun (show tile_run.sl.dma15_2 d L X = xin X 7 (wid L + 96) from read_xin X (k0_off7 L 96#32) (k0_off7_inb L 3) 7 (wid L + 96) (by omega) (off7_eq L 3)) y))); iexact HO3_5
      isplitl [HO3_6]; · iapply (out_cl d L X V1 (V1) (k0_off17 L 96#32) (k0_off17_inb L 3) 6 (wid L + 96) (by omega) (off17_eq L 3) (tile_run.sl.dma6_4 d L X) (by intro y; unfold tile_run.sl.dma6_4; exact (rd7 ((b7).view.junk (Val := Elt F)) (tile_run.sl.dma16_2 d L X) _ y).trans (congrFun (show tile_run.sl.dma16_2 d L X = xin X 8 (wid L + 96) from read_xin X (k0_off8 L 96#32) (k0_off8_inb L 3) 8 (wid L + 96) (by omega) (off8_eq L 3)) y))); iexact HO3_6
      isplitl [HO3_7]; · iapply (out_cl d L X V1 (V1) (k0_off18 L 96#32) (k0_off18_inb L 3) 7 (wid L + 96) (by omega) (off18_eq L 3) (tile_run.sl.dma7_4 d L X) (by intro y; unfold tile_run.sl.dma7_4; exact (rd8 ((b8).view.junk (Val := Elt F)) (tile_run.sl.dma17_2 d L X) _ y).trans (congrFun (show tile_run.sl.dma17_2 d L X = xin X 9 (wid L + 96) from read_xin X (k0_off9 L 96#32) (k0_off9_inb L 3) 9 (wid L + 96) (by omega) (off9_eq L 3)) y))); iexact HO3_7
      iapply (out_cl d L X V1 (V1) (k0_off19 L 96#32) (k0_off19_inb L 3) 8 (wid L + 96) (by omega) (off19_eq L 3) (tile_run.sl.dma8_4 d L X) (by intro y; unfold tile_run.sl.dma8_4; exact (rd4 ((b4).view.junk (Val := Elt F)) (tile_run.sl.dma13_2 d L X) _ y).trans (congrFun (show tile_run.sl.dma13_2 d L X = xin X 4 (wid L + 96) from read_xin X (k0_off5 L 96#32) (k0_off5_inb L 3) 4 (wid L + 96) (by omega) (off5_eq L 3)) y))); iexact HO3_8
    ihave HV4 := (Entails.of_eq (outB_un4 d L (OUTF X V1) h2).symm) $$ [HO4_0 HO4_1 HO4_2 HO4_3 HO4_4 HO4_5 HO4_6 HO4_7 HO4_8]
    · isplitl [HO4_0]; · iapply (out_cl d L X V1 (V1) (k0_off42 L) (k0_off42_inb L h2) 0 (wid L + 128) (by omega) (off42_eq L) (tile_run.sl.dma0_5 d L X) (fun y => rfl)); iexact HO4_0
      isplitl [HO4_1]; · iapply (out_cl d L X V1 (V1) (k0_off43 L) (k0_off43_inb L h2) 1 (wid L + 128) (by omega) (off43_eq L) (tile_run.sl.dma1_5 d L X) (fun y => rfl)); iexact HO4_1
      isplitl [HO4_2]; · iapply (out_cl d L X V1 (V1) (k0_off44 L) (k0_off44_inb L h2) 2 (wid L + 128) (by omega) (off44_eq L) (tile_run.sl.dma2_5 d L X) (fun y => rfl)); iexact HO4_2
      isplitl [HO4_3]; · iapply (out_cl d L X V1 (V1) (k0_off45 L) (k0_off45_inb L h2) 3 (wid L + 128) (by omega) (off45_eq L) (tile_run.sl.dma3_5 d L X) (fun y => rfl)); iexact HO4_3
      isplitl [HO4_4]; · iapply (out_cl d L X V1 (V1) (k0_off46 L) (k0_off46_inb L h2) 4 (wid L + 128) (by omega) (off46_eq L) (tile_run.sl.dma4_5 d L X h1) (by intro y; unfold tile_run.sl.dma4_5; exact (rd14 ((b14).view.junk (Val := Elt F)) (tile_run.sl.dma14_3 d L X h1) _ y).trans (congrFun (show tile_run.sl.dma14_3 d L X h1 = xin X 6 (wid L + 128) from read_xin X (k0_off27 L) (k0_off27_inb L h1) 6 (wid L + 128) (by omega) (off27_eq L)) y))); iexact HO4_4
      isplitl [HO4_5]; · iapply (out_cl d L X V1 (V1) (k0_off47 L) (k0_off47_inb L h2) 5 (wid L + 128) (by omega) (off47_eq L) (tile_run.sl.dma5_5 d L X h1) (by intro y; unfold tile_run.sl.dma5_5; exact (rd15 ((b15).view.junk (Val := Elt F)) (tile_run.sl.dma15_3 d L X h1) _ y).trans (congrFun (show tile_run.sl.dma15_3 d L X h1 = xin X 7 (wid L + 128) from read_xin X (k0_off28 L) (k0_off28_inb L h1) 7 (wid L + 128) (by omega) (off28_eq L)) y))); iexact HO4_5
      isplitl [HO4_6]; · iapply (out_cl d L X V1 (V1) (k0_off48 L) (k0_off48_inb L h2) 6 (wid L + 128) (by omega) (off48_eq L) (tile_run.sl.dma6_5 d L X h1) (by intro y; unfold tile_run.sl.dma6_5; exact (rd16 ((b16).view.junk (Val := Elt F)) (tile_run.sl.dma16_3 d L X h1) _ y).trans (congrFun (show tile_run.sl.dma16_3 d L X h1 = xin X 8 (wid L + 128) from read_xin X (k0_off29 L) (k0_off29_inb L h1) 8 (wid L + 128) (by omega) (off29_eq L)) y))); iexact HO4_6
      isplitl [HO4_7]; · iapply (out_cl d L X V1 (V1) (k0_off49 L) (k0_off49_inb L h2) 7 (wid L + 128) (by omega) (off49_eq L) (tile_run.sl.dma7_5 d L X h1) (by intro y; unfold tile_run.sl.dma7_5; exact (rd17 ((b17).view.junk (Val := Elt F)) (tile_run.sl.dma17_3 d L X h1) _ y).trans (congrFun (show tile_run.sl.dma17_3 d L X h1 = xin X 9 (wid L + 128) from read_xin X (k0_off30 L) (k0_off30_inb L h1) 9 (wid L + 128) (by omega) (off30_eq L)) y))); iexact HO4_7
      iapply (out_cl d L X V1 (V1) (k0_off50 L) (k0_off50_inb L h2) 8 (wid L + 128) (by omega) (off50_eq L) (tile_run.sl.dma8_5 d L X h1) (by intro y; unfold tile_run.sl.dma8_5; exact (rd13 ((b13).view.junk (Val := Elt F)) (tile_run.sl.dma13_3 d L X h1) _ y).trans (congrFun (show tile_run.sl.dma13_3 d L X h1 = xin X 4 (wid L + 128) from read_xin X (k0_off26 L) (k0_off26_inb L h1) 4 (wid L + 128) (by omega) (off26_eq L)) y))); iexact HO4_8
    sl_step
    sl_close
  · have hu : ¬ wid L < 28 := fun h => h1 ((cond1_iff L).mpr h)
    have h2 : ¬ k0_cond2 L = 1#1 := fun h => hu ((cond2_iff L).mp h)
    have h3 : ¬ k0_cond3 L = 1#1 := fun h => hu ((cond3_iff L).mp h)
    sl_exec (disch := first | sl_exact h1 | sl_exact h2 | sl_exact h3 | omega)
    ihave HX3 := (Entails.of_eq (inB_un3 d L X).symm) $$ [HI3_0 HI3_1 HI3_2 HI3_3 HI3_4 HI3_5 HI3_6 HI3_7 HI3_8]
    · sl_close
    ihave HV1 := (Entails.of_eq (outB_un1 d L (OUTF X V1)).symm) $$ [HO1_0 HO1_1 HO1_2 HO1_3 HO1_4 HO1_5 HO1_6 HO1_7 HO1_8]
    · isplitl [HO1_0]; · iapply (out_cl d L X V1 ((oWin (k0_off11 L 32#32) (k0_off11_inb L 1)).view.junk (Val := Elt F)) (k0_off11 L 32#32) (k0_off11_inb L 1) 0 (wid L + 32) (by omega) (off11_eq L 1) (tile_run.sl.dma0_2 d L X) (fun y => rfl)); iexact HO1_0
      isplitl [HO1_1]; · iapply (out_cl d L X V1 ((oWin (k0_off12 L 32#32) (k0_off12_inb L 1)).view.junk (Val := Elt F)) (k0_off12 L 32#32) (k0_off12_inb L 1) 1 (wid L + 32) (by omega) (off12_eq L 1) (tile_run.sl.dma1_2 d L X) (fun y => rfl)); iexact HO1_1
      isplitl [HO1_2]; · iapply (out_cl d L X V1 ((oWin (k0_off13 L 32#32) (k0_off13_inb L 1)).view.junk (Val := Elt F)) (k0_off13 L 32#32) (k0_off13_inb L 1) 2 (wid L + 32) (by omega) (off13_eq L 1) (tile_run.sl.dma2_2 d L X) (fun y => rfl)); iexact HO1_2
      isplitl [HO1_3]; · iapply (out_cl d L X V1 ((oWin (k0_off14 L 32#32) (k0_off14_inb L 1)).view.junk (Val := Elt F)) (k0_off14 L 32#32) (k0_off14_inb L 1) 3 (wid L + 32) (by omega) (off14_eq L 1) (tile_run.sl.dma3_2 d L X) (fun y => rfl)); iexact HO1_3
      isplitl [HO1_4]; · iapply (out_cl d L X V1 ((oWin (k0_off15 L 32#32) (k0_off15_inb L 1)).view.junk (Val := Elt F)) (k0_off15 L 32#32) (k0_off15_inb L 1) 4 (wid L + 32) (by omega) (off15_eq L 1) (tile_run.sl.dma4_2 d L X) (by intro y; unfold tile_run.sl.dma4_2; exact (rd14 ((b14).view.junk (Val := Elt F)) (tile_run.sl.dma14 d L X) _ y).trans (congrFun (show tile_run.sl.dma14 d L X = xin X 6 (wid L + 32) from read_xin X (k0_off6 L 32#32) (k0_off6_inb L 1) 6 (wid L + 32) (by omega) (off6_eq L 1)) y))); iexact HO1_4
      isplitl [HO1_5]; · iapply (out_cl d L X V1 ((oWin (k0_off16 L 32#32) (k0_off16_inb L 1)).view.junk (Val := Elt F)) (k0_off16 L 32#32) (k0_off16_inb L 1) 5 (wid L + 32) (by omega) (off16_eq L 1) (tile_run.sl.dma5_2 d L X) (by intro y; unfold tile_run.sl.dma5_2; exact (rd15 ((b15).view.junk (Val := Elt F)) (tile_run.sl.dma15 d L X) _ y).trans (congrFun (show tile_run.sl.dma15 d L X = xin X 7 (wid L + 32) from read_xin X (k0_off7 L 32#32) (k0_off7_inb L 1) 7 (wid L + 32) (by omega) (off7_eq L 1)) y))); iexact HO1_5
      isplitl [HO1_6]; · iapply (out_cl d L X V1 ((oWin (k0_off17 L 32#32) (k0_off17_inb L 1)).view.junk (Val := Elt F)) (k0_off17 L 32#32) (k0_off17_inb L 1) 6 (wid L + 32) (by omega) (off17_eq L 1) (tile_run.sl.dma6_2 d L X) (by intro y; unfold tile_run.sl.dma6_2; exact (rd16 ((b16).view.junk (Val := Elt F)) (tile_run.sl.dma16 d L X) _ y).trans (congrFun (show tile_run.sl.dma16 d L X = xin X 8 (wid L + 32) from read_xin X (k0_off8 L 32#32) (k0_off8_inb L 1) 8 (wid L + 32) (by omega) (off8_eq L 1)) y))); iexact HO1_6
      isplitl [HO1_7]; · iapply (out_cl d L X V1 ((oWin (k0_off18 L 32#32) (k0_off18_inb L 1)).view.junk (Val := Elt F)) (k0_off18 L 32#32) (k0_off18_inb L 1) 7 (wid L + 32) (by omega) (off18_eq L 1) (tile_run.sl.dma7_2 d L X) (by intro y; unfold tile_run.sl.dma7_2; exact (rd17 ((b17).view.junk (Val := Elt F)) (tile_run.sl.dma17 d L X) _ y).trans (congrFun (show tile_run.sl.dma17 d L X = xin X 9 (wid L + 32) from read_xin X (k0_off9 L 32#32) (k0_off9_inb L 1) 9 (wid L + 32) (by omega) (off9_eq L 1)) y))); iexact HO1_7
      iapply (out_cl d L X V1 ((oWin (k0_off19 L 32#32) (k0_off19_inb L 1)).view.junk (Val := Elt F)) (k0_off19 L 32#32) (k0_off19_inb L 1) 8 (wid L + 32) (by omega) (off19_eq L 1) (tile_run.sl.dma8_2 d L X) (by intro y; unfold tile_run.sl.dma8_2; exact (rd13 ((b13).view.junk (Val := Elt F)) (tile_run.sl.dma13 d L X) _ y).trans (congrFun (show tile_run.sl.dma13 d L X = xin X 4 (wid L + 32) from read_xin X (k0_off5 L 32#32) (k0_off5_inb L 1) 4 (wid L + 32) (by omega) (off5_eq L 1)) y))); iexact HO1_8
    sl_for (inv4 d L (xin X 0 (wid L + 96)) (xin X 1 (wid L + 96)) (xin X 2 (wid L + 96)) (xin X 3 (wid L + 96))) $$ [HG0 HG1 HG2 HG3]
    case region => intro k _; exact trip4 d L (xin X 0 (wid L + 96)) (xin X 1 (wid L + 96)) (xin X 2 (wid L + 96)) (xin X 3 (wid L + 96)) _ k _
    · unfold inv4
      isplitl [HG0]; · iapply (in_cl0 d L ((b0).view.junk (Val := Elt F)) (tile_run.sl.dma9_2 d L X) (sA (xin X 0 (wid L + 96))) (xin X 0 (wid L + 96)) (show tile_run.sl.dma9_2 d L X = xin X 0 (wid L + 96) from read_xin X (k0_off1 L 96#32) (k0_off1_inb L 3) 0 (wid L + 96) (by omega) (off1_eq L 3))); iexact HG0
      isplitl [HG1]; · iapply (in_cl1 d L ((b1).view.junk (Val := Elt F)) (tile_run.sl.dma10_2 d L X) (sA (xin X 1 (wid L + 96))) (xin X 1 (wid L + 96)) (show tile_run.sl.dma10_2 d L X = xin X 1 (wid L + 96) from read_xin X (k0_off2 L 96#32) (k0_off2_inb L 3) 1 (wid L + 96) (by omega) (off2_eq L 3))); iexact HG1
      isplitl [HG2]; · iapply (in_cl2 d L ((b2).view.junk (Val := Elt F)) (tile_run.sl.dma11_2 d L X) (sD (xin X 2 (wid L + 96)) (xin X 0 (wid L + 96))) (xin X 2 (wid L + 96)) (show tile_run.sl.dma11_2 d L X = xin X 2 (wid L + 96) from read_xin X (k0_off3 L 96#32) (k0_off3_inb L 3) 2 (wid L + 96) (by omega) (off3_eq L 3))); iexact HG2
      iapply (in_cl3 d L ((b3).view.junk (Val := Elt F)) (tile_run.sl.dma12_2 d L X) (sD (xin X 3 (wid L + 96)) (xin X 1 (wid L + 96))) (xin X 3 (wid L + 96)) (show tile_run.sl.dma12_2 d L X = xin X 3 (wid L + 96) from read_xin X (k0_off4 L 96#32) (k0_off4_inb L 3) 3 (wid L + 96) (by omega) (off4_eq L 3))); iexact HG3
    iintro %_ HI
    ihave HI := (inv4_end d L (xin X 0 (wid L + 96)) (xin X 1 (wid L + 96)) (xin X 2 (wid L + 96)) (xin X 3 (wid L + 96)) _) $$ HI
    icases HI with ⟨HG0, HG1, HG2, HG3⟩
    ihave HV3' := (Entails.of_eq (outB_un3 d L V1)) $$ HV3
    icases HV3' with ⟨HO3_0, HO3_1, HO3_2, HO3_3, HO3_4, HO3_5, HO3_6, HO3_7, HO3_8⟩
    sl_exec (disch := first | sl_exact h1 | sl_exact h2 | sl_exact h3 | omega)
    ihave HV2 := (Entails.of_eq (outB_un2 d L (OUTF X V1)).symm) $$ [HO2_0 HO2_1 HO2_2 HO2_3 HO2_4 HO2_5 HO2_6 HO2_7 HO2_8]
    · isplitl [HO2_0]; · iapply (out_cl d L X V1 (V1) (k0_off11 L 64#32) (k0_off11_inb L 2) 0 (wid L + 64) (by omega) (off11_eq L 2) (tile_run.sl.dma0_6 d L X) (fun y => rfl)); iexact HO2_0
      isplitl [HO2_1]; · iapply (out_cl d L X V1 (V1) (k0_off12 L 64#32) (k0_off12_inb L 2) 1 (wid L + 64) (by omega) (off12_eq L 2) (tile_run.sl.dma1_6 d L X) (fun y => rfl)); iexact HO2_1
      isplitl [HO2_2]; · iapply (out_cl d L X V1 (V1) (k0_off13 L 64#32) (k0_off13_inb L 2) 2 (wid L + 64) (by omega) (off13_eq L 2) (tile_run.sl.dma2_6 d L X) (fun y => rfl)); iexact HO2_2
      isplitl [HO2_3]; · iapply (out_cl d L X V1 (V1) (k0_off14 L 64#32) (k0_off14_inb L 2) 3 (wid L + 64) (by omega) (off14_eq L 2) (tile_run.sl.dma3_6 d L X) (fun y => rfl)); iexact HO2_3
      isplitl [HO2_4]; · iapply (out_cl d L X V1 (V1) (k0_off15 L 64#32) (k0_off15_inb L 2) 4 (wid L + 64) (by omega) (off15_eq L 2) (tile_run.sl.dma4_6 d L X) (by intro y; unfold tile_run.sl.dma4_6; exact (rd23 ((b23).view.junk (Val := Elt F)) (tile_run.sl.dma14_1 d L X) _ y).trans (congrFun (show tile_run.sl.dma14_1 d L X = xin X 6 (wid L + 64) from read_xin X (k0_off6 L 64#32) (k0_off6_inb L 2) 6 (wid L + 64) (by omega) (off6_eq L 2)) y))); iexact HO2_4
      isplitl [HO2_5]; · iapply (out_cl d L X V1 (V1) (k0_off16 L 64#32) (k0_off16_inb L 2) 5 (wid L + 64) (by omega) (off16_eq L 2) (tile_run.sl.dma5_6 d L X) (by intro y; unfold tile_run.sl.dma5_6; exact (rd24 ((b24).view.junk (Val := Elt F)) (tile_run.sl.dma15_1 d L X) _ y).trans (congrFun (show tile_run.sl.dma15_1 d L X = xin X 7 (wid L + 64) from read_xin X (k0_off7 L 64#32) (k0_off7_inb L 2) 7 (wid L + 64) (by omega) (off7_eq L 2)) y))); iexact HO2_5
      isplitl [HO2_6]; · iapply (out_cl d L X V1 (V1) (k0_off17 L 64#32) (k0_off17_inb L 2) 6 (wid L + 64) (by omega) (off17_eq L 2) (tile_run.sl.dma6_6 d L X) (by intro y; unfold tile_run.sl.dma6_6; exact (rd25 ((b25).view.junk (Val := Elt F)) (tile_run.sl.dma16_1 d L X) _ y).trans (congrFun (show tile_run.sl.dma16_1 d L X = xin X 8 (wid L + 64) from read_xin X (k0_off8 L 64#32) (k0_off8_inb L 2) 8 (wid L + 64) (by omega) (off8_eq L 2)) y))); iexact HO2_6
      isplitl [HO2_7]; · iapply (out_cl d L X V1 (V1) (k0_off18 L 64#32) (k0_off18_inb L 2) 7 (wid L + 64) (by omega) (off18_eq L 2) (tile_run.sl.dma7_6 d L X) (by intro y; unfold tile_run.sl.dma7_6; exact (rd26 ((b26).view.junk (Val := Elt F)) (tile_run.sl.dma17_1 d L X) _ y).trans (congrFun (show tile_run.sl.dma17_1 d L X = xin X 9 (wid L + 64) from read_xin X (k0_off9 L 64#32) (k0_off9_inb L 2) 9 (wid L + 64) (by omega) (off9_eq L 2)) y))); iexact HO2_7
      iapply (out_cl d L X V1 (V1) (k0_off19 L 64#32) (k0_off19_inb L 2) 8 (wid L + 64) (by omega) (off19_eq L 2) (tile_run.sl.dma8_6 d L X) (by intro y; unfold tile_run.sl.dma8_6; exact (rd22 ((b22).view.junk (Val := Elt F)) (tile_run.sl.dma13_1 d L X) _ y).trans (congrFun (show tile_run.sl.dma13_1 d L X = xin X 4 (wid L + 64) from read_xin X (k0_off5 L 64#32) (k0_off5_inb L 2) 4 (wid L + 64) (by omega) (off5_eq L 2)) y))); iexact HO2_8
    ihave HV3 := (Entails.of_eq (outB_un3 d L (OUTF X V1)).symm) $$ [HO3_0 HO3_1 HO3_2 HO3_3 HO3_4 HO3_5 HO3_6 HO3_7 HO3_8]
    · isplitl [HO3_0]; · iapply (out_cl d L X V1 (V1) (k0_off11 L 96#32) (k0_off11_inb L 3) 0 (wid L + 96) (by omega) (off11_eq L 3) (tile_run.sl.dma0_7 d L X) (fun y => rfl)); iexact HO3_0
      isplitl [HO3_1]; · iapply (out_cl d L X V1 (V1) (k0_off12 L 96#32) (k0_off12_inb L 3) 1 (wid L + 96) (by omega) (off12_eq L 3) (tile_run.sl.dma1_7 d L X) (fun y => rfl)); iexact HO3_1
      isplitl [HO3_2]; · iapply (out_cl d L X V1 (V1) (k0_off13 L 96#32) (k0_off13_inb L 3) 2 (wid L + 96) (by omega) (off13_eq L 3) (tile_run.sl.dma2_7 d L X) (fun y => rfl)); iexact HO3_2
      isplitl [HO3_3]; · iapply (out_cl d L X V1 (V1) (k0_off14 L 96#32) (k0_off14_inb L 3) 3 (wid L + 96) (by omega) (off14_eq L 3) (tile_run.sl.dma3_7 d L X) (fun y => rfl)); iexact HO3_3
      isplitl [HO3_4]; · iapply (out_cl d L X V1 (V1) (k0_off15 L 96#32) (k0_off15_inb L 3) 4 (wid L + 96) (by omega) (off15_eq L 3) (tile_run.sl.dma4_7 d L X) (by intro y; unfold tile_run.sl.dma4_7; exact (rd5 ((b5).view.junk (Val := Elt F)) (tile_run.sl.dma14_2 d L X) _ y).trans (congrFun (show tile_run.sl.dma14_2 d L X = xin X 6 (wid L + 96) from read_xin X (k0_off6 L 96#32) (k0_off6_inb L 3) 6 (wid L + 96) (by omega) (off6_eq L 3)) y))); iexact HO3_4
      isplitl [HO3_5]; · iapply (out_cl d L X V1 (V1) (k0_off16 L 96#32) (k0_off16_inb L 3) 5 (wid L + 96) (by omega) (off16_eq L 3) (tile_run.sl.dma5_7 d L X) (by intro y; unfold tile_run.sl.dma5_7; exact (rd6 ((b6).view.junk (Val := Elt F)) (tile_run.sl.dma15_2 d L X) _ y).trans (congrFun (show tile_run.sl.dma15_2 d L X = xin X 7 (wid L + 96) from read_xin X (k0_off7 L 96#32) (k0_off7_inb L 3) 7 (wid L + 96) (by omega) (off7_eq L 3)) y))); iexact HO3_5
      isplitl [HO3_6]; · iapply (out_cl d L X V1 (V1) (k0_off17 L 96#32) (k0_off17_inb L 3) 6 (wid L + 96) (by omega) (off17_eq L 3) (tile_run.sl.dma6_7 d L X) (by intro y; unfold tile_run.sl.dma6_7; exact (rd7 ((b7).view.junk (Val := Elt F)) (tile_run.sl.dma16_2 d L X) _ y).trans (congrFun (show tile_run.sl.dma16_2 d L X = xin X 8 (wid L + 96) from read_xin X (k0_off8 L 96#32) (k0_off8_inb L 3) 8 (wid L + 96) (by omega) (off8_eq L 3)) y))); iexact HO3_6
      isplitl [HO3_7]; · iapply (out_cl d L X V1 (V1) (k0_off18 L 96#32) (k0_off18_inb L 3) 7 (wid L + 96) (by omega) (off18_eq L 3) (tile_run.sl.dma7_7 d L X) (by intro y; unfold tile_run.sl.dma7_7; exact (rd8 ((b8).view.junk (Val := Elt F)) (tile_run.sl.dma17_2 d L X) _ y).trans (congrFun (show tile_run.sl.dma17_2 d L X = xin X 9 (wid L + 96) from read_xin X (k0_off9 L 96#32) (k0_off9_inb L 3) 9 (wid L + 96) (by omega) (off9_eq L 3)) y))); iexact HO3_7
      iapply (out_cl d L X V1 (V1) (k0_off19 L 96#32) (k0_off19_inb L 3) 8 (wid L + 96) (by omega) (off19_eq L 3) (tile_run.sl.dma8_7 d L X) (by intro y; unfold tile_run.sl.dma8_7; exact (rd4 ((b4).view.junk (Val := Elt F)) (tile_run.sl.dma13_2 d L X) _ y).trans (congrFun (show tile_run.sl.dma13_2 d L X = xin X 4 (wid L + 96) from read_xin X (k0_off5 L 96#32) (k0_off5_inb L 3) 4 (wid L + 96) (by omega) (off5_eq L 3)) y))); iexact HO3_8
    ihave HV4 := (outB_skip d (wid L + 128) X V1 (by omega)) $$ HV4
    sl_step
    sl_close

end Cert.Proof.Ki

end
-- ==== Proof.Ki.Body.lean ====
/-
  A tile's task from what the launch deals it: its scratch buffers and semaphores taken out of the subcore's own, its blocks unpacked,
  the body run, everything put back; and the program's run.
-/
module

public import proofs.«01_k».proof.Proof.Ki.Main
public import proofs.«01_k».proof.Proof.Ki.Tile

@[expose] public section

noncomputable section

namespace Cert.Proof.Ki

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ
local notation "xV" => (Memref.whole Cert.KernelIdeal.main_v0_scv : Memref Cert.KernelIdeal.sig Kind.scVector Space.hbm Cert.KernelIdeal.S10x32x20000 EltTy.f32)
local notation "oV" => (Memref.whole Cert.KernelIdeal.main_v1_scv : Memref Cert.KernelIdeal.sig Kind.scVector Space.hbm Cert.KernelIdeal.S9x32x20000 EltTy.f32)
local notation "b0" => (Memref.whole Cert.KernelIdeal.cc0_scratch0 : Memref Cert.KernelIdeal.sig Kind.scVector Space.vmem Cert.KernelIdeal.S16x256 EltTy.f32)
local notation "b1" => (Memref.whole Cert.KernelIdeal.cc0_scratch1 : Memref Cert.KernelIdeal.sig Kind.scVector Space.vmem Cert.KernelIdeal.S16x256 EltTy.f32)
local notation "b2" => (Memref.whole Cert.KernelIdeal.cc0_scratch2 : Memref Cert.KernelIdeal.sig Kind.scVector Space.vmem Cert.KernelIdeal.S16x256 EltTy.f32)
local notation "b3" => (Memref.whole Cert.KernelIdeal.cc0_scratch3 : Memref Cert.KernelIdeal.sig Kind.scVector Space.vmem Cert.KernelIdeal.S16x256 EltTy.f32)
local notation "b4" => (Memref.whole Cert.KernelIdeal.cc0_scratch4 : Memref Cert.KernelIdeal.sig Kind.scVector Space.vmem Cert.KernelIdeal.S16x256 EltTy.f32)
local notation "b5" => (Memref.whole Cert.KernelIdeal.cc0_scratch5 : Memref Cert.KernelIdeal.sig Kind.scVector Space.vmem Cert.KernelIdeal.S16x256 EltTy.f32)
local notation "b6" => (Memref.whole Cert.KernelIdeal.cc0_scratch6 : Memref Cert.KernelIdeal.sig Kind.scVector Space.vmem Cert.KernelIdeal.S16x256 EltTy.f32)
local notation "b7" => (Memref.whole Cert.KernelIdeal.cc0_scratch7 : Memref Cert.KernelIdeal.sig Kind.scVector Space.vmem Cert.KernelIdeal.S16x256 EltTy.f32)
local notation "b8" => (Memref.whole Cert.KernelIdeal.cc0_scratch8 : Memref Cert.KernelIdeal.sig Kind.scVector Space.vmem Cert.KernelIdeal.S16x256 EltTy.f32)
local notation "b9" => (Memref.whole Cert.KernelIdeal.cc0_scratch9 : Memref Cert.KernelIdeal.sig Kind.scVector Space.vmem Cert.KernelIdeal.S16x256 EltTy.f32)
local notation "b10" => (Memref.whole Cert.KernelIdeal.cc0_scratch10 : Memref Cert.KernelIdeal.sig Kind.scVector Space.vmem Cert.KernelIdeal.S16x256 EltTy.f32)
local notation "b11" => (Memref.whole Cert.KernelIdeal.cc0_scratch11 : Memref Cert.KernelIdeal.sig Kind.scVector Space.vmem Cert.KernelIdeal.S16x256 EltTy.f32)
local notation "b12" => (Memref.whole Cert.KernelIdeal.cc0_scratch12 : Memref Cert.KernelIdeal.sig Kind.scVector Space.vmem Cert.KernelIdeal.S16x256 EltTy.f32)
local notation "b13" => (Memref.whole Cert.KernelIdeal.cc0_scratch13 : Memref Cert.KernelIdeal.sig Kind.scVector Space.vmem Cert.KernelIdeal.S16x256 EltTy.f32)
local notation "b14" => (Memref.whole Cert.KernelIdeal.cc0_scratch14 : Memref Cert.KernelIdeal.sig Kind.scVector Space.vmem Cert.KernelIdeal.S16x256 EltTy.f32)
local notation "b15" => (Memref.whole Cert.KernelIdeal.cc0_scratch15 : Memref Cert.KernelIdeal.sig Kind.scVector Space.vmem Cert.KernelIdeal.S16x256 EltTy.f32)
local notation "b16" => (Memref.whole Cert.KernelIdeal.cc0_scratch16 : Memref Cert.KernelIdeal.sig Kind.scVector Space.vmem Cert.KernelIdeal.S16x256 EltTy.f32)
local notation "b17" => (Memref.whole Cert.KernelIdeal.cc0_scratch17 : Memref Cert.KernelIdeal.sig Kind.scVector Space.vmem Cert.KernelIdeal.S16x256 EltTy.f32)
local notation "b18" => (Memref.whole Cert.KernelIdeal.cc0_scratch18 : Memref Cert.KernelIdeal.sig Kind.scVector Space.vmem Cert.KernelIdeal.S16x256 EltTy.f32)
local notation "b19" => (Memref.whole Cert.KernelIdeal.cc0_scratch19 : Memref Cert.KernelIdeal.sig Kind.scVector Space.vmem Cert.KernelIdeal.S16x256 EltTy.f32)
local notation "b20" => (Memref.whole Cert.KernelIdeal.cc0_scratch20 : Memref Cert.KernelIdeal.sig Kind.scVector Space.vmem Cert.KernelIdeal.S16x256 EltTy.f32)
local notation "b21" => (Memref.whole Cert.KernelIdeal.cc0_scratch21 : Memref Cert.KernelIdeal.sig Kind.scVector Space.vmem Cert.KernelIdeal.S16x256 EltTy.f32)
local notation "b22" => (Memref.whole Cert.KernelIdeal.cc0_scratch22 : Memref Cert.KernelIdeal.sig Kind.scVector Space.vmem Cert.KernelIdeal.S16x256 EltTy.f32)
local notation "b23" => (Memref.whole Cert.KernelIdeal.cc0_scratch23 : Memref Cert.KernelIdeal.sig Kind.scVector Space.vmem Cert.KernelIdeal.S16x256 EltTy.f32)
local notation "b24" => (Memref.whole Cert.KernelIdeal.cc0_scratch24 : Memref Cert.KernelIdeal.sig Kind.scVector Space.vmem Cert.KernelIdeal.S16x256 EltTy.f32)
local notation "b25" => (Memref.whole Cert.KernelIdeal.cc0_scratch25 : Memref Cert.KernelIdeal.sig Kind.scVector Space.vmem Cert.KernelIdeal.S16x256 EltTy.f32)
local notation "b26" => (Memref.whole Cert.KernelIdeal.cc0_scratch26 : Memref Cert.KernelIdeal.sig Kind.scVector Space.vmem Cert.KernelIdeal.S16x256 EltTy.f32)

variable (m : (ℓ : Loc nD τ sig) → Buf (Elt F) ℓ) (ρ : Dev nD → PrngReg)
variable (d : Dev nD) (L : grid0.Coords)

/-! ## The subcore's own semaphores and buffers -/

abbrev dcell (d : Dev nD) (c : Fin τ.nSC) (i : Fin τ.nSub) (k : Fin 6) : GSem nD τ sig := (V d c i, .dma (csem k.val (by omega)))

/-- Each of the six semaphores is one of the tile's own. -/
theorem dcell_mem (c : Fin τ.nSC) (i : Fin τ.nSub) (k : Fin 6) : dcell d c i k ∈ ownCells (V d c i) :=
  mem_ownCells.mpr ⟨rfl, (show ∀ k : Fin 6, (SemLoc.dma (csem k.val (by omega)) : SemLoc sig).isScoped .scVector = true by decide) k⟩

/-- The subcore's own cells at zero: the six the task names, one by one, and the rest. -/
theorem ownSems0_V :
    (ownSems0 (VT d L) : sProp 𝕄)
      = iprop(cells0 d L
          ∗ bigSep ((ownCells (VT d L)) \ Finset.univ.image (dcell d (cV L) (jV L))) fun g => semVal g 0) := by
  unfold SparseCore.Cfg.ownSems0
  rw [SparseCore.bigSep_sdiff_split' (t := Finset.univ.image (dcell d (cV L) (jV L)))
      (Finset.image_subset_iff.mpr fun k _ => dcell_mem d (cV L) (jV L) k),
    SparseCore.bigSep_image_of_injOn (fun a _ b _ h => by
      have := congrArg (fun g : GSem nD τ sig => g.2) h
      simp only [SemLoc.dma.injEq, Fin.mk.injEq] at this; exact Fin.ext this)]
  rw [show (Finset.univ : Finset (Fin 6)) = {0, 1, 2, 3, 4, 5} by decide,
    SparseCore.bigSep_insert' (by decide), SparseCore.bigSep_insert' (by decide), SparseCore.bigSep_insert' (by decide),
    SparseCore.bigSep_insert' (by decide), SparseCore.bigSep_insert' (by decide), bigSep_singleton]
  rfl

/-- The scratch buffers. -/
def sref : Fin 27 → Ref sig .scVector
  | 0 => cc0_scratch0
  | 1 => cc0_scratch1
  | 2 => cc0_scratch2
  | 3 => cc0_scratch3
  | 4 => cc0_scratch4
  | 5 => cc0_scratch5
  | 6 => cc0_scratch6
  | 7 => cc0_scratch7
  | 8 => cc0_scratch8
  | 9 => cc0_scratch9
  | 10 => cc0_scratch10
  | 11 => cc0_scratch11
  | 12 => cc0_scratch12
  | 13 => cc0_scratch13
  | 14 => cc0_scratch14
  | 15 => cc0_scratch15
  | 16 => cc0_scratch16
  | 17 => cc0_scratch17
  | 18 => cc0_scratch18
  | 19 => cc0_scratch19
  | 20 => cc0_scratch20
  | 21 => cc0_scratch21
  | 22 => cc0_scratch22
  | 23 => cc0_scratch23
  | 24 => cc0_scratch24
  | 25 => cc0_scratch25
  | 26 => cc0_scratch26
  | ⟨_ + 27, h⟩ => absurd h (Nat.not_lt.2 (Nat.le_add_left _ _))

/-- The twenty-seven scratch buffers are distinct. -/
theorem sref_inj : Function.Injective sref := by
  show ∀ a b, sref a = sref b → a = b
  decide

abbrev sdev (c : Fin τ.nSC) (i : Fin τ.nSub) (k : Fin 27) : DevRef τ sig := (Proc.scVector c i).devRef (sref k)

/-- Each scratch buffer is one of the tile's own. -/
theorem sdev_mem (c : Fin τ.nSC) (i : Fin τ.nSub) (k : Fin 27) : sdev c i k ∈ ownRefs (τ := τ) (sig := sig) (.scVector c i) := by
  fin_cases k <;> exact SparseCore.Cfg.mem_ownRefs_of_owner (p := Proc.scVector c i) rfl

/-- The scratch buffers, each whole at some contents, in the body's spelling. -/
def bufs27 (d : Dev nD) (L : grid0.Coords) : sProp 𝕄 :=
  iprop(
    (∃ g, (b0).view.loc (VT d L) ↦[(b0).view.set]{fullShare} g)
    ∗ (∃ g, (b1).view.loc (VT d L) ↦[(b1).view.set]{fullShare} g)
    ∗ (∃ g, (b2).view.loc (VT d L) ↦[(b2).view.set]{fullShare} g)
    ∗ (∃ g, (b3).view.loc (VT d L) ↦[(b3).view.set]{fullShare} g)
    ∗ (∃ g, (b4).view.loc (VT d L) ↦[(b4).view.set]{fullShare} g)
    ∗ (∃ g, (b5).view.loc (VT d L) ↦[(b5).view.set]{fullShare} g)
    ∗ (∃ g, (b6).view.loc (VT d L) ↦[(b6).view.set]{fullShare} g)
    ∗ (∃ g, (b7).view.loc (VT d L) ↦[(b7).view.set]{fullShare} g)
    ∗ (∃ g, (b8).view.loc (VT d L) ↦[(b8).view.set]{fullShare} g)
    ∗ (∃ g, (b9).view.loc (VT d L) ↦[(b9).view.set]{fullShare} g)
    ∗ (∃ g, (b10).view.loc (VT d L) ↦[(b10).view.set]{fullShare} g)
    ∗ (∃ g, (b11).view.loc (VT d L) ↦[(b11).view.set]{fullShare} g)
    ∗ (∃ g, (b12).view.loc (VT d L) ↦[(b12).view.set]{fullShare} g)
    ∗ (∃ g, (b13).view.loc (VT d L) ↦[(b13).view.set]{fullShare} g)
    ∗ (∃ g, (b14).view.loc (VT d L) ↦[(b14).view.set]{fullShare} g)
    ∗ (∃ g, (b15).view.loc (VT d L) ↦[(b15).view.set]{fullShare} g)
    ∗ (∃ g, (b16).view.loc (VT d L) ↦[(b16).view.set]{fullShare} g)
    ∗ (∃ g, (b17).view.loc (VT d L) ↦[(b17).view.set]{fullShare} g)
    ∗ (∃ g, (b18).view.loc (VT d L) ↦[(b18).view.set]{fullShare} g)
    ∗ (∃ g, (b19).view.loc (VT d L) ↦[(b19).view.set]{fullShare} g)
    ∗ (∃ g, (b20).view.loc (VT d L) ↦[(b20).view.set]{fullShare} g)
    ∗ (∃ g, (b21).view.loc (VT d L) ↦[(b21).view.set]{fullShare} g)
    ∗ (∃ g, (b22).view.loc (VT d L) ↦[(b22).view.set]{fullShare} g)
    ∗ (∃ g, (b23).view.loc (VT d L) ↦[(b23).view.set]{fullShare} g)
    ∗ (∃ g, (b24).view.loc (VT d L) ↦[(b24).view.set]{fullShare} g)
    ∗ (∃ g, (b25).view.loc (VT d L) ↦[(b25).view.set]{fullShare} g)
    ∗ (∃ g, (b26).view.loc (VT d L) ↦[(b26).view.set]{fullShare} g)
  )

/-- Scratch buffer 0, named by its number, is the buffer that the body names. -/
theorem buf_0 : (iprop(∃ f, ((d, sdev (cV L) (jV L) 0) : Loc nD τ sig) ↦{fullShare} f) : sProp 𝕄)
    = iprop(∃ g, (b0).view.loc (VT d L) ↦[(b0).view.set]{fullShare} g) := by
  rw [View.set_whole]; rfl
/-- Scratch buffer 1, named by its number, is the buffer that the body names. -/
theorem buf_1 : (iprop(∃ f, ((d, sdev (cV L) (jV L) 1) : Loc nD τ sig) ↦{fullShare} f) : sProp 𝕄)
    = iprop(∃ g, (b1).view.loc (VT d L) ↦[(b1).view.set]{fullShare} g) := by
  rw [View.set_whole]; rfl
/-- Scratch buffer 2, named by its number, is the buffer that the body names. -/
theorem buf_2 : (iprop(∃ f, ((d, sdev (cV L) (jV L) 2) : Loc nD τ sig) ↦{fullShare} f) : sProp 𝕄)
    = iprop(∃ g, (b2).view.loc (VT d L) ↦[(b2).view.set]{fullShare} g) := by
  rw [View.set_whole]; rfl
/-- Scratch buffer 3, named by its number, is the buffer that the body names. -/
theorem buf_3 : (iprop(∃ f, ((d, sdev (cV L) (jV L) 3) : Loc nD τ sig) ↦{fullShare} f) : sProp 𝕄)
    = iprop(∃ g, (b3).view.loc (VT d L) ↦[(b3).view.set]{fullShare} g) := by
  rw [View.set_whole]; rfl
/-- Scratch buffer 4, named by its number, is the buffer that the body names. -/
theorem buf_4 : (iprop(∃ f, ((d, sdev (cV L) (jV L) 4) : Loc nD τ sig) ↦{fullShare} f) : sProp 𝕄)
    = iprop(∃ g, (b4).view.loc (VT d L) ↦[(b4).view.set]{fullShare} g) := by
  rw [View.set_whole]; rfl
/-- Scratch buffer 5, named by its number, is the buffer that the body names. -/
theorem buf_5 : (iprop(∃ f, ((d, sdev (cV L) (jV L) 5) : Loc nD τ sig) ↦{fullShare} f) : sProp 𝕄)
    = iprop(∃ g, (b5).view.loc (VT d L) ↦[(b5).view.set]{fullShare} g) := by
  rw [View.set_whole]; rfl
/-- Scratch buffer 6, named by its number, is the buffer that the body names. -/
theorem buf_6 : (iprop(∃ f, ((d, sdev (cV L) (jV L) 6) : Loc nD τ sig) ↦{fullShare} f) : sProp 𝕄)
    = iprop(∃ g, (b6).view.loc (VT d L) ↦[(b6).view.set]{fullShare} g) := by
  rw [View.set_whole]; rfl
/-- Scratch buffer 7, named by its number, is the buffer that the body names. -/
theorem buf_7 : (iprop(∃ f, ((d, sdev (cV L) (jV L) 7) : Loc nD τ sig) ↦{fullShare} f) : sProp 𝕄)
    = iprop(∃ g, (b7).view.loc (VT d L) ↦[(b7).view.set]{fullShare} g) := by
  rw [View.set_whole]; rfl
/-- Scratch buffer 8, named by its number, is the buffer that the body names. -/
theorem buf_8 : (iprop(∃ f, ((d, sdev (cV L) (jV L) 8) : Loc nD τ sig) ↦{fullShare} f) : sProp 𝕄)
    = iprop(∃ g, (b8).view.loc (VT d L) ↦[(b8).view.set]{fullShare} g) := by
  rw [View.set_whole]; rfl
/-- Scratch buffer 9, named by its number, is the buffer that the body names. -/
theorem buf_9 : (iprop(∃ f, ((d, sdev (cV L) (jV L) 9) : Loc nD τ sig) ↦{fullShare} f) : sProp 𝕄)
    = iprop(∃ g, (b9).view.loc (VT d L) ↦[(b9).view.set]{fullShare} g) := by
  rw [View.set_whole]; rfl
/-- Scratch buffer 10, named by its number, is the buffer that the body names. -/
theorem buf_10 : (iprop(∃ f, ((d, sdev (cV L) (jV L) 10) : Loc nD τ sig) ↦{fullShare} f) : sProp 𝕄)
    = iprop(∃ g, (b10).view.loc (VT d L) ↦[(b10).view.set]{fullShare} g) := by
  rw [View.set_whole]; rfl
/-- Scratch buffer 11, named by its number, is the buffer that the body names. -/
theorem buf_11 : (iprop(∃ f, ((d, sdev (cV L) (jV L) 11) : Loc nD τ sig) ↦{fullShare} f) : sProp 𝕄)
    = iprop(∃ g, (b11).view.loc (VT d L) ↦[(b11).view.set]{fullShare} g) := by
  rw [View.set_whole]; rfl
/-- Scratch buffer 12, named by its number, is the buffer that the body names. -/
theorem buf_12 : (iprop(∃ f, ((d, sdev (cV L) (jV L) 12) : Loc nD τ sig) ↦{fullShare} f) : sProp 𝕄)
    = iprop(∃ g, (b12).view.loc (VT d L) ↦[(b12).view.set]{fullShare} g) := by
  rw [View.set_whole]; rfl
/-- Scratch buffer 13, named by its number, is the buffer that the body names. -/
theorem buf_13 : (iprop(∃ f, ((d, sdev (cV L) (jV L) 13) : Loc nD τ sig) ↦{fullShare} f) : sProp 𝕄)
    = iprop(∃ g, (b13).view.loc (VT d L) ↦[(b13).view.set]{fullShare} g) := by
  rw [View.set_whole]; rfl
/-- Scratch buffer 14, named by its number, is the buffer that the body names. -/
theorem buf_14 : (iprop(∃ f, ((d, sdev (cV L) (jV L) 14) : Loc nD τ sig) ↦{fullShare} f) : sProp 𝕄)
    = iprop(∃ g, (b14).view.loc (VT d L) ↦[(b14).view.set]{fullShare} g) := by
  rw [View.set_whole]; rfl
/-- Scratch buffer 15, named by its number, is the buffer that the body names. -/
theorem buf_15 : (iprop(∃ f, ((d, sdev (cV L) (jV L) 15) : Loc nD τ sig) ↦{fullShare} f) : sProp 𝕄)
    = iprop(∃ g, (b15).view.loc (VT d L) ↦[(b15).view.set]{fullShare} g) := by
  rw [View.set_whole]; rfl
/-- Scratch buffer 16, named by its number, is the buffer that the body names. -/
theorem buf_16 : (iprop(∃ f, ((d, sdev (cV L) (jV L) 16) : Loc nD τ sig) ↦{fullShare} f) : sProp 𝕄)
    = iprop(∃ g, (b16).view.loc (VT d L) ↦[(b16).view.set]{fullShare} g) := by
  rw [View.set_whole]; rfl
/-- Scratch buffer 17, named by its number, is the buffer that the body names. -/
theorem buf_17 : (iprop(∃ f, ((d, sdev (cV L) (jV L) 17) : Loc nD τ sig) ↦{fullShare} f) : sProp 𝕄)
    = iprop(∃ g, (b17).view.loc (VT d L) ↦[(b17).view.set]{fullShare} g) := by
  rw [View.set_whole]; rfl
/-- Scratch buffer 18, named by its number, is the buffer that the body names. -/
theorem buf_18 : (iprop(∃ f, ((d, sdev (cV L) (jV L) 18) : Loc nD τ sig) ↦{fullShare} f) : sProp 𝕄)
    = iprop(∃ g, (b18).view.loc (VT d L) ↦[(b18).view.set]{fullShare} g) := by
  rw [View.set_whole]; rfl
/-- Scratch buffer 19, named by its number, is the buffer that the body names. -/
theorem buf_19 : (iprop(∃ f, ((d, sdev (cV L) (jV L) 19) : Loc nD τ sig) ↦{fullShare} f) : sProp 𝕄)
    = iprop(∃ g, (b19).view.loc (VT d L) ↦[(b19).view.set]{fullShare} g) := by
  rw [View.set_whole]; rfl
/-- Scratch buffer 20, named by its number, is the buffer that the body names. -/
theorem buf_20 : (iprop(∃ f, ((d, sdev (cV L) (jV L) 20) : Loc nD τ sig) ↦{fullShare} f) : sProp 𝕄)
    = iprop(∃ g, (b20).view.loc (VT d L) ↦[(b20).view.set]{fullShare} g) := by
  rw [View.set_whole]; rfl
/-- Scratch buffer 21, named by its number, is the buffer that the body names. -/
theorem buf_21 : (iprop(∃ f, ((d, sdev (cV L) (jV L) 21) : Loc nD τ sig) ↦{fullShare} f) : sProp 𝕄)
    = iprop(∃ g, (b21).view.loc (VT d L) ↦[(b21).view.set]{fullShare} g) := by
  rw [View.set_whole]; rfl
/-- Scratch buffer 22, named by its number, is the buffer that the body names. -/
theorem buf_22 : (iprop(∃ f, ((d, sdev (cV L) (jV L) 22) : Loc nD τ sig) ↦{fullShare} f) : sProp 𝕄)
    = iprop(∃ g, (b22).view.loc (VT d L) ↦[(b22).view.set]{fullShare} g) := by
  rw [View.set_whole]; rfl
/-- Scratch buffer 23, named by its number, is the buffer that the body names. -/
theorem buf_23 : (iprop(∃ f, ((d, sdev (cV L) (jV L) 23) : Loc nD τ sig) ↦{fullShare} f) : sProp 𝕄)
    = iprop(∃ g, (b23).view.loc (VT d L) ↦[(b23).view.set]{fullShare} g) := by
  rw [View.set_whole]; rfl
/-- Scratch buffer 24, named by its number, is the buffer that the body names. -/
theorem buf_24 : (iprop(∃ f, ((d, sdev (cV L) (jV L) 24) : Loc nD τ sig) ↦{fullShare} f) : sProp 𝕄)
    = iprop(∃ g, (b24).view.loc (VT d L) ↦[(b24).view.set]{fullShare} g) := by
  rw [View.set_whole]; rfl
/-- Scratch buffer 25, named by its number, is the buffer that the body names. -/
theorem buf_25 : (iprop(∃ f, ((d, sdev (cV L) (jV L) 25) : Loc nD τ sig) ↦{fullShare} f) : sProp 𝕄)
    = iprop(∃ g, (b25).view.loc (VT d L) ↦[(b25).view.set]{fullShare} g) := by
  rw [View.set_whole]; rfl
/-- Scratch buffer 26, named by its number, is the buffer that the body names. -/
theorem buf_26 : (iprop(∃ f, ((d, sdev (cV L) (jV L) 26) : Loc nD τ sig) ↦{fullShare} f) : sProp 𝕄)
    = iprop(∃ g, (b26).view.loc (VT d L) ↦[(b26).view.set]{fullShare} g) := by
  rw [View.set_whole]; rfl

/-- Equal parts make equal conjunctions. -/
theorem sepc {A A' B B' : sProp 𝕄} (h : A = A') (h' : B = B') : iprop(A ∗ B) = iprop(A' ∗ B') := by rw [h, h']

/-- The twenty-seven scratch buffers one by one. -/
theorem bufs27_eq : (bigSep Finset.univ fun k : Fin 27 => iprop(∃ f, ((d, sdev (cV L) (jV L) k) : Loc nD τ sig) ↦{fullShare} f) : sProp 𝕄)
    = bufs27 d L := by
  rw [show (Finset.univ : Finset (Fin 27)) = {0, 1, 2, 3, 4, 5, 6, 7, 8, 9, 10, 11, 12, 13, 14, 15, 16, 17, 18, 19, 20, 21, 22, 23, 24, 25, 26} by decide,
    SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]
  unfold bufs27
  refine sepc (buf_0 d L) ?_
  refine sepc (buf_1 d L) ?_
  refine sepc (buf_2 d L) ?_
  refine sepc (buf_3 d L) ?_
  refine sepc (buf_4 d L) ?_
  refine sepc (buf_5 d L) ?_
  refine sepc (buf_6 d L) ?_
  refine sepc (buf_7 d L) ?_
  refine sepc (buf_8 d L) ?_
  refine sepc (buf_9 d L) ?_
  refine sepc (buf_10 d L) ?_
  refine sepc (buf_11 d L) ?_
  refine sepc (buf_12 d L) ?_
  refine sepc (buf_13 d L) ?_
  refine sepc (buf_14 d L) ?_
  refine sepc (buf_15 d L) ?_
  refine sepc (buf_16 d L) ?_
  refine sepc (buf_17 d L) ?_
  refine sepc (buf_18 d L) ?_
  refine sepc (buf_19 d L) ?_
  refine sepc (buf_20 d L) ?_
  refine sepc (buf_21 d L) ?_
  refine sepc (buf_22 d L) ?_
  refine sepc (buf_23 d L) ?_
  refine sepc (buf_24 d L) ?_
  refine sepc (buf_25 d L) ?_
  exact buf_26 d L

/-- The subcore's own buffers: the scratch buffers and the rest. -/
theorem ownBufs_V :
    (ownBufs (VT d L) : sProp 𝕄)
      = iprop(bufs27 d L
          ∗ bigSep ((ownRefs (τ := τ) (sig := sig) (.scVector (cV L) (jV L))) \ Finset.univ.image (sdev (cV L) (jV L)))
              fun b => iprop(∃ f, ((d, b) : Loc nD τ sig) ↦{fullShare} f)) := by
  rw [← bufs27_eq]
  unfold SparseCore.Cfg.ownBufs
  rw [SparseCore.bigSep_sdiff_split' (t := Finset.univ.image (sdev (cV L) (jV L)))
      (Finset.image_subset_iff.mpr fun k _ => sdev_mem (cV L) (jV L) k),
    SparseCore.bigSep_image_of_injOn (fun a _ b _ h => sref_inj (Proc.devRef_injective _ h))]

/-! ## The tile's blocks, round by round -/

/-- The operand's blocks of a tile, round by round. -/
theorem insX_eq (X : Buf (Elt F) (xLoc d)) : (insX d (L 0).val (L 1).val X : sProp 𝕄)
    = iprop(inB d (wid L + 0) X ∗ inB d (wid L + 32) X ∗ inB d (wid L + 64) X ∗ inB d (wid L + 96) X ∗ inB d (wid L + 128) X) := by
  unfold insX; rw [five_rounds]; rfl
/-- The result's blocks of a tile, round by round. -/
theorem outs_eq (V : Buf (Elt F) (oLoc d)) : (outs d (L 0).val (L 1).val V : sProp 𝕄)
    = iprop(outB d (wid L + 0) V ∗ outB d (wid L + 32) V ∗ outB d (wid L + 64) V ∗ outB d (wid L + 96) V ∗ outB d (wid L + 128) V) := by
  unfold outs; rw [five_rounds]; rfl

/-! ## The task -/

set_option maxHeartbeats 0 in
/-- The task on vector subcore `(L 0, L 1)` of device `d`, from what the launch deals it to what it hands back. -/
theorem tile_body (hF : (K (F := F)).Facts) (O : CellTallies nD τ sig (HIx 1)) (W : Waits sig (HIx 1)) (hO : ∀ g, O g none = 0) :
    iprop(levAts (K (F := F)).L (K (F := F)).lev ∗ emp
        ∗ goP m d (L 0).val (L 1).val
        ∗ scopedBufs (VT d L) ∗ scopedSems0 (VT d L) ∗ owes (VT d L) O W)
      ⊢ wp frame (wpE (defs₀ (F := F)) 𝒱₀ (VT d L) none) Set.univ
          (cc0__adapter L xV (Memref.isWhole_whole _) oV (Memref.isWhole_whole _)
            b0 (Memref.isWhole_whole _) b1 (Memref.isWhole_whole _) b2 (Memref.isWhole_whole _) b3 (Memref.isWhole_whole _) b4 (Memref.isWhole_whole _) b5 (Memref.isWhole_whole _) b6 (Memref.isWhole_whole _) b7 (Memref.isWhole_whole _) b8 (Memref.isWhole_whole _) b9 (Memref.isWhole_whole _) b10 (Memref.isWhole_whole _) b11 (Memref.isWhole_whole _) b12 (Memref.isWhole_whole _) b13 (Memref.isWhole_whole _) b14 (Memref.isWhole_whole _) b15 (Memref.isWhole_whole _) b16 (Memref.isWhole_whole _) b17 (Memref.isWhole_whole _) b18 (Memref.isWhole_whole _) b19 (Memref.isWhole_whole _) b20 (Memref.isWhole_whole _) b21 (Memref.isWhole_whole _) b22 (Memref.isWhole_whole _) b23 (Memref.isWhole_whole _) b24 (Memref.isWhole_whole _) b25 (Memref.isWhole_whole _) b26 (Memref.isWhole_whole _) cc0_scratch27 cc0_scratch28 cc0_scratch29 cc0_scratch30 cc0_scratch31 cc0_scratch32)
          fun _ => iprop(tdP m d (L 0).val (L 1).val
            ∗ scopedBufs (VT d L) ∗ scopedSems0 (VT d L)
            ∗ ∃ W', ⌜∀ p ∈ W', p ∈ W ∨ p.2 = none ∨ p.2 = some (0 : Fin 1)⌝ ∗ owes (VT d L) O W') := by
  rw [(K (F := F)).scopedBufs_V hF d (cV L) (jV L), SparseCore.Cfg.scopedSems0_V (Val := Elt F) d (cV L) (jV L), ownSems0_V, ownBufs_V]
  unfold goP tdP tilePts bufs27
  rw [insX_eq, outs_eq, outs_eq]
  iintro ⟨#Hlv, -, ⟨Hrest, ⟨HI0, HI1, HI2, HI3, HI4⟩, ⟨HO0, HO1, HO2, HO3, HO4⟩⟩, ⟨⟨⟨%g0, H0⟩, ⟨%g1, H1⟩, ⟨%g2, H2⟩, ⟨%g3, H3⟩, ⟨%g4, H4⟩, ⟨%g5, H5⟩, ⟨%g6, H6⟩, ⟨%g7, H7⟩, ⟨%g8, H8⟩, ⟨%g9, H9⟩, ⟨%g10, H10⟩, ⟨%g11, H11⟩, ⟨%g12, H12⟩, ⟨%g13, H13⟩, ⟨%g14, H14⟩, ⟨%g15, H15⟩, ⟨%g16, H16⟩, ⟨%g17, H17⟩, ⟨%g18, H18⟩, ⟨%g19, H19⟩, ⟨%g20, H20⟩, ⟨%g21, H21⟩, ⟨%g22, H22⟩, ⟨%g23, H23⟩, ⟨%g24, H24⟩, ⟨%g25, H25⟩, ⟨%g26, H26⟩⟩, Hbufs⟩, ⟨HC, Hsems⟩, HO⟩
  ihave Hmw := (show levAts (K (F := F)).L (K (F := F)).lev ⊢ Transfers.MayWaits (VT d L) (default : HIx 1) O from
    (K (F := F)).mayWaits_none (thr := VT d L) hO) $$ Hlv
  iapply (wp_wand_r Idealize.ShloMosaic.frame (wpE (defs₀ (F := F)) 𝒱₀ (VT d L) none) Set.univ)
  isplitl [HI0 HI1 HI2 HI3 HI4 HO0 HO1 HO2 HO3 HO4 H0 H1 H2 H3 H4 H5 H6 H7 H8 H9 H10 H11 H12 H13 H14 H15 H16 H17 H18 H19 H20 H21 H22 H23 H24 H25 H26 HC HO]
  · iapply (tile_run d L O W (XT m d) (m (oLoc d)) g0 g1 g2 g3 g4 g5 g6 g7 g8 g9 g10 g11 g12 g13 g14 g15 g16 g17 g18 g19 g20 g21 g22 g23 g24 g25 g26)
    isplitr; · iexact Hmw
    isplitl [HI0]; · iexact HI0
    isplitl [HI1]; · iexact HI1
    isplitl [HI2]; · iexact HI2
    isplitl [HI3]; · iexact HI3
    isplitl [HI4]; · iexact HI4
    isplitl [HO0]; · iexact HO0
    isplitl [HO1]; · iexact HO1
    isplitl [HO2]; · iexact HO2
    isplitl [HO3]; · iexact HO3
    isplitl [HO4]; · iexact HO4
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [H24]; · iexact H24
    isplitl [H25]; · iexact H25
    isplitl [H26]; · iexact H26
    isplitl [HC]; · iexact HC
    iexact HO
  iintro %_ ⟨HI0, HI1, HI2, HI3, HI4, HO0, HO1, HO2, HO3, HO4, ⟨%g0, H0⟩, ⟨%g1, H1⟩, ⟨%g2, H2⟩, ⟨%g3, H3⟩, ⟨%g4, H4⟩, ⟨%g5, H5⟩, ⟨%g6, H6⟩, ⟨%g7, H7⟩, ⟨%g8, H8⟩, ⟨%g9, H9⟩, ⟨%g10, H10⟩, ⟨%g11, H11⟩, ⟨%g12, H12⟩, ⟨%g13, H13⟩, ⟨%g14, H14⟩, ⟨%g15, H15⟩, ⟨%g16, H16⟩, ⟨%g17, H17⟩, ⟨%g18, H18⟩, ⟨%g19, H19⟩, ⟨%g20, H20⟩, ⟨%g21, H21⟩, ⟨%g22, H22⟩, ⟨%g23, H23⟩, ⟨%g24, H24⟩, ⟨%g25, H25⟩, ⟨%g26, H26⟩, HC, ⟨%W2, HO⟩⟩
  isplitl [Hrest HI0 HI1 HI2 HI3 HI4 HO0 HO1 HO2 HO3 HO4]
  · isplitl [Hrest]; · iexact Hrest
    isplitl [HI0 HI1 HI2 HI3 HI4]
    · isplitl [HI0]; · iexact HI0
      isplitl [HI1]; · iexact HI1
      isplitl [HI2]; · iexact HI2
      isplitl [HI3]; · iexact HI3
      iexact HI4
    isplitl [HO0]; · iexact HO0
    isplitl [HO1]; · iexact HO1
    isplitl [HO2]; · iexact HO2
    isplitl [HO3]; · iexact HO3
    iexact HO4
  isplitl [H0 H1 H2 H3 H4 H5 H6 H7 H8 H9 H10 H11 H12 H13 H14 H15 H16 H17 H18 H19 H20 H21 H22 H23 H24 H25 H26 Hbufs]
  · isplitl [H0 H1 H2 H3 H4 H5 H6 H7 H8 H9 H10 H11 H12 H13 H14 H15 H16 H17 H18 H19 H20 H21 H22 H23 H24 H25 H26]
    · isplitl [H0]; · iexists g0; iexact H0
      isplitl [H1]; · iexists g1; iexact H1
      isplitl [H2]; · iexists g2; iexact H2
      isplitl [H3]; · iexists g3; iexact H3
      isplitl [H4]; · iexists g4; iexact H4
      isplitl [H5]; · iexists g5; iexact H5
      isplitl [H6]; · iexists g6; iexact H6
      isplitl [H7]; · iexists g7; iexact H7
      isplitl [H8]; · iexists g8; iexact H8
      isplitl [H9]; · iexists g9; iexact H9
      isplitl [H10]; · iexists g10; iexact H10
      isplitl [H11]; · iexists g11; iexact H11
      isplitl [H12]; · iexists g12; iexact H12
      isplitl [H13]; · iexists g13; iexact H13
      isplitl [H14]; · iexists g14; iexact H14
      isplitl [H15]; · iexists g15; iexact H15
      isplitl [H16]; · iexists g16; iexact H16
      isplitl [H17]; · iexists g17; iexact H17
      isplitl [H18]; · iexists g18; iexact H18
      isplitl [H19]; · iexists g19; iexact H19
      isplitl [H20]; · iexists g20; iexact H20
      isplitl [H21]; · iexists g21; iexact H21
      isplitl [H22]; · iexists g22; iexact H22
      isplitl [H23]; · iexists g23; iexact H23
      isplitl [H24]; · iexists g24; iexact H24
      isplitl [H25]; · iexists g25; iexact H25
      iexists g26; iexact H26
    iexact Hbufs
  isplitl [HC Hsems]
  · isplitl [HC]; · iexact HC
    iexact Hsems
  iexists W2; isplitr
  · ipureintro; intro p _
    rcases p.2 with _ | q
    · exact .inr (.inl rfl)
    · exact .inr (.inr (congrArg some (Subsingleton.elim q 0)))
  · iexact HO

/-! ## The obligation, and the run -/

def coordsV (c : Fin (grid0.bound 0)) (s : Fin (grid0.bound 1)) : grid0.Coords :=
  fun | 0 => c | 1 => s | ⟨_ + 2, h⟩ => absurd h (Nat.not_lt.2 (Nat.le_add_left _ _))

/-- What a tile runs is the body at the tile's coordinates. -/
theorem defs₀_vector (c : Fin τ.nSC) (s : Fin τ.nSub) :
    defs₀ (F := F) (.scVector c s) 0 ()
      = SparseCore.onTile hcore0 hsub0 (fun c s => (cc0__adapter (coordsV c s) xV (Memref.isWhole_whole _) oV (Memref.isWhole_whole _)
            b0 (Memref.isWhole_whole _) b1 (Memref.isWhole_whole _) b2 (Memref.isWhole_whole _) b3 (Memref.isWhole_whole _) b4 (Memref.isWhole_whole _) b5 (Memref.isWhole_whole _) b6 (Memref.isWhole_whole _) b7 (Memref.isWhole_whole _) b8 (Memref.isWhole_whole _) b9 (Memref.isWhole_whole _) b10 (Memref.isWhole_whole _) b11 (Memref.isWhole_whole _) b12 (Memref.isWhole_whole _) b13 (Memref.isWhole_whole _) b14 (Memref.isWhole_whole _) b15 (Memref.isWhole_whole _) b16 (Memref.isWhole_whole _) b17 (Memref.isWhole_whole _) b18 (Memref.isWhole_whole _) b19 (Memref.isWhole_whole _) b20 (Memref.isWhole_whole _) b21 (Memref.isWhole_whole _) b22 (Memref.isWhole_whole _) b23 (Memref.isWhole_whole _) b24 (Memref.isWhole_whole _) b25 (Memref.isWhole_whole _) b26 (Memref.isWhole_whole _) cc0_scratch27 cc0_scratch28 cc0_scratch29 cc0_scratch30 cc0_scratch31 cc0_scratch32)) ⟨⟩ c s := rfl

/-- Every tile, from what the launch deals it, runs its task and hands back what the launch expects. -/
theorem tileObl (hF : (K (F := F)).Facts) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body m d (coordsV ⟨_, hci.1⟩ ⟨_, hci.2⟩) hF O W hO

/-- Every weakly fair execution of the program's threads terminates, nothing faulting: on each device the result is the planar
    result transposed back, the argument is unchanged, and every semaphore is back at zero. -/
theorem run_main [∀ e, Nonempty (Elt F e)] : θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts)
    (fun q _ => match q with | 0 => SparseCore.Cfg.VecSplit.of_plain (vecSplit m))
    m ρ main (fun d => G d) (FIN m) (u₀ (F := F)) (sep_elim_left.trans (hu₀ m)) (hmain m ρ) (fq m) (hfin m) (QC m) (fun _ h hz => ⟨h, hz⟩)

end Cert.Proof.Ki

end
-- ==== Proof.Consts.lean ====
/- The float constants of the programs as the extended reals their patterns denote at the ideal instance. -/
module

public import Idealize.ShloMosaic.PureOps.Ideal

@[expose] public section

noncomputable section

namespace Cert.Proof.Consts

open Idealize.ShloMosaic

/-- `640.0`, by which the reference divides the four box coordinates, denotes the real `640`. -/
theorem ofBits_640 : Ideal.ofBits .f32 0x44200000#32 = ((640 : ℝ) : EReal) := by
  simp [Ideal.ofBits, Ideal.ieee, -EReal.coe_mul]; norm_num

end Cert.Proof.Consts

end
-- ==== Proof.Ref.lean ====
/-
  The reference's result, index by index: the nine gathered channels, the first four turned into corners and extents and divided by
  640, read as the planes the kernel leaves.
-/
module

public import proofs.«01_k».proof.Proof.Consts
public import proofs.«01_k».proof.Proof.Ki.Main
public import proofs.«01_k».proof.Proof.Gen.ReferenceIdeal.Run
public import Idealize.ShloMosaic.Lib.ValueIdx

@[expose] public section

noncomputable section

namespace Cert.Proof.Ref

open Cert.ReferenceIdeal Cert.ReferenceIdeal.Gen Cert.ReferenceIdeal.Value
open Idealize.ShloMosaic Idealize.ShloMosaic.TcCoe Idealize.ShloMosaic.ValueIdx

/-- The channel each of the nine result columns takes. -/
def chan (c : Fin 9) : Fin 10 := ![0, 1, 2, 3, 6, 7, 8, 9, 4] c

section Take
variable {F : FTy → Type} [FloatOps F]

/-- The list of channels as the reference spells it, negative entries wrapped. -/
def idxv : IVec S9x1 32 :=
  broadcastInDim S9x1 ![0] bcast_S9_S9x1_0 (select (cmpi .slt ((fun i => lit0 (S9.rowMajor i))) (broadcastInDim S9 ![] bcast_S_S9 (constantI S_ 32 0#32))) (addi ((fun i => lit0 (S9.rowMajor i))) (broadcastInDim S9 ![] bcast_S_S9 (constantI S_ 32 10#32))) ((fun i => lit0 (S9.rowMajor i))))

/-- Which entries of that list are channels of the operand. -/
def maskv : IVec S9 1 :=
  Host.reduce IntOp.andi (andi (cmpi .sge idxv (broadcastInDim S9x1 ![] bcast_S_S9x1 (constantI S_ 32 0#32))) (cmpi .sle idxv (broadcastInDim S9x1 ![0, 1] bcast_S1x1_S9x1_0_1 (broadcastInDim S1x1 ![1] bcast_S1_S1x1_1 (constantI S1 32 9#32))))) (constantI S_ 1 1#1) reducesTo_S9x1_S9_d1 h_S_

/-- The channels taken, the fill value where an entry is no channel. -/
def takev (x : (⟨S32x20000x10, .f32⟩ : BufTy).Contents (Elt F)) : (⟨S32x20000x9, .f32⟩ : BufTy).Contents (Elt F) :=
  select (broadcastInDim S32x20000x9 ![2] bcast_S9_S32x20000x9_2 maskv) (Host.gather gather_S32x20000x10_S9x1_S32x20000x9_01_2_n_n_2_1_32200001 x idxv) (broadcastInDim S32x20000x9 ![] bcast_S_S32x20000x9 (constant S_ .f32 0x7FC00000#32))

/-- Entry `c` of the list is `chan c`. -/
theorem idxv_apply (c : Fin 9) : (idxv (ix2 c (0 : Fin 1))).toInt.toNat = (chan c).val := by
  revert c; decide +kernel

/-- Every entry is a channel. -/
theorem maskv_apply (c : Fin 9) : maskv (ix1 c) = 1#1 := by
  revert c; decide +kernel

/-- Column `c` of the channels taken is channel `chan c` of the operand. -/
theorem takev_apply (x : (⟨S32x20000x10, .f32⟩ : BufTy).Contents (Elt F)) (a : Fin 32) (b : Fin 20000) (c : Fin 9) :
    takev x (ix3 a b c) = x (ix3 a b (chan c)) := by
  unfold takev
  rw [select_apply]
  have hm : broadcastInDim S32x20000x9 ![2] bcast_S9_S32x20000x9_2 maskv (ix3 a b c) = 1#1 :=
    (broadcastInDim_apply _ _ _ _ (ix1 c) (fun k => by fin_cases k; rfl)).trans (maskv_apply c)
  rw [hm, select_one]
  unfold Host.gather
  refine congrArg x (funext fun k => Fin.ext ?_)
  show gather_S32x20000x10_S9x1_S32x20000x9_01_2_n_n_2_1_32200001.start (ix3 a b c) idxv k
    + gather_S32x20000x10_S9x1_S32x20000x9_01_2_n_n_2_1_32200001.batchCoord (ix3 a b c) k
    + gather_S32x20000x10_S9x1_S32x20000x9_01_2_n_n_2_1_32200001.offCoord (ix3 a b c) k = _
  rw [GatherDims.batchCoord_eq_zero _ _ _ List.not_mem_nil]
  have h0 : ∀ p, (⟨0, p⟩ : Fin S32x20000x10.rank) ∉ gather_S32x20000x10_S9x1_S32x20000x9_01_2_n_n_2_1_32200001.startIndexMap := by decide
  have h1 : ∀ p, (⟨1, p⟩ : Fin S32x20000x10.rank) ∉ gather_S32x20000x10_S9x1_S32x20000x9_01_2_n_n_2_1_32200001.startIndexMap := by decide
  have h2 : ∀ p, (⟨2, p⟩ : Fin S32x20000x10.rank) ∈ gather_S32x20000x10_S9x1_S32x20000x9_01_2_n_n_2_1_32200001.startIndexMap := by decide
  have k0 : ∀ p, (⟨0, p⟩ : Fin S32x20000x10.rank) ∈ gather_S32x20000x10_S9x1_S32x20000x9_01_2_n_n_2_1_32200001.sKept := by decide
  have k1 : ∀ p, (⟨1, p⟩ : Fin S32x20000x10.rank) ∈ gather_S32x20000x10_S9x1_S32x20000x9_01_2_n_n_2_1_32200001.sKept := by decide
  have k2 : ∀ p, (⟨2, p⟩ : Fin S32x20000x10.rank) ∉ gather_S32x20000x10_S9x1_S32x20000x9_01_2_n_n_2_1_32200001.sKept := by decide
  match k with
  | ⟨0, _⟩ =>
    unfold GatherDims.start GatherDims.offCoord
    rw [dif_neg (h0 _), dif_pos (k0 _)]
    show 0 + 0 + a.val = a.val
    omega
  | ⟨1, _⟩ =>
    unfold GatherDims.start GatherDims.offCoord
    rw [dif_neg (h1 _), dif_pos (k1 _)]
    show 0 + 0 + b.val = b.val
    omega
  | ⟨2, _⟩ =>
    unfold GatherDims.start GatherDims.offCoord
    rw [dif_pos (h2 _), dif_neg (k2 _)]
    have hs : gather_S32x20000x10_S9x1_S32x20000x9_01_2_n_n_2_1_32200001.siIdx (ix3 a b c) ⟨0, Nat.one_pos⟩ = ix2 c (0 : Fin 1) := by
      funext q; refine Fin.ext ?_
      match q with
      | ⟨0, _⟩ => rfl
      | ⟨1, _⟩ => rfl
    have he := idxv_apply c
    rw [← hs] at he
    have hc : (chan c).val < 10 := (chan c).isLt
    refine (congrArg (fun n => min n 9 + 0 + 0) he).trans ?_
    show min (chan c).val 9 + 0 + 0 = (chan c).val
    omega

/-- Column `k` of the first four channels taken. -/
def colv (t : (⟨S32x20000x9, .f32⟩ : BufTy).Contents (Elt F)) (k : Nat) (h : S32x20000x4.Slices ![0, 0, k] S32x20000x1) :
    (⟨S32x20000, .f32⟩ : BufTy).Contents (Elt F) :=
  shapeCast _ (extractStridedSlice S32x20000x1 ![0, 0, k] (extractStridedSlice S32x20000x4 ![0, 0, 0] t slices_S32x20000x9_S32x20000x4_0_0_0) h) shapeCasts_S32x20000x1_S32x20000

/-- Column `k` read at an index. -/
theorem colv_apply (t : (⟨S32x20000x9, .f32⟩ : BufTy).Contents (Elt F)) (k : Nat) (h : S32x20000x4.Slices ![0, 0, k] S32x20000x1)
    (a : Fin 32) (b : Fin 20000) (hk : k < 9) : colv t k h (ix2 a b) = t (ix3 a b ⟨k, hk⟩) := by
  have hk4 : k < 4 := by have := h.2 2; simpa using this
  unfold colv
  rw [shapeCast_apply _ _ (ix2 a b) (ix3 a b (0 : Fin 1)) (by
      rw [Shape.rowMajor_val_three, Shape.rowMajor_val_two]; show (a.val * 20000 + b.val) * 1 + 0 = a.val * 20000 + b.val; omega),
    extractStridedSlice_apply _ _ _ _ (ix3 a b (⟨k, hk4⟩ : Fin 4)) (fun d => by fin_cases d <;> simp),
    extractStridedSlice_apply _ _ _ _ (ix3 a b (⟨k, hk⟩ : Fin 9)) (fun d => by fin_cases d <;> simp)]

/-- A column as a one-channel array. -/
def bcv (u : (⟨S32x20000, .f32⟩ : BufTy).Contents (Elt F)) : (⟨S32x20000x1, .f32⟩ : BufTy).Contents (Elt F) :=
  broadcastInDim S32x20000x1 ![0, 1] bcast_S32x20000_S32x20000x1_0_1 u

/-- A column as a one-channel array read at an index. -/
theorem bcv_apply (u : (⟨S32x20000, .f32⟩ : BufTy).Contents (Elt F)) (a : Fin 32) (b : Fin 20000) (e : Fin 1) :
    bcv u (ix3 a b e) = u (ix2 a b) :=
  broadcastInDim_apply _ _ _ _ (ix2 a b) (fun k => by fin_cases k <;> rfl)

/-- The divisor. -/
def dvv : (⟨S32x20000x4, .f32⟩ : BufTy).Contents (Elt F) :=
  broadcastInDim S32x20000x4 ![0, 1, 2] bcast_S1x1x4_S32x20000x4_0_1_2 (broadcastInDim S1x1x4 ![2] bcast_S4_S1x1x4_2 (constant S4 .f32 0x44200000#32))

/-- The reference's result from the channels taken. -/
def refv (t : (⟨S32x20000x9, .f32⟩ : BufTy).Contents (Elt F)) : (⟨S32x20000x9, .f32⟩ : BufTy).Contents (Elt F) :=
  fn_main_v21 (Host.divf (φ := .f32) (fn_main_v17 (F := F) (bcv (colv t 0 slices_S32x20000x4_S32x20000x1_0_0_0)) (bcv (colv t 1 slices_S32x20000x4_S32x20000x1_0_0_1))
      (bcv (subf (φ := .f32) (colv t 2 slices_S32x20000x4_S32x20000x1_0_0_2) (colv t 0 slices_S32x20000x4_S32x20000x1_0_0_0)))
      (bcv (subf (φ := .f32) (colv t 3 slices_S32x20000x4_S32x20000x1_0_0_3) (colv t 1 slices_S32x20000x4_S32x20000x1_0_0_1)))) dvv)
    (extractStridedSlice S32x20000x5 ![0, 0, 4] t slices_S32x20000x9_S32x20000x5_0_0_4)

/-- The composed term the reference's run leaves is `refv` of the channels taken. -/
theorem res_eq (m : (ℓ : Loc nD τ sig) → Buf (Elt F) ℓ) (c : Dev nD) :
    res_main_v21 m c = refv (takev (m ((c.tc : Thread nD τ).loc main_arg0))) := rfl

/-- Channel 0 of the stack is its operand 0. -/
theorem v17_0 (u0 u1 u2 u3 : (⟨S32x20000x1, .f32⟩ : BufTy).Contents (Elt F)) (a : Fin 32) (b : Fin 20000) :
    (fn_main_v17 (F := F) u0 u1 u2 u3 : (⟨S32x20000x4, .f32⟩ : BufTy).Contents (Elt F)) (ix3 a b (0 : Fin 4)) = u0 (ix3 a b (0 : Fin 1)) :=
  concatenate_apply_piece (2 : Fin S32x20000x4.rank) _ _ (ix3 a b (0 : Fin 4)) 0 (by exact (show 0 < 4 by decide)) S32x20000x1 _ rfl rfl 0 rfl
    (ix3 a b (0 : Fin 1)) (fun d hd => by fin_cases d; rfl; rfl; exact absurd rfl hd) rfl

/-- Channel 1 of the stack is its operand 1. -/
theorem v17_1 (u0 u1 u2 u3 : (⟨S32x20000x1, .f32⟩ : BufTy).Contents (Elt F)) (a : Fin 32) (b : Fin 20000) :
    (fn_main_v17 (F := F) u0 u1 u2 u3 : (⟨S32x20000x4, .f32⟩ : BufTy).Contents (Elt F)) (ix3 a b (1 : Fin 4)) = u1 (ix3 a b (0 : Fin 1)) :=
  concatenate_apply_piece (2 : Fin S32x20000x4.rank) _ _ (ix3 a b (1 : Fin 4)) 1 (by exact (show 1 < 4 by decide)) S32x20000x1 _ rfl rfl 1 rfl
    (ix3 a b (0 : Fin 1)) (fun d hd => by fin_cases d; rfl; rfl; exact absurd rfl hd) rfl

/-- Channel 2 of the stack is its operand 2. -/
theorem v17_2 (u0 u1 u2 u3 : (⟨S32x20000x1, .f32⟩ : BufTy).Contents (Elt F)) (a : Fin 32) (b : Fin 20000) :
    (fn_main_v17 (F := F) u0 u1 u2 u3 : (⟨S32x20000x4, .f32⟩ : BufTy).Contents (Elt F)) (ix3 a b (2 : Fin 4)) = u2 (ix3 a b (0 : Fin 1)) :=
  concatenate_apply_piece (2 : Fin S32x20000x4.rank) _ _ (ix3 a b (2 : Fin 4)) 2 (by exact (show 2 < 4 by decide)) S32x20000x1 _ rfl rfl 2 rfl
    (ix3 a b (0 : Fin 1)) (fun d hd => by fin_cases d; rfl; rfl; exact absurd rfl hd) rfl

/-- Channel 3 of the stack is its operand 3. -/
theorem v17_3 (u0 u1 u2 u3 : (⟨S32x20000x1, .f32⟩ : BufTy).Contents (Elt F)) (a : Fin 32) (b : Fin 20000) :
    (fn_main_v17 (F := F) u0 u1 u2 u3 : (⟨S32x20000x4, .f32⟩ : BufTy).Contents (Elt F)) (ix3 a b (3 : Fin 4)) = u3 (ix3 a b (0 : Fin 1)) :=
  concatenate_apply_piece (2 : Fin S32x20000x4.rank) _ _ (ix3 a b (3 : Fin 4)) 3 (by exact (show 3 < 4 by decide)) S32x20000x1 _ rfl rfl 3 rfl
    (ix3 a b (0 : Fin 1)) (fun d hd => by fin_cases d; rfl; rfl; exact absurd rfl hd) rfl

/-- The first four channels of the result are the stack. -/
theorem v21_left (p : (⟨S32x20000x4, .f32⟩ : BufTy).Contents (Elt F)) (q : (⟨S32x20000x5, .f32⟩ : BufTy).Contents (Elt F))
    (a : Fin 32) (b : Fin 20000) (c : Fin 4) (c' : Fin 9) (h : c.val = c'.val) :
    fn_main_v21 p q (ix3 a b c') = p (ix3 a b c) :=
  concatenate_apply_piece (2 : Fin S32x20000x9.rank) _ _ (ix3 a b c') 0 (by exact (show 0 < 2 by decide)) S32x20000x4 _ rfl rfl 0 rfl
    (ix3 a b c) (fun d hd => by fin_cases d; rfl; rfl; exact absurd rfl hd) (by show 0 + c.val = c'.val; omega)

/-- The last five channels of the result are the rest. -/
theorem v21_right (p : (⟨S32x20000x4, .f32⟩ : BufTy).Contents (Elt F)) (q : (⟨S32x20000x5, .f32⟩ : BufTy).Contents (Elt F))
    (a : Fin 32) (b : Fin 20000) (c : Fin 5) (c' : Fin 9) (h : 4 + c.val = c'.val) :
    fn_main_v21 p q (ix3 a b c') = q (ix3 a b c) :=
  concatenate_apply_piece (2 : Fin S32x20000x9.rank) _ _ (ix3 a b c') 1 (by exact (show 1 < 2 by decide)) S32x20000x5 _ rfl rfl 4 rfl
    (ix3 a b c) (fun d hd => by fin_cases d; rfl; rfl; exact absurd rfl hd) (by show 4 + c.val = c'.val; omega)

/-- The rest read at an index. -/
theorem right_apply (t : (⟨S32x20000x9, .f32⟩ : BufTy).Contents (Elt F)) (a : Fin 32) (b : Fin 20000) (c : Fin 5) (c' : Fin 9)
    (h : 4 + c.val = c'.val) :
    extractStridedSlice S32x20000x5 ![0, 0, 4] t slices_S32x20000x9_S32x20000x5_0_0_4 (ix3 a b c) = t (ix3 a b c') :=
  extractStridedSlice_apply _ _ _ _ (ix3 a b c') (fun d => by fin_cases d; exact (Nat.zero_add _).symm; exact (Nat.zero_add _).symm; exact h.symm)

end Take

/-! ## At the ideal instance -/

/-- The divisor is 640 everywhere. -/
theorem dvv_apply (j : S32x20000x4.Idx) : (dvv (F := Ideal)) j = ((640 : ℝ) : EReal) := Consts.ofBits_640

/-- The kernel's scale is the real 1/640. -/
theorem SC_eq : (Cert.Proof.Ki.SC (F := Ideal)) = ((640⁻¹ : ℝ) : EReal) :=
  IdealRules.named_const.ideal_named_scalar _ _ _ _ rfl

/-- Dividing by the divisor is multiplying by the kernel's scale, at every extended real. -/
theorem div_eq (x : Ideal .f32) (j : S32x20000x4.Idx) :
    FloatOps.hostDivf x ((dvv (F := Ideal)) j) = FloatOps.mulf x (Cert.Proof.Ki.SC (F := Ideal)) := by
  rw [dvv_apply, SC_eq, Ideal.hostDivf_def, Ideal.mulf_def, Ideal.div_coe (by norm_num), one_div]

/-- A column of the channels taken, as a one-channel array, is a channel of the operand. -/
theorem bc_col (x : (⟨S32x20000x10, .f32⟩ : BufTy).Contents (Elt Ideal)) (k : Nat) (h : S32x20000x4.Slices ![0, 0, k] S32x20000x1)
    (hk : k < 9) (p : Fin 10) (hp : chan ⟨k, hk⟩ = p) (a : Fin 32) (b : Fin 20000) :
    bcv (colv (takev x) k h) (ix3 a b (0 : Fin 1)) = x (ix3 a b p) := by
  subst hp
  rw [bcv_apply, colv_apply _ _ _ _ _ hk, takev_apply]

/-- The difference of two columns likewise. -/
theorem bc_sub (x : (⟨S32x20000x10, .f32⟩ : BufTy).Contents (Elt Ideal)) (k l : Nat) (h : S32x20000x4.Slices ![0, 0, k] S32x20000x1)
    (g : S32x20000x4.Slices ![0, 0, l] S32x20000x1) (hk : k < 9) (hl : l < 9) (p q : Fin 10) (hp : chan ⟨k, hk⟩ = p) (hq : chan ⟨l, hl⟩ = q) (a : Fin 32) (b : Fin 20000) :
    (bcv (F := Ideal) (subf (F := Ideal) (φ := .f32) (colv (takev x) k h) (colv (takev x) l g)) (ix3 a b (0 : Fin 1)) : Ideal .f32)
      = FloatOps.subf (F := Ideal) (φ := .f32) (x (ix3 a b p)) (x (ix3 a b q)) := by
  subst hp hq
  rw [bcv_apply]
  refine congrArg₂ (fun z w => FloatOps.subf (F := Ideal) (φ := .f32) z w) ?_ ?_
  · rw [colv_apply _ _ _ _ _ hk, takev_apply]
  · rw [colv_apply _ _ _ _ _ hl, takev_apply]

/-- THE REFERENCE'S VALUE: it is the kernel's — the planes `OUT` leaves, transposed back. -/
theorem refv_eq (x : (⟨S32x20000x10, .f32⟩ : BufTy).Contents (Elt Ideal)) :
    refv (takev x) = Cert.Proof.Ki.ofPlanes (F := Ideal) (Cert.Proof.Ki.OUT (Cert.Proof.Ki.toPlanes x)) := by
  funext i
  obtain ⟨a, b, c, rfl⟩ : ∃ (a : Fin 32) (b : Fin 20000) (c : Fin 9), i = ix3 a b c := ⟨i 0, i 1, i 2, eq_ix3 i⟩
  have hR : Cert.Proof.Ki.ofPlanes (F := Ideal) (Cert.Proof.Ki.OUT (Cert.Proof.Ki.toPlanes x)) (ix3 a b c)
      = Cert.Proof.Ki.outv (F := Ideal) (fun p => x (ix3 a b p)) c := by
    refine (transpose_apply _ _ _ _ (ix3 c a b) (fun d => by fin_cases d <;> rfl)).trans ?_
    show Cert.Proof.Ki.outv (F := Ideal) (fun p => Cert.Proof.Ki.toPlanes x (Cert.Proof.Ki.xix p a b)) c = _
    refine congrArg (fun f => Cert.Proof.Ki.outv (F := Ideal) f c) (funext fun p => ?_)
    exact transpose_apply _ _ _ _ (ix3 a b p) (fun d => by fin_cases d <;> rfl)
  rw [hR]
  unfold refv
  fin_cases c
  · exact (v21_left _ _ a b 0 0 rfl).trans ((div_eq _ _).trans (congrArg (fun z => FloatOps.mulf (F := Ideal) (φ := .f32) z (Cert.Proof.Ki.SC (F := Ideal)))
      ((v17_0 _ _ _ _ a b).trans (bc_col x 0 _ (by decide) 0 rfl a b))))
  · exact (v21_left _ _ a b 1 1 rfl).trans ((div_eq _ _).trans (congrArg (fun z => FloatOps.mulf (F := Ideal) (φ := .f32) z (Cert.Proof.Ki.SC (F := Ideal)))
      ((v17_1 _ _ _ _ a b).trans (bc_col x 1 _ (by decide) 1 rfl a b))))
  · exact (v21_left _ _ a b 2 2 rfl).trans ((div_eq _ _).trans (congrArg (fun z => FloatOps.mulf (F := Ideal) (φ := .f32) z (Cert.Proof.Ki.SC (F := Ideal)))
      ((v17_2 _ _ _ _ a b).trans (bc_sub x 2 0 _ _ (by decide) (by decide) 2 0 rfl rfl a b))))
  · exact (v21_left _ _ a b 3 3 rfl).trans ((div_eq _ _).trans (congrArg (fun z => FloatOps.mulf (F := Ideal) (φ := .f32) z (Cert.Proof.Ki.SC (F := Ideal)))
      ((v17_3 _ _ _ _ a b).trans (bc_sub x 3 1 _ _ (by decide) (by decide) 3 1 rfl rfl a b))))
  · exact (v21_right _ _ a b 0 4 rfl).trans ((right_apply _ a b 0 4 rfl).trans (takev_apply x a b 4))
  · exact (v21_right _ _ a b 1 5 rfl).trans ((right_apply _ a b 1 5 rfl).trans (takev_apply x a b 5))
  · exact (v21_right _ _ a b 2 6 rfl).trans ((right_apply _ a b 2 6 rfl).trans (takev_apply x a b 6))
  · exact (v21_right _ _ a b 3 7 rfl).trans ((right_apply _ a b 3 7 rfl).trans (takev_apply x a b 7))
  · exact (v21_right _ _ a b 4 8 rfl).trans ((right_apply _ a b 4 8 rfl).trans (takev_apply x a b 8))

/-- THE REFERENCE'S RESULT from a memory is what the kernel leaves from any memory with the same operand. -/
theorem result_eq (m : (ℓ : Loc Cert.KernelIdeal.nD Cert.KernelIdeal.τ Cert.KernelIdeal.sig) → Buf (Elt Ideal) ℓ)
    (m' : (ℓ : Loc nD τ sig) → Buf (Elt Ideal) ℓ) (c : Dev nD)
    (h : m' ((c.tc : Thread nD τ).loc main_arg0) = m (Cert.Proof.Ki.aLoc c)) :
    res_main_v21 m' c = Cert.Proof.Ki.RV m c := by
  rw [res_eq, h]
  refine (refv_eq _).trans ?_
  unfold Cert.Proof.Ki.RV Cert.Proof.Ki.XT
  rfl

end Cert.Proof.Ref

end
-- ==== Proof.lean ====
/- The five claims about the kernel: the frame of the kernel at the bit patterns, at the extended reals with 1/640 named, and of the
   reference; the naming of 1/640; and that the kernel and the reference leave the same result at the extended reals. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.K.Body
public import proofs.«01_k».proof.Proof.Ki.Body
public import proofs.«01_k».proof.Proof.Ref
public import Idealize.ShloMosaic.Adequacy
public import Idealize.ShloMosaic.Init
public import Idealize.ShloMosaic.Lib.Quiescent

@[expose] public section

noncomputable section

namespace Cert.Proof

open Idealize.ShloMosaic Idealize.SL.Sem Cert.Kernel

/-- The kernel at the bit patterns ends with its argument unchanged and every semaphore at zero. -/
theorem frame_k : Cert.quiescent_Kernel :=
  fun m ρ _ => (θ_run Cert.Kernel.defs _ _).mono (fun _ h => ⟨fun c => (h.1 c).2, h.2⟩) (Cert.Proof.K.run_main (F := Bits) m ρ)

/-- The kernel at the extended reals, 1/640 named, does too. -/
theorem frame_ki : Cert.quiescent_KernelIdeal :=
  fun m ρ _ => (θ_run Cert.KernelIdeal.defs _ _).mono (fun _ h => ⟨fun c => (h.1 c).2, h.2⟩) (Cert.Proof.Ki.run_main (F := Ideal) m ρ)

/-- The reference ends with its argument unchanged and every semaphore at zero: it has none. -/
theorem frame_ri : Cert.quiescent_ReferenceIdeal :=
  fun m ρ _ => (θ_run Cert.ReferenceIdeal.defs _ _).mono (fun r h => ⟨fun c => (h c).2, Idealize.ShloMosaic.sem_eq_zero_of_no_sems (by decide) r.2⟩)
    (Cert.ReferenceIdeal.Value.run (F := Ideal) m ρ)

/-- The named constant is the one the kernel's literal stands for: the real 1/640. -/
theorem preserves : Cert.preserves_Kernel_KernelIdeal :=
  IdealRules.named_const.statement Cert.KernelIdeal.κ "inv640" .f32 0x3ACCCCCD#32 ((640⁻¹ : ℝ) : EReal) rfl

/-- From memories agreeing on the operand, the kernel and the reference leave the same result at the extended reals. -/
theorem algebraic : Cert.algebraic_KernelIdeal_ReferenceIdeal := by
  intro m ρ m' ρ' _ hagree
  refine ⟨fun c => Cert.Proof.Ki.RV m c,
    (θ_run Cert.KernelIdeal.defs _ _).mono (fun _ h c => h.1 c) (Cert.Proof.Ki.run_main (F := Ideal) m ρ), ?_⟩
  exact (θ_run Cert.ReferenceIdeal.defs _ _).mono
    (fun _ h c => ⟨(h c).1.trans (Cert.Proof.Ref.result_eq m m' c (hagree c)), (h c).2⟩)
    (Cert.ReferenceIdeal.Value.run (F := Ideal) m' ρ')

/-- The five claims together. -/
theorem claim : Cert.Claim := ⟨Cert.Kernel.Gen.facts, Cert.KernelIdeal.Gen.facts, Cert.ReferenceIdeal.Gen.facts,
  frame_k, frame_ki, frame_ri, preserves, algebraic⟩

end Cert.Proof

end
